-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6)
      ∧ r.2.mem ((c.tc : Thread Cert.Kernel12.nD Cert.Kernel12.τ).loc Cert.Kernel12.main_arg7) = m ((c.tc : Thread Cert.Kernel12.nD Cert.Kernel12.τ).loc Cert.Kernel12.main_arg7)
      ∧ r.2.mem ((c.tc : Thread Cert.Kernel12.nD Cert.Kernel12.τ).loc Cert.Kernel12.main_arg8) = m ((c.tc : Thread Cert.Kernel12.nD Cert.Kernel12.τ).loc Cert.Kernel12.main_arg8)
      ∧ r.2.mem ((c.tc : Thread Cert.Kernel12.nD Cert.Kernel12.τ).loc Cert.Kernel12.main_arg9) = m ((c.tc : Thread Cert.Kernel12.nD Cert.Kernel12.τ).loc Cert.Kernel12.main_arg9))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
      ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
      ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8)
      ∧ r.2.mem ((c.tc : Thread Cert.Kernel12Ideal.nD Cert.Kernel12Ideal.τ).loc Cert.Kernel12Ideal.main_arg9) = m ((c.tc : Thread Cert.Kernel12Ideal.nD Cert.Kernel12Ideal.τ).loc Cert.Kernel12Ideal.main_arg9))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6)
      ∧ r.2.mem ((c.tc : Thread Cert.Reference12Ideal.nD Cert.Reference12Ideal.τ).loc Cert.Reference12Ideal.main_arg7) = m ((c.tc : Thread Cert.Reference12Ideal.nD Cert.Reference12Ideal.τ).loc Cert.Reference12Ideal.main_arg7)
      ∧ r.2.mem ((c.tc : Thread Cert.Reference12Ideal.nD Cert.Reference12Ideal.τ).loc Cert.Reference12Ideal.main_arg8) = m ((c.tc : Thread Cert.Reference12Ideal.nD Cert.Reference12Ideal.τ).loc Cert.Reference12Ideal.main_arg8)
      ∧ r.2.mem ((c.tc : Thread Cert.Reference12Ideal.nD Cert.Reference12Ideal.τ).loc Cert.Reference12Ideal.main_arg9) = m ((c.tc : Thread Cert.Reference12Ideal.nD Cert.Reference12Ideal.τ).loc Cert.Reference12Ideal.main_arg9))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7)
      ∧ r.2.mem ((c.tc : Thread Cert.Kernel11.nD Cert.Kernel11.τ).loc Cert.Kernel11.main_arg8) = m ((c.tc : Thread Cert.Kernel11.nD Cert.Kernel11.τ).loc Cert.Kernel11.main_arg8)
      ∧ r.2.mem ((c.tc : Thread Cert.Kernel11.nD Cert.Kernel11.τ).loc Cert.Kernel11.main_arg9) = m ((c.tc : Thread Cert.Kernel11.nD Cert.Kernel11.τ).loc Cert.Kernel11.main_arg9)
      ∧ r.2.mem ((c.tc : Thread Cert.Kernel11.nD Cert.Kernel11.τ).loc Cert.Kernel11.main_arg10) = m ((c.tc : Thread Cert.Kernel11.nD Cert.Kernel11.τ).loc Cert.Kernel11.main_arg10))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
      ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8)
      ∧ r.2.mem ((c.tc : Thread Cert.Kernel11Ideal.nD Cert.Kernel11Ideal.τ).loc Cert.Kernel11Ideal.main_arg9) = m ((c.tc : Thread Cert.Kernel11Ideal.nD Cert.Kernel11Ideal.τ).loc Cert.Kernel11Ideal.main_arg9)
      ∧ r.2.mem ((c.tc : Thread Cert.Kernel11Ideal.nD Cert.Kernel11Ideal.τ).loc Cert.Kernel11Ideal.main_arg10) = m ((c.tc : Thread Cert.Kernel11Ideal.nD Cert.Kernel11Ideal.τ).loc Cert.Kernel11Ideal.main_arg10))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7)
      ∧ r.2.mem ((c.tc : Thread Cert.Reference11Ideal.nD Cert.Reference11Ideal.τ).loc Cert.Reference11Ideal.main_arg8) = m ((c.tc : Thread Cert.Reference11Ideal.nD Cert.Reference11Ideal.τ).loc Cert.Reference11Ideal.main_arg8)
      ∧ r.2.mem ((c.tc : Thread Cert.Reference11Ideal.nD Cert.Reference11Ideal.τ).loc Cert.Reference11Ideal.main_arg9) = m ((c.tc : Thread Cert.Reference11Ideal.nD Cert.Reference11Ideal.τ).loc Cert.Reference11Ideal.main_arg9)
      ∧ r.2.mem ((c.tc : Thread Cert.Reference11Ideal.nD Cert.Reference11Ideal.τ).loc Cert.Reference11Ideal.main_arg10) = m ((c.tc : Thread Cert.Reference11Ideal.nD Cert.Reference11Ideal.τ).loc Cert.Reference11Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5)
      ∧ r.2.mem ((c.tc : Thread Cert.Kernel13.nD Cert.Kernel13.τ).loc Cert.Kernel13.main_arg6) = m ((c.tc : Thread Cert.Kernel13.nD Cert.Kernel13.τ).loc Cert.Kernel13.main_arg6)
      ∧ r.2.mem ((c.tc : Thread Cert.Kernel13.nD Cert.Kernel13.τ).loc Cert.Kernel13.main_arg7) = m ((c.tc : Thread Cert.Kernel13.nD Cert.Kernel13.τ).loc Cert.Kernel13.main_arg7)
      ∧ r.2.mem ((c.tc : Thread Cert.Kernel13.nD Cert.Kernel13.τ).loc Cert.Kernel13.main_arg8) = m ((c.tc : Thread Cert.Kernel13.nD Cert.Kernel13.τ).loc Cert.Kernel13.main_arg8)
      ∧ r.2.mem ((c.tc : Thread Cert.Kernel13.nD Cert.Kernel13.τ).loc Cert.Kernel13.main_arg9) = m ((c.tc : Thread Cert.Kernel13.nD Cert.Kernel13.τ).loc Cert.Kernel13.main_arg9)
      ∧ r.2.mem ((c.tc : Thread Cert.Kernel13.nD Cert.Kernel13.τ).loc Cert.Kernel13.main_arg10) = m ((c.tc : Thread Cert.Kernel13.nD Cert.Kernel13.τ).loc Cert.Kernel13.main_arg10)
      ∧ r.2.mem ((c.tc : Thread Cert.Kernel13.nD Cert.Kernel13.τ).loc Cert.Kernel13.main_arg11) = m ((c.tc : Thread Cert.Kernel13.nD Cert.Kernel13.τ).loc Cert.Kernel13.main_arg11))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
      ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7)
      ∧ r.2.mem ((c.tc : Thread Cert.Kernel13Ideal.nD Cert.Kernel13Ideal.τ).loc Cert.Kernel13Ideal.main_arg8) = m ((c.tc : Thread Cert.Kernel13Ideal.nD Cert.Kernel13Ideal.τ).loc Cert.Kernel13Ideal.main_arg8)
      ∧ r.2.mem ((c.tc : Thread Cert.Kernel13Ideal.nD Cert.Kernel13Ideal.τ).loc Cert.Kernel13Ideal.main_arg9) = m ((c.tc : Thread Cert.Kernel13Ideal.nD Cert.Kernel13Ideal.τ).loc Cert.Kernel13Ideal.main_arg9)
      ∧ r.2.mem ((c.tc : Thread Cert.Kernel13Ideal.nD Cert.Kernel13Ideal.τ).loc Cert.Kernel13Ideal.main_arg10) = m ((c.tc : Thread Cert.Kernel13Ideal.nD Cert.Kernel13Ideal.τ).loc Cert.Kernel13Ideal.main_arg10)
      ∧ r.2.mem ((c.tc : Thread Cert.Kernel13Ideal.nD Cert.Kernel13Ideal.τ).loc Cert.Kernel13Ideal.main_arg11) = m ((c.tc : Thread Cert.Kernel13Ideal.nD Cert.Kernel13Ideal.τ).loc Cert.Kernel13Ideal.main_arg11))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6)
      ∧ r.2.mem ((c.tc : Thread Cert.Reference13Ideal.nD Cert.Reference13Ideal.τ).loc Cert.Reference13Ideal.main_arg7) = m ((c.tc : Thread Cert.Reference13Ideal.nD Cert.Reference13Ideal.τ).loc Cert.Reference13Ideal.main_arg7)
      ∧ r.2.mem ((c.tc : Thread Cert.Reference13Ideal.nD Cert.Reference13Ideal.τ).loc Cert.Reference13Ideal.main_arg8) = m ((c.tc : Thread Cert.Reference13Ideal.nD Cert.Reference13Ideal.τ).loc Cert.Reference13Ideal.main_arg8)
      ∧ r.2.mem ((c.tc : Thread Cert.Reference13Ideal.nD Cert.Reference13Ideal.τ).loc Cert.Reference13Ideal.main_arg9) = m ((c.tc : Thread Cert.Reference13Ideal.nD Cert.Reference13Ideal.τ).loc Cert.Reference13Ideal.main_arg9)
      ∧ r.2.mem ((c.tc : Thread Cert.Reference13Ideal.nD Cert.Reference13Ideal.τ).loc Cert.Reference13Ideal.main_arg10) = m ((c.tc : Thread Cert.Reference13Ideal.nD Cert.Reference13Ideal.τ).loc Cert.Reference13Ideal.main_arg10)
      ∧ r.2.mem ((c.tc : Thread Cert.Reference13Ideal.nD Cert.Reference13Ideal.τ).loc Cert.Reference13Ideal.main_arg11) = m ((c.tc : Thread Cert.Reference13Ideal.nD Cert.Reference13Ideal.τ).loc Cert.Reference13Ideal.main_arg11))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5)
      ∧ r.2.mem ((c.tc : Thread Cert.Kernel14.nD Cert.Kernel14.τ).loc Cert.Kernel14.main_arg6) = m ((c.tc : Thread Cert.Kernel14.nD Cert.Kernel14.τ).loc Cert.Kernel14.main_arg6))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5)
      ∧ r.2.mem ((c.tc : Thread Cert.Kernel15.nD Cert.Kernel15.τ).loc Cert.Kernel15.main_arg6) = m ((c.tc : Thread Cert.Kernel15.nD Cert.Kernel15.τ).loc Cert.Kernel15.main_arg6)
      ∧ r.2.mem ((c.tc : Thread Cert.Kernel15.nD Cert.Kernel15.τ).loc Cert.Kernel15.main_arg7) = m ((c.tc : Thread Cert.Kernel15.nD Cert.Kernel15.τ).loc Cert.Kernel15.main_arg7)
      ∧ r.2.mem ((c.tc : Thread Cert.Kernel15.nD Cert.Kernel15.τ).loc Cert.Kernel15.main_arg8) = m ((c.tc : Thread Cert.Kernel15.nD Cert.Kernel15.τ).loc Cert.Kernel15.main_arg8)
      ∧ r.2.mem ((c.tc : Thread Cert.Kernel15.nD Cert.Kernel15.τ).loc Cert.Kernel15.main_arg9) = m ((c.tc : Thread Cert.Kernel15.nD Cert.Kernel15.τ).loc Cert.Kernel15.main_arg9)
      ∧ r.2.mem ((c.tc : Thread Cert.Kernel15.nD Cert.Kernel15.τ).loc Cert.Kernel15.main_arg10) = m ((c.tc : Thread Cert.Kernel15.nD Cert.Kernel15.τ).loc Cert.Kernel15.main_arg10)
      ∧ r.2.mem ((c.tc : Thread Cert.Kernel15.nD Cert.Kernel15.τ).loc Cert.Kernel15.main_arg11) = m ((c.tc : Thread Cert.Kernel15.nD Cert.Kernel15.τ).loc Cert.Kernel15.main_arg11)
      ∧ r.2.mem ((c.tc : Thread Cert.Kernel15.nD Cert.Kernel15.τ).loc Cert.Kernel15.main_arg12) = m ((c.tc : Thread Cert.Kernel15.nD Cert.Kernel15.τ).loc Cert.Kernel15.main_arg12))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
      ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
      ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8)
      ∧ r.2.mem ((c.tc : Thread Cert.Kernel15Ideal.nD Cert.Kernel15Ideal.τ).loc Cert.Kernel15Ideal.main_arg9) = m ((c.tc : Thread Cert.Kernel15Ideal.nD Cert.Kernel15Ideal.τ).loc Cert.Kernel15Ideal.main_arg9)
      ∧ r.2.mem ((c.tc : Thread Cert.Kernel15Ideal.nD Cert.Kernel15Ideal.τ).loc Cert.Kernel15Ideal.main_arg10) = m ((c.tc : Thread Cert.Kernel15Ideal.nD Cert.Kernel15Ideal.τ).loc Cert.Kernel15Ideal.main_arg10)
      ∧ r.2.mem ((c.tc : Thread Cert.Kernel15Ideal.nD Cert.Kernel15Ideal.τ).loc Cert.Kernel15Ideal.main_arg11) = m ((c.tc : Thread Cert.Kernel15Ideal.nD Cert.Kernel15Ideal.τ).loc Cert.Kernel15Ideal.main_arg11)
      ∧ r.2.mem ((c.tc : Thread Cert.Kernel15Ideal.nD Cert.Kernel15Ideal.τ).loc Cert.Kernel15Ideal.main_arg12) = m ((c.tc : Thread Cert.Kernel15Ideal.nD Cert.Kernel15Ideal.τ).loc Cert.Kernel15Ideal.main_arg12))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6)
      ∧ r.2.mem ((c.tc : Thread Cert.Reference15Ideal.nD Cert.Reference15Ideal.τ).loc Cert.Reference15Ideal.main_arg7) = m ((c.tc : Thread Cert.Reference15Ideal.nD Cert.Reference15Ideal.τ).loc Cert.Reference15Ideal.main_arg7)
      ∧ r.2.mem ((c.tc : Thread Cert.Reference15Ideal.nD Cert.Reference15Ideal.τ).loc Cert.Reference15Ideal.main_arg8) = m ((c.tc : Thread Cert.Reference15Ideal.nD Cert.Reference15Ideal.τ).loc Cert.Reference15Ideal.main_arg8)
      ∧ r.2.mem ((c.tc : Thread Cert.Reference15Ideal.nD Cert.Reference15Ideal.τ).loc Cert.Reference15Ideal.main_arg9) = m ((c.tc : Thread Cert.Reference15Ideal.nD Cert.Reference15Ideal.τ).loc Cert.Reference15Ideal.main_arg9)
      ∧ r.2.mem ((c.tc : Thread Cert.Reference15Ideal.nD Cert.Reference15Ideal.τ).loc Cert.Reference15Ideal.main_arg10) = m ((c.tc : Thread Cert.Reference15Ideal.nD Cert.Reference15Ideal.τ).loc Cert.Reference15Ideal.main_arg10)
      ∧ r.2.mem ((c.tc : Thread Cert.Reference15Ideal.nD Cert.Reference15Ideal.τ).loc Cert.Reference15Ideal.main_arg11) = m ((c.tc : Thread Cert.Reference15Ideal.nD Cert.Reference15Ideal.τ).loc Cert.Reference15Ideal.main_arg11)
      ∧ r.2.mem ((c.tc : Thread Cert.Reference15Ideal.nD Cert.Reference15Ideal.τ).loc Cert.Reference15Ideal.main_arg12) = m ((c.tc : Thread Cert.Reference15Ideal.nD Cert.Reference15Ideal.τ).loc Cert.Reference15Ideal.main_arg12))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4)
      ∧ r.2.mem ((c.tc : Thread Cert.Kernel16.nD Cert.Kernel16.τ).loc Cert.Kernel16.main_arg5) = m ((c.tc : Thread Cert.Kernel16.nD Cert.Kernel16.τ).loc Cert.Kernel16.main_arg5)
      ∧ r.2.mem ((c.tc : Thread Cert.Kernel16.nD Cert.Kernel16.τ).loc Cert.Kernel16.main_arg6) = m ((c.tc : Thread Cert.Kernel16.nD Cert.Kernel16.τ).loc Cert.Kernel16.main_arg6)
      ∧ r.2.mem ((c.tc : Thread Cert.Kernel16.nD Cert.Kernel16.τ).loc Cert.Kernel16.main_arg7) = m ((c.tc : Thread Cert.Kernel16.nD Cert.Kernel16.τ).loc Cert.Kernel16.main_arg7)
      ∧ r.2.mem ((c.tc : Thread Cert.Kernel16.nD Cert.Kernel16.τ).loc Cert.Kernel16.main_arg8) = m ((c.tc : Thread Cert.Kernel16.nD Cert.Kernel16.τ).loc Cert.Kernel16.main_arg8)
      ∧ r.2.mem ((c.tc : Thread Cert.Kernel16.nD Cert.Kernel16.τ).loc Cert.Kernel16.main_arg9) = m ((c.tc : Thread Cert.Kernel16.nD Cert.Kernel16.τ).loc Cert.Kernel16.main_arg9)
      ∧ r.2.mem ((c.tc : Thread Cert.Kernel16.nD Cert.Kernel16.τ).loc Cert.Kernel16.main_arg10) = m ((c.tc : Thread Cert.Kernel16.nD Cert.Kernel16.τ).loc Cert.Kernel16.main_arg10)
      ∧ r.2.mem ((c.tc : Thread Cert.Kernel16.nD Cert.Kernel16.τ).loc Cert.Kernel16.main_arg11) = m ((c.tc : Thread Cert.Kernel16.nD Cert.Kernel16.τ).loc Cert.Kernel16.main_arg11)
      ∧ r.2.mem ((c.tc : Thread Cert.Kernel16.nD Cert.Kernel16.τ).loc Cert.Kernel16.main_arg12) = m ((c.tc : Thread Cert.Kernel16.nD Cert.Kernel16.τ).loc Cert.Kernel16.main_arg12))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
      ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6)
      ∧ r.2.mem ((c.tc : Thread Cert.Kernel16Ideal.nD Cert.Kernel16Ideal.τ).loc Cert.Kernel16Ideal.main_arg7) = m ((c.tc : Thread Cert.Kernel16Ideal.nD Cert.Kernel16Ideal.τ).loc Cert.Kernel16Ideal.main_arg7)
      ∧ r.2.mem ((c.tc : Thread Cert.Kernel16Ideal.nD Cert.Kernel16Ideal.τ).loc Cert.Kernel16Ideal.main_arg8) = m ((c.tc : Thread Cert.Kernel16Ideal.nD Cert.Kernel16Ideal.τ).loc Cert.Kernel16Ideal.main_arg8)
      ∧ r.2.mem ((c.tc : Thread Cert.Kernel16Ideal.nD Cert.Kernel16Ideal.τ).loc Cert.Kernel16Ideal.main_arg9) = m ((c.tc : Thread Cert.Kernel16Ideal.nD Cert.Kernel16Ideal.τ).loc Cert.Kernel16Ideal.main_arg9)
      ∧ r.2.mem ((c.tc : Thread Cert.Kernel16Ideal.nD Cert.Kernel16Ideal.τ).loc Cert.Kernel16Ideal.main_arg10) = m ((c.tc : Thread Cert.Kernel16Ideal.nD Cert.Kernel16Ideal.τ).loc Cert.Kernel16Ideal.main_arg10)
      ∧ r.2.mem ((c.tc : Thread Cert.Kernel16Ideal.nD Cert.Kernel16Ideal.τ).loc Cert.Kernel16Ideal.main_arg11) = m ((c.tc : Thread Cert.Kernel16Ideal.nD Cert.Kernel16Ideal.τ).loc Cert.Kernel16Ideal.main_arg11)
      ∧ r.2.mem ((c.tc : Thread Cert.Kernel16Ideal.nD Cert.Kernel16Ideal.τ).loc Cert.Kernel16Ideal.main_arg12) = m ((c.tc : Thread Cert.Kernel16Ideal.nD Cert.Kernel16Ideal.τ).loc Cert.Kernel16Ideal.main_arg12))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5)
      ∧ r.2.mem ((c.tc : Thread Cert.Reference16Ideal.nD Cert.Reference16Ideal.τ).loc Cert.Reference16Ideal.main_arg6) = m ((c.tc : Thread Cert.Reference16Ideal.nD Cert.Reference16Ideal.τ).loc Cert.Reference16Ideal.main_arg6)
      ∧ r.2.mem ((c.tc : Thread Cert.Reference16Ideal.nD Cert.Reference16Ideal.τ).loc Cert.Reference16Ideal.main_arg7) = m ((c.tc : Thread Cert.Reference16Ideal.nD Cert.Reference16Ideal.τ).loc Cert.Reference16Ideal.main_arg7)
      ∧ r.2.mem ((c.tc : Thread Cert.Reference16Ideal.nD Cert.Reference16Ideal.τ).loc Cert.Reference16Ideal.main_arg8) = m ((c.tc : Thread Cert.Reference16Ideal.nD Cert.Reference16Ideal.τ).loc Cert.Reference16Ideal.main_arg8)
      ∧ r.2.mem ((c.tc : Thread Cert.Reference16Ideal.nD Cert.Reference16Ideal.τ).loc Cert.Reference16Ideal.main_arg9) = m ((c.tc : Thread Cert.Reference16Ideal.nD Cert.Reference16Ideal.τ).loc Cert.Reference16Ideal.main_arg9)
      ∧ r.2.mem ((c.tc : Thread Cert.Reference16Ideal.nD Cert.Reference16Ideal.τ).loc Cert.Reference16Ideal.main_arg10) = m ((c.tc : Thread Cert.Reference16Ideal.nD Cert.Reference16Ideal.τ).loc Cert.Reference16Ideal.main_arg10)
      ∧ r.2.mem ((c.tc : Thread Cert.Reference16Ideal.nD Cert.Reference16Ideal.τ).loc Cert.Reference16Ideal.main_arg11) = m ((c.tc : Thread Cert.Reference16Ideal.nD Cert.Reference16Ideal.τ).loc Cert.Reference16Ideal.main_arg11)
      ∧ r.2.mem ((c.tc : Thread Cert.Reference16Ideal.nD Cert.Reference16Ideal.τ).loc Cert.Reference16Ideal.main_arg12) = m ((c.tc : Thread Cert.Reference16Ideal.nD Cert.Reference16Ideal.τ).loc Cert.Reference16Ideal.main_arg12))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4)
      ∧ r.2.mem ((c.tc : Thread Cert.Kernel17.nD Cert.Kernel17.τ).loc Cert.Kernel17.main_arg5) = m ((c.tc : Thread Cert.Kernel17.nD Cert.Kernel17.τ).loc Cert.Kernel17.main_arg5)
      ∧ r.2.mem ((c.tc : Thread Cert.Kernel17.nD Cert.Kernel17.τ).loc Cert.Kernel17.main_arg6) = m ((c.tc : Thread Cert.Kernel17.nD Cert.Kernel17.τ).loc Cert.Kernel17.main_arg6)
      ∧ r.2.mem ((c.tc : Thread Cert.Kernel17.nD Cert.Kernel17.τ).loc Cert.Kernel17.main_arg7) = m ((c.tc : Thread Cert.Kernel17.nD Cert.Kernel17.τ).loc Cert.Kernel17.main_arg7)
      ∧ r.2.mem ((c.tc : Thread Cert.Kernel17.nD Cert.Kernel17.τ).loc Cert.Kernel17.main_arg8) = m ((c.tc : Thread Cert.Kernel17.nD Cert.Kernel17.τ).loc Cert.Kernel17.main_arg8)
      ∧ r.2.mem ((c.tc : Thread Cert.Kernel17.nD Cert.Kernel17.τ).loc Cert.Kernel17.main_arg9) = m ((c.tc : Thread Cert.Kernel17.nD Cert.Kernel17.τ).loc Cert.Kernel17.main_arg9)
      ∧ r.2.mem ((c.tc : Thread Cert.Kernel17.nD Cert.Kernel17.τ).loc Cert.Kernel17.main_arg10) = m ((c.tc : Thread Cert.Kernel17.nD Cert.Kernel17.τ).loc Cert.Kernel17.main_arg10)
      ∧ r.2.mem ((c.tc : Thread Cert.Kernel17.nD Cert.Kernel17.τ).loc Cert.Kernel17.main_arg11) = m ((c.tc : Thread Cert.Kernel17.nD Cert.Kernel17.τ).loc Cert.Kernel17.main_arg11)
      ∧ r.2.mem ((c.tc : Thread Cert.Kernel17.nD Cert.Kernel17.τ).loc Cert.Kernel17.main_arg12) = m ((c.tc : Thread Cert.Kernel17.nD Cert.Kernel17.τ).loc Cert.Kernel17.main_arg12))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
      ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6)
      ∧ r.2.mem ((c.tc : Thread Cert.Kernel17Ideal.nD Cert.Kernel17Ideal.τ).loc Cert.Kernel17Ideal.main_arg7) = m ((c.tc : Thread Cert.Kernel17Ideal.nD Cert.Kernel17Ideal.τ).loc Cert.Kernel17Ideal.main_arg7)
      ∧ r.2.mem ((c.tc : Thread Cert.Kernel17Ideal.nD Cert.Kernel17Ideal.τ).loc Cert.Kernel17Ideal.main_arg8) = m ((c.tc : Thread Cert.Kernel17Ideal.nD Cert.Kernel17Ideal.τ).loc Cert.Kernel17Ideal.main_arg8)
      ∧ r.2.mem ((c.tc : Thread Cert.Kernel17Ideal.nD Cert.Kernel17Ideal.τ).loc Cert.Kernel17Ideal.main_arg9) = m ((c.tc : Thread Cert.Kernel17Ideal.nD Cert.Kernel17Ideal.τ).loc Cert.Kernel17Ideal.main_arg9)
      ∧ r.2.mem ((c.tc : Thread Cert.Kernel17Ideal.nD Cert.Kernel17Ideal.τ).loc Cert.Kernel17Ideal.main_arg10) = m ((c.tc : Thread Cert.Kernel17Ideal.nD Cert.Kernel17Ideal.τ).loc Cert.Kernel17Ideal.main_arg10)
      ∧ r.2.mem ((c.tc : Thread Cert.Kernel17Ideal.nD Cert.Kernel17Ideal.τ).loc Cert.Kernel17Ideal.main_arg11) = m ((c.tc : Thread Cert.Kernel17Ideal.nD Cert.Kernel17Ideal.τ).loc Cert.Kernel17Ideal.main_arg11)
      ∧ r.2.mem ((c.tc : Thread Cert.Kernel17Ideal.nD Cert.Kernel17Ideal.τ).loc Cert.Kernel17Ideal.main_arg12) = m ((c.tc : Thread Cert.Kernel17Ideal.nD Cert.Kernel17Ideal.τ).loc Cert.Kernel17Ideal.main_arg12))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5)
      ∧ r.2.mem ((c.tc : Thread Cert.Reference17Ideal.nD Cert.Reference17Ideal.τ).loc Cert.Reference17Ideal.main_arg6) = m ((c.tc : Thread Cert.Reference17Ideal.nD Cert.Reference17Ideal.τ).loc Cert.Reference17Ideal.main_arg6)
      ∧ r.2.mem ((c.tc : Thread Cert.Reference17Ideal.nD Cert.Reference17Ideal.τ).loc Cert.Reference17Ideal.main_arg7) = m ((c.tc : Thread Cert.Reference17Ideal.nD Cert.Reference17Ideal.τ).loc Cert.Reference17Ideal.main_arg7)
      ∧ r.2.mem ((c.tc : Thread Cert.Reference17Ideal.nD Cert.Reference17Ideal.τ).loc Cert.Reference17Ideal.main_arg8) = m ((c.tc : Thread Cert.Reference17Ideal.nD Cert.Reference17Ideal.τ).loc Cert.Reference17Ideal.main_arg8)
      ∧ r.2.mem ((c.tc : Thread Cert.Reference17Ideal.nD Cert.Reference17Ideal.τ).loc Cert.Reference17Ideal.main_arg9) = m ((c.tc : Thread Cert.Reference17Ideal.nD Cert.Reference17Ideal.τ).loc Cert.Reference17Ideal.main_arg9)
      ∧ r.2.mem ((c.tc : Thread Cert.Reference17Ideal.nD Cert.Reference17Ideal.τ).loc Cert.Reference17Ideal.main_arg10) = m ((c.tc : Thread Cert.Reference17Ideal.nD Cert.Reference17Ideal.τ).loc Cert.Reference17Ideal.main_arg10)
      ∧ r.2.mem ((c.tc : Thread Cert.Reference17Ideal.nD Cert.Reference17Ideal.τ).loc Cert.Reference17Ideal.main_arg11) = m ((c.tc : Thread Cert.Reference17Ideal.nD Cert.Reference17Ideal.τ).loc Cert.Reference17Ideal.main_arg11)
      ∧ r.2.mem ((c.tc : Thread Cert.Reference17Ideal.nD Cert.Reference17Ideal.τ).loc Cert.Reference17Ideal.main_arg12) = m ((c.tc : Thread Cert.Reference17Ideal.nD Cert.Reference17Ideal.τ).loc Cert.Reference17Ideal.main_arg12))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v103_0)) (v1 : (c : Dev Cert.KernelIdeal.nD) → Buf (Elt Ideal) ((c.tc : Thread Cert.KernelIdeal.nD Cert.KernelIdeal.τ).loc Cert.KernelIdeal.main_v103_1)) (v2 : (c : Dev Cert.KernelIdeal.nD) → Buf (Elt Ideal) ((c.tc : Thread Cert.KernelIdeal.nD Cert.KernelIdeal.τ).loc Cert.KernelIdeal.main_v103_2)) (v3 : (c : Dev Cert.KernelIdeal.nD) → Buf (Elt Ideal) ((c.tc : Thread Cert.KernelIdeal.nD Cert.KernelIdeal.τ).loc Cert.KernelIdeal.main_v103_3)) (v4 : (c : Dev Cert.KernelIdeal.nD) → Buf (Elt Ideal) ((c.tc : Thread Cert.KernelIdeal.nD Cert.KernelIdeal.τ).loc Cert.KernelIdeal.main_v103_4)) (v5 : (c : Dev Cert.KernelIdeal.nD) → Buf (Elt Ideal) ((c.tc : Thread Cert.KernelIdeal.nD Cert.KernelIdeal.τ).loc Cert.KernelIdeal.main_v103_5)) (v6 : (c : Dev Cert.KernelIdeal.nD) → Buf (Elt Ideal) ((c.tc : Thread Cert.KernelIdeal.nD Cert.KernelIdeal.τ).loc Cert.KernelIdeal.main_v103_6)) (v7 : (c : Dev Cert.KernelIdeal.nD) → Buf (Elt Ideal) ((c.tc : Thread Cert.KernelIdeal.nD Cert.KernelIdeal.τ).loc Cert.KernelIdeal.main_v103_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v103_0) = v0 c
          ∧ r.2.mem ((c.tc : Thread Cert.KernelIdeal.nD Cert.KernelIdeal.τ).loc Cert.KernelIdeal.main_v103_1) = v1 c
          ∧ r.2.mem ((c.tc : Thread Cert.KernelIdeal.nD Cert.KernelIdeal.τ).loc Cert.KernelIdeal.main_v103_2) = v2 c
          ∧ r.2.mem ((c.tc : Thread Cert.KernelIdeal.nD Cert.KernelIdeal.τ).loc Cert.KernelIdeal.main_v103_3) = v3 c
          ∧ r.2.mem ((c.tc : Thread Cert.KernelIdeal.nD Cert.KernelIdeal.τ).loc Cert.KernelIdeal.main_v103_4) = v4 c
          ∧ r.2.mem ((c.tc : Thread Cert.KernelIdeal.nD Cert.KernelIdeal.τ).loc Cert.KernelIdeal.main_v103_5) = v5 c
          ∧ r.2.mem ((c.tc : Thread Cert.KernelIdeal.nD Cert.KernelIdeal.τ).loc Cert.KernelIdeal.main_v103_6) = v6 c
          ∧ r.2.mem ((c.tc : Thread Cert.KernelIdeal.nD Cert.KernelIdeal.τ).loc Cert.KernelIdeal.main_v103_7) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_v173) = v1 c
          ∧ r.2.mem ((c.tc : Thread Cert.ReferenceIdeal.nD Cert.ReferenceIdeal.τ).loc Cert.ReferenceIdeal.main_v174) = v2 c
          ∧ r.2.mem ((c.tc : Thread Cert.ReferenceIdeal.nD Cert.ReferenceIdeal.τ).loc Cert.ReferenceIdeal.main_v175) = v3 c
          ∧ r.2.mem ((c.tc : Thread Cert.ReferenceIdeal.nD Cert.ReferenceIdeal.τ).loc Cert.ReferenceIdeal.main_v184) = v4 c
          ∧ r.2.mem ((c.tc : Thread Cert.ReferenceIdeal.nD Cert.ReferenceIdeal.τ).loc Cert.ReferenceIdeal.main_v168) = v5 c
          ∧ r.2.mem ((c.tc : Thread Cert.ReferenceIdeal.nD Cert.ReferenceIdeal.τ).loc Cert.ReferenceIdeal.main_v185) = v6 c
          ∧ r.2.mem ((c.tc : Thread Cert.ReferenceIdeal.nD Cert.ReferenceIdeal.τ).loc Cert.ReferenceIdeal.main_v194) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v8) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)
      ∧ m' ((c.tc : Thread Cert.Reference12Ideal.nD Cert.Reference12Ideal.τ).loc Cert.Reference12Ideal.main_arg7) = m ((c.tc : Thread Cert.Kernel12Ideal.nD Cert.Kernel12Ideal.τ).loc Cert.Kernel12Ideal.main_arg7)
      ∧ m' ((c.tc : Thread Cert.Reference12Ideal.nD Cert.Reference12Ideal.τ).loc Cert.Reference12Ideal.main_arg8) = m ((c.tc : Thread Cert.Kernel12Ideal.nD Cert.Kernel12Ideal.τ).loc Cert.Kernel12Ideal.main_arg8)
      ∧ m' ((c.tc : Thread Cert.Reference12Ideal.nD Cert.Reference12Ideal.τ).loc Cert.Reference12Ideal.main_arg9) = m ((c.tc : Thread Cert.Kernel12Ideal.nD Cert.Kernel12Ideal.τ).loc Cert.Kernel12Ideal.main_arg9)) →
    ∃ (v0 : (c : Dev Cert.Kernel12Ideal.nD) → Buf (Elt Ideal) ((c.tc : Thread Cert.Kernel12Ideal.nD Cert.Kernel12Ideal.τ).loc Cert.Kernel12Ideal.main_v24_0)) (v1 : (c : Dev Cert.Kernel12Ideal.nD) → Buf (Elt Ideal) ((c.tc : Thread Cert.Kernel12Ideal.nD Cert.Kernel12Ideal.τ).loc Cert.Kernel12Ideal.main_v24_1)) (v2 : (c : Dev Cert.Kernel12Ideal.nD) → Buf (Elt Ideal) ((c.tc : Thread Cert.Kernel12Ideal.nD Cert.Kernel12Ideal.τ).loc Cert.Kernel12Ideal.main_v24_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v24_0) = v0 c
          ∧ r.2.mem ((c.tc : Thread Cert.Kernel12Ideal.nD Cert.Kernel12Ideal.τ).loc Cert.Kernel12Ideal.main_v24_1) = v1 c
          ∧ r.2.mem ((c.tc : Thread Cert.Kernel12Ideal.nD Cert.Kernel12Ideal.τ).loc Cert.Kernel12Ideal.main_v24_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
          ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
          ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8)
          ∧ r.2.mem ((c.tc : Thread Cert.Kernel12Ideal.nD Cert.Kernel12Ideal.τ).loc Cert.Kernel12Ideal.main_arg9) = m ((c.tc : Thread Cert.Kernel12Ideal.nD Cert.Kernel12Ideal.τ).loc Cert.Kernel12Ideal.main_arg9))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v32) = v0 c
          ∧ r.2.mem ((c.tc : Thread Cert.Reference12Ideal.nD Cert.Reference12Ideal.τ).loc Cert.Reference12Ideal.main_v33) = v1 c
          ∧ r.2.mem ((c.tc : Thread Cert.Reference12Ideal.nD Cert.Reference12Ideal.τ).loc Cert.Reference12Ideal.main_v28) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6)
          ∧ r.2.mem ((c.tc : Thread Cert.Reference12Ideal.nD Cert.Reference12Ideal.τ).loc Cert.Reference12Ideal.main_arg7) = m' ((c.tc : Thread Cert.Reference12Ideal.nD Cert.Reference12Ideal.τ).loc Cert.Reference12Ideal.main_arg7)
          ∧ r.2.mem ((c.tc : Thread Cert.Reference12Ideal.nD Cert.Reference12Ideal.τ).loc Cert.Reference12Ideal.main_arg8) = m' ((c.tc : Thread Cert.Reference12Ideal.nD Cert.Reference12Ideal.τ).loc Cert.Reference12Ideal.main_arg8)
          ∧ r.2.mem ((c.tc : Thread Cert.Reference12Ideal.nD Cert.Reference12Ideal.τ).loc Cert.Reference12Ideal.main_arg9) = m' ((c.tc : Thread Cert.Reference12Ideal.nD Cert.Reference12Ideal.τ).loc Cert.Reference12Ideal.main_arg9))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)
      ∧ m' ((c.tc : Thread Cert.Reference11Ideal.nD Cert.Reference11Ideal.τ).loc Cert.Reference11Ideal.main_arg7) = m ((c.tc : Thread Cert.Kernel11Ideal.nD Cert.Kernel11Ideal.τ).loc Cert.Kernel11Ideal.main_arg7)
      ∧ m' ((c.tc : Thread Cert.Reference11Ideal.nD Cert.Reference11Ideal.τ).loc Cert.Reference11Ideal.main_arg8) = m ((c.tc : Thread Cert.Kernel11Ideal.nD Cert.Kernel11Ideal.τ).loc Cert.Kernel11Ideal.main_arg8)
      ∧ m' ((c.tc : Thread Cert.Reference11Ideal.nD Cert.Reference11Ideal.τ).loc Cert.Reference11Ideal.main_arg9) = m ((c.tc : Thread Cert.Kernel11Ideal.nD Cert.Kernel11Ideal.τ).loc Cert.Kernel11Ideal.main_arg9)
      ∧ m' ((c.tc : Thread Cert.Reference11Ideal.nD Cert.Reference11Ideal.τ).loc Cert.Reference11Ideal.main_arg10) = m ((c.tc : Thread Cert.Kernel11Ideal.nD Cert.Kernel11Ideal.τ).loc Cert.Kernel11Ideal.main_arg10)) →
    ∃ (v0 : (c : Dev Cert.Kernel11Ideal.nD) → Buf (Elt Ideal) ((c.tc : Thread Cert.Kernel11Ideal.nD Cert.Kernel11Ideal.τ).loc Cert.Kernel11Ideal.main_v54_0)) (v1 : (c : Dev Cert.Kernel11Ideal.nD) → Buf (Elt Ideal) ((c.tc : Thread Cert.Kernel11Ideal.nD Cert.Kernel11Ideal.τ).loc Cert.Kernel11Ideal.main_v54_1)) (v2 : (c : Dev Cert.Kernel11Ideal.nD) → Buf (Elt Ideal) ((c.tc : Thread Cert.Kernel11Ideal.nD Cert.Kernel11Ideal.τ).loc Cert.Kernel11Ideal.main_v54_2)) (v3 : (c : Dev Cert.Kernel11Ideal.nD) → Buf (Elt Ideal) ((c.tc : Thread Cert.Kernel11Ideal.nD Cert.Kernel11Ideal.τ).loc Cert.Kernel11Ideal.main_v54_3)) (v4 : (c : Dev Cert.Kernel11Ideal.nD) → Buf (Elt Ideal) ((c.tc : Thread Cert.Kernel11Ideal.nD Cert.Kernel11Ideal.τ).loc Cert.Kernel11Ideal.main_v54_4)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v54_0) = v0 c
          ∧ r.2.mem ((c.tc : Thread Cert.Kernel11Ideal.nD Cert.Kernel11Ideal.τ).loc Cert.Kernel11Ideal.main_v54_1) = v1 c
          ∧ r.2.mem ((c.tc : Thread Cert.Kernel11Ideal.nD Cert.Kernel11Ideal.τ).loc Cert.Kernel11Ideal.main_v54_2) = v2 c
          ∧ r.2.mem ((c.tc : Thread Cert.Kernel11Ideal.nD Cert.Kernel11Ideal.τ).loc Cert.Kernel11Ideal.main_v54_3) = v3 c
          ∧ r.2.mem ((c.tc : Thread Cert.Kernel11Ideal.nD Cert.Kernel11Ideal.τ).loc Cert.Kernel11Ideal.main_v54_4) = v4 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
          ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
          ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8)
          ∧ r.2.mem ((c.tc : Thread Cert.Kernel11Ideal.nD Cert.Kernel11Ideal.τ).loc Cert.Kernel11Ideal.main_arg9) = m ((c.tc : Thread Cert.Kernel11Ideal.nD Cert.Kernel11Ideal.τ).loc Cert.Kernel11Ideal.main_arg9)
          ∧ r.2.mem ((c.tc : Thread Cert.Kernel11Ideal.nD Cert.Kernel11Ideal.τ).loc Cert.Kernel11Ideal.main_arg10) = m ((c.tc : Thread Cert.Kernel11Ideal.nD Cert.Kernel11Ideal.τ).loc Cert.Kernel11Ideal.main_arg10))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v86) = v0 c
          ∧ r.2.mem ((c.tc : Thread Cert.Reference11Ideal.nD Cert.Reference11Ideal.τ).loc Cert.Reference11Ideal.main_v88) = v1 c
          ∧ r.2.mem ((c.tc : Thread Cert.Reference11Ideal.nD Cert.Reference11Ideal.τ).loc Cert.Reference11Ideal.main_v89) = v2 c
          ∧ r.2.mem ((c.tc : Thread Cert.Reference11Ideal.nD Cert.Reference11Ideal.τ).loc Cert.Reference11Ideal.main_v90) = v3 c
          ∧ r.2.mem ((c.tc : Thread Cert.Reference11Ideal.nD Cert.Reference11Ideal.τ).loc Cert.Reference11Ideal.main_v99) = v4 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)
          ∧ r.2.mem ((c.tc : Thread Cert.Reference11Ideal.nD Cert.Reference11Ideal.τ).loc Cert.Reference11Ideal.main_arg7) = m' ((c.tc : Thread Cert.Reference11Ideal.nD Cert.Reference11Ideal.τ).loc Cert.Reference11Ideal.main_arg7)
          ∧ r.2.mem ((c.tc : Thread Cert.Reference11Ideal.nD Cert.Reference11Ideal.τ).loc Cert.Reference11Ideal.main_arg8) = m' ((c.tc : Thread Cert.Reference11Ideal.nD Cert.Reference11Ideal.τ).loc Cert.Reference11Ideal.main_arg8)
          ∧ r.2.mem ((c.tc : Thread Cert.Reference11Ideal.nD Cert.Reference11Ideal.τ).loc Cert.Reference11Ideal.main_arg9) = m' ((c.tc : Thread Cert.Reference11Ideal.nD Cert.Reference11Ideal.τ).loc Cert.Reference11Ideal.main_arg9)
          ∧ r.2.mem ((c.tc : Thread Cert.Reference11Ideal.nD Cert.Reference11Ideal.τ).loc Cert.Reference11Ideal.main_arg10) = m' ((c.tc : Thread Cert.Reference11Ideal.nD Cert.Reference11Ideal.τ).loc Cert.Reference11Ideal.main_arg10))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)
      ∧ m' ((c.tc : Thread Cert.Reference13Ideal.nD Cert.Reference13Ideal.τ).loc Cert.Reference13Ideal.main_arg6) = m ((c.tc : Thread Cert.Kernel13Ideal.nD Cert.Kernel13Ideal.τ).loc Cert.Kernel13Ideal.main_arg6)
      ∧ m' ((c.tc : Thread Cert.Reference13Ideal.nD Cert.Reference13Ideal.τ).loc Cert.Reference13Ideal.main_arg7) = m ((c.tc : Thread Cert.Kernel13Ideal.nD Cert.Kernel13Ideal.τ).loc Cert.Kernel13Ideal.main_arg7)
      ∧ m' ((c.tc : Thread Cert.Reference13Ideal.nD Cert.Reference13Ideal.τ).loc Cert.Reference13Ideal.main_arg8) = m ((c.tc : Thread Cert.Kernel13Ideal.nD Cert.Kernel13Ideal.τ).loc Cert.Kernel13Ideal.main_arg8)
      ∧ m' ((c.tc : Thread Cert.Reference13Ideal.nD Cert.Reference13Ideal.τ).loc Cert.Reference13Ideal.main_arg9) = m ((c.tc : Thread Cert.Kernel13Ideal.nD Cert.Kernel13Ideal.τ).loc Cert.Kernel13Ideal.main_arg9)
      ∧ m' ((c.tc : Thread Cert.Reference13Ideal.nD Cert.Reference13Ideal.τ).loc Cert.Reference13Ideal.main_arg10) = m ((c.tc : Thread Cert.Kernel13Ideal.nD Cert.Kernel13Ideal.τ).loc Cert.Kernel13Ideal.main_arg10)
      ∧ m' ((c.tc : Thread Cert.Reference13Ideal.nD Cert.Reference13Ideal.τ).loc Cert.Reference13Ideal.main_arg11) = m ((c.tc : Thread Cert.Kernel13Ideal.nD Cert.Kernel13Ideal.τ).loc Cert.Kernel13Ideal.main_arg11)) →
    ∃ (v0 : (c : Dev Cert.Kernel13Ideal.nD) → Buf (Elt Ideal) ((c.tc : Thread Cert.Kernel13Ideal.nD Cert.Kernel13Ideal.τ).loc Cert.Kernel13Ideal.main_v25_0)) (v1 : (c : Dev Cert.Kernel13Ideal.nD) → Buf (Elt Ideal) ((c.tc : Thread Cert.Kernel13Ideal.nD Cert.Kernel13Ideal.τ).loc Cert.Kernel13Ideal.main_v25_1)) (v2 : (c : Dev Cert.Kernel13Ideal.nD) → Buf (Elt Ideal) ((c.tc : Thread Cert.Kernel13Ideal.nD Cert.Kernel13Ideal.τ).loc Cert.Kernel13Ideal.main_v25_2)) (v3 : (c : Dev Cert.Kernel13Ideal.nD) → Buf (Elt Ideal) ((c.tc : Thread Cert.Kernel13Ideal.nD Cert.Kernel13Ideal.τ).loc Cert.Kernel13Ideal.main_v25_3)) (v4 : (c : Dev Cert.Kernel13Ideal.nD) → Buf (Elt Ideal) ((c.tc : Thread Cert.Kernel13Ideal.nD Cert.Kernel13Ideal.τ).loc Cert.Kernel13Ideal.main_v25_4)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v25_0) = v0 c
          ∧ r.2.mem ((c.tc : Thread Cert.Kernel13Ideal.nD Cert.Kernel13Ideal.τ).loc Cert.Kernel13Ideal.main_v25_1) = v1 c
          ∧ r.2.mem ((c.tc : Thread Cert.Kernel13Ideal.nD Cert.Kernel13Ideal.τ).loc Cert.Kernel13Ideal.main_v25_2) = v2 c
          ∧ r.2.mem ((c.tc : Thread Cert.Kernel13Ideal.nD Cert.Kernel13Ideal.τ).loc Cert.Kernel13Ideal.main_v25_3) = v3 c
          ∧ r.2.mem ((c.tc : Thread Cert.Kernel13Ideal.nD Cert.Kernel13Ideal.τ).loc Cert.Kernel13Ideal.main_v25_4) = v4 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
          ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
          ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7)
          ∧ r.2.mem ((c.tc : Thread Cert.Kernel13Ideal.nD Cert.Kernel13Ideal.τ).loc Cert.Kernel13Ideal.main_arg8) = m ((c.tc : Thread Cert.Kernel13Ideal.nD Cert.Kernel13Ideal.τ).loc Cert.Kernel13Ideal.main_arg8)
          ∧ r.2.mem ((c.tc : Thread Cert.Kernel13Ideal.nD Cert.Kernel13Ideal.τ).loc Cert.Kernel13Ideal.main_arg9) = m ((c.tc : Thread Cert.Kernel13Ideal.nD Cert.Kernel13Ideal.τ).loc Cert.Kernel13Ideal.main_arg9)
          ∧ r.2.mem ((c.tc : Thread Cert.Kernel13Ideal.nD Cert.Kernel13Ideal.τ).loc Cert.Kernel13Ideal.main_arg10) = m ((c.tc : Thread Cert.Kernel13Ideal.nD Cert.Kernel13Ideal.τ).loc Cert.Kernel13Ideal.main_arg10)
          ∧ r.2.mem ((c.tc : Thread Cert.Kernel13Ideal.nD Cert.Kernel13Ideal.τ).loc Cert.Kernel13Ideal.main_arg11) = m ((c.tc : Thread Cert.Kernel13Ideal.nD Cert.Kernel13Ideal.τ).loc Cert.Kernel13Ideal.main_arg11))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v83) = v0 c
          ∧ r.2.mem ((c.tc : Thread Cert.Reference13Ideal.nD Cert.Reference13Ideal.τ).loc Cert.Reference13Ideal.main_v85) = v1 c
          ∧ r.2.mem ((c.tc : Thread Cert.Reference13Ideal.nD Cert.Reference13Ideal.τ).loc Cert.Reference13Ideal.main_v28) = v2 c
          ∧ r.2.mem ((c.tc : Thread Cert.Reference13Ideal.nD Cert.Reference13Ideal.τ).loc Cert.Reference13Ideal.main_v94) = v3 c
          ∧ r.2.mem ((c.tc : Thread Cert.Reference13Ideal.nD Cert.Reference13Ideal.τ).loc Cert.Reference13Ideal.main_v95) = v4 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5)
          ∧ r.2.mem ((c.tc : Thread Cert.Reference13Ideal.nD Cert.Reference13Ideal.τ).loc Cert.Reference13Ideal.main_arg6) = m' ((c.tc : Thread Cert.Reference13Ideal.nD Cert.Reference13Ideal.τ).loc Cert.Reference13Ideal.main_arg6)
          ∧ r.2.mem ((c.tc : Thread Cert.Reference13Ideal.nD Cert.Reference13Ideal.τ).loc Cert.Reference13Ideal.main_arg7) = m' ((c.tc : Thread Cert.Reference13Ideal.nD Cert.Reference13Ideal.τ).loc Cert.Reference13Ideal.main_arg7)
          ∧ r.2.mem ((c.tc : Thread Cert.Reference13Ideal.nD Cert.Reference13Ideal.τ).loc Cert.Reference13Ideal.main_arg8) = m' ((c.tc : Thread Cert.Reference13Ideal.nD Cert.Reference13Ideal.τ).loc Cert.Reference13Ideal.main_arg8)
          ∧ r.2.mem ((c.tc : Thread Cert.Reference13Ideal.nD Cert.Reference13Ideal.τ).loc Cert.Reference13Ideal.main_arg9) = m' ((c.tc : Thread Cert.Reference13Ideal.nD Cert.Reference13Ideal.τ).loc Cert.Reference13Ideal.main_arg9)
          ∧ r.2.mem ((c.tc : Thread Cert.Reference13Ideal.nD Cert.Reference13Ideal.τ).loc Cert.Reference13Ideal.main_arg10) = m' ((c.tc : Thread Cert.Reference13Ideal.nD Cert.Reference13Ideal.τ).loc Cert.Reference13Ideal.main_arg10)
          ∧ r.2.mem ((c.tc : Thread Cert.Reference13Ideal.nD Cert.Reference13Ideal.τ).loc Cert.Reference13Ideal.main_arg11) = m' ((c.tc : Thread Cert.Reference13Ideal.nD Cert.Reference13Ideal.τ).loc Cert.Reference13Ideal.main_arg11))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)
      ∧ m' ((c.tc : Thread Cert.Reference14Ideal.nD Cert.Reference14Ideal.τ).loc Cert.Reference14Ideal.main_arg6) = m ((c.tc : Thread Cert.Kernel14Ideal.nD Cert.Kernel14Ideal.τ).loc Cert.Kernel14Ideal.main_arg6)) →
    ∃ (v0 : (c : Dev Cert.Kernel14Ideal.nD) → Buf (Elt Ideal) ((c.tc : Thread Cert.Kernel14Ideal.nD Cert.Kernel14Ideal.τ).loc Cert.Kernel14Ideal.main_v9_0)) (v1 : (c : Dev Cert.Kernel14Ideal.nD) → Buf (Elt Ideal) ((c.tc : Thread Cert.Kernel14Ideal.nD Cert.Kernel14Ideal.τ).loc Cert.Kernel14Ideal.main_v9_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v9_0) = v0 c
          ∧ r.2.mem ((c.tc : Thread Cert.Kernel14Ideal.nD Cert.Kernel14Ideal.τ).loc Cert.Kernel14Ideal.main_v9_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
          ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v35) = v0 c
          ∧ r.2.mem ((c.tc : Thread Cert.Reference14Ideal.nD Cert.Reference14Ideal.τ).loc Cert.Reference14Ideal.main_v36) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5)
          ∧ r.2.mem ((c.tc : Thread Cert.Reference14Ideal.nD Cert.Reference14Ideal.τ).loc Cert.Reference14Ideal.main_arg6) = m' ((c.tc : Thread Cert.Reference14Ideal.nD Cert.Reference14Ideal.τ).loc Cert.Reference14Ideal.main_arg6))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)
      ∧ m' ((c.tc : Thread Cert.Reference15Ideal.nD Cert.Reference15Ideal.τ).loc Cert.Reference15Ideal.main_arg6) = m ((c.tc : Thread Cert.Kernel15Ideal.nD Cert.Kernel15Ideal.τ).loc Cert.Kernel15Ideal.main_arg6)
      ∧ m' ((c.tc : Thread Cert.Reference15Ideal.nD Cert.Reference15Ideal.τ).loc Cert.Reference15Ideal.main_arg7) = m ((c.tc : Thread Cert.Kernel15Ideal.nD Cert.Kernel15Ideal.τ).loc Cert.Kernel15Ideal.main_arg7)
      ∧ m' ((c.tc : Thread Cert.Reference15Ideal.nD Cert.Reference15Ideal.τ).loc Cert.Reference15Ideal.main_arg8) = m ((c.tc : Thread Cert.Kernel15Ideal.nD Cert.Kernel15Ideal.τ).loc Cert.Kernel15Ideal.main_arg8)
      ∧ m' ((c.tc : Thread Cert.Reference15Ideal.nD Cert.Reference15Ideal.τ).loc Cert.Reference15Ideal.main_arg9) = m ((c.tc : Thread Cert.Kernel15Ideal.nD Cert.Kernel15Ideal.τ).loc Cert.Kernel15Ideal.main_arg9)
      ∧ m' ((c.tc : Thread Cert.Reference15Ideal.nD Cert.Reference15Ideal.τ).loc Cert.Reference15Ideal.main_arg10) = m ((c.tc : Thread Cert.Kernel15Ideal.nD Cert.Kernel15Ideal.τ).loc Cert.Kernel15Ideal.main_arg10)
      ∧ m' ((c.tc : Thread Cert.Reference15Ideal.nD Cert.Reference15Ideal.τ).loc Cert.Reference15Ideal.main_arg11) = m ((c.tc : Thread Cert.Kernel15Ideal.nD Cert.Kernel15Ideal.τ).loc Cert.Kernel15Ideal.main_arg11)
      ∧ m' ((c.tc : Thread Cert.Reference15Ideal.nD Cert.Reference15Ideal.τ).loc Cert.Reference15Ideal.main_arg12) = m ((c.tc : Thread Cert.Kernel15Ideal.nD Cert.Kernel15Ideal.τ).loc Cert.Kernel15Ideal.main_arg12)) →
    ∃ (v0 : (c : Dev Cert.Kernel15Ideal.nD) → Buf (Elt Ideal) ((c.tc : Thread Cert.Kernel15Ideal.nD Cert.Kernel15Ideal.τ).loc Cert.Kernel15Ideal.main_v15_0)) (v1 : (c : Dev Cert.Kernel15Ideal.nD) → Buf (Elt Ideal) ((c.tc : Thread Cert.Kernel15Ideal.nD Cert.Kernel15Ideal.τ).loc Cert.Kernel15Ideal.main_v15_1)) (v2 : (c : Dev Cert.Kernel15Ideal.nD) → Buf (Elt Ideal) ((c.tc : Thread Cert.Kernel15Ideal.nD Cert.Kernel15Ideal.τ).loc Cert.Kernel15Ideal.main_v15_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v15_0) = v0 c
          ∧ r.2.mem ((c.tc : Thread Cert.Kernel15Ideal.nD Cert.Kernel15Ideal.τ).loc Cert.Kernel15Ideal.main_v15_1) = v1 c
          ∧ r.2.mem ((c.tc : Thread Cert.Kernel15Ideal.nD Cert.Kernel15Ideal.τ).loc Cert.Kernel15Ideal.main_v15_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
          ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
          ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
          ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8)
          ∧ r.2.mem ((c.tc : Thread Cert.Kernel15Ideal.nD Cert.Kernel15Ideal.τ).loc Cert.Kernel15Ideal.main_arg9) = m ((c.tc : Thread Cert.Kernel15Ideal.nD Cert.Kernel15Ideal.τ).loc Cert.Kernel15Ideal.main_arg9)
          ∧ r.2.mem ((c.tc : Thread Cert.Kernel15Ideal.nD Cert.Kernel15Ideal.τ).loc Cert.Kernel15Ideal.main_arg10) = m ((c.tc : Thread Cert.Kernel15Ideal.nD Cert.Kernel15Ideal.τ).loc Cert.Kernel15Ideal.main_arg10)
          ∧ r.2.mem ((c.tc : Thread Cert.Kernel15Ideal.nD Cert.Kernel15Ideal.τ).loc Cert.Kernel15Ideal.main_arg11) = m ((c.tc : Thread Cert.Kernel15Ideal.nD Cert.Kernel15Ideal.τ).loc Cert.Kernel15Ideal.main_arg11)
          ∧ r.2.mem ((c.tc : Thread Cert.Kernel15Ideal.nD Cert.Kernel15Ideal.τ).loc Cert.Kernel15Ideal.main_arg12) = m ((c.tc : Thread Cert.Kernel15Ideal.nD Cert.Kernel15Ideal.τ).loc Cert.Kernel15Ideal.main_arg12))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v39) = v0 c
          ∧ r.2.mem ((c.tc : Thread Cert.Reference15Ideal.nD Cert.Reference15Ideal.τ).loc Cert.Reference15Ideal.main_v40) = v1 c
          ∧ r.2.mem ((c.tc : Thread Cert.Reference15Ideal.nD Cert.Reference15Ideal.τ).loc Cert.Reference15Ideal.main_v35) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5)
          ∧ r.2.mem ((c.tc : Thread Cert.Reference15Ideal.nD Cert.Reference15Ideal.τ).loc Cert.Reference15Ideal.main_arg6) = m' ((c.tc : Thread Cert.Reference15Ideal.nD Cert.Reference15Ideal.τ).loc Cert.Reference15Ideal.main_arg6)
          ∧ r.2.mem ((c.tc : Thread Cert.Reference15Ideal.nD Cert.Reference15Ideal.τ).loc Cert.Reference15Ideal.main_arg7) = m' ((c.tc : Thread Cert.Reference15Ideal.nD Cert.Reference15Ideal.τ).loc Cert.Reference15Ideal.main_arg7)
          ∧ r.2.mem ((c.tc : Thread Cert.Reference15Ideal.nD Cert.Reference15Ideal.τ).loc Cert.Reference15Ideal.main_arg8) = m' ((c.tc : Thread Cert.Reference15Ideal.nD Cert.Reference15Ideal.τ).loc Cert.Reference15Ideal.main_arg8)
          ∧ r.2.mem ((c.tc : Thread Cert.Reference15Ideal.nD Cert.Reference15Ideal.τ).loc Cert.Reference15Ideal.main_arg9) = m' ((c.tc : Thread Cert.Reference15Ideal.nD Cert.Reference15Ideal.τ).loc Cert.Reference15Ideal.main_arg9)
          ∧ r.2.mem ((c.tc : Thread Cert.Reference15Ideal.nD Cert.Reference15Ideal.τ).loc Cert.Reference15Ideal.main_arg10) = m' ((c.tc : Thread Cert.Reference15Ideal.nD Cert.Reference15Ideal.τ).loc Cert.Reference15Ideal.main_arg10)
          ∧ r.2.mem ((c.tc : Thread Cert.Reference15Ideal.nD Cert.Reference15Ideal.τ).loc Cert.Reference15Ideal.main_arg11) = m' ((c.tc : Thread Cert.Reference15Ideal.nD Cert.Reference15Ideal.τ).loc Cert.Reference15Ideal.main_arg11)
          ∧ r.2.mem ((c.tc : Thread Cert.Reference15Ideal.nD Cert.Reference15Ideal.τ).loc Cert.Reference15Ideal.main_arg12) = m' ((c.tc : Thread Cert.Reference15Ideal.nD Cert.Reference15Ideal.τ).loc Cert.Reference15Ideal.main_arg12))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)
      ∧ m' ((c.tc : Thread Cert.Reference16Ideal.nD Cert.Reference16Ideal.τ).loc Cert.Reference16Ideal.main_arg5) = m ((c.tc : Thread Cert.Kernel16Ideal.nD Cert.Kernel16Ideal.τ).loc Cert.Kernel16Ideal.main_arg5)
      ∧ m' ((c.tc : Thread Cert.Reference16Ideal.nD Cert.Reference16Ideal.τ).loc Cert.Reference16Ideal.main_arg6) = m ((c.tc : Thread Cert.Kernel16Ideal.nD Cert.Kernel16Ideal.τ).loc Cert.Kernel16Ideal.main_arg6)
      ∧ m' ((c.tc : Thread Cert.Reference16Ideal.nD Cert.Reference16Ideal.τ).loc Cert.Reference16Ideal.main_arg7) = m ((c.tc : Thread Cert.Kernel16Ideal.nD Cert.Kernel16Ideal.τ).loc Cert.Kernel16Ideal.main_arg7)
      ∧ m' ((c.tc : Thread Cert.Reference16Ideal.nD Cert.Reference16Ideal.τ).loc Cert.Reference16Ideal.main_arg8) = m ((c.tc : Thread Cert.Kernel16Ideal.nD Cert.Kernel16Ideal.τ).loc Cert.Kernel16Ideal.main_arg8)
      ∧ m' ((c.tc : Thread Cert.Reference16Ideal.nD Cert.Reference16Ideal.τ).loc Cert.Reference16Ideal.main_arg9) = m ((c.tc : Thread Cert.Kernel16Ideal.nD Cert.Kernel16Ideal.τ).loc Cert.Kernel16Ideal.main_arg9)
      ∧ m' ((c.tc : Thread Cert.Reference16Ideal.nD Cert.Reference16Ideal.τ).loc Cert.Reference16Ideal.main_arg10) = m ((c.tc : Thread Cert.Kernel16Ideal.nD Cert.Kernel16Ideal.τ).loc Cert.Kernel16Ideal.main_arg10)
      ∧ m' ((c.tc : Thread Cert.Reference16Ideal.nD Cert.Reference16Ideal.τ).loc Cert.Reference16Ideal.main_arg11) = m ((c.tc : Thread Cert.Kernel16Ideal.nD Cert.Kernel16Ideal.τ).loc Cert.Kernel16Ideal.main_arg11)
      ∧ m' ((c.tc : Thread Cert.Reference16Ideal.nD Cert.Reference16Ideal.τ).loc Cert.Reference16Ideal.main_arg12) = m ((c.tc : Thread Cert.Kernel16Ideal.nD Cert.Kernel16Ideal.τ).loc Cert.Kernel16Ideal.main_arg12)) →
    ∃ (v0 : (c : Dev Cert.Kernel16Ideal.nD) → Buf (Elt Ideal) ((c.tc : Thread Cert.Kernel16Ideal.nD Cert.Kernel16Ideal.τ).loc Cert.Kernel16Ideal.main_v34_0)) (v1 : (c : Dev Cert.Kernel16Ideal.nD) → Buf (Elt Ideal) ((c.tc : Thread Cert.Kernel16Ideal.nD Cert.Kernel16Ideal.τ).loc Cert.Kernel16Ideal.main_v34_1)) (v2 : (c : Dev Cert.Kernel16Ideal.nD) → Buf (Elt Ideal) ((c.tc : Thread Cert.Kernel16Ideal.nD Cert.Kernel16Ideal.τ).loc Cert.Kernel16Ideal.main_v34_2)) (v3 : (c : Dev Cert.Kernel16Ideal.nD) → Buf (Elt Ideal) ((c.tc : Thread Cert.Kernel16Ideal.nD Cert.Kernel16Ideal.τ).loc Cert.Kernel16Ideal.main_v34_3)) (v4 : (c : Dev Cert.Kernel16Ideal.nD) → Buf (Elt Ideal) ((c.tc : Thread Cert.Kernel16Ideal.nD Cert.Kernel16Ideal.τ).loc Cert.Kernel16Ideal.main_v34_4)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v34_0) = v0 c
          ∧ r.2.mem ((c.tc : Thread Cert.Kernel16Ideal.nD Cert.Kernel16Ideal.τ).loc Cert.Kernel16Ideal.main_v34_1) = v1 c
          ∧ r.2.mem ((c.tc : Thread Cert.Kernel16Ideal.nD Cert.Kernel16Ideal.τ).loc Cert.Kernel16Ideal.main_v34_2) = v2 c
          ∧ r.2.mem ((c.tc : Thread Cert.Kernel16Ideal.nD Cert.Kernel16Ideal.τ).loc Cert.Kernel16Ideal.main_v34_3) = v3 c
          ∧ r.2.mem ((c.tc : Thread Cert.Kernel16Ideal.nD Cert.Kernel16Ideal.τ).loc Cert.Kernel16Ideal.main_v34_4) = v4 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
          ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
          ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6)
          ∧ r.2.mem ((c.tc : Thread Cert.Kernel16Ideal.nD Cert.Kernel16Ideal.τ).loc Cert.Kernel16Ideal.main_arg7) = m ((c.tc : Thread Cert.Kernel16Ideal.nD Cert.Kernel16Ideal.τ).loc Cert.Kernel16Ideal.main_arg7)
          ∧ r.2.mem ((c.tc : Thread Cert.Kernel16Ideal.nD Cert.Kernel16Ideal.τ).loc Cert.Kernel16Ideal.main_arg8) = m ((c.tc : Thread Cert.Kernel16Ideal.nD Cert.Kernel16Ideal.τ).loc Cert.Kernel16Ideal.main_arg8)
          ∧ r.2.mem ((c.tc : Thread Cert.Kernel16Ideal.nD Cert.Kernel16Ideal.τ).loc Cert.Kernel16Ideal.main_arg9) = m ((c.tc : Thread Cert.Kernel16Ideal.nD Cert.Kernel16Ideal.τ).loc Cert.Kernel16Ideal.main_arg9)
          ∧ r.2.mem ((c.tc : Thread Cert.Kernel16Ideal.nD Cert.Kernel16Ideal.τ).loc Cert.Kernel16Ideal.main_arg10) = m ((c.tc : Thread Cert.Kernel16Ideal.nD Cert.Kernel16Ideal.τ).loc Cert.Kernel16Ideal.main_arg10)
          ∧ r.2.mem ((c.tc : Thread Cert.Kernel16Ideal.nD Cert.Kernel16Ideal.τ).loc Cert.Kernel16Ideal.main_arg11) = m ((c.tc : Thread Cert.Kernel16Ideal.nD Cert.Kernel16Ideal.τ).loc Cert.Kernel16Ideal.main_arg11)
          ∧ r.2.mem ((c.tc : Thread Cert.Kernel16Ideal.nD Cert.Kernel16Ideal.τ).loc Cert.Kernel16Ideal.main_arg12) = m ((c.tc : Thread Cert.Kernel16Ideal.nD Cert.Kernel16Ideal.τ).loc Cert.Kernel16Ideal.main_arg12))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v45) = v0 c
          ∧ r.2.mem ((c.tc : Thread Cert.Reference16Ideal.nD Cert.Reference16Ideal.τ).loc Cert.Reference16Ideal.main_v48) = v1 c
          ∧ r.2.mem ((c.tc : Thread Cert.Reference16Ideal.nD Cert.Reference16Ideal.τ).loc Cert.Reference16Ideal.main_v46) = v2 c
          ∧ r.2.mem ((c.tc : Thread Cert.Reference16Ideal.nD Cert.Reference16Ideal.τ).loc Cert.Reference16Ideal.main_v102) = v3 c
          ∧ r.2.mem ((c.tc : Thread Cert.Reference16Ideal.nD Cert.Reference16Ideal.τ).loc Cert.Reference16Ideal.main_v103) = v4 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4)
          ∧ r.2.mem ((c.tc : Thread Cert.Reference16Ideal.nD Cert.Reference16Ideal.τ).loc Cert.Reference16Ideal.main_arg5) = m' ((c.tc : Thread Cert.Reference16Ideal.nD Cert.Reference16Ideal.τ).loc Cert.Reference16Ideal.main_arg5)
          ∧ r.2.mem ((c.tc : Thread Cert.Reference16Ideal.nD Cert.Reference16Ideal.τ).loc Cert.Reference16Ideal.main_arg6) = m' ((c.tc : Thread Cert.Reference16Ideal.nD Cert.Reference16Ideal.τ).loc Cert.Reference16Ideal.main_arg6)
          ∧ r.2.mem ((c.tc : Thread Cert.Reference16Ideal.nD Cert.Reference16Ideal.τ).loc Cert.Reference16Ideal.main_arg7) = m' ((c.tc : Thread Cert.Reference16Ideal.nD Cert.Reference16Ideal.τ).loc Cert.Reference16Ideal.main_arg7)
          ∧ r.2.mem ((c.tc : Thread Cert.Reference16Ideal.nD Cert.Reference16Ideal.τ).loc Cert.Reference16Ideal.main_arg8) = m' ((c.tc : Thread Cert.Reference16Ideal.nD Cert.Reference16Ideal.τ).loc Cert.Reference16Ideal.main_arg8)
          ∧ r.2.mem ((c.tc : Thread Cert.Reference16Ideal.nD Cert.Reference16Ideal.τ).loc Cert.Reference16Ideal.main_arg9) = m' ((c.tc : Thread Cert.Reference16Ideal.nD Cert.Reference16Ideal.τ).loc Cert.Reference16Ideal.main_arg9)
          ∧ r.2.mem ((c.tc : Thread Cert.Reference16Ideal.nD Cert.Reference16Ideal.τ).loc Cert.Reference16Ideal.main_arg10) = m' ((c.tc : Thread Cert.Reference16Ideal.nD Cert.Reference16Ideal.τ).loc Cert.Reference16Ideal.main_arg10)
          ∧ r.2.mem ((c.tc : Thread Cert.Reference16Ideal.nD Cert.Reference16Ideal.τ).loc Cert.Reference16Ideal.main_arg11) = m' ((c.tc : Thread Cert.Reference16Ideal.nD Cert.Reference16Ideal.τ).loc Cert.Reference16Ideal.main_arg11)
          ∧ r.2.mem ((c.tc : Thread Cert.Reference16Ideal.nD Cert.Reference16Ideal.τ).loc Cert.Reference16Ideal.main_arg12) = m' ((c.tc : Thread Cert.Reference16Ideal.nD Cert.Reference16Ideal.τ).loc Cert.Reference16Ideal.main_arg12))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)
      ∧ m' ((c.tc : Thread Cert.Reference17Ideal.nD Cert.Reference17Ideal.τ).loc Cert.Reference17Ideal.main_arg5) = m ((c.tc : Thread Cert.Kernel17Ideal.nD Cert.Kernel17Ideal.τ).loc Cert.Kernel17Ideal.main_arg5)
      ∧ m' ((c.tc : Thread Cert.Reference17Ideal.nD Cert.Reference17Ideal.τ).loc Cert.Reference17Ideal.main_arg6) = m ((c.tc : Thread Cert.Kernel17Ideal.nD Cert.Kernel17Ideal.τ).loc Cert.Kernel17Ideal.main_arg6)
      ∧ m' ((c.tc : Thread Cert.Reference17Ideal.nD Cert.Reference17Ideal.τ).loc Cert.Reference17Ideal.main_arg7) = m ((c.tc : Thread Cert.Kernel17Ideal.nD Cert.Kernel17Ideal.τ).loc Cert.Kernel17Ideal.main_arg7)
      ∧ m' ((c.tc : Thread Cert.Reference17Ideal.nD Cert.Reference17Ideal.τ).loc Cert.Reference17Ideal.main_arg8) = m ((c.tc : Thread Cert.Kernel17Ideal.nD Cert.Kernel17Ideal.τ).loc Cert.Kernel17Ideal.main_arg8)
      ∧ m' ((c.tc : Thread Cert.Reference17Ideal.nD Cert.Reference17Ideal.τ).loc Cert.Reference17Ideal.main_arg9) = m ((c.tc : Thread Cert.Kernel17Ideal.nD Cert.Kernel17Ideal.τ).loc Cert.Kernel17Ideal.main_arg9)
      ∧ m' ((c.tc : Thread Cert.Reference17Ideal.nD Cert.Reference17Ideal.τ).loc Cert.Reference17Ideal.main_arg10) = m ((c.tc : Thread Cert.Kernel17Ideal.nD Cert.Kernel17Ideal.τ).loc Cert.Kernel17Ideal.main_arg10)
      ∧ m' ((c.tc : Thread Cert.Reference17Ideal.nD Cert.Reference17Ideal.τ).loc Cert.Reference17Ideal.main_arg11) = m ((c.tc : Thread Cert.Kernel17Ideal.nD Cert.Kernel17Ideal.τ).loc Cert.Kernel17Ideal.main_arg11)
      ∧ m' ((c.tc : Thread Cert.Reference17Ideal.nD Cert.Reference17Ideal.τ).loc Cert.Reference17Ideal.main_arg12) = m ((c.tc : Thread Cert.Kernel17Ideal.nD Cert.Kernel17Ideal.τ).loc Cert.Kernel17Ideal.main_arg12)) →
    ∃ (v0 : (c : Dev Cert.Kernel17Ideal.nD) → Buf (Elt Ideal) ((c.tc : Thread Cert.Kernel17Ideal.nD Cert.Kernel17Ideal.τ).loc Cert.Kernel17Ideal.main_v15_0)) (v1 : (c : Dev Cert.Kernel17Ideal.nD) → Buf (Elt Ideal) ((c.tc : Thread Cert.Kernel17Ideal.nD Cert.Kernel17Ideal.τ).loc Cert.Kernel17Ideal.main_v15_1)) (v2 : (c : Dev Cert.Kernel17Ideal.nD) → Buf (Elt Ideal) ((c.tc : Thread Cert.Kernel17Ideal.nD Cert.Kernel17Ideal.τ).loc Cert.Kernel17Ideal.main_v15_2)) (v3 : (c : Dev Cert.Kernel17Ideal.nD) → Buf (Elt Ideal) ((c.tc : Thread Cert.Kernel17Ideal.nD Cert.Kernel17Ideal.τ).loc Cert.Kernel17Ideal.main_v15_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v15_0) = v0 c
          ∧ r.2.mem ((c.tc : Thread Cert.Kernel17Ideal.nD Cert.Kernel17Ideal.τ).loc Cert.Kernel17Ideal.main_v15_1) = v1 c
          ∧ r.2.mem ((c.tc : Thread Cert.Kernel17Ideal.nD Cert.Kernel17Ideal.τ).loc Cert.Kernel17Ideal.main_v15_2) = v2 c
          ∧ r.2.mem ((c.tc : Thread Cert.Kernel17Ideal.nD Cert.Kernel17Ideal.τ).loc Cert.Kernel17Ideal.main_v15_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
          ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
          ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6)
          ∧ r.2.mem ((c.tc : Thread Cert.Kernel17Ideal.nD Cert.Kernel17Ideal.τ).loc Cert.Kernel17Ideal.main_arg7) = m ((c.tc : Thread Cert.Kernel17Ideal.nD Cert.Kernel17Ideal.τ).loc Cert.Kernel17Ideal.main_arg7)
          ∧ r.2.mem ((c.tc : Thread Cert.Kernel17Ideal.nD Cert.Kernel17Ideal.τ).loc Cert.Kernel17Ideal.main_arg8) = m ((c.tc : Thread Cert.Kernel17Ideal.nD Cert.Kernel17Ideal.τ).loc Cert.Kernel17Ideal.main_arg8)
          ∧ r.2.mem ((c.tc : Thread Cert.Kernel17Ideal.nD Cert.Kernel17Ideal.τ).loc Cert.Kernel17Ideal.main_arg9) = m ((c.tc : Thread Cert.Kernel17Ideal.nD Cert.Kernel17Ideal.τ).loc Cert.Kernel17Ideal.main_arg9)
          ∧ r.2.mem ((c.tc : Thread Cert.Kernel17Ideal.nD Cert.Kernel17Ideal.τ).loc Cert.Kernel17Ideal.main_arg10) = m ((c.tc : Thread Cert.Kernel17Ideal.nD Cert.Kernel17Ideal.τ).loc Cert.Kernel17Ideal.main_arg10)
          ∧ r.2.mem ((c.tc : Thread Cert.Kernel17Ideal.nD Cert.Kernel17Ideal.τ).loc Cert.Kernel17Ideal.main_arg11) = m ((c.tc : Thread Cert.Kernel17Ideal.nD Cert.Kernel17Ideal.τ).loc Cert.Kernel17Ideal.main_arg11)
          ∧ r.2.mem ((c.tc : Thread Cert.Kernel17Ideal.nD Cert.Kernel17Ideal.τ).loc Cert.Kernel17Ideal.main_arg12) = m ((c.tc : Thread Cert.Kernel17Ideal.nD Cert.Kernel17Ideal.τ).loc Cert.Kernel17Ideal.main_arg12))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v75) = v0 c
          ∧ r.2.mem ((c.tc : Thread Cert.Reference17Ideal.nD Cert.Reference17Ideal.τ).loc Cert.Reference17Ideal.main_v76) = v1 c
          ∧ r.2.mem ((c.tc : Thread Cert.Reference17Ideal.nD Cert.Reference17Ideal.τ).loc Cert.Reference17Ideal.main_v50) = v2 c
          ∧ r.2.mem ((c.tc : Thread Cert.Reference17Ideal.nD Cert.Reference17Ideal.τ).loc Cert.Reference17Ideal.main_v77) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4)
          ∧ r.2.mem ((c.tc : Thread Cert.Reference17Ideal.nD Cert.Reference17Ideal.τ).loc Cert.Reference17Ideal.main_arg5) = m' ((c.tc : Thread Cert.Reference17Ideal.nD Cert.Reference17Ideal.τ).loc Cert.Reference17Ideal.main_arg5)
          ∧ r.2.mem ((c.tc : Thread Cert.Reference17Ideal.nD Cert.Reference17Ideal.τ).loc Cert.Reference17Ideal.main_arg6) = m' ((c.tc : Thread Cert.Reference17Ideal.nD Cert.Reference17Ideal.τ).loc Cert.Reference17Ideal.main_arg6)
          ∧ r.2.mem ((c.tc : Thread Cert.Reference17Ideal.nD Cert.Reference17Ideal.τ).loc Cert.Reference17Ideal.main_arg7) = m' ((c.tc : Thread Cert.Reference17Ideal.nD Cert.Reference17Ideal.τ).loc Cert.Reference17Ideal.main_arg7)
          ∧ r.2.mem ((c.tc : Thread Cert.Reference17Ideal.nD Cert.Reference17Ideal.τ).loc Cert.Reference17Ideal.main_arg8) = m' ((c.tc : Thread Cert.Reference17Ideal.nD Cert.Reference17Ideal.τ).loc Cert.Reference17Ideal.main_arg8)
          ∧ r.2.mem ((c.tc : Thread Cert.Reference17Ideal.nD Cert.Reference17Ideal.τ).loc Cert.Reference17Ideal.main_arg9) = m' ((c.tc : Thread Cert.Reference17Ideal.nD Cert.Reference17Ideal.τ).loc Cert.Reference17Ideal.main_arg9)
          ∧ r.2.mem ((c.tc : Thread Cert.Reference17Ideal.nD Cert.Reference17Ideal.τ).loc Cert.Reference17Ideal.main_arg10) = m' ((c.tc : Thread Cert.Reference17Ideal.nD Cert.Reference17Ideal.τ).loc Cert.Reference17Ideal.main_arg10)
          ∧ r.2.mem ((c.tc : Thread Cert.Reference17Ideal.nD Cert.Reference17Ideal.τ).loc Cert.Reference17Ideal.main_arg11) = m' ((c.tc : Thread Cert.Reference17Ideal.nD Cert.Reference17Ideal.τ).loc Cert.Reference17Ideal.main_arg11)
          ∧ r.2.mem ((c.tc : Thread Cert.Reference17Ideal.nD Cert.Reference17Ideal.τ).loc Cert.Reference17Ideal.main_arg12) = m' ((c.tc : Thread Cert.Reference17Ideal.nD Cert.Reference17Ideal.τ).loc Cert.Reference17Ideal.main_arg12))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel12 : Cert.Kernel12.Facts) (hKernel12Ideal : Cert.Kernel12Ideal.Facts) (hReference12Ideal : Cert.Reference12Ideal.Facts) (hKernel11 : Cert.Kernel11.Facts) (hKernel11Ideal : Cert.Kernel11Ideal.Facts) (hReference11Ideal : Cert.Reference11Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel12_Kernel12Ideal
    ∧ algebraic_Kernel12Ideal_Reference12Ideal (hKernel12Ideal := hKernel12Ideal) (hReference12Ideal := hReference12Ideal)
    ∧ preserves_Kernel11_Kernel11Ideal
    ∧ algebraic_Kernel11Ideal_Reference11Ideal (hKernel11Ideal := hKernel11Ideal) (hReference11Ideal := hReference11Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
-- ==== Kernel.lean ====
abbrev S8192x1024 : Shape := ⟨2, ![8192, 1024]⟩
abbrev S1024 : Shape := ⟨1, ![1024]⟩
abbrev S1x1024x1024 : Shape := ⟨3, ![1, 1024, 1024]⟩
abbrev S2x1024x4096 : Shape := ⟨3, ![2, 1024, 4096]⟩
abbrev S2x4096x1024 : Shape := ⟨3, ![2, 4096, 1024]⟩
abbrev S1x2048x1024 : Shape := ⟨3, ![1, 2048, 1024]⟩
abbrev S1x1024x2048 : Shape := ⟨3, ![1, 1024, 2048]⟩
abbrev S1x1024 : Shape := ⟨2, ![1, 1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1x1024x4096 : Shape := ⟨3, ![1, 1024, 4096]⟩
abbrev S1024x4096 : Shape := ⟨2, ![1024, 4096]⟩
abbrev S8192x4096 : Shape := ⟨2, ![8192, 4096]⟩
abbrev S1x4096x1024 : Shape := ⟨3, ![1, 4096, 1024]⟩
abbrev S4096x1024 : Shape := ⟨2, ![4096, 1024]⟩
abbrev S4x1024 : Shape := ⟨2, ![4, 1024]⟩
abbrev S8x1024 : Shape := ⟨2, ![8, 1024]⟩
abbrev S2x1024x4x1024 : Shape := ⟨4, ![2, 1024, 4, 1024]⟩
abbrev S4x2x1024x1024 : Shape := ⟨4, ![4, 2, 1024, 1024]⟩
abbrev S4x2048x1024 : Shape := ⟨3, ![4, 2048, 1024]⟩
abbrev S2x4x1024x1024 : Shape := ⟨4, ![2, 4, 1024, 1024]⟩
abbrev S1x4x512x1024 : Shape := ⟨4, ![1, 4, 512, 1024]⟩
abbrev S4x1x512x1024 : Shape := ⟨4, ![4, 1, 512, 1024]⟩
abbrev S4x512x1024 : Shape := ⟨3, ![4, 512, 1024]⟩
abbrev S1x1024x4x512 : Shape := ⟨4, ![1, 1024, 4, 512]⟩
abbrev S4x1x1024x512 : Shape := ⟨4, ![4, 1, 1024, 512]⟩
abbrev S1x4x256x1024 : Shape := ⟨4, ![1, 4, 256, 1024]⟩
abbrev S4x1x256x1024 : Shape := ⟨4, ![4, 1, 256, 1024]⟩
abbrev S4x256x1024 : Shape := ⟨3, ![4, 256, 1024]⟩
abbrev S4x5376x1024 : Shape := ⟨3, ![4, 5376, 1024]⟩
abbrev S256x1024 : Shape := ⟨2, ![256, 1024]⟩
abbrev S256x4096 : Shape := ⟨2, ![256, 4096]⟩
abbrev S4x1024x1024 : Shape := ⟨3, ![4, 1024, 1024]⟩
abbrev S256 : Shape := ⟨1, ![256]⟩
abbrev S256x1 : Shape := ⟨2, ![256, 1]⟩

abbrev nBuf : Space → Nat
  | .hbm => 152
  | .vmem => 33
  | .smem => 0
  | _ => 0

abbrev hbmTy0_0 (i : Nat) : BufTy := match i % 128 with
  | 0 => ⟨S8192x1024, .f32⟩
  | 1 => ⟨S8192x1024, .f32⟩
  | 2 => ⟨S8192x1024, .f32⟩
  | 3 => ⟨S1024, .f32⟩
  | 4 => ⟨S1024, .f32⟩
  | 5 => ⟨S1024, .f32⟩
  | 6 => ⟨S1x1024x1024, .f32⟩
  | 7 => ⟨S1024, .f32⟩
  | 8 => ⟨S1024, .f32⟩
  | 9 => ⟨S1024, .f32⟩
  | 10 => ⟨S1024, .f32⟩
  | 11 => ⟨S1024, .f32⟩
  | 12 => ⟨S1024, .f32⟩
  | 13 => ⟨S2x1024x4096, .f32⟩
  | 14 => ⟨S2x4096x1024, .f32⟩
  | 15 => ⟨S1x2048x1024, .f32⟩
  | 16 => ⟨S1x1024x2048, .f32⟩
  | 17 => ⟨S1x1024, .f32⟩
  | 18 => ⟨S8192x1024, .f32⟩
  | 19 => ⟨S8192x1024, .f32⟩
  | 20 => ⟨S1024x1024, .f32⟩
  | 21 => ⟨S_, .f32⟩
  | 22 => ⟨S8192, .f32⟩
  | 23 => ⟨S8192x1, .f32⟩
  | 24 => ⟨S_, .f32⟩
  | 25 => ⟨S8192x1, .f32⟩
  | 26 => ⟨S8192x1, .f32⟩
  | 27 => ⟨S8192x1024, .f32⟩
  | 28 => ⟨S8192x1024, .f32⟩
  | 29 => ⟨S8192x1024, .f32⟩
  | 30 => ⟨S_, .f32⟩
  | 31 => ⟨S8192, .f32⟩
  | 32 => ⟨S8192x1, .f32⟩
  | 33 => ⟨S_, .f32⟩
  | 34 => ⟨S8192x1, .f32⟩
  | 35 => ⟨S8192x1, .f32⟩
  | 36 => ⟨S_, .f32⟩
  | 37 => ⟨S8192x1, .f32⟩
  | 38 => ⟨S8192x1, .f32⟩
  | 39 => ⟨S8192x1, .f32⟩
  | 40 => ⟨S8192x1024, .f32⟩
  | 41 => ⟨S8192x1024, .f32⟩
  | 42 => ⟨S1x1024, .f32⟩
  | 43 => ⟨S8192x1024, .f32⟩
  | 44 => ⟨S8192x1024, .f32⟩
  | 45 => ⟨S1x1024, .f32⟩
  | 46 => ⟨S8192x1024, .f32⟩
  | 47 => ⟨S8192x1024, .f32⟩
  | 48 => ⟨S8192x1024, .f32⟩
  | 49 => ⟨S8192x1024, .f32⟩
  | 50 => ⟨S_, .f32⟩
  | 51 => ⟨S8192x1024, .f32⟩
  | 52 => ⟨S8192x1024, .f32⟩
  | 53 => ⟨S_, .f32⟩
  | 54 => ⟨S8192x1024, .f32⟩
  | 55 => ⟨S8192x1024, .f32⟩
  | 56 => ⟨S8192x1024, .f32⟩
  | 57 => ⟨S8192x1024, .f32⟩
  | 58 => ⟨S1x1024, .f32⟩
  | 59 => ⟨S8192x1024, .f32⟩
  | 60 => ⟨S8192x1024, .f32⟩
  | 61 => ⟨S1x1024, .f32⟩
  | 62 => ⟨S8192x1024, .f32⟩
  | 63 => ⟨S8192x1024, .f32⟩
  | 64 => ⟨S8192x1024, .f32⟩
  | 65 => ⟨S8192x1024, .f32⟩
  | 66 => ⟨S_, .f32⟩
  | 67 => ⟨S8192, .f32⟩
  | 68 => ⟨S8192x1, .f32⟩
  | 69 => ⟨S_, .f32⟩
  | 70 => ⟨S8192x1, .f32⟩
  | 71 => ⟨S8192x1, .f32⟩
  | 72 => ⟨S_, .f32⟩
  | 73 => ⟨S8192x1, .f32⟩
  | 74 => ⟨S8192x1, .f32⟩
  | 75 => ⟨S8192x1, .f32⟩
  | 76 => ⟨S8192x1024, .f32⟩
  | 77 => ⟨S8192x1024, .f32⟩
  | 78 => ⟨S1x1024, .f32⟩
  | 79 => ⟨S8192x1024, .f32⟩
  | 80 => ⟨S8192x1024, .f32⟩
  | 81 => ⟨S_, .f32⟩
  | 82 => ⟨S1024, .f32⟩
  | 83 => ⟨S1024, .f32⟩
  | 84 => ⟨S1x1024, .f32⟩
  | 85 => ⟨S8192x1024, .f32⟩
  | 86 => ⟨S8192x1024, .f32⟩
  | 87 => ⟨S1x1024, .f32⟩
  | 88 => ⟨S8192x1024, .f32⟩
  | 89 => ⟨S8192x1024, .f32⟩
  | 90 => ⟨S1x1024x4096, .f32⟩
  | 91 => ⟨S1024x4096, .f32⟩
  | 92 => ⟨S8192x4096, .f32⟩
  | 93 => ⟨S_, .f32⟩
  | 94 => ⟨S8192x4096, .f32⟩
  | 95 => ⟨S8192x4096, .f32⟩
  | 96 => ⟨S8192x4096, .f32⟩
  | 97 => ⟨S1x4096x1024, .f32⟩
  | 98 => ⟨S4096x1024, .f32⟩
  | 99 => ⟨S8192x1024, .f32⟩
  | 100 => ⟨S_, .f32⟩
  | 101 => ⟨S1024, .f32⟩
  | 102 => ⟨S_, .f32⟩
  | 103 => ⟨S1024, .f32⟩
  | 104 => ⟨S_, .f32⟩
  | 105 => ⟨S1024, .f32⟩
  | 106 => ⟨S1x1024, .f32⟩
  | 107 => ⟨S1x1024, .f32⟩
  | 108 => ⟨S1x1024, .f32⟩
  | 109 => ⟨S1x1024, .f32⟩
  | 110 => ⟨S4x1024, .f32⟩
  | 111 => ⟨S_, .f32⟩
  | 112 => ⟨S4x1024, .f32⟩
  | 113 => ⟨S8x1024, .f32⟩
  | 114 => ⟨S1x1024, .f32⟩
  | 115 => ⟨S1x1024, .f32⟩
  | 116 => ⟨S1x1024, .f32⟩
  | 117 => ⟨S1x1024, .f32⟩
  | 118 => ⟨S4x1024, .f32⟩
  | 119 => ⟨S_, .f32⟩
  | 120 => ⟨S4x1024, .f32⟩
  | 121 => ⟨S8x1024, .f32⟩
  | 122 => ⟨S2x1024x4x1024, .f32⟩
  | 123 => ⟨S4x2x1024x1024, .f32⟩
  | 124 => ⟨S4x2048x1024, .f32⟩
  | 125 => ⟨S2x4x1024x1024, .f32⟩
  | 126 => ⟨S4x2x1024x1024, .f32⟩
  | 127 => ⟨S4x2048x1024, .f32⟩
  | _ => ⟨S8192x1024, .f32⟩

abbrev hbmTy0_1 (i : Nat) : BufTy := match i % 128 with
  | 0 => ⟨S1x4x512x1024, .f32⟩
  | 1 => ⟨S4x1x512x1024, .f32⟩
  | 2 => ⟨S4x512x1024, .f32⟩
  | 3 => ⟨S1x1024x4x512, .f32⟩
  | 4 => ⟨S4x1x1024x512, .f32⟩
  | 5 => ⟨S4x512x1024, .f32⟩
  | 6 => ⟨S1x4x256x1024, .f32⟩
  | 7 => ⟨S4x1x256x1024, .f32⟩
  | 8 => ⟨S4x256x1024, .f32⟩
  | 9 => ⟨S4x5376x1024, .f32⟩
  | 10 => ⟨S4x5376x1024, .bf16⟩
  | 11 => ⟨S8192x4096, .bf16⟩
  | 12 => ⟨S1x1024, .f32⟩
  | 13 => ⟨S1x1024, .f32⟩
  | 14 => ⟨S1024x1024, .f32⟩
  | 15 => ⟨S1024x1024, .bf16⟩
  | 16 => ⟨S8192x1024, .f32⟩
  | 17 => ⟨S8192x4096, .bf16⟩
  | 18 => ⟨S8192x1024, .bf16⟩
  | 19 => ⟨S8192x1024, .bf16⟩
  | 20 => ⟨S8x1024, .f32⟩
  | 21 => ⟨S8192x1024, .f32⟩
  | 22 => ⟨S8192x1024, .bf16⟩
  | 23 => ⟨S8x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x4096, .bf16⟩
  | .local _ .vmem, ⟨5, _⟩ => ⟨S256x4096, .bf16⟩
  | .local _ .vmem, ⟨6, _⟩ => ⟨S256x1024, .f32⟩
  | .local _ .vmem, ⟨7, _⟩ => ⟨S256x1024, .f32⟩
  | .local _ .vmem, ⟨8, _⟩ => ⟨S8x1024, .f32⟩
  | .local _ .vmem, ⟨9, _⟩ => ⟨S4x1024x1024, .bf16⟩
  | .local _ .vmem, ⟨10, _⟩ => ⟨S4x1024x1024, .bf16⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S8x1024, .f32⟩
  | .local _ .vmem, ⟨16, _⟩ => ⟨S1x1024, .f32⟩
  | .local _ .vmem, ⟨17, _⟩ => ⟨S1x1024, .f32⟩
  | .local _ .vmem, ⟨18, _⟩ => ⟨S1024x1024, .bf16⟩
  | .local _ .vmem, ⟨19, _⟩ => ⟨S256x1024, .f32⟩
  | .local _ .vmem, ⟨20, _⟩ => ⟨S256x1024, .f32⟩
  | .local _ .vmem, ⟨21, _⟩ => ⟨S256x4096, .bf16⟩
  | .local _ .vmem, ⟨22, _⟩ => ⟨S256x4096, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x1024, .bf16⟩
  | .local _ .vmem, ⟨27, _⟩ => ⟨S8x1024, .f32⟩
  | .local _ .vmem, ⟨28, _⟩ => ⟨S256x1024, .f32⟩
  | .local _ .vmem, ⟨29, _⟩ => ⟨S256x1024, .f32⟩
  | .local _ .vmem, ⟨30, _⟩ => ⟨S256x1024, .bf16⟩
  | .local _ .vmem, ⟨31, _⟩ => ⟨S256x1024, .bf16⟩
  | .local _ .vmem, ⟨32, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_v5 : Ref sig .tc := ⟨.hbm, 23, rfl⟩
abbrev main_cst_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_1 : Ref sig .tc := ⟨.hbm, 30, rfl⟩
abbrev main_v11 : Ref sig .tc := ⟨.hbm, 31, rfl⟩
abbrev main_v12 : Ref sig .tc := ⟨.hbm, 32, rfl⟩
abbrev main_cst_2 : Ref sig .tc := ⟨.hbm, 33, rfl⟩
abbrev main_v13 : Ref sig .tc := ⟨.hbm, 34, rfl⟩
abbrev main_v14 : Ref sig .tc := ⟨.hbm, 35, rfl⟩
abbrev main_cst_3 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_call0_v5 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_cst_4 : Ref sig .tc := ⟨.hbm, 66, rfl⟩
abbrev main_v36 : Ref sig .tc := ⟨.hbm, 67, rfl⟩
abbrev main_v37 : Ref sig .tc := ⟨.hbm, 68, rfl⟩
abbrev main_cst_5 : Ref sig .tc := ⟨.hbm, 69, rfl⟩
abbrev main_v38 : Ref sig .tc := ⟨.hbm, 70, rfl⟩
abbrev main_v39 : Ref sig .tc := ⟨.hbm, 71, rfl⟩
abbrev main_cst_6 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_cst_7 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_call1_cst : Ref sig .tc := ⟨.hbm, 93, rfl⟩
abbrev main_call1_v0 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_8 : Ref sig .tc := ⟨.hbm, 100, rfl⟩
abbrev main_v64 : Ref sig .tc := ⟨.hbm, 101, rfl⟩
abbrev main_cst_9 : Ref sig .tc := ⟨.hbm, 102, rfl⟩
abbrev main_v65 : Ref sig .tc := ⟨.hbm, 103, rfl⟩
abbrev main_cst_10 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_cst_11 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_cst_12 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103_0 : Ref sig .tc := ⟨.hbm, 144, rfl⟩
abbrev main_v103_1 : Ref sig .tc := ⟨.hbm, 145, rfl⟩
abbrev main_v103_2 : Ref sig .tc := ⟨.hbm, 146, rfl⟩
abbrev main_v103_3 : Ref sig .tc := ⟨.hbm, 147, rfl⟩
abbrev main_v103_4 : Ref sig .tc := ⟨.hbm, 148, rfl⟩
abbrev main_v103_5 : Ref sig .tc := ⟨.hbm, 149, rfl⟩
abbrev main_v103_6 : Ref sig .tc := ⟨.hbm, 150, rfl⟩
abbrev main_v103_7 : Ref sig .tc := ⟨.hbm, 151, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem18_0 : DmaSem sig := 28
abbrev cc0_sem18_1 : DmaSem sig := 29
abbrev cc0_sem19_0 : DmaSem sig := 30
abbrev cc0_sem19_1 : DmaSem sig := 31
abbrev cc0_sem20_0 : DmaSem sig := 32

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_6 (i : grid0.Coords) : Fin 3 → Nat :=
  let arg0 : BitVec 32 := BitVec.ofNat 32 (i 0).val
  let c0_i32 : BitVec 32 := 0#32
  let c3_i32 : BitVec 32 := 3#32
  let c0_i32_0 : BitVec 32 := 0#32
  let c0_i32_1 : BitVec 32 := 0#32
  ![c0_i32.toNat, c3_i32.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_8 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_14 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_15 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_16 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_19 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x4096 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S8x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 1 → Memref sig .tc .vmem S8x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== ReferenceIdeal.lean ====
abbrev S8192x1024 : Shape := ⟨2, ![8192, 1024]⟩
abbrev S1024 : Shape := ⟨1, ![1024]⟩
abbrev S1x1024x1024 : Shape := ⟨3, ![1, 1024, 1024]⟩
abbrev S2x1024x4096 : Shape := ⟨3, ![2, 1024, 4096]⟩
abbrev S2x4096x1024 : Shape := ⟨3, ![2, 4096, 1024]⟩
abbrev S1x2048x1024 : Shape := ⟨3, ![1, 2048, 1024]⟩
abbrev S1x1024x2048 : Shape := ⟨3, ![1, 1024, 2048]⟩
abbrev S_ : Shape := ⟨0, ![]⟩
abbrev S8192x4096 : Shape := ⟨2, ![8192, 4096]⟩
abbrev S1x1024 : Shape := ⟨2, ![1, 1024]⟩
abbrev S1024x1024 : Shape := ⟨2, ![1024, 1024]⟩
abbrev S8192 : Shape := ⟨1, ![8192]⟩
abbrev S8192x1 : Shape := ⟨2, ![8192, 1]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S8x1024 : Shape := ⟨2, ![8, 1024]⟩

abbrev nBuf : Space → Nat
  | .hbm => 274
  | .vmem => 0
  | .smem => 0
  | _ => 0

abbrev hbmTy0_0 (i : Nat) : BufTy := match i % 128 with
  | 0 => ⟨S8192x1024, .f32⟩
  | 1 => ⟨S8192x1024, .f32⟩
  | 2 => ⟨S8192x1024, .f32⟩
  | 3 => ⟨S1024, .f32⟩
  | 4 => ⟨S1024, .f32⟩
  | 5 => ⟨S1024, .f32⟩
  | 6 => ⟨S1x1024x1024, .f32⟩
  | 7 => ⟨S1024, .f32⟩
  | 8 => ⟨S1024, .f32⟩
  | 9 => ⟨S1024, .f32⟩
  | 10 => ⟨S1024, .f32⟩
  | 11 => ⟨S1024, .f32⟩
  | 12 => ⟨S1024, .f32⟩
  | 13 => ⟨S2x1024x4096, .f32⟩
  | 14 => ⟨S2x4096x1024, .f32⟩
  | 15 => ⟨S1x2048x1024, .f32⟩
  | 16 => ⟨S1x1024x2048, .f32⟩
  | 17 => ⟨S_, .f32⟩
  | 18 => ⟨S8192x1024, .f32⟩
  | 19 => ⟨S_, .f32⟩
  | 20 => ⟨S8192x4096, .f32⟩
  | 21 => ⟨S1x1024, .f32⟩
  | 22 => ⟨S8192x1024, .f32⟩
  | 23 => ⟨S8192x1024, .f32⟩
  | 24 => ⟨S1024x1024, .f32⟩
  | 25 => ⟨S_, .f32⟩
  | 26 => ⟨S8192, .f32⟩
  | 27 => ⟨S8192x1, .f32⟩
  | 28 => ⟨S_, .f32⟩
  | 29 => ⟨S8192x1, .f32⟩
  | 30 => ⟨S8192x1, .f32⟩
  | 31 => ⟨S8192x1024, .f32⟩
  | 32 => ⟨S8192x1024, .f32⟩
  | 33 => ⟨S8192x1024, .f32⟩
  | 34 => ⟨S_, .f32⟩
  | 35 => ⟨S8192, .f32⟩
  | 36 => ⟨S8192x1, .f32⟩
  | 37 => ⟨S_, .f32⟩
  | 38 => ⟨S8192x1, .f32⟩
  | 39 => ⟨S8192x1, .f32⟩
  | 40 => ⟨S_, .f32⟩
  | 41 => ⟨S8192x1, .f32⟩
  | 42 => ⟨S8192x1, .f32⟩
  | 43 => ⟨S8192x1, .f32⟩
  | 44 => ⟨S8192x1, .f32⟩
  | 45 => ⟨S_, .f32⟩
  | 46 => ⟨S8192x1, .f32⟩
  | 47 => ⟨S8192x1, .f32⟩
  | 48 => ⟨S8192x1024, .f32⟩
  | 49 => ⟨S8192x1024, .f32⟩
  | 50 => ⟨S1x1024, .f32⟩
  | 51 => ⟨S8192x1024, .f32⟩
  | 52 => ⟨S8192x1024, .f32⟩
  | 53 => ⟨S1x1024, .f32⟩
  | 54 => ⟨S8192x1024, .f32⟩
  | 55 => ⟨S8192x1024, .f32⟩
  | 56 => ⟨S8192x1024, .f32⟩
  | 57 => ⟨S8192x1024, .f32⟩
  | 58 => ⟨S_, .f32⟩
  | 59 => ⟨S8192x1024, .f32⟩
  | 60 => ⟨S8192x1024, .f32⟩
  | 61 => ⟨S_, .f32⟩
  | 62 => ⟨S8192x1024, .f32⟩
  | 63 => ⟨S8192x1024, .f32⟩
  | 64 => ⟨S_, .f32⟩
  | 65 => ⟨S8192x1024, .f32⟩
  | 66 => ⟨S8192x1024, .f32⟩
  | 67 => ⟨S8192x1024, .f32⟩
  | 68 => ⟨S8192x1024, .f32⟩
  | 69 => ⟨S8192x1024, .f32⟩
  | 70 => ⟨S1x1024, .f32⟩
  | 71 => ⟨S8192x1024, .f32⟩
  | 72 => ⟨S8192x1024, .f32⟩
  | 73 => ⟨S8192x1024, .f32⟩
  | 74 => ⟨S1x1024, .f32⟩
  | 75 => ⟨S8192x1024, .f32⟩
  | 76 => ⟨S8192x1024, .f32⟩
  | 77 => ⟨S8192x1024, .f32⟩
  | 78 => ⟨S8192x1024, .f32⟩
  | 79 => ⟨S_, .f32⟩
  | 80 => ⟨S8192, .f32⟩
  | 81 => ⟨S8192x1, .f32⟩
  | 82 => ⟨S_, .f32⟩
  | 83 => ⟨S8192x1, .f32⟩
  | 84 => ⟨S8192x1, .f32⟩
  | 85 => ⟨S_, .f32⟩
  | 86 => ⟨S8192x1, .f32⟩
  | 87 => ⟨S8192x1, .f32⟩
  | 88 => ⟨S8192x1, .f32⟩
  | 89 => ⟨S8192x1, .f32⟩
  | 90 => ⟨S_, .f32⟩
  | 91 => ⟨S8192x1, .f32⟩
  | 92 => ⟨S8192x1, .f32⟩
  | 93 => ⟨S8192x1024, .f32⟩
  | 94 => ⟨S8192x1024, .f32⟩
  | 95 => ⟨S1x1024, .f32⟩
  | 96 => ⟨S8192x1024, .f32⟩
  | 97 => ⟨S8192x1024, .f32⟩
  | 98 => ⟨S_, .f32⟩
  | 99 => ⟨S1024, .f32⟩
  | 100 => ⟨S1024, .f32⟩
  | 101 => ⟨S1x1024, .f32⟩
  | 102 => ⟨S8192x1024, .f32⟩
  | 103 => ⟨S8192x1024, .f32⟩
  | 104 => ⟨S1x1024, .f32⟩
  | 105 => ⟨S8192x1024, .f32⟩
  | 106 => ⟨S8192x1024, .f32⟩
  | 107 => ⟨S1x1024x4096, .f32⟩
  | 108 => ⟨S1024x4096, .f32⟩
  | 109 => ⟨S8192x4096, .f32⟩
  | 110 => ⟨S8192x4096, .f32⟩
  | 111 => ⟨S_, .f32⟩
  | 112 => ⟨S8192x4096, .f32⟩
  | 113 => ⟨S8192x4096, .f32⟩
  | 114 => ⟨S_, .f32⟩
  | 115 => ⟨S8192x4096, .f32⟩
  | 116 => ⟨S8192x4096, .i1⟩
  | 117 => ⟨S_, .f32⟩
  | 118 => ⟨S8192x4096, .f32⟩
  | 119 => ⟨S8192x4096, .f32⟩
  | 120 => ⟨S_, .f32⟩
  | 121 => ⟨S8192x4096, .f32⟩
  | 122 => ⟨S8192x4096, .f32⟩
  | 123 => ⟨S1x4096x1024, .f32⟩
  | 124 => ⟨S4096x1024, .f32⟩
  | 125 => ⟨S8192x1024, .f32⟩
  | 126 => ⟨S8192x1024, .f32⟩
  | 127 => ⟨S1x1024, .f32⟩
  | _ => ⟨S8192x1024, .f32⟩

abbrev hbmTy0_1 (i : Nat) : BufTy := match i % 128 with
  | 0 => ⟨S8192x1024, .f32⟩
  | 1 => ⟨S8192x1024, .f32⟩
  | 2 => ⟨S8192x1024, .f32⟩
  | 3 => ⟨S8192x1024, .f32⟩
  | 4 => ⟨S8192x1024, .f32⟩
  | 5 => ⟨S8192x1024, .f32⟩
  | 6 => ⟨S8192x1024, .f32⟩
  | 7 => ⟨S8192x1024, .f32⟩
  | 8 => ⟨S_, .f32⟩
  | 9 => ⟨S1024, .f32⟩
  | 10 => ⟨S1x1024, .f32⟩
  | 11 => ⟨S_, .f32⟩
  | 12 => ⟨S1024, .f32⟩
  | 13 => ⟨S8192x4096, .f32⟩
  | 14 => ⟨S8192x4096, .f32⟩
  | 15 => ⟨S_, .f32⟩
  | 16 => ⟨S8192x4096, .f32⟩
  | 17 => ⟨S8192x4096, .f32⟩
  | 18 => ⟨S8192x1024, .f32⟩
  | 19 => ⟨S_, .f32⟩
  | 20 => ⟨S1024, .f32⟩
  | 21 => ⟨S1x1024, .f32⟩
  | 22 => ⟨S_, .f32⟩
  | 23 => ⟨S1024, .f32⟩
  | 24 => ⟨S8192x1024, .f32⟩
  | 25 => ⟨S_, .f32⟩
  | 26 => ⟨S1024, .f32⟩
  | 27 => ⟨S1x1024, .f32⟩
  | 28 => ⟨S8192x1024, .f32⟩
  | 29 => ⟨S8192x1024, .f32⟩
  | 30 => ⟨S_, .f32⟩
  | 31 => ⟨S1024, .f32⟩
  | 32 => ⟨S8192x1024, .f32⟩
  | 33 => ⟨S_, .f32⟩
  | 34 => ⟨S1024, .f32⟩
  | 35 => ⟨S1x1024, .f32⟩
  | 36 => ⟨S8192x1024, .f32⟩
  | 37 => ⟨S8192x1024, .f32⟩
  | 38 => ⟨S_, .f32⟩
  | 39 => ⟨S1024, .f32⟩
  | 40 => ⟨S8192x1024, .f32⟩
  | 41 => ⟨S_, .f32⟩
  | 42 => ⟨S8192, .f32⟩
  | 43 => ⟨S8192x1, .f32⟩
  | 44 => ⟨S8192x1024, .f32⟩
  | 45 => ⟨S8192x1024, .f32⟩
  | 46 => ⟨S8192x1024, .f32⟩
  | 47 => ⟨S8192x1, .f32⟩
  | 48 => ⟨S_, .f32⟩
  | 49 => ⟨S8192x1, .f32⟩
  | 50 => ⟨S8192x1, .f32⟩
  | 51 => ⟨S_, .f32⟩
  | 52 => ⟨S8192, .f32⟩
  | 53 => ⟨S8192x1024, .f32⟩
  | 54 => ⟨S8192x1024, .f32⟩
  | 55 => ⟨S8192x1024, .f32⟩
  | 56 => ⟨S8192x1024, .f32⟩
  | 57 => ⟨S8192x1024, .f32⟩
  | 58 => ⟨S8192x1024, .f32⟩
  | 59 => ⟨S8192x1024, .f32⟩
  | 60 => ⟨S8192x1024, .f32⟩
  | 61 => ⟨S_, .f32⟩
  | 62 => ⟨S1024, .f32⟩
  | 63 => ⟨S1x1024, .f32⟩
  | 64 => ⟨S_, .f32⟩
  | 65 => ⟨S1024, .f32⟩
  | 66 => ⟨S_, .f32⟩
  | 67 => ⟨S1024, .f32⟩
  | 68 => ⟨S1x1024, .f32⟩
  | 69 => ⟨S_, .f32⟩
  | 70 => ⟨S1024, .f32⟩
  | 71 => ⟨S8192x1024, .f32⟩
  | 72 => ⟨S8192x1024, .f32⟩
  | 73 => ⟨S8192x1024, .f32⟩
  | 74 => ⟨S8192x1024, .f32⟩
  | 75 => ⟨S8192x1024, .f32⟩
  | 76 => ⟨S_, .f32⟩
  | 77 => ⟨S1024, .f32⟩
  | 78 => ⟨S1x1024, .f32⟩
  | 79 => ⟨S_, .f32⟩
  | 80 => ⟨S1024, .f32⟩
  | 81 => ⟨S8192x1024, .f32⟩
  | 82 => ⟨S_, .f32⟩
  | 83 => ⟨S1024, .f32⟩
  | 84 => ⟨S1x1024, .f32⟩
  | 85 => ⟨S8192x1024, .f32⟩
  | 86 => ⟨S8192x1024, .f32⟩
  | 87 => ⟨S_, .f32⟩
  | 88 => ⟨S1024, .f32⟩
  | 89 => ⟨S8192x1024, .f32⟩
  | 90 => ⟨S_, .f32⟩
  | 91 => ⟨S8192, .f32⟩
  | 92 => ⟨S8192x1, .f32⟩
  | 93 => ⟨S8192x1024, .f32⟩
  | 94 => ⟨S8192x1024, .f32⟩
  | 95 => ⟨S8192x1, .f32⟩
  | 96 => ⟨S_, .f32⟩
  | 97 => ⟨S8192x1, .f32⟩
  | 98 => ⟨S8192x1, .f32⟩
  | 99 => ⟨S_, .f32⟩
  | 100 => ⟨S8192, .f32⟩
  | 101 => ⟨S8192x1024, .f32⟩
  | 102 => ⟨S8192x1024, .f32⟩
  | 103 => ⟨S8192x1024, .f32⟩
  | 104 => ⟨S8192x1024, .f32⟩
  | 105 => ⟨S8192x1024, .f32⟩
  | 106 => ⟨S8192x1024, .f32⟩
  | 107 => ⟨S_, .f32⟩
  | 108 => ⟨S8192, .f32⟩
  | 109 => ⟨S8192x1, .f32⟩
  | 110 => ⟨S_, .f32⟩
  | 111 => ⟨S8192x1, .f32⟩
  | 112 => ⟨S8192x1, .f32⟩
  | 113 => ⟨S_, .f32⟩
  | 114 => ⟨S8192, .f32⟩
  | 115 => ⟨S8192x1024, .f32⟩
  | 116 => ⟨S8192x1024, .f32⟩
  | 117 => ⟨S_, .f32⟩
  | 118 => ⟨S1024, .f32⟩
  | 119 => ⟨S1x1024, .f32⟩
  | 120 => ⟨S_, .f32⟩
  | 121 => ⟨S1024, .f32⟩
  | 122 => ⟨S_, .f32⟩
  | 123 => ⟨S1024, .f32⟩
  | 124 => ⟨S8192x4096, .bf16⟩
  | 125 => ⟨S8192x1024, .bf16⟩
  | 126 => ⟨S8192x1024, .bf16⟩
  | 127 => ⟨S1x1024, .f32⟩
  | _ => ⟨S8192x1024, .f32⟩

abbrev hbmTy0_2 (i : Nat) : BufTy := match i % 128 with
  | 0 => ⟨S1x1024, .f32⟩
  | 1 => ⟨S1x1024, .f32⟩
  | 2 => ⟨S1x1024, .f32⟩
  | 3 => ⟨S1x1024, .f32⟩
  | 4 => ⟨S1x1024, .f32⟩
  | 5 => ⟨S1x1024, .f32⟩
  | 6 => ⟨S1x1024, .f32⟩
  | 7 => ⟨S8x1024, .f32⟩
  | 8 => ⟨S8192x1024, .bf16⟩
  | 9 => ⟨S1x1024, .f32⟩
  | 10 => ⟨S1x1024, .f32⟩
  | 11 => ⟨S1x1024, .f32⟩
  | 12 => ⟨S1x1024, .f32⟩
  | 13 => ⟨S1x1024, .f32⟩
  | 14 => ⟨S1x1024, .f32⟩
  | 15 => ⟨S1x1024, .f32⟩
  | 16 => ⟨S1x1024, .f32⟩
  | 17 => ⟨S8x1024, .f32⟩
  | _ => ⟨S8192x1024, .f32⟩

abbrev hbmTy (i : Nat) : BufTy := match i / 128 with
  | 0 => hbmTy0_0 i
  | 1 => hbmTy0_1 i
  | 2 => hbmTy0_2 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_cst_0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_cst_1 : Ref sig .tc := ⟨.hbm, 25, rfl⟩
abbrev main_v6 : Ref sig .tc := ⟨.hbm, 26, rfl⟩
abbrev main_v7 : Ref sig .tc := ⟨.hbm, 27, rfl⟩
abbrev main_cst_2 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_cst_3 : Ref sig .tc := ⟨.hbm, 34, rfl⟩
abbrev main_v13 : Ref sig .tc := ⟨.hbm, 35, rfl⟩
abbrev main_v14 : Ref sig .tc := ⟨.hbm, 36, rfl⟩
abbrev main_cst_4 : Ref sig .tc := ⟨.hbm, 37, rfl⟩
abbrev main_v15 : Ref sig .tc := ⟨.hbm, 38, rfl⟩
abbrev main_v16 : Ref sig .tc := ⟨.hbm, 39, rfl⟩
abbrev main_cst_5 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_cst_6 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_call0_v0 : Ref sig .tc := ⟨.hbm, 56, rfl⟩
abbrev main_call0_v1 : Ref sig .tc := ⟨.hbm, 57, rfl⟩
abbrev main_call0_cst : Ref sig .tc := ⟨.hbm, 58, rfl⟩
abbrev main_call0_v2 : Ref sig .tc := ⟨.hbm, 59, rfl⟩
abbrev main_call0_v3 : Ref sig .tc := ⟨.hbm, 60, rfl⟩
abbrev main_call0_cst_0 : Ref sig .tc := ⟨.hbm, 61, rfl⟩
abbrev main_call0_v4 : Ref sig .tc := ⟨.hbm, 62, rfl⟩
abbrev main_v31_2 : Ref sig .tc := ⟨.hbm, 63, rfl⟩
abbrev main_call0_cst_1 : Ref sig .tc := ⟨.hbm, 64, rfl⟩
abbrev main_call0_v6 : Ref sig .tc := ⟨.hbm, 65, rfl⟩
abbrev main_call0_v7 : Ref sig .tc := ⟨.hbm, 66, rfl⟩
abbrev main_v31_1 : Ref sig .tc := ⟨.hbm, 67, rfl⟩
abbrev main_v31_0 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_cst_7 : Ref sig .tc := ⟨.hbm, 79, rfl⟩
abbrev main_v42 : Ref sig .tc := ⟨.hbm, 80, rfl⟩
abbrev main_v43 : Ref sig .tc := ⟨.hbm, 81, rfl⟩
abbrev main_cst_8 : Ref sig .tc := ⟨.hbm, 82, rfl⟩
abbrev main_v44 : Ref sig .tc := ⟨.hbm, 83, rfl⟩
abbrev main_v45 : Ref sig .tc := ⟨.hbm, 84, rfl⟩
abbrev main_cst_9 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_cst_10 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_cst_11 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_call1_cst : Ref sig .tc := ⟨.hbm, 111, rfl⟩
abbrev main_call1_v0 : Ref sig .tc := ⟨.hbm, 112, rfl⟩
abbrev main_v69 : Ref sig .tc := ⟨.hbm, 113, rfl⟩
abbrev main_cst_12 : Ref sig .tc := ⟨.hbm, 114, rfl⟩
abbrev main_v70 : Ref sig .tc := ⟨.hbm, 115, rfl⟩
abbrev main_v71 : Ref sig .tc := ⟨.hbm, 116, rfl⟩
abbrev main_cst_13 : Ref sig .tc := ⟨.hbm, 117, rfl⟩
abbrev main_v72 : Ref sig .tc := ⟨.hbm, 118, rfl⟩
abbrev main_v73 : Ref sig .tc := ⟨.hbm, 119, rfl⟩
abbrev main_cst_14 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_cst_15 : Ref sig .tc := ⟨.hbm, 136, rfl⟩
abbrev main_v89 : Ref sig .tc := ⟨.hbm, 137, rfl⟩
abbrev main_v90 : Ref sig .tc := ⟨.hbm, 138, rfl⟩
abbrev main_cst_16 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_cst_17 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_cst_18 : Ref sig .tc := ⟨.hbm, 147, rfl⟩
abbrev main_v97 : Ref sig .tc := ⟨.hbm, 148, rfl⟩
abbrev main_v98 : Ref sig .tc := ⟨.hbm, 149, rfl⟩
abbrev main_cst_19 : Ref sig .tc := ⟨.hbm, 150, rfl⟩
abbrev main_v99 : Ref sig .tc := ⟨.hbm, 151, rfl⟩
abbrev main_v100 : Ref sig .tc := ⟨.hbm, 152, rfl⟩
abbrev main_cst_20 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_cst_21 : Ref sig .tc := ⟨.hbm, 158, rfl⟩
abbrev main_v105 : Ref sig .tc := ⟨.hbm, 159, rfl⟩
abbrev main_v106 : Ref sig .tc := ⟨.hbm, 160, rfl⟩
abbrev main_cst_22 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_cst_23 : Ref sig .tc := ⟨.hbm, 166, rfl⟩
abbrev main_v111 : Ref sig .tc := ⟨.hbm, 167, rfl⟩
abbrev main_v112 : Ref sig .tc := ⟨.hbm, 168, rfl⟩
abbrev main_cst_24 : Ref sig .tc := ⟨.hbm, 169, rfl⟩
abbrev main_v113 : Ref sig .tc := ⟨.hbm, 170, rfl⟩
abbrev main_v114 : Ref sig .tc := ⟨.hbm, 171, rfl⟩
abbrev main_v115 : Ref sig .tc := ⟨.hbm, 172, rfl⟩
abbrev main_v116 : Ref sig .tc := ⟨.hbm, 173, rfl⟩
abbrev main_v117 : Ref sig .tc := ⟨.hbm, 174, rfl⟩
abbrev main_v118 : Ref sig .tc := ⟨.hbm, 175, rfl⟩
abbrev main_cst_25 : Ref sig .tc := ⟨.hbm, 176, rfl⟩
abbrev main_v119 : Ref sig .tc := ⟨.hbm, 177, rfl⟩
abbrev main_v120 : Ref sig .tc := ⟨.hbm, 178, rfl⟩
abbrev main_cst_26 : Ref sig .tc := ⟨.hbm, 179, rfl⟩
abbrev main_v121 : Ref sig .tc := ⟨.hbm, 180, rfl⟩
abbrev main_v122 : Ref sig .tc := ⟨.hbm, 181, rfl⟩
abbrev main_v123 : Ref sig .tc := ⟨.hbm, 182, rfl⟩
abbrev main_v124 : Ref sig .tc := ⟨.hbm, 183, rfl⟩
abbrev main_v125 : Ref sig .tc := ⟨.hbm, 184, rfl⟩
abbrev main_v126 : Ref sig .tc := ⟨.hbm, 185, rfl⟩
abbrev main_v127 : Ref sig .tc := ⟨.hbm, 186, rfl⟩
abbrev main_v128 : Ref sig .tc := ⟨.hbm, 187, rfl⟩
abbrev main_v129 : Ref sig .tc := ⟨.hbm, 188, rfl⟩
abbrev main_cst_27 : Ref sig .tc := ⟨.hbm, 189, rfl⟩
abbrev main_v130 : Ref sig .tc := ⟨.hbm, 190, rfl⟩
abbrev main_v131 : Ref sig .tc := ⟨.hbm, 191, rfl⟩
abbrev main_cst_28 : Ref sig .tc := ⟨.hbm, 192, rfl⟩
abbrev main_v132 : Ref sig .tc := ⟨.hbm, 193, rfl⟩
abbrev main_cst_29 : Ref sig .tc := ⟨.hbm, 194, rfl⟩
abbrev main_v133 : Ref sig .tc := ⟨.hbm, 195, rfl⟩
abbrev main_v134 : Ref sig .tc := ⟨.hbm, 196, rfl⟩
abbrev main_cst_30 : Ref sig .tc := ⟨.hbm, 197, rfl⟩
abbrev main_v135 : Ref sig .tc := ⟨.hbm, 198, rfl⟩
abbrev main_v136 : Ref sig .tc := ⟨.hbm, 199, rfl⟩
abbrev main_call2_v0 : Ref sig .tc := ⟨.hbm, 200, rfl⟩
abbrev main_call2_v1 : Ref sig .tc := ⟨.hbm, 201, rfl⟩
abbrev main_call2_v2 : Ref sig .tc := ⟨.hbm, 202, rfl⟩
abbrev main_v137 : Ref sig .tc := ⟨.hbm, 203, rfl⟩
abbrev main_cst_31 : Ref sig .tc := ⟨.hbm, 204, rfl⟩
abbrev main_v138 : Ref sig .tc := ⟨.hbm, 205, rfl⟩
abbrev main_v139 : Ref sig .tc := ⟨.hbm, 206, rfl⟩
abbrev main_cst_32 : Ref sig .tc := ⟨.hbm, 207, rfl⟩
abbrev main_v140 : Ref sig .tc := ⟨.hbm, 208, rfl⟩
abbrev main_v141 : Ref sig .tc := ⟨.hbm, 209, rfl⟩
abbrev main_cst_33 : Ref sig .tc := ⟨.hbm, 210, rfl⟩
abbrev main_v142 : Ref sig .tc := ⟨.hbm, 211, rfl⟩
abbrev main_v143 : Ref sig .tc := ⟨.hbm, 212, rfl⟩
abbrev main_v144 : Ref sig .tc := ⟨.hbm, 213, rfl⟩
abbrev main_v145 : Ref sig .tc := ⟨.hbm, 214, rfl⟩
abbrev main_cst_34 : Ref sig .tc := ⟨.hbm, 215, rfl⟩
abbrev main_v146 : Ref sig .tc := ⟨.hbm, 216, rfl⟩
abbrev main_v147 : Ref sig .tc := ⟨.hbm, 217, rfl⟩
abbrev main_cst_35 : Ref sig .tc := ⟨.hbm, 218, rfl⟩
abbrev main_v148 : Ref sig .tc := ⟨.hbm, 219, rfl⟩
abbrev main_v149 : Ref sig .tc := ⟨.hbm, 220, rfl⟩
abbrev main_v150 : Ref sig .tc := ⟨.hbm, 221, rfl⟩
abbrev main_v151 : Ref sig .tc := ⟨.hbm, 222, rfl⟩
abbrev main_v152 : Ref sig .tc := ⟨.hbm, 223, rfl⟩
abbrev main_cst_36 : Ref sig .tc := ⟨.hbm, 224, rfl⟩
abbrev main_v153 : Ref sig .tc := ⟨.hbm, 225, rfl⟩
abbrev main_v154 : Ref sig .tc := ⟨.hbm, 226, rfl⟩
abbrev main_cst_37 : Ref sig .tc := ⟨.hbm, 227, rfl⟩
abbrev main_v155 : Ref sig .tc := ⟨.hbm, 228, rfl⟩
abbrev main_v156 : Ref sig .tc := ⟨.hbm, 229, rfl⟩
abbrev main_v157 : Ref sig .tc := ⟨.hbm, 230, rfl⟩
abbrev main_v158 : Ref sig .tc := ⟨.hbm, 231, rfl⟩
abbrev main_v159 : Ref sig .tc := ⟨.hbm, 232, rfl⟩
abbrev main_v160 : Ref sig .tc := ⟨.hbm, 233, rfl⟩
abbrev main_v161 : Ref sig .tc := ⟨.hbm, 234, rfl⟩
abbrev main_cst_38 : Ref sig .tc := ⟨.hbm, 235, rfl⟩
abbrev main_v162 : Ref sig .tc := ⟨.hbm, 236, rfl⟩
abbrev main_v163 : Ref sig .tc := ⟨.hbm, 237, rfl⟩
abbrev main_cst_39 : Ref sig .tc := ⟨.hbm, 238, rfl⟩
abbrev main_v164 : Ref sig .tc := ⟨.hbm, 239, rfl⟩
abbrev main_v165 : Ref sig .tc := ⟨.hbm, 240, rfl⟩
abbrev main_cst_40 : Ref sig .tc := ⟨.hbm, 241, rfl⟩
abbrev main_v166 : Ref sig .tc := ⟨.hbm, 242, rfl⟩
abbrev main_v167 : Ref sig .tc := ⟨.hbm, 243, rfl⟩
abbrev main_v168 : Ref sig .tc := ⟨.hbm, 244, rfl⟩
abbrev main_cst_41 : Ref sig .tc := ⟨.hbm, 245, rfl⟩
abbrev main_v169 : Ref sig .tc := ⟨.hbm, 246, rfl⟩
abbrev main_v170 : Ref sig .tc := ⟨.hbm, 247, rfl⟩
abbrev main_cst_42 : Ref sig .tc := ⟨.hbm, 248, rfl⟩
abbrev main_v171 : Ref sig .tc := ⟨.hbm, 249, rfl⟩
abbrev main_cst_43 : Ref sig .tc := ⟨.hbm, 250, rfl⟩
abbrev main_v172 : Ref sig .tc := ⟨.hbm, 251, rfl⟩
abbrev main_v173 : Ref sig .tc := ⟨.hbm, 252, rfl⟩
abbrev main_v174 : Ref sig .tc := ⟨.hbm, 253, rfl⟩
abbrev main_v175 : Ref sig .tc := ⟨.hbm, 254, rfl⟩
abbrev main_v176 : Ref sig .tc := ⟨.hbm, 255, rfl⟩
abbrev main_v177 : Ref sig .tc := ⟨.hbm, 256, rfl⟩
abbrev main_v178 : Ref sig .tc := ⟨.hbm, 257, rfl⟩
abbrev main_v179 : Ref sig .tc := ⟨.hbm, 258, rfl⟩
abbrev main_v180 : Ref sig .tc := ⟨.hbm, 259, rfl⟩
abbrev main_v181 : Ref sig .tc := ⟨.hbm, 260, rfl⟩
abbrev main_v182 : Ref sig .tc := ⟨.hbm, 261, rfl⟩
abbrev main_v183 : Ref sig .tc := ⟨.hbm, 262, rfl⟩
abbrev main_v184 : Ref sig .tc := ⟨.hbm, 263, rfl⟩
abbrev main_v185 : Ref sig .tc := ⟨.hbm, 264, rfl⟩
abbrev main_v186 : Ref sig .tc := ⟨.hbm, 265, rfl⟩
abbrev main_v187 : Ref sig .tc := ⟨.hbm, 266, rfl⟩
abbrev main_v188 : Ref sig .tc := ⟨.hbm, 267, rfl⟩
abbrev main_v189 : Ref sig .tc := ⟨.hbm, 268, rfl⟩
abbrev main_v190 : Ref sig .tc := ⟨.hbm, 269, rfl⟩
abbrev main_v191 : Ref sig .tc := ⟨.hbm, 270, rfl⟩
abbrev main_v192 : Ref sig .tc := ⟨.hbm, 271, rfl⟩
abbrev main_v193 : Ref sig .tc := ⟨.hbm, 272, rfl⟩
abbrev main_v194 : Ref sig .tc := ⟨.hbm, 273, rfl⟩

abbrev nD : Nat := 1
abbrev τ : Topo := Topo.v7x

variable {F : FTy → Type} [FloatOps F]
-- ==== Kernel2.lean ====
abbrev S8192x1024 : Shape := ⟨2, ![8192, 1024]⟩
abbrev S8192x4096 : Shape := ⟨2, ![8192, 4096]⟩
abbrev S4x1024x1024 : Shape := ⟨3, ![4, 1024, 1024]⟩
abbrev S1024x1024 : Shape := ⟨2, ![1024, 1024]⟩
abbrev S1x1024x1024 : Shape := ⟨3, ![1, 1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S4x1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8192x1024 : Shape := ⟨2, ![8192, 1024]⟩
abbrev S8192x4096 : Shape := ⟨2, ![8192, 4096]⟩
abbrev S_ : Shape := ⟨0, ![]⟩
abbrev S1024x4096 : Shape := ⟨2, ![1024, 4096]⟩
abbrev S4096x1024 : Shape := ⟨2, ![4096, 1024]⟩
abbrev S1024x4x1024 : Shape := ⟨3, ![1024, 4, 1024]⟩
abbrev S4x1024x1024 : Shape := ⟨3, ![4, 1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S_, .f32⟩
  | .hbm, ⟨3, _⟩ => ⟨S1024x4096, .f32⟩
  | .hbm, ⟨4, _⟩ => ⟨S8192x1024, .f32⟩
  | .hbm, ⟨5, _⟩ => ⟨S8192x4096, .f32⟩
  | .hbm, ⟨6, _⟩ => ⟨S8192x4096, .f32⟩
  | .hbm, ⟨7, _⟩ => ⟨S4096x1024, .f32⟩
  | .hbm, ⟨8, _⟩ => ⟨S1024x4096, .f32⟩
  | .hbm, ⟨9, _⟩ => ⟨S1024x4096, .bf16⟩
  | .hbm, ⟨10, _⟩ => ⟨S1024x4x1024, .bf16⟩
  | .hbm, ⟨11, _⟩ => ⟨S4x1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel3.lean ====
abbrev S8192x4096 : Shape := ⟨2, ![8192, 4096]⟩
abbrev S8192x1024 : Shape := ⟨2, ![8192, 1024]⟩
abbrev S4x1024x1024 : Shape := ⟨3, ![4, 1024, 1024]⟩
abbrev S1024x1024 : Shape := ⟨2, ![1024, 1024]⟩
abbrev S1x1024x1024 : Shape := ⟨3, ![1, 1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S4x1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def k0_cond2 (i : grid0.Coords) : BitVec 1 :=
  let arg2 : BitVec 32 := BitVec.ofNat 32 (i 2).val
  let c7_i32 : BitVec 32 := 7#32
  let v16 : BitVec 1 := Scalar.cmpi .eq arg2 c7_i32
  let v17 : BitVec 32 := Scalar.extui v16
  let c0_i32_9 : BitVec 32 := 0#32
  let v18 : BitVec 1 := Scalar.cmpi .ne v17 c0_i32_9
  v18

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x4096 : Shape := ⟨2, ![8192, 4096]⟩
abbrev S8192x1024 : Shape := ⟨2, ![8192, 1024]⟩
abbrev S_ : Shape := ⟨0, ![]⟩
abbrev S4096x1024 : Shape := ⟨2, ![4096, 1024]⟩
abbrev S1024x4096 : Shape := ⟨2, ![1024, 4096]⟩
abbrev S4x1024x1024 : Shape := ⟨3, ![4, 1024, 1024]⟩

abbrev nBuf : Space → Nat
  | .hbm => 15
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S_, .f32⟩
  | .hbm, ⟨3, _⟩ => ⟨S4096x1024, .f32⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S8192x1024, .f32⟩
  | .hbm, ⟨10, _⟩ => ⟨S8192x1024, .f32⟩
  | .hbm, ⟨11, _⟩ => ⟨S1024x4096, .f32⟩
  | .hbm, ⟨12, _⟩ => ⟨S4096x1024, .f32⟩
  | .hbm, ⟨13, _⟩ => ⟨S4096x1024, .bf16⟩
  | .hbm, ⟨14, _⟩ => ⟨S4x1024x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel12.lean ====
abbrev S8192x1024 : Shape := ⟨2, ![8192, 1024]⟩
abbrev S1024 : Shape := ⟨1, ![1024]⟩
abbrev S2x1024x4096 : Shape := ⟨3, ![2, 1024, 4096]⟩
abbrev S2x4096x1024 : Shape := ⟨3, ![2, 4096, 1024]⟩
abbrev S1x2048x1024 : Shape := ⟨3, ![1, 2048, 1024]⟩
abbrev S1x1024x2048 : Shape := ⟨3, ![1, 1024, 2048]⟩
abbrev S1x1024x1024 : Shape := ⟨3, ![1, 1024, 1024]⟩
abbrev S1x1024 : Shape := ⟨2, ![1, 1024]⟩
abbrev S4x1024 : Shape := ⟨2, ![4, 1024]⟩
abbrev S_ : Shape := ⟨0, ![]⟩
abbrev S8x1024 : Shape := ⟨2, ![8, 1024]⟩
abbrev S2x1024x4x1024 : Shape := ⟨4, ![2, 1024, 4, 1024]⟩
abbrev S4x2x1024x1024 : Shape := ⟨4, ![4, 2, 1024, 1024]⟩
abbrev S4x2048x1024 : Shape := ⟨3, ![4, 2048, 1024]⟩
abbrev S2x4x1024x1024 : Shape := ⟨4, ![2, 4, 1024, 1024]⟩
abbrev S1x4x512x1024 : Shape := ⟨4, ![1, 4, 512, 1024]⟩
abbrev S4x1x512x1024 : Shape := ⟨4, ![4, 1, 512, 1024]⟩
abbrev S4x512x1024 : Shape := ⟨3, ![4, 512, 1024]⟩
abbrev S1x1024x4x512 : Shape := ⟨4, ![1, 1024, 4, 512]⟩
abbrev S4x1x1024x512 : Shape := ⟨4, ![4, 1, 1024, 512]⟩
abbrev S1x4x256x1024 : Shape := ⟨4, ![1, 4, 256, 1024]⟩
abbrev S4x1x256x1024 : Shape := ⟨4, ![4, 1, 256, 1024]⟩
abbrev S4x256x1024 : Shape := ⟨3, ![4, 256, 1024]⟩
abbrev S4x5376x1024 : Shape := ⟨3, ![4, 5376, 1024]⟩
abbrev S8192x4096 : Shape := ⟨2, ![8192, 4096]⟩
abbrev S256x1024 : Shape := ⟨2, ![256, 1024]⟩
abbrev S4x1024x1024 : Shape := ⟨3, ![4, 1024, 1024]⟩
abbrev S256x4096 : Shape := ⟨2, ![256, 4096]⟩
abbrev S256 : Shape := ⟨1, ![256]⟩
abbrev S256x1 : Shape := ⟨2, ![256, 1]⟩
abbrev S1024x1024 : Shape := ⟨2, ![1024, 1024]⟩

abbrev nBuf : Space → Nat
  | .hbm => 38
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S2x1024x4096, .f32⟩
  | .hbm, ⟨6, _⟩ => ⟨S2x4096x1024, .f32⟩
  | .hbm, ⟨7, _⟩ => ⟨S1x2048x1024, .f32⟩
  | .hbm, ⟨8, _⟩ => ⟨S1x1024x2048, .f32⟩
  | .hbm, ⟨9, _⟩ => ⟨S1x1024x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S4x1024, .f32⟩
  | .hbm, ⟨15, _⟩ => ⟨S_, .f32⟩
  | .hbm, ⟨16, _⟩ => ⟨S4x1024, .f32⟩
  | .hbm, ⟨17, _⟩ => ⟨S8x1024, .f32⟩
  | .hbm, ⟨18, _⟩ => ⟨S2x1024x4x1024, .f32⟩
  | .hbm, ⟨19, _⟩ => ⟨S4x2x1024x1024, .f32⟩
  | .hbm, ⟨20, _⟩ => ⟨S4x2048x1024, .f32⟩
  | .hbm, ⟨21, _⟩ => ⟨S2x4x1024x1024, .f32⟩
  | .hbm, ⟨22, _⟩ => ⟨S4x2x1024x1024, .f32⟩
  | .hbm, ⟨23, _⟩ => ⟨S4x2048x1024, .f32⟩
  | .hbm, ⟨24, _⟩ => ⟨S1x4x512x1024, .f32⟩
  | .hbm, ⟨25, _⟩ => ⟨S4x1x512x1024, .f32⟩
  | .hbm, ⟨26, _⟩ => ⟨S4x512x1024, .f32⟩
  | .hbm, ⟨27, _⟩ => ⟨S1x1024x4x512, .f32⟩
  | .hbm, ⟨28, _⟩ => ⟨S4x1x1024x512, .f32⟩
  | .hbm, ⟨29, _⟩ => ⟨S4x512x1024, .f32⟩
  | .hbm, ⟨30, _⟩ => ⟨S1x4x256x1024, .f32⟩
  | .hbm, ⟨31, _⟩ => ⟨S4x1x256x1024, .f32⟩
  | .hbm, ⟨32, _⟩ => ⟨S4x256x1024, .f32⟩
  | .hbm, ⟨33, _⟩ => ⟨S4x5376x1024, .f32⟩
  | .hbm, ⟨34, _⟩ => ⟨S4x5376x1024, .bf16⟩
  | .hbm, ⟨35, _⟩ => ⟨S8192x1024, .f32⟩
  | .hbm, ⟨36, _⟩ => ⟨S8192x4096, .bf16⟩
  | .hbm, ⟨37, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S8x1024, .f32⟩
  | .local _ .vmem, ⟨3, _⟩ => ⟨S4x1024x1024, .bf16⟩
  | .local _ .vmem, ⟨4, _⟩ => ⟨S4x1024x1024, .bf16⟩
  | .local _ .vmem, ⟨5, _⟩ => ⟨S256x1024, .f32⟩
  | .local _ .vmem, ⟨6, _⟩ => ⟨S256x1024, .f32⟩
  | .local _ .vmem, ⟨7, _⟩ => ⟨S256x4096, .bf16⟩
  | .local _ .vmem, ⟨8, _⟩ => ⟨S256x4096, .bf16⟩
  | .local _ .vmem, ⟨9, _⟩ => ⟨S256x1024, .f32⟩
  | .local _ .vmem, ⟨10, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24_0 : Ref sig .tc := ⟨.hbm, 35, rfl⟩
abbrev main_v24_1 : Ref sig .tc := ⟨.hbm, 36, rfl⟩
abbrev main_v24_2 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  ![c0_i32.toNat, c2_i32.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference12Ideal.lean ====
abbrev S8192x1024 : Shape := ⟨2, ![8192, 1024]⟩
abbrev S1024 : Shape := ⟨1, ![1024]⟩
abbrev S2x1024x4096 : Shape := ⟨3, ![2, 1024, 4096]⟩
abbrev S2x4096x1024 : Shape := ⟨3, ![2, 4096, 1024]⟩
abbrev S1x2048x1024 : Shape := ⟨3, ![1, 2048, 1024]⟩
abbrev S1x1024x2048 : Shape := ⟨3, ![1, 1024, 2048]⟩
abbrev S1x1024x1024 : Shape := ⟨3, ![1, 1024, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x1024x4096 : Shape := ⟨3, ![1, 1024, 4096]⟩
abbrev S1024x4096 : Shape := ⟨2, ![1024, 4096]⟩
abbrev S8192x4096 : Shape := ⟨2, ![8192, 4096]⟩
abbrev S1x4096x1024 : Shape := ⟨3, ![1, 4096, 1024]⟩
abbrev S4096x1024 : Shape := ⟨2, ![4096, 1024]⟩

abbrev nBuf : Space → Nat
  | .hbm => 50
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S2x1024x4096, .f32⟩
  | .hbm, ⟨6, _⟩ => ⟨S2x4096x1024, .f32⟩
  | .hbm, ⟨7, _⟩ => ⟨S1x2048x1024, .f32⟩
  | .hbm, ⟨8, _⟩ => ⟨S1x1024x2048, .f32⟩
  | .hbm, ⟨9, _⟩ => ⟨S1x1024x1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S1024, .f32⟩
  | .hbm, ⟨28, _⟩ => ⟨S1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S1x1024x4096, .f32⟩
  | .hbm, ⟨36, _⟩ => ⟨S1024x4096, .f32⟩
  | .hbm, ⟨37, _⟩ => ⟨S8192x4096, .f32⟩
  | .hbm, ⟨38, _⟩ => ⟨S_, .f32⟩
  | .hbm, ⟨39, _⟩ => ⟨S8192x4096, .f32⟩
  | .hbm, ⟨40, _⟩ => ⟨S8192x4096, .f32⟩
  | .hbm, ⟨41, _⟩ => ⟨S8192x4096, .f32⟩
  | .hbm, ⟨42, _⟩ => ⟨S1x4096x1024, .f32⟩
  | .hbm, ⟨43, _⟩ => ⟨S4096x1024, .f32⟩
  | .hbm, ⟨44, _⟩ => ⟨S8192x1024, .f32⟩
  | .hbm, ⟨45, _⟩ => ⟨S1x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_call0_cst : Ref sig .tc := ⟨.hbm, 38, rfl⟩
abbrev main_call0_v0 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩

abbrev nD : Nat := 1
abbrev τ : Topo := Topo.v7x

variable {F : FTy → Type} [FloatOps F]
-- ==== Kernel11.lean ====
abbrev S8192x1024 : Shape := ⟨2, ![8192, 1024]⟩
abbrev S1024 : Shape := ⟨1, ![1024]⟩
abbrev S2x1024x4096 : Shape := ⟨3, ![2, 1024, 4096]⟩
abbrev S2x4096x1024 : Shape := ⟨3, ![2, 4096, 1024]⟩
abbrev S1x2048x1024 : Shape := ⟨3, ![1, 2048, 1024]⟩
abbrev S1x1024x2048 : Shape := ⟨3, ![1, 1024, 2048]⟩
abbrev S1x1024x1024 : Shape := ⟨3, ![1, 1024, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x1024x4096 : Shape := ⟨3, ![1, 1024, 4096]⟩
abbrev S1024x4096 : Shape := ⟨2, ![1024, 4096]⟩
abbrev S8192x4096 : Shape := ⟨2, ![8192, 4096]⟩
abbrev S1x4096x1024 : Shape := ⟨3, ![1, 4096, 1024]⟩
abbrev S4096x1024 : Shape := ⟨2, ![4096, 1024]⟩
abbrev S4x1024 : Shape := ⟨2, ![4, 1024]⟩
abbrev S8x1024 : Shape := ⟨2, ![8, 1024]⟩
abbrev S2x1024x4x1024 : Shape := ⟨4, ![2, 1024, 4, 1024]⟩
abbrev S4x2x1024x1024 : Shape := ⟨4, ![4, 2, 1024, 1024]⟩
abbrev S4x2048x1024 : Shape := ⟨3, ![4, 2048, 1024]⟩
abbrev S2x4x1024x1024 : Shape := ⟨4, ![2, 4, 1024, 1024]⟩
abbrev S1x4x512x1024 : Shape := ⟨4, ![1, 4, 512, 1024]⟩
abbrev S4x1x512x1024 : Shape := ⟨4, ![4, 1, 512, 1024]⟩
abbrev S4x512x1024 : Shape := ⟨3, ![4, 512, 1024]⟩
abbrev S1x1024x4x512 : Shape := ⟨4, ![1, 1024, 4, 512]⟩
abbrev S4x1x1024x512 : Shape := ⟨4, ![4, 1, 1024, 512]⟩
abbrev S1x4x256x1024 : Shape := ⟨4, ![1, 4, 256, 1024]⟩
abbrev S4x1x256x1024 : Shape := ⟨4, ![4, 1, 256, 1024]⟩
abbrev S4x256x1024 : Shape := ⟨3, ![4, 256, 1024]⟩
abbrev S4x5376x1024 : Shape := ⟨3, ![4, 5376, 1024]⟩
abbrev S256x1024 : Shape := ⟨2, ![256, 1024]⟩
abbrev S256x4096 : Shape := ⟨2, ![256, 4096]⟩
abbrev S4x1024x1024 : Shape := ⟨3, ![4, 1024, 1024]⟩
abbrev S256 : Shape := ⟨1, ![256]⟩
abbrev S256x1 : Shape := ⟨2, ![256, 1]⟩
abbrev S1024x1024 : Shape := ⟨2, ![1024, 1024]⟩

abbrev nBuf : Space → Nat
  | .hbm => 77
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S2x1024x4096, .f32⟩
  | .hbm, ⟨7, _⟩ => ⟨S2x4096x1024, .f32⟩
  | .hbm, ⟨8, _⟩ => ⟨S1x2048x1024, .f32⟩
  | .hbm, ⟨9, _⟩ => ⟨S1x1024x2048, .f32⟩
  | .hbm, ⟨10, _⟩ => ⟨S1x1024x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S1024, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S1x1024x4096, .f32⟩
  | .hbm, ⟨37, _⟩ => ⟨S1024x4096, .f32⟩
  | .hbm, ⟨38, _⟩ => ⟨S8192x4096, .f32⟩
  | .hbm, ⟨39, _⟩ => ⟨S_, .f32⟩
  | .hbm, ⟨40, _⟩ => ⟨S8192x4096, .f32⟩
  | .hbm, ⟨41, _⟩ => ⟨S8192x4096, .f32⟩
  | .hbm, ⟨42, _⟩ => ⟨S8192x4096, .f32⟩
  | .hbm, ⟨43, _⟩ => ⟨S1x4096x1024, .f32⟩
  | .hbm, ⟨44, _⟩ => ⟨S4096x1024, .f32⟩
  | .hbm, ⟨45, _⟩ => ⟨S8192x1024, .f32⟩
  | .hbm, ⟨46, _⟩ => ⟨S1x1024, .f32⟩
  | .hbm, ⟨47, _⟩ => ⟨S1x1024, .f32⟩
  | .hbm, ⟨48, _⟩ => ⟨S1x1024, .f32⟩
  | .hbm, ⟨49, _⟩ => ⟨S1x1024, .f32⟩
  | .hbm, ⟨50, _⟩ => ⟨S4x1024, .f32⟩
  | .hbm, ⟨51, _⟩ => ⟨S_, .f32⟩
  | .hbm, ⟨52, _⟩ => ⟨S4x1024, .f32⟩
  | .hbm, ⟨53, _⟩ => ⟨S8x1024, .f32⟩
  | .hbm, ⟨54, _⟩ => ⟨S2x1024x4x1024, .f32⟩
  | .hbm, ⟨55, _⟩ => ⟨S4x2x1024x1024, .f32⟩
  | .hbm, ⟨56, _⟩ => ⟨S4x2048x1024, .f32⟩
  | .hbm, ⟨57, _⟩ => ⟨S2x4x1024x1024, .f32⟩
  | .hbm, ⟨58, _⟩ => ⟨S4x2x1024x1024, .f32⟩
  | .hbm, ⟨59, _⟩ => ⟨S4x2048x1024, .f32⟩
  | .hbm, ⟨60, _⟩ => ⟨S1x4x512x1024, .f32⟩
  | .hbm, ⟨61, _⟩ => ⟨S4x1x512x1024, .f32⟩
  | .hbm, ⟨62, _⟩ => ⟨S4x512x1024, .f32⟩
  | .hbm, ⟨63, _⟩ => ⟨S1x1024x4x512, .f32⟩
  | .hbm, ⟨64, _⟩ => ⟨S4x1x1024x512, .f32⟩
  | .hbm, ⟨65, _⟩ => ⟨S4x512x1024, .f32⟩
  | .hbm, ⟨66, _⟩ => ⟨S1x4x256x1024, .f32⟩
  | .hbm, ⟨67, _⟩ => ⟨S4x1x256x1024, .f32⟩
  | .hbm, ⟨68, _⟩ => ⟨S4x256x1024, .f32⟩
  | .hbm, ⟨69, _⟩ => ⟨S4x5376x1024, .f32⟩
  | .hbm, ⟨70, _⟩ => ⟨S4x5376x1024, .bf16⟩
  | .hbm, ⟨71, _⟩ => ⟨S8192x4096, .bf16⟩
  | .hbm, ⟨72, _⟩ => ⟨S8192x1024, .f32⟩
  | .hbm, ⟨73, _⟩ => ⟨S8192x4096, .bf16⟩
  | .hbm, ⟨74, _⟩ => ⟨S8192x1024, .bf16⟩
  | .hbm, ⟨75, _⟩ => ⟨S8192x1024, .bf16⟩
  | .hbm, ⟨76, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x4096, .bf16⟩
  | .local _ .vmem, ⟨5, _⟩ => ⟨S256x4096, .bf16⟩
  | .local _ .vmem, ⟨6, _⟩ => ⟨S256x1024, .f32⟩
  | .local _ .vmem, ⟨7, _⟩ => ⟨S256x1024, .f32⟩
  | .local _ .vmem, ⟨8, _⟩ => ⟨S8x1024, .f32⟩
  | .local _ .vmem, ⟨9, _⟩ => ⟨S4x1024x1024, .bf16⟩
  | .local _ .vmem, ⟨10, _⟩ => ⟨S4x1024x1024, .bf16⟩
  | .local _ .vmem, ⟨11, _⟩ => ⟨S256x1024, .f32⟩
  | .local _ .vmem, ⟨12, _⟩ => ⟨S256x1024, .f32⟩
  | .local _ .vmem, ⟨13, _⟩ => ⟨S256x4096, .bf16⟩
  | .local _ .vmem, ⟨14, _⟩ => ⟨S256x4096, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_call0_cst : Ref sig .tc := ⟨.hbm, 39, rfl⟩
abbrev main_call0_v0 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_3 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54_0 : Ref sig .tc := ⟨.hbm, 72, rfl⟩
abbrev main_v54_1 : Ref sig .tc := ⟨.hbm, 73, rfl⟩
abbrev main_v54_2 : Ref sig .tc := ⟨.hbm, 74, rfl⟩
abbrev main_v54_3 : Ref sig .tc := ⟨.hbm, 75, rfl⟩
abbrev main_v54_4 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  ![c0_i32.toNat, c2_i32.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_8 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_9 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_10 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference11Ideal.lean ====
abbrev S8192x1024 : Shape := ⟨2, ![8192, 1024]⟩
abbrev S1024 : Shape := ⟨1, ![1024]⟩
abbrev S2x1024x4096 : Shape := ⟨3, ![2, 1024, 4096]⟩
abbrev S2x4096x1024 : Shape := ⟨3, ![2, 4096, 1024]⟩
abbrev S1x2048x1024 : Shape := ⟨3, ![1, 2048, 1024]⟩
abbrev S1x1024x2048 : Shape := ⟨3, ![1, 1024, 2048]⟩
abbrev S1x1024x1024 : Shape := ⟨3, ![1, 1024, 1024]⟩
abbrev S_ : Shape := ⟨0, ![]⟩
abbrev S8192x4096 : Shape := ⟨2, ![8192, 4096]⟩
abbrev S8192 : Shape := ⟨1, ![8192]⟩
abbrev S8192x1 : Shape := ⟨2, ![8192, 1]⟩
abbrev S1x1024 : Shape := ⟨2, ![1, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S8x1024 : Shape := ⟨2, ![8, 1024]⟩

abbrev nBuf : Space → Nat
  | .hbm => 136
  | .vmem => 0
  | .smem => 0
  | _ => 0

abbrev hbmTy0_0 (i : Nat) : BufTy := match i % 128 with
  | 0 => ⟨S8192x1024, .f32⟩
  | 1 => ⟨S8192x1024, .f32⟩
  | 2 => ⟨S1024, .f32⟩
  | 3 => ⟨S1024, .f32⟩
  | 4 => ⟨S1024, .f32⟩
  | 5 => ⟨S1024, .f32⟩
  | 6 => ⟨S2x1024x4096, .f32⟩
  | 7 => ⟨S2x4096x1024, .f32⟩
  | 8 => ⟨S1x2048x1024, .f32⟩
  | 9 => ⟨S1x1024x2048, .f32⟩
  | 10 => ⟨S1x1024x1024, .f32⟩
  | 11 => ⟨S_, .f32⟩
  | 12 => ⟨S8192x4096, .f32⟩
  | 13 => ⟨S_, .f32⟩
  | 14 => ⟨S8192x1024, .f32⟩
  | 15 => ⟨S8192x1024, .f32⟩
  | 16 => ⟨S_, .f32⟩
  | 17 => ⟨S8192, .f32⟩
  | 18 => ⟨S8192x1, .f32⟩
  | 19 => ⟨S_, .f32⟩
  | 20 => ⟨S8192x1, .f32⟩
  | 21 => ⟨S8192x1, .f32⟩
  | 22 => ⟨S_, .f32⟩
  | 23 => ⟨S8192x1, .f32⟩
  | 24 => ⟨S8192x1, .f32⟩
  | 25 => ⟨S8192x1, .f32⟩
  | 26 => ⟨S8192x1, .f32⟩
  | 27 => ⟨S_, .f32⟩
  | 28 => ⟨S8192x1, .f32⟩
  | 29 => ⟨S8192x1, .f32⟩
  | 30 => ⟨S8192x1024, .f32⟩
  | 31 => ⟨S8192x1024, .f32⟩
  | 32 => ⟨S1x1024, .f32⟩
  | 33 => ⟨S8192x1024, .f32⟩
  | 34 => ⟨S8192x1024, .f32⟩
  | 35 => ⟨S_, .f32⟩
  | 36 => ⟨S1024, .f32⟩
  | 37 => ⟨S1024, .f32⟩
  | 38 => ⟨S1x1024, .f32⟩
  | 39 => ⟨S8192x1024, .f32⟩
  | 40 => ⟨S8192x1024, .f32⟩
  | 41 => ⟨S1x1024, .f32⟩
  | 42 => ⟨S8192x1024, .f32⟩
  | 43 => ⟨S8192x1024, .f32⟩
  | 44 => ⟨S1x1024x4096, .f32⟩
  | 45 => ⟨S1024x4096, .f32⟩
  | 46 => ⟨S8192x4096, .f32⟩
  | 47 => ⟨S8192x4096, .f32⟩
  | 48 => ⟨S_, .f32⟩
  | 49 => ⟨S8192x4096, .f32⟩
  | 50 => ⟨S8192x4096, .f32⟩
  | 51 => ⟨S_, .f32⟩
  | 52 => ⟨S8192x4096, .f32⟩
  | 53 => ⟨S8192x4096, .i1⟩
  | 54 => ⟨S_, .f32⟩
  | 55 => ⟨S8192x4096, .f32⟩
  | 56 => ⟨S8192x4096, .f32⟩
  | 57 => ⟨S_, .f32⟩
  | 58 => ⟨S8192x4096, .f32⟩
  | 59 => ⟨S8192x4096, .f32⟩
  | 60 => ⟨S1x4096x1024, .f32⟩
  | 61 => ⟨S4096x1024, .f32⟩
  | 62 => ⟨S8192x1024, .f32⟩
  | 63 => ⟨S8192x1024, .f32⟩
  | 64 => ⟨S1x1024, .f32⟩
  | 65 => ⟨S8192x1024, .f32⟩
  | 66 => ⟨S8192x1024, .f32⟩
  | 67 => ⟨S8192x1024, .f32⟩
  | 68 => ⟨S8192x1024, .f32⟩
  | 69 => ⟨S8192x1024, .f32⟩
  | 70 => ⟨S8192x1024, .f32⟩
  | 71 => ⟨S8192x1024, .f32⟩
  | 72 => ⟨S_, .f32⟩
  | 73 => ⟨S1024, .f32⟩
  | 74 => ⟨S1x1024, .f32⟩
  | 75 => ⟨S_, .f32⟩
  | 76 => ⟨S1024, .f32⟩
  | 77 => ⟨S8192x4096, .f32⟩
  | 78 => ⟨S8192x4096, .f32⟩
  | 79 => ⟨S_, .f32⟩
  | 80 => ⟨S8192x4096, .f32⟩
  | 81 => ⟨S8192x4096, .f32⟩
  | 82 => ⟨S8192x1024, .f32⟩
  | 83 => ⟨S_, .f32⟩
  | 84 => ⟨S1024, .f32⟩
  | 85 => ⟨S1x1024, .f32⟩
  | 86 => ⟨S_, .f32⟩
  | 87 => ⟨S1024, .f32⟩
  | 88 => ⟨S8192x1024, .f32⟩
  | 89 => ⟨S_, .f32⟩
  | 90 => ⟨S1024, .f32⟩
  | 91 => ⟨S1x1024, .f32⟩
  | 92 => ⟨S8192x1024, .f32⟩
  | 93 => ⟨S8192x1024, .f32⟩
  | 94 => ⟨S_, .f32⟩
  | 95 => ⟨S1024, .f32⟩
  | 96 => ⟨S8192x1024, .f32⟩
  | 97 => ⟨S_, .f32⟩
  | 98 => ⟨S1024, .f32⟩
  | 99 => ⟨S1x1024, .f32⟩
  | 100 => ⟨S8192x1024, .f32⟩
  | 101 => ⟨S8192x1024, .f32⟩
  | 102 => ⟨S_, .f32⟩
  | 103 => ⟨S1024, .f32⟩
  | 104 => ⟨S8192x1024, .f32⟩
  | 105 => ⟨S_, .f32⟩
  | 106 => ⟨S8192, .f32⟩
  | 107 => ⟨S8192x1, .f32⟩
  | 108 => ⟨S8192x1024, .f32⟩
  | 109 => ⟨S8192x1024, .f32⟩
  | 110 => ⟨S8192x1024, .f32⟩
  | 111 => ⟨S8192x1, .f32⟩
  | 112 => ⟨S_, .f32⟩
  | 113 => ⟨S8192x1, .f32⟩
  | 114 => ⟨S8192x1, .f32⟩
  | 115 => ⟨S_, .f32⟩
  | 116 => ⟨S8192, .f32⟩
  | 117 => ⟨S8192x1024, .f32⟩
  | 118 => ⟨S8192x1024, .f32⟩
  | 119 => ⟨S8192x1024, .f32⟩
  | 120 => ⟨S8192x1024, .f32⟩
  | 121 => ⟨S8192x1024, .f32⟩
  | 122 => ⟨S_, .f32⟩
  | 123 => ⟨S1024, .f32⟩
  | 124 => ⟨S8192x4096, .bf16⟩
  | 125 => ⟨S8192x1024, .bf16⟩
  | 126 => ⟨S8192x1024, .bf16⟩
  | 127 => ⟨S1x1024, .f32⟩
  | _ => ⟨S8192x1024, .f32⟩

abbrev hbmTy0_1 (i : Nat) : BufTy := match i % 128 with
  | 0 => ⟨S1x1024, .f32⟩
  | 1 => ⟨S1x1024, .f32⟩
  | 2 => ⟨S1x1024, .f32⟩
  | 3 => ⟨S1x1024, .f32⟩
  | 4 => ⟨S1x1024, .f32⟩
  | 5 => ⟨S1x1024, .f32⟩
  | 6 => ⟨S1x1024, .f32⟩
  | 7 => ⟨S8x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_cst_1 : Ref sig .tc := ⟨.hbm, 16, rfl⟩
abbrev main_v3 : Ref sig .tc := ⟨.hbm, 17, rfl⟩
abbrev main_v4 : Ref sig .tc := ⟨.hbm, 18, rfl⟩
abbrev main_cst_2 : Ref sig .tc := ⟨.hbm, 19, rfl⟩
abbrev main_v5 : Ref sig .tc := ⟨.hbm, 20, rfl⟩
abbrev main_v6 : Ref sig .tc := ⟨.hbm, 21, rfl⟩
abbrev main_cst_3 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_4 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_5 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_call0_cst : Ref sig .tc := ⟨.hbm, 48, rfl⟩
abbrev main_call0_v0 : Ref sig .tc := ⟨.hbm, 49, rfl⟩
abbrev main_v30 : Ref sig .tc := ⟨.hbm, 50, rfl⟩
abbrev main_cst_6 : Ref sig .tc := ⟨.hbm, 51, rfl⟩
abbrev main_v31 : Ref sig .tc := ⟨.hbm, 52, rfl⟩
abbrev main_v32 : Ref sig .tc := ⟨.hbm, 53, rfl⟩
abbrev main_cst_7 : Ref sig .tc := ⟨.hbm, 54, rfl⟩
abbrev main_v33 : Ref sig .tc := ⟨.hbm, 55, rfl⟩
abbrev main_v34 : Ref sig .tc := ⟨.hbm, 56, rfl⟩
abbrev main_cst_8 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_9 : Ref sig .tc := ⟨.hbm, 72, rfl⟩
abbrev main_v49 : Ref sig .tc := ⟨.hbm, 73, rfl⟩
abbrev main_v50 : Ref sig .tc := ⟨.hbm, 74, rfl⟩
abbrev main_cst_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_11 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_12 : Ref sig .tc := ⟨.hbm, 83, rfl⟩
abbrev main_v57 : Ref sig .tc := ⟨.hbm, 84, rfl⟩
abbrev main_v58 : Ref sig .tc := ⟨.hbm, 85, rfl⟩
abbrev main_cst_13 : Ref sig .tc := ⟨.hbm, 86, rfl⟩
abbrev main_v59 : Ref sig .tc := ⟨.hbm, 87, rfl⟩
abbrev main_v60 : Ref sig .tc := ⟨.hbm, 88, rfl⟩
abbrev main_cst_14 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_15 : Ref sig .tc := ⟨.hbm, 94, rfl⟩
abbrev main_v65 : Ref sig .tc := ⟨.hbm, 95, rfl⟩
abbrev main_v66 : Ref sig .tc := ⟨.hbm, 96, rfl⟩
abbrev main_cst_16 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_cst_17 : Ref sig .tc := ⟨.hbm, 102, rfl⟩
abbrev main_v71 : Ref sig .tc := ⟨.hbm, 103, rfl⟩
abbrev main_v72 : Ref sig .tc := ⟨.hbm, 104, rfl⟩
abbrev main_cst_18 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_cst_19 : Ref sig .tc := ⟨.hbm, 112, rfl⟩
abbrev main_v79 : Ref sig .tc := ⟨.hbm, 113, rfl⟩
abbrev main_v80 : Ref sig .tc := ⟨.hbm, 114, rfl⟩
abbrev main_cst_20 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_cst_21 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩

abbrev nD : Nat := 1
abbrev τ : Topo := Topo.v7x

variable {F : FTy → Type} [FloatOps F]
-- ==== Kernel4.lean ====
abbrev S8192x1024 : Shape := ⟨2, ![8192, 1024]⟩
abbrev S4x256x1024 : Shape := ⟨3, ![4, 256, 1024]⟩
abbrev S1024x1024 : Shape := ⟨2, ![1024, 1024]⟩
abbrev S256x1024 : Shape := ⟨2, ![256, 1024]⟩
abbrev S1x256x1024 : Shape := ⟨3, ![1, 256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S4x256x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S4x256x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S4x256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference4Ideal.lean ====
abbrev S8192x1024 : Shape := ⟨2, ![8192, 1024]⟩
abbrev S_ : Shape := ⟨0, ![]⟩
abbrev S1024x1024 : Shape := ⟨2, ![1024, 1024]⟩
abbrev S4x256x1024 : Shape := ⟨3, ![4, 256, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | .hbm, ⟨10, _⟩ => ⟨S4x256x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel5.lean ====
abbrev S8192x1024 : Shape := ⟨2, ![8192, 1024]⟩
abbrev S8192x2048 : Shape := ⟨2, ![8192, 2048]⟩
abbrev S4x1024x512 : Shape := ⟨3, ![4, 1024, 512]⟩
abbrev S1024x1024 : Shape := ⟨2, ![1024, 1024]⟩
abbrev S2x1024x512 : Shape := ⟨3, ![2, 1024, 512]⟩
abbrev S1024x512 : Shape := ⟨2, ![1024, 512]⟩
abbrev S1x1024x512 : Shape := ⟨3, ![1, 1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S4x1024x512, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2x1024x512, .bf16⟩
  | .local _ .vmem, ⟨5, _⟩ => ⟨S2x1024x512, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩
abbrev S1024x4x512 : Shape := ⟨3, ![1024, 4, 512]⟩
abbrev S4x1024x512 : Shape := ⟨3, ![4, 1024, 512]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S_, .f32⟩
  | .hbm, ⟨3, _⟩ => ⟨S1024x2048, .f32⟩
  | .hbm, ⟨4, _⟩ => ⟨S8192x1024, .f32⟩
  | .hbm, ⟨5, _⟩ => ⟨S8192x2048, .f32⟩
  | .hbm, ⟨6, _⟩ => ⟨S8192x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | .hbm, ⟨10, _⟩ => ⟨S1024x4x512, .bf16⟩
  | .hbm, ⟨11, _⟩ => ⟨S4x1024x512, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel6.lean ====
abbrev S8192x1024 : Shape := ⟨2, ![8192, 1024]⟩
abbrev S2x512x1024 : Shape := ⟨3, ![2, 512, 1024]⟩
abbrev S1024x1024 : Shape := ⟨2, ![1024, 1024]⟩
abbrev S512x1024 : Shape := ⟨2, ![512, 1024]⟩
abbrev S1x512x1024 : Shape := ⟨3, ![1, 512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S2x512x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2x512x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2x512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference6Ideal.lean ====
abbrev S8192x1024 : Shape := ⟨2, ![8192, 1024]⟩
abbrev S_ : Shape := ⟨0, ![]⟩
abbrev S1024x1024 : Shape := ⟨2, ![1024, 1024]⟩
abbrev S2x512x1024 : Shape := ⟨3, ![2, 512, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | .hbm, ⟨10, _⟩ => ⟨S2x512x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel7.lean ====
abbrev S8448x1024 : Shape := ⟨2, ![8448, 1024]⟩
abbrev S1024x1024 : Shape := ⟨2, ![1024, 1024]⟩
abbrev S768x1024 : Shape := ⟨2, ![768, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S1024x1024, .f32⟩
  | .local _ .vmem, ⟨0, _⟩ => ⟨S768x1024, .bf16⟩
  | .local _ .vmem, ⟨1, _⟩ => ⟨S768x1024, .bf16⟩
  | .local _ .vmem, ⟨2, _⟩ => ⟨S768x1024, .bf16⟩
  | .local _ .vmem, ⟨3, _⟩ => ⟨S768x1024, .bf16⟩
  | .local _ .vmem, ⟨4, _⟩ => ⟨S1024x1024, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 11], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference7Ideal.lean ====
abbrev S8448x1024 : Shape := ⟨2, ![8448, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S_, .f32⟩
  | .hbm, ⟨3, _⟩ => ⟨S1024x1024, .f32⟩
  | .hbm, ⟨4, _⟩ => ⟨S8448x1024, .f32⟩
  | .hbm, ⟨5, _⟩ => ⟨S8448x1024, .f32⟩
  | .hbm, ⟨6, _⟩ => ⟨S8448x1024, .f32⟩
  | .hbm, ⟨7, _⟩ => ⟨S1024x1024, .f32⟩
  | .hbm, ⟨8, _⟩ => ⟨S1024x1024, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S8448x1024 : Shape := ⟨2, ![8448, 1024]⟩
abbrev S8448x1536 : Shape := ⟨2, ![8448, 1536]⟩
abbrev S1024x1536 : Shape := ⟨2, ![1024, 1536]⟩
abbrev S768x1024 : Shape := ⟨2, ![768, 1024]⟩
abbrev S768x768 : Shape := ⟨2, ![768, 768]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S8448x1536, .bf16⟩
  | .hbm, ⟨2, _⟩ => ⟨S1024x1536, .f32⟩
  | .local _ .vmem, ⟨0, _⟩ => ⟨S768x1024, .bf16⟩
  | .local _ .vmem, ⟨1, _⟩ => ⟨S768x1024, .bf16⟩
  | .local _ .vmem, ⟨2, _⟩ => ⟨S768x768, .bf16⟩
  | .local _ .vmem, ⟨3, _⟩ => ⟨S768x768, .bf16⟩
  | .local _ .vmem, ⟨4, _⟩ => ⟨S1024x768, .f32⟩
  | .local _ .vmem, ⟨5, _⟩ => ⟨S1024x768, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 11], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8448x1024 : Shape := ⟨2, ![8448, 1024]⟩
abbrev S8448x1536 : Shape := ⟨2, ![8448, 1536]⟩
abbrev S_ : Shape := ⟨0, ![]⟩
abbrev S1024x1536 : Shape := ⟨2, ![1024, 1536]⟩
abbrev S1536x1024 : Shape := ⟨2, ![1536, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x1536, .bf16⟩
  | .hbm, ⟨2, _⟩ => ⟨S_, .f32⟩
  | .hbm, ⟨3, _⟩ => ⟨S1024x1536, .f32⟩
  | .hbm, ⟨4, _⟩ => ⟨S8448x1024, .f32⟩
  | .hbm, ⟨5, _⟩ => ⟨S8448x1536, .f32⟩
  | .hbm, ⟨6, _⟩ => ⟨S8448x1536, .f32⟩
  | .hbm, ⟨7, _⟩ => ⟨S1536x1024, .f32⟩
  | .hbm, ⟨8, _⟩ => ⟨S1024x1536, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel9.lean ====
abbrev S8448x1024 : Shape := ⟨2, ![8448, 1024]⟩
abbrev S8448x128 : Shape := ⟨2, ![8448, 128]⟩
abbrev S1024x128 : Shape := ⟨2, ![1024, 128]⟩
abbrev S768x1024 : Shape := ⟨2, ![768, 1024]⟩
abbrev S768x128 : Shape := ⟨2, ![768, 128]⟩

abbrev nBuf : Space → Nat
  | .hbm => 3
  | .vmem => 5
  | .smem => 0
  | _ => 0

abbrev bufTy : (tb : Table) → Fin (tcTables nBuf tb) → BufTy
  | .hbm, ⟨0, _⟩ => ⟨S8448x1024, .bf16⟩
  | .hbm, ⟨1, _⟩ => ⟨S8448x128, .bf16⟩
  | .hbm, ⟨2, _⟩ => ⟨S1024x128, .f32⟩
  | .local _ .vmem, ⟨0, _⟩ => ⟨S768x1024, .bf16⟩
  | .local _ .vmem, ⟨1, _⟩ => ⟨S768x1024, .bf16⟩
  | .local _ .vmem, ⟨2, _⟩ => ⟨S768x128, .bf16⟩
  | .local _ .vmem, ⟨3, _⟩ => ⟨S768x128, .bf16⟩
  | .local _ .vmem, ⟨4, _⟩ => ⟨S1024x128, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 11], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference9Ideal.lean ====
abbrev S8448x1024 : Shape := ⟨2, ![8448, 1024]⟩
abbrev S8448x128 : Shape := ⟨2, ![8448, 128]⟩
abbrev S_ : Shape := ⟨0, ![]⟩
abbrev S1024x128 : Shape := ⟨2, ![1024, 128]⟩
abbrev S128x1024 : Shape := ⟨2, ![128, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x128, .bf16⟩
  | .hbm, ⟨2, _⟩ => ⟨S_, .f32⟩
  | .hbm, ⟨3, _⟩ => ⟨S1024x128, .f32⟩
  | .hbm, ⟨4, _⟩ => ⟨S8448x1024, .f32⟩
  | .hbm, ⟨5, _⟩ => ⟨S8448x128, .f32⟩
  | .hbm, ⟨6, _⟩ => ⟨S8448x128, .f32⟩
  | .hbm, ⟨7, _⟩ => ⟨S128x1024, .f32⟩
  | .hbm, ⟨8, _⟩ => ⟨S1024x128, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S8448x1024 : Shape := ⟨2, ![8448, 1024]⟩
abbrev S8448x2048 : Shape := ⟨2, ![8448, 2048]⟩
abbrev S1024x2048 : Shape := ⟨2, ![1024, 2048]⟩
abbrev S768x1024 : Shape := ⟨2, ![768, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S8448x2048, .bf16⟩
  | .hbm, ⟨2, _⟩ => ⟨S1024x2048, .f32⟩
  | .local _ .vmem, ⟨0, _⟩ => ⟨S768x1024, .bf16⟩
  | .local _ .vmem, ⟨1, _⟩ => ⟨S768x1024, .bf16⟩
  | .local _ .vmem, ⟨2, _⟩ => ⟨S768x1024, .bf16⟩
  | .local _ .vmem, ⟨3, _⟩ => ⟨S768x1024, .bf16⟩
  | .local _ .vmem, ⟨4, _⟩ => ⟨S1024x1024, .f32⟩
  | .local _ .vmem, ⟨5, _⟩ => ⟨S1024x1024, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 11], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8448x1024 : Shape := ⟨2, ![8448, 1024]⟩
abbrev S8448x2048 : Shape := ⟨2, ![8448, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x2048, .bf16⟩
  | .hbm, ⟨2, _⟩ => ⟨S_, .f32⟩
  | .hbm, ⟨3, _⟩ => ⟨S1024x2048, .f32⟩
  | .hbm, ⟨4, _⟩ => ⟨S8448x1024, .f32⟩
  | .hbm, ⟨5, _⟩ => ⟨S8448x2048, .f32⟩
  | .hbm, ⟨6, _⟩ => ⟨S8448x2048, .f32⟩
  | .hbm, ⟨7, _⟩ => ⟨S2048x1024, .f32⟩
  | .hbm, ⟨8, _⟩ => ⟨S1024x2048, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel13.lean ====
abbrev S8192x1024 : Shape := ⟨2, ![8192, 1024]⟩
abbrev S1024 : Shape := ⟨1, ![1024]⟩
abbrev S2x1024x4096 : Shape := ⟨3, ![2, 1024, 4096]⟩
abbrev S2x4096x1024 : Shape := ⟨3, ![2, 4096, 1024]⟩
abbrev S1x2048x1024 : Shape := ⟨3, ![1, 2048, 1024]⟩
abbrev S1x1024x2048 : Shape := ⟨3, ![1, 1024, 2048]⟩
abbrev S1x1024x1024 : Shape := ⟨3, ![1, 1024, 1024]⟩
abbrev S1x1024 : Shape := ⟨2, ![1, 1024]⟩
abbrev S4x1024 : Shape := ⟨2, ![4, 1024]⟩
abbrev S_ : Shape := ⟨0, ![]⟩
abbrev S8x1024 : Shape := ⟨2, ![8, 1024]⟩
abbrev S2x1024x4x1024 : Shape := ⟨4, ![2, 1024, 4, 1024]⟩
abbrev S4x2x1024x1024 : Shape := ⟨4, ![4, 2, 1024, 1024]⟩
abbrev S4x2048x1024 : Shape := ⟨3, ![4, 2048, 1024]⟩
abbrev S2x4x1024x1024 : Shape := ⟨4, ![2, 4, 1024, 1024]⟩
abbrev S1x4x512x1024 : Shape := ⟨4, ![1, 4, 512, 1024]⟩
abbrev S4x1x512x1024 : Shape := ⟨4, ![4, 1, 512, 1024]⟩
abbrev S4x512x1024 : Shape := ⟨3, ![4, 512, 1024]⟩
abbrev S1x1024x4x512 : Shape := ⟨4, ![1, 1024, 4, 512]⟩
abbrev S4x1x1024x512 : Shape := ⟨4, ![4, 1, 1024, 512]⟩
abbrev S1x4x256x1024 : Shape := ⟨4, ![1, 4, 256, 1024]⟩
abbrev S4x1x256x1024 : Shape := ⟨4, ![4, 1, 256, 1024]⟩
abbrev S4x256x1024 : Shape := ⟨3, ![4, 256, 1024]⟩
abbrev S4x5376x1024 : Shape := ⟨3, ![4, 5376, 1024]⟩
abbrev S8192x4096 : Shape := ⟨2, ![8192, 4096]⟩
abbrev S8x128 : Shape := ⟨2, ![8, 128]⟩
abbrev S256x1024 : Shape := ⟨2, ![256, 1024]⟩
abbrev S4x1024x1024 : Shape := ⟨3, ![4, 1024, 1024]⟩
abbrev S256x4096 : Shape := ⟨2, ![256, 4096]⟩
abbrev S256 : Shape := ⟨1, ![256]⟩
abbrev S256x1 : Shape := ⟨2, ![256, 1]⟩
abbrev S1024x1024 : Shape := ⟨2, ![1024, 1024]⟩
abbrev S1 : Shape := ⟨1, ![1]⟩
abbrev S1x1 : Shape := ⟨2, ![1, 1]⟩

abbrev nBuf : Space → Nat
  | .hbm => 43
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S2x1024x4096, .f32⟩
  | .hbm, ⟨6, _⟩ => ⟨S2x4096x1024, .f32⟩
  | .hbm, ⟨7, _⟩ => ⟨S1x2048x1024, .f32⟩
  | .hbm, ⟨8, _⟩ => ⟨S1x1024x2048, .f32⟩
  | .hbm, ⟨9, _⟩ => ⟨S1x1024x1024, .f32⟩
  | .hbm, ⟨10, _⟩ => ⟨S1024, .f32⟩
  | .hbm, ⟨11, _⟩ => ⟨S8192x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S4x1024, .f32⟩
  | .hbm, ⟨17, _⟩ => ⟨S_, .f32⟩
  | .hbm, ⟨18, _⟩ => ⟨S4x1024, .f32⟩
  | .hbm, ⟨19, _⟩ => ⟨S8x1024, .f32⟩
  | .hbm, ⟨20, _⟩ => ⟨S2x1024x4x1024, .f32⟩
  | .hbm, ⟨21, _⟩ => ⟨S4x2x1024x1024, .f32⟩
  | .hbm, ⟨22, _⟩ => ⟨S4x2048x1024, .f32⟩
  | .hbm, ⟨23, _⟩ => ⟨S2x4x1024x1024, .f32⟩
  | .hbm, ⟨24, _⟩ => ⟨S4x2x1024x1024, .f32⟩
  | .hbm, ⟨25, _⟩ => ⟨S4x2048x1024, .f32⟩
  | .hbm, ⟨26, _⟩ => ⟨S1x4x512x1024, .f32⟩
  | .hbm, ⟨27, _⟩ => ⟨S4x1x512x1024, .f32⟩
  | .hbm, ⟨28, _⟩ => ⟨S4x512x1024, .f32⟩
  | .hbm, ⟨29, _⟩ => ⟨S1x1024x4x512, .f32⟩
  | .hbm, ⟨30, _⟩ => ⟨S4x1x1024x512, .f32⟩
  | .hbm, ⟨31, _⟩ => ⟨S4x512x1024, .f32⟩
  | .hbm, ⟨32, _⟩ => ⟨S1x4x256x1024, .f32⟩
  | .hbm, ⟨33, _⟩ => ⟨S4x1x256x1024, .f32⟩
  | .hbm, ⟨34, _⟩ => ⟨S4x256x1024, .f32⟩
  | .hbm, ⟨35, _⟩ => ⟨S4x5376x1024, .f32⟩
  | .hbm, ⟨36, _⟩ => ⟨S4x5376x1024, .bf16⟩
  | .hbm, ⟨37, _⟩ => ⟨S1x1024, .f32⟩
  | .hbm, ⟨38, _⟩ => ⟨S8192x1024, .f32⟩
  | .hbm, ⟨39, _⟩ => ⟨S8192x4096, .bf16⟩
  | .hbm, ⟨40, _⟩ => ⟨S8192x1024, .f32⟩
  | .hbm, ⟨41, _⟩ => ⟨S8x1024, .f32⟩
  | .hbm, ⟨42, _⟩ => ⟨S8x128, .f32⟩
  | .local _ .vmem, ⟨0, _⟩ => ⟨S256x1024, .f32⟩
  | .local _ .vmem, ⟨1, _⟩ => ⟨S256x1024, .f32⟩
  | .local _ .vmem, ⟨2, _⟩ => ⟨S8x1024, .f32⟩
  | .local _ .vmem, ⟨3, _⟩ => ⟨S4x1024x1024, .bf16⟩
  | .local _ .vmem, ⟨4, _⟩ => ⟨S4x1024x1024, .bf16⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S256x4096, .bf16⟩
  | .local _ .vmem, ⟨11, _⟩ => ⟨S256x4096, .bf16⟩
  | .local _ .vmem, ⟨12, _⟩ => ⟨S256x1024, .f32⟩
  | .local _ .vmem, ⟨13, _⟩ => ⟨S256x1024, .f32⟩
  | .local _ .vmem, ⟨14, _⟩ => ⟨S8x1024, .f32⟩
  | .local _ .vmem, ⟨15, _⟩ => ⟨S8x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25_0 : Ref sig .tc := ⟨.hbm, 38, rfl⟩
abbrev main_v25_1 : Ref sig .tc := ⟨.hbm, 39, rfl⟩
abbrev main_v25_2 : Ref sig .tc := ⟨.hbm, 40, rfl⟩
abbrev main_v25_3 : Ref sig .tc := ⟨.hbm, 41, rfl⟩
abbrev main_v25_4 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_3 (i : grid0.Coords) : Fin 3 → Nat :=
  let arg0 : BitVec 32 := BitVec.ofNat 32 (i 0).val
  let c0_i32 : BitVec 32 := 0#32
  let c3_i32 : BitVec 32 := 3#32
  let c0_i32_0 : BitVec 32 := 0#32
  let c0_i32_1 : BitVec 32 := 0#32
  ![c0_i32.toNat, c3_i32.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_8 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference13Ideal.lean ====
abbrev S8192x1024 : Shape := ⟨2, ![8192, 1024]⟩
abbrev S1024 : Shape := ⟨1, ![1024]⟩
abbrev S2x1024x4096 : Shape := ⟨3, ![2, 1024, 4096]⟩
abbrev S2x4096x1024 : Shape := ⟨3, ![2, 4096, 1024]⟩
abbrev S1x2048x1024 : Shape := ⟨3, ![1, 2048, 1024]⟩
abbrev S1x1024x2048 : Shape := ⟨3, ![1, 1024, 2048]⟩
abbrev S1x1024x1024 : Shape := ⟨3, ![1, 1024, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x1024x4096 : Shape := ⟨3, ![1, 1024, 4096]⟩
abbrev S1024x4096 : Shape := ⟨2, ![1024, 4096]⟩
abbrev S8192x4096 : Shape := ⟨2, ![8192, 4096]⟩
abbrev S1x4096x1024 : Shape := ⟨3, ![1, 4096, 1024]⟩
abbrev S4096x1024 : Shape := ⟨2, ![4096, 1024]⟩
abbrev S8x1024 : Shape := ⟨2, ![8, 1024]⟩
abbrev S8x128 : Shape := ⟨2, ![8, 128]⟩

abbrev nBuf : Space → Nat
  | .hbm => 132
  | .vmem => 0
  | .smem => 0
  | _ => 0

abbrev hbmTy0_0 (i : Nat) : BufTy := match i % 128 with
  | 0 => ⟨S8192x1024, .f32⟩
  | 1 => ⟨S1024, .f32⟩
  | 2 => ⟨S1024, .f32⟩
  | 3 => ⟨S1024, .f32⟩
  | 4 => ⟨S1024, .f32⟩
  | 5 => ⟨S2x1024x4096, .f32⟩
  | 6 => ⟨S2x4096x1024, .f32⟩
  | 7 => ⟨S1x2048x1024, .f32⟩
  | 8 => ⟨S1x1024x2048, .f32⟩
  | 9 => ⟨S1x1024x1024, .f32⟩
  | 10 => ⟨S1024, .f32⟩
  | 11 => ⟨S8192x1024, .f32⟩
  | 12 => ⟨S8192x1024, .f32⟩
  | 13 => ⟨S_, .f32⟩
  | 14 => ⟨S8192, .f32⟩
  | 15 => ⟨S8192x1, .f32⟩
  | 16 => ⟨S_, .f32⟩
  | 17 => ⟨S8192x1, .f32⟩
  | 18 => ⟨S8192x1, .f32⟩
  | 19 => ⟨S_, .f32⟩
  | 20 => ⟨S8192x1, .f32⟩
  | 21 => ⟨S8192x1, .f32⟩
  | 22 => ⟨S8192x1, .f32⟩
  | 23 => ⟨S8192x1024, .f32⟩
  | 24 => ⟨S8192x1024, .f32⟩
  | 25 => ⟨S1x1024, .f32⟩
  | 26 => ⟨S8192x1024, .f32⟩
  | 27 => ⟨S8192x1024, .f32⟩
  | 28 => ⟨S_, .f32⟩
  | 29 => ⟨S1024, .f32⟩
  | 30 => ⟨S1024, .f32⟩
  | 31 => ⟨S1x1024, .f32⟩
  | 32 => ⟨S8192x1024, .f32⟩
  | 33 => ⟨S8192x1024, .f32⟩
  | 34 => ⟨S1x1024, .f32⟩
  | 35 => ⟨S8192x1024, .f32⟩
  | 36 => ⟨S8192x1024, .f32⟩
  | 37 => ⟨S1x1024x4096, .f32⟩
  | 38 => ⟨S1024x4096, .f32⟩
  | 39 => ⟨S8192x4096, .f32⟩
  | 40 => ⟨S_, .f32⟩
  | 41 => ⟨S8192x4096, .f32⟩
  | 42 => ⟨S8192x4096, .f32⟩
  | 43 => ⟨S8192x4096, .f32⟩
  | 44 => ⟨S1x4096x1024, .f32⟩
  | 45 => ⟨S4096x1024, .f32⟩
  | 46 => ⟨S8192x1024, .f32⟩
  | 47 => ⟨S1x1024, .f32⟩
  | 48 => ⟨S8192x1024, .f32⟩
  | 49 => ⟨S8192x1024, .f32⟩
  | 50 => ⟨S8192x1024, .f32⟩
  | 51 => ⟨S8192x1024, .f32⟩
  | 52 => ⟨S_, .f32⟩
  | 53 => ⟨S8192, .f32⟩
  | 54 => ⟨S8192x1, .f32⟩
  | 55 => ⟨S_, .f32⟩
  | 56 => ⟨S8192x1, .f32⟩
  | 57 => ⟨S8192x1, .f32⟩
  | 58 => ⟨S_, .f32⟩
  | 59 => ⟨S8192x1, .f32⟩
  | 60 => ⟨S8192x1, .f32⟩
  | 61 => ⟨S8192x1, .f32⟩
  | 62 => ⟨S8192x1, .f32⟩
  | 63 => ⟨S_, .f32⟩
  | 64 => ⟨S8192x1, .f32⟩
  | 65 => ⟨S8192x1, .f32⟩
  | 66 => ⟨S8192x1024, .f32⟩
  | 67 => ⟨S8192x1024, .f32⟩
  | 68 => ⟨S1x1024, .f32⟩
  | 69 => ⟨S8192x1024, .f32⟩
  | 70 => ⟨S8192x1024, .f32⟩
  | 71 => ⟨S8192x1024, .f32⟩
  | 72 => ⟨S8192x1024, .f32⟩
  | 73 => ⟨S_, .f32⟩
  | 74 => ⟨S8192x1024, .f32⟩
  | 75 => ⟨S8192x1024, .f32⟩
  | 76 => ⟨S_, .f32⟩
  | 77 => ⟨S8192, .f32⟩
  | 78 => ⟨S_, .f32⟩
  | 79 => ⟨S8192, .f32⟩
  | 80 => ⟨S8192, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S8192, .f32⟩
  | 89 => ⟨S_, .f32⟩
  | 90 => ⟨S8192, .f32⟩
  | 91 => ⟨S8192, .f32⟩
  | 92 => ⟨S8192x1024, .f32⟩
  | 93 => ⟨S8192x1024, .f32⟩
  | 94 => ⟨S8192x1024, .f32⟩
  | 95 => ⟨S_, .f32⟩
  | 96 => ⟨S1024, .f32⟩
  | 97 => ⟨S1x1024, .f32⟩
  | 98 => ⟨S8192x1024, .f32⟩
  | 99 => ⟨S8192x1024, .f32⟩
  | 100 => ⟨S_, .f32⟩
  | 101 => ⟨S1024, .f32⟩
  | 102 => ⟨S8192x1024, .f32⟩
  | 103 => ⟨S_, .f32⟩
  | 104 => ⟨S8192, .f32⟩
  | 105 => ⟨S8192x1, .f32⟩
  | 106 => ⟨S8192x1024, .f32⟩
  | 107 => ⟨S8192x1024, .f32⟩
  | 108 => ⟨S8192x1, .f32⟩
  | 109 => ⟨S_, .f32⟩
  | 110 => ⟨S8192x1, .f32⟩
  | 111 => ⟨S8192x1, .f32⟩
  | 112 => ⟨S_, .f32⟩
  | 113 => ⟨S8192, .f32⟩
  | 114 => ⟨S8192x1024, .f32⟩
  | 115 => ⟨S8192x1024, .f32⟩
  | 116 => ⟨S8192x1024, .f32⟩
  | 117 => ⟨S8192x1024, .f32⟩
  | 118 => ⟨S8192x1024, .f32⟩
  | 119 => ⟨S_, .f32⟩
  | 120 => ⟨S1024, .f32⟩
  | 121 => ⟨S8192x4096, .bf16⟩
  | 122 => ⟨S1x1024, .f32⟩
  | 123 => ⟨S1x1024, .f32⟩
  | 124 => ⟨S1x1024, .f32⟩
  | 125 => ⟨S1x1024, .f32⟩
  | 126 => ⟨S1x1024, .f32⟩
  | 127 => ⟨S1x1024, .f32⟩
  | _ => ⟨S8192x1024, .f32⟩

abbrev hbmTy0_1 (i : Nat) : BufTy := match i % 128 with
  | 0 => ⟨S1x1024, .f32⟩
  | 1 => ⟨S1x1024, .f32⟩
  | 2 => ⟨S8x1024, .f32⟩
  | 3 => ⟨S8x128, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_call0_cst : Ref sig .tc := ⟨.hbm, 40, rfl⟩
abbrev main_call0_v0 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_3 : Ref sig .tc := ⟨.hbm, 52, rfl⟩
abbrev main_v34 : Ref sig .tc := ⟨.hbm, 53, rfl⟩
abbrev main_v35 : Ref sig .tc := ⟨.hbm, 54, rfl⟩
abbrev main_cst_4 : Ref sig .tc := ⟨.hbm, 55, rfl⟩
abbrev main_v36 : Ref sig .tc := ⟨.hbm, 56, rfl⟩
abbrev main_v37 : Ref sig .tc := ⟨.hbm, 57, rfl⟩
abbrev main_cst_5 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_6 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_7 : Ref sig .tc := ⟨.hbm, 73, rfl⟩
abbrev main_v51 : Ref sig .tc := ⟨.hbm, 74, rfl⟩
abbrev main_v52 : Ref sig .tc := ⟨.hbm, 75, rfl⟩
abbrev main_cst_8 : Ref sig .tc := ⟨.hbm, 76, rfl⟩
abbrev main_v53 : Ref sig .tc := ⟨.hbm, 77, rfl⟩
abbrev main_cst_9 : Ref sig .tc := ⟨.hbm, 78, rfl⟩
abbrev main_v54 : Ref sig .tc := ⟨.hbm, 79, rfl⟩
abbrev main_v55 : Ref sig .tc := ⟨.hbm, 80, rfl⟩
abbrev main_cst_10 : Ref sig .tc := ⟨.hbm, 81, rfl⟩
abbrev main_v56 : Ref sig .tc := ⟨.hbm, 82, rfl⟩
abbrev main_cst_11 : Ref sig .tc := ⟨.hbm, 83, rfl⟩
abbrev main_v57 : Ref sig .tc := ⟨.hbm, 84, rfl⟩
abbrev main_cst_12 : Ref sig .tc := ⟨.hbm, 85, rfl⟩
abbrev main_cst_13 : Ref sig .tc := ⟨.hbm, 86, rfl⟩
abbrev main_v58 : Ref sig .tc := ⟨.hbm, 87, rfl⟩
abbrev main_v59 : Ref sig .tc := ⟨.hbm, 88, rfl⟩
abbrev main_cst_14 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_15 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_cst_16 : Ref sig .tc := ⟨.hbm, 100, rfl⟩
abbrev main_v69 : Ref sig .tc := ⟨.hbm, 101, rfl⟩
abbrev main_v70 : Ref sig .tc := ⟨.hbm, 102, rfl⟩
abbrev main_cst_17 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_cst_18 : Ref sig .tc := ⟨.hbm, 109, rfl⟩
abbrev main_v76 : Ref sig .tc := ⟨.hbm, 110, rfl⟩
abbrev main_v77 : Ref sig .tc := ⟨.hbm, 111, rfl⟩
abbrev main_cst_19 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_cst_20 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩

abbrev nD : Nat := 1
abbrev τ : Topo := Topo.v7x

variable {F : FTy → Type} [FloatOps F]
-- ==== Kernel14.lean ====
abbrev S8192x1024 : Shape := ⟨2, ![8192, 1024]⟩
abbrev S1024 : Shape := ⟨1, ![1024]⟩
abbrev S1x1024x2048 : Shape := ⟨3, ![1, 1024, 2048]⟩
abbrev S1x2048 : Shape := ⟨2, ![1, 2048]⟩
abbrev S1x1024 : Shape := ⟨2, ![1, 1024]⟩
abbrev S4x1024 : Shape := ⟨2, ![4, 1024]⟩
abbrev S_ : Shape := ⟨0, ![]⟩
abbrev S8x1024 : Shape := ⟨2, ![8, 1024]⟩
abbrev S1024x2048 : Shape := ⟨2, ![1024, 2048]⟩
abbrev S8192x2048 : Shape := ⟨2, ![8192, 2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 19
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1x1024x2048, .f32⟩
  | .hbm, ⟨6, _⟩ => ⟨S1x2048, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S4x1024, .f32⟩
  | .hbm, ⟨12, _⟩ => ⟨S_, .f32⟩
  | .hbm, ⟨13, _⟩ => ⟨S4x1024, .f32⟩
  | .hbm, ⟨14, _⟩ => ⟨S8x1024, .f32⟩
  | .hbm, ⟨15, _⟩ => ⟨S1024x2048, .f32⟩
  | .hbm, ⟨16, _⟩ => ⟨S1024x2048, .bf16⟩
  | .hbm, ⟨17, _⟩ => ⟨S8192x1024, .f32⟩
  | .hbm, ⟨18, _⟩ => ⟨S8192x2048, .bf16⟩
  | .local _ .vmem, ⟨0, _⟩ => ⟨S256x1024, .f32⟩
  | .local _ .vmem, ⟨1, _⟩ => ⟨S256x1024, .f32⟩
  | .local _ .vmem, ⟨2, _⟩ => ⟨S8x1024, .f32⟩
  | .local _ .vmem, ⟨3, _⟩ => ⟨S1024x2048, .bf16⟩
  | .local _ .vmem, ⟨4, _⟩ => ⟨S1x2048, .f32⟩
  | .local _ .vmem, ⟨5, _⟩ => ⟨S256x1024, .f32⟩
  | .local _ .vmem, ⟨6, _⟩ => ⟨S256x1024, .f32⟩
  | .local _ .vmem, ⟨7, _⟩ => ⟨S256x2048, .bf16⟩
  | .local _ .vmem, ⟨8, _⟩ => ⟨S256x2048, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference14Ideal.lean ====
abbrev S8192x1024 : Shape := ⟨2, ![8192, 1024]⟩
abbrev S1024 : Shape := ⟨1, ![1024]⟩
abbrev S1x1024x2048 : Shape := ⟨3, ![1, 1024, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x2048 : Shape := ⟨2, ![1024, 2048]⟩
abbrev S8192x2048 : Shape := ⟨2, ![8192, 2048]⟩
abbrev S2048 : Shape := ⟨1, ![2048]⟩

abbrev nBuf : Space → Nat
  | .hbm => 50
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1x1024x2048, .f32⟩
  | .hbm, ⟨6, _⟩ => ⟨S1x2048, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S1024, .f32⟩
  | .hbm, ⟨25, _⟩ => ⟨S1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S1024x2048, .f32⟩
  | .hbm, ⟨33, _⟩ => ⟨S8192x2048, .f32⟩
  | .hbm, ⟨34, _⟩ => ⟨S2048, .f32⟩
  | .hbm, ⟨35, _⟩ => ⟨S1x2048, .f32⟩
  | .hbm, ⟨36, _⟩ => ⟨S8192x2048, .f32⟩
  | .hbm, ⟨37, _⟩ => ⟨S8192x2048, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Kernel15.lean ====
abbrev S8192x1024 : Shape := ⟨2, ![8192, 1024]⟩
abbrev S8448x1024 : Shape := ⟨2, ![8448, 1024]⟩
abbrev S8448x1536 : Shape := ⟨2, ![8448, 1536]⟩
abbrev S1024 : Shape := ⟨1, ![1024]⟩
abbrev S1x16 : Shape := ⟨2, ![1, 16]⟩
abbrev S1x1024 : Shape := ⟨2, ![1, 1024]⟩
abbrev S1x2048x1024 : Shape := ⟨3, ![1, 2048, 1024]⟩
abbrev S4x1024 : Shape := ⟨2, ![4, 1024]⟩
abbrev S_ : Shape := ⟨0, ![]⟩
abbrev S8x1024 : Shape := ⟨2, ![8, 1024]⟩
abbrev S16 : Shape := ⟨1, ![16]⟩
abbrev S16x64 : Shape := ⟨2, ![16, 64]⟩
abbrev S2048x1024 : Shape := ⟨2, ![2048, 1024]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩
abbrev S1x512 : Shape := ⟨2, ![1, 512]⟩
abbrev S1024x1024 : Shape := ⟨2, ![1024, 1024]⟩

abbrev nBuf : Space → Nat
  | .hbm => 32
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S8448x1024, .f32⟩
  | .hbm, ⟨2, _⟩ => ⟨S8448x1024, .f32⟩
  | .hbm, ⟨3, _⟩ => ⟨S8448x1536, .f32⟩
  | .hbm, ⟨4, _⟩ => ⟨S8448x1024, .f32⟩
  | .hbm, ⟨5, _⟩ => ⟨S8192x1024, .bf16⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1x16, .f32⟩
  | .hbm, ⟨11, _⟩ => ⟨S1x1024, .f32⟩
  | .hbm, ⟨12, _⟩ => ⟨S1x2048x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S4x1024, .f32⟩
  | .hbm, ⟨18, _⟩ => ⟨S_, .f32⟩
  | .hbm, ⟨19, _⟩ => ⟨S4x1024, .f32⟩
  | .hbm, ⟨20, _⟩ => ⟨S8x1024, .f32⟩
  | .hbm, ⟨21, _⟩ => ⟨S16, .f32⟩
  | .hbm, ⟨22, _⟩ => ⟨S16x64, .f32⟩
  | .hbm, ⟨23, _⟩ => ⟨S1024, .f32⟩
  | .hbm, ⟨24, _⟩ => ⟨S1x1024, .f32⟩
  | .hbm, ⟨25, _⟩ => ⟨S1024, .f32⟩
  | .hbm, ⟨26, _⟩ => ⟨S1x1024, .f32⟩
  | .hbm, ⟨27, _⟩ => ⟨S2048x1024, .f32⟩
  | .hbm, ⟨28, _⟩ => ⟨S2048x1024, .bf16⟩
  | .hbm, ⟨29, _⟩ => ⟨S8192x1024, .f32⟩
  | .hbm, ⟨30, _⟩ => ⟨S8192x1024, .bf16⟩
  | .hbm, ⟨31, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S8x1024, .f32⟩
  | .local _ .vmem, ⟨13, _⟩ => ⟨S1x1024, .f32⟩
  | .local _ .vmem, ⟨14, _⟩ => ⟨S1x1024, .f32⟩
  | .local _ .vmem, ⟨15, _⟩ => ⟨S2048x1024, .bf16⟩
  | .local _ .vmem, ⟨16, _⟩ => ⟨S256x1024, .f32⟩
  | .local _ .vmem, ⟨17, _⟩ => ⟨S256x1024, .f32⟩
  | .local _ .vmem, ⟨18, _⟩ => ⟨S256x1024, .bf16⟩
  | .local _ .vmem, ⟨19, _⟩ => ⟨S256x1024, .bf16⟩
  | .local _ .vmem, ⟨20, _⟩ => ⟨S256x1024, .f32⟩
  | .local _ .vmem, ⟨21, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15_0 : Ref sig .tc := ⟨.hbm, 29, rfl⟩
abbrev main_v15_1 : Ref sig .tc := ⟨.hbm, 30, rfl⟩
abbrev main_v15_2 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_11 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_12 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference15Ideal.lean ====
abbrev S8192x1024 : Shape := ⟨2, ![8192, 1024]⟩
abbrev S8448x1024 : Shape := ⟨2, ![8448, 1024]⟩
abbrev S8448x1536 : Shape := ⟨2, ![8448, 1536]⟩
abbrev S1024 : Shape := ⟨1, ![1024]⟩
abbrev S1x16 : Shape := ⟨2, ![1, 16]⟩
abbrev S1x1024 : Shape := ⟨2, ![1, 1024]⟩
abbrev S1x2048x1024 : Shape := ⟨3, ![1, 2048, 1024]⟩
abbrev S16 : Shape := ⟨1, ![16]⟩
abbrev S8192x16x64 : Shape := ⟨3, ![8192, 16, 64]⟩
abbrev S16x1 : Shape := ⟨2, ![16, 1]⟩
abbrev S1x16x1 : Shape := ⟨3, ![1, 16, 1]⟩
abbrev S_ : Shape := ⟨0, ![]⟩
abbrev S8192x2x512 : Shape := ⟨3, ![8192, 2, 512]⟩
abbrev S2x512 : Shape := ⟨2, ![2, 512]⟩
abbrev S8192x2 : Shape := ⟨2, ![8192, 2]⟩
abbrev S8192x2x1 : Shape := ⟨3, ![8192, 2, 1]⟩
abbrev S1x2x512 : Shape := ⟨3, ![1, 2, 512]⟩
abbrev S8192x2048 : Shape := ⟨2, ![8192, 2048]⟩
abbrev S2048x1024 : Shape := ⟨2, ![2048, 1024]⟩

abbrev nBuf : Space → Nat
  | .hbm => 65
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8448x1024, .f32⟩
  | .hbm, ⟨2, _⟩ => ⟨S8448x1024, .f32⟩
  | .hbm, ⟨3, _⟩ => ⟨S8448x1536, .f32⟩
  | .hbm, ⟨4, _⟩ => ⟨S8448x1024, .f32⟩
  | .hbm, ⟨5, _⟩ => ⟨S8192x1024, .bf16⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1x16, .f32⟩
  | .hbm, ⟨11, _⟩ => ⟨S1x1024, .f32⟩
  | .hbm, ⟨12, _⟩ => ⟨S1x2048x1024, .f32⟩
  | .hbm, ⟨13, _⟩ => ⟨S8448x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S16, .f32⟩
  | .hbm, ⟨18, _⟩ => ⟨S1024, .f32⟩
  | .hbm, ⟨19, _⟩ => ⟨S8192x16x64, .f32⟩
  | .hbm, ⟨20, _⟩ => ⟨S16x1, .f32⟩
  | .hbm, ⟨21, _⟩ => ⟨S8192x16x64, .f32⟩
  | .hbm, ⟨22, _⟩ => ⟨S1x16x1, .f32⟩
  | .hbm, ⟨23, _⟩ => ⟨S8192x16x64, .f32⟩
  | .hbm, ⟨24, _⟩ => ⟨S8192x16x64, .f32⟩
  | .hbm, ⟨25, _⟩ => ⟨S8192x16x64, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x2x512, .f32⟩
  | .hbm, ⟨38, _⟩ => ⟨S2x512, .f32⟩
  | .hbm, ⟨39, _⟩ => ⟨S8192x2x512, .f32⟩
  | .hbm, ⟨40, _⟩ => ⟨S_, .f32⟩
  | .hbm, ⟨41, _⟩ => ⟨S8192x2, .f32⟩
  | .hbm, ⟨42, _⟩ => ⟨S8192x2x1, .f32⟩
  | .hbm, ⟨43, _⟩ => ⟨S_, .f32⟩
  | .hbm, ⟨44, _⟩ => ⟨S8192x2x1, .f32⟩
  | .hbm, ⟨45, _⟩ => ⟨S8192x2x1, .f32⟩
  | .hbm, ⟨46, _⟩ => ⟨S_, .f32⟩
  | .hbm, ⟨47, _⟩ => ⟨S8192x2x1, .f32⟩
  | .hbm, ⟨48, _⟩ => ⟨S8192x2x1, .f32⟩
  | .hbm, ⟨49, _⟩ => ⟨S8192x2x1, .f32⟩
  | .hbm, ⟨50, _⟩ => ⟨S8192x2x512, .f32⟩
  | .hbm, ⟨51, _⟩ => ⟨S8192x2x512, .f32⟩
  | .hbm, ⟨52, _⟩ => ⟨S1x2x512, .f32⟩
  | .hbm, ⟨53, _⟩ => ⟨S8192x2x512, .f32⟩
  | .hbm, ⟨54, _⟩ => ⟨S8192x2x512, .f32⟩
  | .hbm, ⟨55, _⟩ => ⟨S8192x1024, .f32⟩
  | .hbm, ⟨56, _⟩ => ⟨S8192x1024, .f32⟩
  | .hbm, ⟨57, _⟩ => ⟨S8192x2048, .f32⟩
  | .hbm, ⟨58, _⟩ => ⟨S2048x1024, .f32⟩
  | .hbm, ⟨59, _⟩ => ⟨S8192x1024, .f32⟩
  | .hbm, ⟨60, _⟩ => ⟨S1x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst : Ref sig .tc := ⟨.hbm, 40, rfl⟩
abbrev main_v19 : Ref sig .tc := ⟨.hbm, 41, rfl⟩
abbrev main_v20 : Ref sig .tc := ⟨.hbm, 42, rfl⟩
abbrev main_cst_0 : Ref sig .tc := ⟨.hbm, 43, rfl⟩
abbrev main_v21 : Ref sig .tc := ⟨.hbm, 44, rfl⟩
abbrev main_v22 : Ref sig .tc := ⟨.hbm, 45, rfl⟩
abbrev main_cst_1 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩

abbrev nD : Nat := 1
abbrev τ : Topo := Topo.v7x

variable {F : FTy → Type} [FloatOps F]
-- ==== Kernel16.lean ====
abbrev S256x1024 : Shape := ⟨2, ![256, 1024]⟩
abbrev S8192x1024 : Shape := ⟨2, ![8192, 1024]⟩
abbrev S1024 : Shape := ⟨1, ![1024]⟩
abbrev S1x1024x4640 : Shape := ⟨3, ![1, 1024, 4640]⟩
abbrev S1x1024 : Shape := ⟨2, ![1, 1024]⟩
abbrev S1x8x128x128 : Shape := ⟨4, ![1, 8, 128, 128]⟩
abbrev S1x8x128 : Shape := ⟨3, ![1, 8, 128]⟩
abbrev S3x1024 : Shape := ⟨2, ![3, 1024]⟩
abbrev S_ : Shape := ⟨0, ![]⟩
abbrev S5x1024 : Shape := ⟨2, ![5, 1024]⟩
abbrev S8x1024 : Shape := ⟨2, ![8, 1024]⟩
abbrev S4x1024 : Shape := ⟨2, ![4, 1024]⟩
abbrev S1x8x1024 : Shape := ⟨3, ![1, 8, 1024]⟩
abbrev S2x8x1024 : Shape := ⟨3, ![2, 8, 1024]⟩
abbrev S1024x4640 : Shape := ⟨2, ![1024, 4640]⟩
abbrev S1024x1024 : Shape := ⟨2, ![1024, 1024]⟩
abbrev S1024x1536 : Shape := ⟨2, ![1024, 1536]⟩
abbrev S1024x32 : Shape := ⟨2, ![1024, 32]⟩
abbrev S1024x2048 : Shape := ⟨2, ![1024, 2048]⟩
abbrev S1024x96 : Shape := ⟨2, ![1024, 96]⟩
abbrev S1024x128 : Shape := ⟨2, ![1024, 128]⟩
abbrev S8x128x128 : Shape := ⟨3, ![8, 128, 128]⟩
abbrev S8x128 : Shape := ⟨2, ![8, 128]⟩
abbrev S128x8 : Shape := ⟨2, ![128, 8]⟩
abbrev S128x120 : Shape := ⟨2, ![128, 120]⟩
abbrev S128x128 : Shape := ⟨2, ![128, 128]⟩
abbrev S8448x1024 : Shape := ⟨2, ![8448, 1024]⟩
abbrev S8448x2048 : Shape := ⟨2, ![8448, 2048]⟩
abbrev S8448x1536 : Shape := ⟨2, ![8448, 1536]⟩
abbrev S8448x128 : Shape := ⟨2, ![8448, 128]⟩
abbrev S256x2048 : Shape := ⟨2, ![256, 2048]⟩
abbrev S256x1536 : Shape := ⟨2, ![256, 1536]⟩
abbrev S256x128 : Shape := ⟨2, ![256, 128]⟩
abbrev S1x1x1024 : Shape := ⟨3, ![1, 1, 1024]⟩
abbrev S256 : Shape := ⟨1, ![256]⟩
abbrev S256x1 : Shape := ⟨2, ![256, 1]⟩
abbrev S1x128x128 : Shape := ⟨3, ![1, 128, 128]⟩
abbrev S128x1 : Shape := ⟨2, ![128, 1]⟩

abbrev nBuf : Space → Nat
  | .hbm => 56
  | .vmem => 24
  | .smem => 0
  | _ => 0

abbrev bufTy : (tb : Table) → Fin (tcTables nBuf tb) → BufTy
  | .hbm, ⟨0, _⟩ => ⟨S256x1024, .f32⟩
  | .hbm, ⟨1, _⟩ => ⟨S8192x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1x1024x4640, .f32⟩
  | .hbm, ⟨9, _⟩ => ⟨S1x1024, .f32⟩
  | .hbm, ⟨10, _⟩ => ⟨S1x1024, .f32⟩
  | .hbm, ⟨11, _⟩ => ⟨S1x8x128x128, .f32⟩
  | .hbm, ⟨12, _⟩ => ⟨S1x8x128, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S3x1024, .f32⟩
  | .hbm, ⟨17, _⟩ => ⟨S_, .f32⟩
  | .hbm, ⟨18, _⟩ => ⟨S5x1024, .f32⟩
  | .hbm, ⟨19, _⟩ => ⟨S8x1024, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S4x1024, .f32⟩
  | .hbm, ⟨25, _⟩ => ⟨S_, .f32⟩
  | .hbm, ⟨26, _⟩ => ⟨S4x1024, .f32⟩
  | .hbm, ⟨27, _⟩ => ⟨S8x1024, .f32⟩
  | .hbm, ⟨28, _⟩ => ⟨S1x8x1024, .f32⟩
  | .hbm, ⟨29, _⟩ => ⟨S1x8x1024, .f32⟩
  | .hbm, ⟨30, _⟩ => ⟨S2x8x1024, .f32⟩
  | .hbm, ⟨31, _⟩ => ⟨S1024x4640, .f32⟩
  | .hbm, ⟨32, _⟩ => ⟨S1024x4640, .bf16⟩
  | .hbm, ⟨33, _⟩ => ⟨S1024x1024, .bf16⟩
  | .hbm, ⟨34, _⟩ => ⟨S1024x1536, .bf16⟩
  | .hbm, ⟨35, _⟩ => ⟨S1024x32, .bf16⟩
  | .hbm, ⟨36, _⟩ => ⟨S1024x2048, .bf16⟩
  | .hbm, ⟨37, _⟩ => ⟨S_, .bf16⟩
  | .hbm, ⟨38, _⟩ => ⟨S1024x96, .bf16⟩
  | .hbm, ⟨39, _⟩ => ⟨S1024x128, .bf16⟩
  | .hbm, ⟨40, _⟩ => ⟨S1024, .f32⟩
  | .hbm, ⟨41, _⟩ => ⟨S1x1024, .f32⟩
  | .hbm, ⟨42, _⟩ => ⟨S1024, .f32⟩
  | .hbm, ⟨43, _⟩ => ⟨S1x1024, .f32⟩
  | .hbm, ⟨44, _⟩ => ⟨S8x128x128, .f32⟩
  | .hbm, ⟨45, _⟩ => ⟨S8x128x128, .bf16⟩
  | .hbm, ⟨46, _⟩ => ⟨S8x128, .f32⟩
  | .hbm, ⟨47, _⟩ => ⟨S128x8, .f32⟩
  | .hbm, ⟨48, _⟩ => ⟨S_, .f32⟩
  | .hbm, ⟨49, _⟩ => ⟨S128x120, .f32⟩
  | .hbm, ⟨50, _⟩ => ⟨S128x128, .f32⟩
  | .hbm, ⟨51, _⟩ => ⟨S8448x1024, .f32⟩
  | .hbm, ⟨52, _⟩ => ⟨S8448x2048, .f32⟩
  | .hbm, ⟨53, _⟩ => ⟨S8448x1536, .f32⟩
  | .hbm, ⟨54, _⟩ => ⟨S8448x128, .f32⟩
  | .hbm, ⟨55, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x8x1024, .f32⟩
  | .local _ .vmem, ⟨5, _⟩ => ⟨S1x8x1024, .f32⟩
  | .local _ .vmem, ⟨6, _⟩ => ⟨S1024x1024, .bf16⟩
  | .local _ .vmem, ⟨7, _⟩ => ⟨S1024x2048, .bf16⟩
  | .local _ .vmem, ⟨8, _⟩ => ⟨S1024x1536, .bf16⟩
  | .local _ .vmem, ⟨9, _⟩ => ⟨S1024x128, .bf16⟩
  | .local _ .vmem, ⟨10, _⟩ => ⟨S1x1024, .f32⟩
  | .local _ .vmem, ⟨11, _⟩ => ⟨S1x1024, .f32⟩
  | .local _ .vmem, ⟨12, _⟩ => ⟨S8x128x128, .bf16⟩
  | .local _ .vmem, ⟨13, _⟩ => ⟨S128x128, .f32⟩
  | .local _ .vmem, ⟨14, _⟩ => ⟨S256x1024, .f32⟩
  | .local _ .vmem, ⟨15, _⟩ => ⟨S256x1024, .f32⟩
  | .local _ .vmem, ⟨16, _⟩ => ⟨S256x2048, .f32⟩
  | .local _ .vmem, ⟨17, _⟩ => ⟨S256x2048, .f32⟩
  | .local _ .vmem, ⟨18, _⟩ => ⟨S256x1536, .f32⟩
  | .local _ .vmem, ⟨19, _⟩ => ⟨S256x1536, .f32⟩
  | .local _ .vmem, ⟨20, _⟩ => ⟨S256x128, .f32⟩
  | .local _ .vmem, ⟨21, _⟩ => ⟨S256x128, .f32⟩
  | .local _ .vmem, ⟨22, _⟩ => ⟨S256x1024, .bf16⟩
  | .local _ .vmem, ⟨23, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_0 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_1 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_2 : Ref sig .tc := ⟨.hbm, 48, rfl⟩
abbrev main_v32 : Ref sig .tc := ⟨.hbm, 49, rfl⟩
abbrev main_v33 : Ref sig .tc := ⟨.hbm, 50, rfl⟩
abbrev main_v34_0 : Ref sig .tc := ⟨.hbm, 51, rfl⟩
abbrev main_v34_1 : Ref sig .tc := ⟨.hbm, 52, rfl⟩
abbrev main_v34_2 : Ref sig .tc := ⟨.hbm, 53, rfl⟩
abbrev main_v34_3 : Ref sig .tc := ⟨.hbm, 54, rfl⟩
abbrev main_v34_4 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let v0 : BitVec 32 := Scalar.minsi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 3 → Nat :=
  let arg0 : BitVec 32 := BitVec.ofNat 32 (i 0).val
  let c1_i32 : BitVec 32 := 1#32
  let v0 : BitVec 1 := Scalar.cmpi .slt arg0 c1_i32
  let c0_i32 : BitVec 32 := 0#32
  let c1_i32_0 : BitVec 32 := 1#32
  let v1 : BitVec 32 := Scalar.select v0 c0_i32 c1_i32_0
  let c0_i32_1 : BitVec 32 := 0#32
  let c0_i32_2 : BitVec 32 := 0#32
  let c0_i32_3 : BitVec 32 := 0#32
  ![v1.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_12 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_13 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_14 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_15 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1536 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference16Ideal.lean ====
abbrev S256x1024 : Shape := ⟨2, ![256, 1024]⟩
abbrev S8192x1024 : Shape := ⟨2, ![8192, 1024]⟩
abbrev S1024 : Shape := ⟨1, ![1024]⟩
abbrev S1x1024x4640 : Shape := ⟨3, ![1, 1024, 4640]⟩
abbrev S1x1024 : Shape := ⟨2, ![1, 1024]⟩
abbrev S1x8x128x128 : Shape := ⟨4, ![1, 8, 128, 128]⟩
abbrev S1x8x128 : Shape := ⟨3, ![1, 8, 128]⟩
abbrev S_ : Shape := ⟨0, ![]⟩
abbrev S256 : Shape := ⟨1, ![256]⟩
abbrev S256x1 : Shape := ⟨2, ![256, 1]⟩
abbrev S8192 : Shape := ⟨1, ![8192]⟩
abbrev S8192x1 : Shape := ⟨2, ![8192, 1]⟩
abbrev S8448x1024 : Shape := ⟨2, ![8448, 1024]⟩
abbrev S1024x4640 : Shape := ⟨2, ![1024, 4640]⟩
abbrev S8448x4640 : Shape := ⟨2, ![8448, 4640]⟩
abbrev S8448x1536 : Shape := ⟨2, ![8448, 1536]⟩
abbrev S8448x32 : Shape := ⟨2, ![8448, 32]⟩
abbrev S8448x2048 : Shape := ⟨2, ![8448, 2048]⟩
abbrev S8192x2048 : Shape := ⟨2, ![8192, 2048]⟩
abbrev S64x128x8x128 : Shape := ⟨4, ![64, 128, 8, 128]⟩
abbrev S8x128x128 : Shape := ⟨3, ![8, 128, 128]⟩
abbrev S8x64x128x128 : Shape := ⟨4, ![8, 64, 128, 128]⟩
abbrev S8x128 : Shape := ⟨2, ![8, 128]⟩
abbrev S128x8 : Shape := ⟨2, ![128, 8]⟩
abbrev S128x8x1 : Shape := ⟨3, ![128, 8, 1]⟩
abbrev S1x128x8x1 : Shape := ⟨4, ![1, 128, 8, 1]⟩
abbrev S8448x96 : Shape := ⟨2, ![8448, 96]⟩
abbrev S8448x128 : Shape := ⟨2, ![8448, 128]⟩

abbrev nBuf : Space → Nat
  | .hbm => 135
  | .vmem => 0
  | .smem => 0
  | _ => 0

abbrev hbmTy0_0 (i : Nat) : BufTy := match i % 128 with
  | 0 => ⟨S256x1024, .f32⟩
  | 1 => ⟨S8192x1024, .f32⟩
  | 2 => ⟨S1024, .f32⟩
  | 3 => ⟨S1024, .f32⟩
  | 4 => ⟨S1024, .f32⟩
  | 5 => ⟨S1024, .f32⟩
  | 6 => ⟨S1024, .f32⟩
  | 7 => ⟨S1024, .f32⟩
  | 8 => ⟨S1x1024x4640, .f32⟩
  | 9 => ⟨S1x1024, .f32⟩
  | 10 => ⟨S1x1024, .f32⟩
  | 11 => ⟨S1x8x128x128, .f32⟩
  | 12 => ⟨S1x8x128, .f32⟩
  | 13 => ⟨S256x1024, .f32⟩
  | 14 => ⟨S_, .f32⟩
  | 15 => ⟨S256, .f32⟩
  | 16 => ⟨S256x1, .f32⟩
  | 17 => ⟨S_, .f32⟩
  | 18 => ⟨S256x1, .f32⟩
  | 19 => ⟨S256x1, .f32⟩
  | 20 => ⟨S_, .f32⟩
  | 21 => ⟨S256x1, .f32⟩
  | 22 => ⟨S256x1, .f32⟩
  | 23 => ⟨S256x1, .f32⟩
  | 24 => ⟨S256x1024, .f32⟩
  | 25 => ⟨S256x1024, .f32⟩
  | 26 => ⟨S1x1024, .f32⟩
  | 27 => ⟨S256x1024, .f32⟩
  | 28 => ⟨S256x1024, .f32⟩
  | 29 => ⟨S_, .f32⟩
  | 30 => ⟨S1024, .f32⟩
  | 31 => ⟨S1024, .f32⟩
  | 32 => ⟨S1x1024, .f32⟩
  | 33 => ⟨S256x1024, .f32⟩
  | 34 => ⟨S256x1024, .f32⟩
  | 35 => ⟨S1x1024, .f32⟩
  | 36 => ⟨S256x1024, .f32⟩
  | 37 => ⟨S256x1024, .f32⟩
  | 38 => ⟨S8192x1024, .f32⟩
  | 39 => ⟨S_, .f32⟩
  | 40 => ⟨S8192, .f32⟩
  | 41 => ⟨S8192x1, .f32⟩
  | 42 => ⟨S_, .f32⟩
  | 43 => ⟨S8192x1, .f32⟩
  | 44 => ⟨S8192x1, .f32⟩
  | 45 => ⟨S_, .f32⟩
  | 46 => ⟨S8192x1, .f32⟩
  | 47 => ⟨S8192x1, .f32⟩
  | 48 => ⟨S8192x1, .f32⟩
  | 49 => ⟨S8192x1024, .f32⟩
  | 50 => ⟨S8192x1024, .f32⟩
  | 51 => ⟨S1x1024, .f32⟩
  | 52 => ⟨S8192x1024, .f32⟩
  | 53 => ⟨S8192x1024, .f32⟩
  | 54 => ⟨S_, .f32⟩
  | 55 => ⟨S1024, .f32⟩
  | 56 => ⟨S1024, .f32⟩
  | 57 => ⟨S1x1024, .f32⟩
  | 58 => ⟨S8192x1024, .f32⟩
  | 59 => ⟨S8192x1024, .f32⟩
  | 60 => ⟨S1x1024, .f32⟩
  | 61 => ⟨S8192x1024, .f32⟩
  | 62 => ⟨S8192x1024, .f32⟩
  | 63 => ⟨S8448x1024, .f32⟩
  | 64 => ⟨S1024x4640, .f32⟩
  | 65 => ⟨S8448x4640, .f32⟩
  | 66 => ⟨S8448x1024, .f32⟩
  | 67 => ⟨S8448x1536, .f32⟩
  | 68 => ⟨S8448x32, .f32⟩
  | 69 => ⟨S8448x2048, .f32⟩
  | 70 => ⟨S8192x2048, .f32⟩
  | 71 => ⟨S8192x2048, .f32⟩
  | 72 => ⟨S8192x2048, .f32⟩
  | 73 => ⟨S_, .f32⟩
  | 74 => ⟨S8192x2048, .f32⟩
  | 75 => ⟨S8192x2048, .f32⟩
  | 76 => ⟨S8192x2048, .f32⟩
  | 77 => ⟨S_, .f32⟩
  | 78 => ⟨S8192x2048, .f32⟩
  | 79 => ⟨S8192x2048, .f32⟩
  | 80 => ⟨S8192x2048, .f32⟩
  | 81 => ⟨S_, .f32⟩
  | 82 => ⟨S8192x2048, .f32⟩
  | 83 => ⟨S8192x2048, .f32⟩
  | 84 => ⟨S_, .f32⟩
  | 85 => ⟨S8192x2048, .f32⟩
  | 86 => ⟨S8192x2048, .f32⟩
  | 87 => ⟨S8192x2048, .f32⟩
  | 88 => ⟨S8192x1024, .f32⟩
  | 89 => ⟨S8192x1024, .f32⟩
  | 90 => ⟨S1024, .f32⟩
  | 91 => ⟨S1024, .f32⟩
  | 92 => ⟨S_, .f32⟩
  | 93 => ⟨S8192, .f32⟩
  | 94 => ⟨S8192x1, .f32⟩
  | 95 => ⟨S_, .f32⟩
  | 96 => ⟨S8192x1, .f32⟩
  | 97 => ⟨S8192x1, .f32⟩
  | 98 => ⟨S8192x1024, .f32⟩
  | 99 => ⟨S8192x1024, .f32⟩
  | 100 => ⟨S8192x1024, .f32⟩
  | 101 => ⟨S_, .f32⟩
  | 102 => ⟨S8192, .f32⟩
  | 103 => ⟨S8192x1, .f32⟩
  | 104 => ⟨S_, .f32⟩
  | 105 => ⟨S8192x1, .f32⟩
  | 106 => ⟨S8192x1, .f32⟩
  | 107 => ⟨S_, .f32⟩
  | 108 => ⟨S8192x1, .f32⟩
  | 109 => ⟨S8192x1, .f32⟩
  | 110 => ⟨S8192x1, .f32⟩
  | 111 => ⟨S8192x1024, .f32⟩
  | 112 => ⟨S8192x1024, .f32⟩
  | 113 => ⟨S1x1024, .f32⟩
  | 114 => ⟨S8192x1024, .f32⟩
  | 115 => ⟨S8192x1024, .f32⟩
  | 116 => ⟨S1x1024, .f32⟩
  | 117 => ⟨S8192x1024, .f32⟩
  | 118 => ⟨S8192x1024, .f32⟩
  | 119 => ⟨S64x128x8x128, .f32⟩
  | 120 => ⟨S8x128x128, .f32⟩
  | 121 => ⟨S8x64x128x128, .f32⟩
  | 122 => ⟨S64x128x8x128, .f32⟩
  | 123 => ⟨S8x128, .f32⟩
  | 124 => ⟨S128x8, .f32⟩
  | 125 => ⟨S128x8x1, .f32⟩
  | 126 => ⟨S1x128x8x1, .f32⟩
  | 127 => ⟨S64x128x8x128, .f32⟩
  | _ => ⟨S256x1024, .f32⟩

abbrev hbmTy0_1 (i : Nat) : BufTy := match i % 128 with
  | 0 => ⟨S64x128x8x128, .f32⟩
  | 1 => ⟨S8192x1024, .f32⟩
  | 2 => ⟨S8192x1024, .f32⟩
  | 3 => ⟨S_, .f32⟩
  | 4 => ⟨S8448x96, .f32⟩
  | 5 => ⟨S8448x128, .f32⟩
  | 6 => ⟨S8192x1024, .bf16⟩
  | _ => ⟨S256x1024, .f32⟩

abbrev hbmTy (i : Nat) : BufTy := match i / 128 with
  | 0 => hbmTy0_0 i
  | 1 => hbmTy0_1 i
  | _ => ⟨S256x1024, .f32⟩

abbrev bufTy : (tb : Table) → Fin (tcTables nBuf tb) → BufTy
  | .hbm, ⟨i, _⟩ => hbmTy i
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_cst_1 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_cst_4 : Ref sig .tc := ⟨.hbm, 42, rfl⟩
abbrev main_v24 : Ref sig .tc := ⟨.hbm, 43, rfl⟩
abbrev main_v25 : Ref sig .tc := ⟨.hbm, 44, rfl⟩
abbrev main_cst_5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_6 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_7 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_8 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_9 : Ref sig .tc := ⟨.hbm, 81, rfl⟩
abbrev main_v58 : Ref sig .tc := ⟨.hbm, 82, rfl⟩
abbrev main_v59 : Ref sig .tc := ⟨.hbm, 83, rfl⟩
abbrev main_cst_10 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_11 : Ref sig .tc := ⟨.hbm, 92, rfl⟩
abbrev main_v67 : Ref sig .tc := ⟨.hbm, 93, rfl⟩
abbrev main_v68 : Ref sig .tc := ⟨.hbm, 94, rfl⟩
abbrev main_cst_12 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_13 : Ref sig .tc := ⟨.hbm, 101, rfl⟩
abbrev main_v74 : Ref sig .tc := ⟨.hbm, 102, rfl⟩
abbrev main_v75 : Ref sig .tc := ⟨.hbm, 103, rfl⟩
abbrev main_cst_14 : Ref sig .tc := ⟨.hbm, 104, rfl⟩
abbrev main_v76 : Ref sig .tc := ⟨.hbm, 105, rfl⟩
abbrev main_v77 : Ref sig .tc := ⟨.hbm, 106, rfl⟩
abbrev main_cst_15 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_cst_16 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩

abbrev nD : Nat := 1
abbrev τ : Topo := Topo.v7x

variable {F : FTy → Type} [FloatOps F]
-- ==== Kernel17.lean ====
abbrev S8192x1024 : Shape := ⟨2, ![8192, 1024]⟩
abbrev S8448x1024 : Shape := ⟨2, ![8448, 1024]⟩
abbrev S8448x1536 : Shape := ⟨2, ![8448, 1536]⟩
abbrev S1024 : Shape := ⟨1, ![1024]⟩
abbrev S1x16 : Shape := ⟨2, ![1, 16]⟩
abbrev S1x1024 : Shape := ⟨2, ![1, 1024]⟩
abbrev S1x2048x1024 : Shape := ⟨3, ![1, 2048, 1024]⟩
abbrev S4x1024 : Shape := ⟨2, ![4, 1024]⟩
abbrev S_ : Shape := ⟨0, ![]⟩
abbrev S8x1024 : Shape := ⟨2, ![8, 1024]⟩
abbrev S16 : Shape := ⟨1, ![16]⟩
abbrev S16x64 : Shape := ⟨2, ![16, 64]⟩
abbrev S2048x1024 : Shape := ⟨2, ![2048, 1024]⟩
abbrev S256x1024 : Shape := ⟨2, ![256, 1024]⟩
abbrev S1024x1024 : Shape := ⟨2, ![1024, 1024]⟩
abbrev S256x512 : Shape := ⟨2, ![256, 512]⟩
abbrev S256 : Shape := ⟨1, ![256]⟩
abbrev S256x1 : Shape := ⟨2, ![256, 1]⟩
abbrev S1x512 : Shape := ⟨2, ![1, 512]⟩
abbrev S512 : Shape := ⟨1, ![512]⟩

abbrev nBuf : Space → Nat
  | .hbm => 34
  | .vmem => 25
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8448x1024, .f32⟩
  | .hbm, ⟨3, _⟩ => ⟨S8448x1024, .f32⟩
  | .hbm, ⟨4, _⟩ => ⟨S8448x1536, .f32⟩
  | .hbm, ⟨5, _⟩ => ⟨S8448x1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1x16, .f32⟩
  | .hbm, ⟨11, _⟩ => ⟨S1x1024, .f32⟩
  | .hbm, ⟨12, _⟩ => ⟨S1x2048x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S4x1024, .f32⟩
  | .hbm, ⟨18, _⟩ => ⟨S_, .f32⟩
  | .hbm, ⟨19, _⟩ => ⟨S4x1024, .f32⟩
  | .hbm, ⟨20, _⟩ => ⟨S8x1024, .f32⟩
  | .hbm, ⟨21, _⟩ => ⟨S16, .f32⟩
  | .hbm, ⟨22, _⟩ => ⟨S16x64, .f32⟩
  | .hbm, ⟨23, _⟩ => ⟨S1024, .f32⟩
  | .hbm, ⟨24, _⟩ => ⟨S1x1024, .f32⟩
  | .hbm, ⟨25, _⟩ => ⟨S1024, .f32⟩
  | .hbm, ⟨26, _⟩ => ⟨S1x1024, .f32⟩
  | .hbm, ⟨27, _⟩ => ⟨S2048x1024, .f32⟩
  | .hbm, ⟨28, _⟩ => ⟨S2048x1024, .bf16⟩
  | .hbm, ⟨29, _⟩ => ⟨S8448x1024, .f32⟩
  | .hbm, ⟨30, _⟩ => ⟨S8448x1024, .bf16⟩
  | .hbm, ⟨31, _⟩ => ⟨S8448x1024, .f32⟩
  | .hbm, ⟨32, _⟩ => ⟨S8192x1024, .bf16⟩
  | .hbm, ⟨33, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S8x1024, .f32⟩
  | .local _ .vmem, ⟨13, _⟩ => ⟨S1x1024, .f32⟩
  | .local _ .vmem, ⟨14, _⟩ => ⟨S1x1024, .f32⟩
  | .local _ .vmem, ⟨15, _⟩ => ⟨S2048x1024, .bf16⟩
  | .local _ .vmem, ⟨16, _⟩ => ⟨S256x1024, .f32⟩
  | .local _ .vmem, ⟨17, _⟩ => ⟨S256x1024, .f32⟩
  | .local _ .vmem, ⟨18, _⟩ => ⟨S256x1024, .bf16⟩
  | .local _ .vmem, ⟨19, _⟩ => ⟨S256x1024, .bf16⟩
  | .local _ .vmem, ⟨20, _⟩ => ⟨S256x1024, .f32⟩
  | .local _ .vmem, ⟨21, _⟩ => ⟨S256x1024, .f32⟩
  | .local _ .vmem, ⟨22, _⟩ => ⟨S256x1024, .bf16⟩
  | .local _ .vmem, ⟨23, _⟩ => ⟨S256x1024, .bf16⟩
  | .local _ .vmem, ⟨24, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15_0 : Ref sig .tc := ⟨.hbm, 29, rfl⟩
abbrev main_v15_1 : Ref sig .tc := ⟨.hbm, 30, rfl⟩
abbrev main_v15_2 : Ref sig .tc := ⟨.hbm, 31, rfl⟩
abbrev main_v15_3 : Ref sig .tc := ⟨.hbm, 32, rfl⟩
abbrev main_v15_4 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24

abbrev nD : Nat := 1
abbrev τ : Topo := Topo.v7x

variable {F : FTy → Type} [FloatOps F]

abbrev grid0 : Pipeline.Grid := ⟨1, ![33], ![false]⟩

def k0_cond2 (i : grid0.Coords) : BitVec 1 :=
  let arg0 : BitVec 32 := BitVec.ofNat 32 (i 0).val
  let c1_i32 : BitVec 32 := 1#32
  let v3 : BitVec 1 := Scalar.cmpi .slt arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c1_i32_2 : BitVec 32 := 1#32
  let v6 : BitVec 1 := Scalar.cmpi .sge arg0 c1_i32_2
  let v7 : BitVec 32 := Scalar.extui v6
  let c0_i32_3 : BitVec 32 := 0#32
  let v8 : BitVec 1 := Scalar.cmpi .ne v7 c0_i32_3
  v8

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_11 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_12 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_13 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S8x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Reference17Ideal.lean ====
abbrev S8192x1024 : Shape := ⟨2, ![8192, 1024]⟩
abbrev S8448x1024 : Shape := ⟨2, ![8448, 1024]⟩
abbrev S8448x1536 : Shape := ⟨2, ![8448, 1536]⟩
abbrev S1024 : Shape := ⟨1, ![1024]⟩
abbrev S1x16 : Shape := ⟨2, ![1, 16]⟩
abbrev S1x1024 : Shape := ⟨2, ![1, 1024]⟩
abbrev S1x2048x1024 : Shape := ⟨3, ![1, 2048, 1024]⟩
abbrev S_ : Shape := ⟨0, ![]⟩
abbrev S16 : Shape := ⟨1, ![16]⟩
abbrev S8192x16x64 : Shape := ⟨3, ![8192, 16, 64]⟩
abbrev S16x1 : Shape := ⟨2, ![16, 1]⟩
abbrev S1x16x1 : Shape := ⟨3, ![1, 16, 1]⟩
abbrev S8192x2x512 : Shape := ⟨3, ![8192, 2, 512]⟩
abbrev S2x512 : Shape := ⟨2, ![2, 512]⟩
abbrev S8192x2 : Shape := ⟨2, ![8192, 2]⟩
abbrev S8192x2x1 : Shape := ⟨3, ![8192, 2, 1]⟩
abbrev S1x2x512 : Shape := ⟨3, ![1, 2, 512]⟩
abbrev S8192x2048 : Shape := ⟨2, ![8192, 2048]⟩
abbrev S2048x1024 : Shape := ⟨2, ![2048, 1024]⟩

abbrev nBuf : Space → Nat
  | .hbm => 118
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8448x1024, .f32⟩
  | .hbm, ⟨3, _⟩ => ⟨S8448x1024, .f32⟩
  | .hbm, ⟨4, _⟩ => ⟨S8448x1536, .f32⟩
  | .hbm, ⟨5, _⟩ => ⟨S8448x1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1x16, .f32⟩
  | .hbm, ⟨11, _⟩ => ⟨S1x1024, .f32⟩
  | .hbm, ⟨12, _⟩ => ⟨S1x2048x1024, .f32⟩
  | .hbm, ⟨13, _⟩ => ⟨S8448x1024, .f32⟩
  | .hbm, ⟨14, _⟩ => ⟨S_, .f32⟩
  | .hbm, ⟨15, _⟩ => ⟨S8448x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S16, .f32⟩
  | .hbm, ⟨22, _⟩ => ⟨S1024, .f32⟩
  | .hbm, ⟨23, _⟩ => ⟨S8192x16x64, .f32⟩
  | .hbm, ⟨24, _⟩ => ⟨S16x1, .f32⟩
  | .hbm, ⟨25, _⟩ => ⟨S8192x16x64, .f32⟩
  | .hbm, ⟨26, _⟩ => ⟨S1x16x1, .f32⟩
  | .hbm, ⟨27, _⟩ => ⟨S8192x16x64, .f32⟩
  | .hbm, ⟨28, _⟩ => ⟨S8192x16x64, .f32⟩
  | .hbm, ⟨29, _⟩ => ⟨S8192x16x64, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x2x512, .f32⟩
  | .hbm, ⟨46, _⟩ => ⟨S2x512, .f32⟩
  | .hbm, ⟨47, _⟩ => ⟨S8192x2x512, .f32⟩
  | .hbm, ⟨48, _⟩ => ⟨S_, .f32⟩
  | .hbm, ⟨49, _⟩ => ⟨S8192x2, .f32⟩
  | .hbm, ⟨50, _⟩ => ⟨S8192x2x1, .f32⟩
  | .hbm, ⟨51, _⟩ => ⟨S_, .f32⟩
  | .hbm, ⟨52, _⟩ => ⟨S8192x2x1, .f32⟩
  | .hbm, ⟨53, _⟩ => ⟨S8192x2x1, .f32⟩
  | .hbm, ⟨54, _⟩ => ⟨S_, .f32⟩
  | .hbm, ⟨55, _⟩ => ⟨S8192x2x1, .f32⟩
  | .hbm, ⟨56, _⟩ => ⟨S8192x2x1, .f32⟩
  | .hbm, ⟨57, _⟩ => ⟨S8192x2x1, .f32⟩
  | .hbm, ⟨58, _⟩ => ⟨S8192x2x1, .f32⟩
  | .hbm, ⟨59, _⟩ => ⟨S_, .f32⟩
  | .hbm, ⟨60, _⟩ => ⟨S8192x2x1, .f32⟩
  | .hbm, ⟨61, _⟩ => ⟨S8192x2x1, .f32⟩
  | .hbm, ⟨62, _⟩ => ⟨S8192x2x512, .f32⟩
  | .hbm, ⟨63, _⟩ => ⟨S8192x2x512, .f32⟩
  | .hbm, ⟨64, _⟩ => ⟨S1x2x512, .f32⟩
  | .hbm, ⟨65, _⟩ => ⟨S8192x2x512, .f32⟩
  | .hbm, ⟨66, _⟩ => ⟨S8192x2x512, .f32⟩
  | .hbm, ⟨67, _⟩ => ⟨S8192x1024, .f32⟩
  | .hbm, ⟨68, _⟩ => ⟨S8192x1024, .f32⟩
  | .hbm, ⟨69, _⟩ => ⟨S8192x2048, .f32⟩
  | .hbm, ⟨70, _⟩ => ⟨S2048x1024, .f32⟩
  | .hbm, ⟨71, _⟩ => ⟨S8192x1024, .f32⟩
  | .hbm, ⟨72, _⟩ => ⟨S8192x1024, .f32⟩
  | .hbm, ⟨73, _⟩ => ⟨S1x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x2048, .f32⟩
  | .hbm, ⟨79, _⟩ => ⟨S8192x1024, .f32⟩
  | .hbm, ⟨80, _⟩ => ⟨S8192x1024, .f32⟩
  | .hbm, ⟨81, _⟩ => ⟨S_, .f32⟩
  | .hbm, ⟨82, _⟩ => ⟨S8448x1024, .f32⟩
  | .hbm, ⟨83, _⟩ => ⟨S8192x2x512, .f32⟩
  | .hbm, ⟨84, _⟩ => ⟨S8192x2x512, .f32⟩
  | .hbm, ⟨85, _⟩ => ⟨S8192x2x512, .f32⟩
  | .hbm, ⟨86, _⟩ => ⟨S8192x2x512, .f32⟩
  | .hbm, ⟨87, _⟩ => ⟨S_, .f32⟩
  | .hbm, ⟨88, _⟩ => ⟨S8192x2, .f32⟩
  | .hbm, ⟨89, _⟩ => ⟨S8192x2x1, .f32⟩
  | .hbm, ⟨90, _⟩ => ⟨S8192x2x512, .f32⟩
  | .hbm, ⟨91, _⟩ => ⟨S8192x2x512, .f32⟩
  | .hbm, ⟨92, _⟩ => ⟨S8192x2x1, .f32⟩
  | .hbm, ⟨93, _⟩ => ⟨S_, .f32⟩
  | .hbm, ⟨94, _⟩ => ⟨S8192x2x1, .f32⟩
  | .hbm, ⟨95, _⟩ => ⟨S8192x2x1, .f32⟩
  | .hbm, ⟨96, _⟩ => ⟨S_, .f32⟩
  | .hbm, ⟨97, _⟩ => ⟨S8192x2, .f32⟩
  | .hbm, ⟨98, _⟩ => ⟨S8192x2x512, .f32⟩
  | .hbm, ⟨99, _⟩ => ⟨S8192x2x512, .f32⟩
  | .hbm, ⟨100, _⟩ => ⟨S8192x2x512, .f32⟩
  | .hbm, ⟨101, _⟩ => ⟨S8192x2x512, .f32⟩
  | .hbm, ⟨102, _⟩ => ⟨S8192x2x512, .f32⟩
  | .hbm, ⟨103, _⟩ => ⟨S8192x1024, .f32⟩
  | .hbm, ⟨104, _⟩ => ⟨S8192x1024, .f32⟩
  | .hbm, ⟨105, _⟩ => ⟨S8192x1024, .f32⟩
  | .hbm, ⟨106, _⟩ => ⟨S8192x1024, .f32⟩
  | .hbm, ⟨107, _⟩ => ⟨S8192x1024, .f32⟩
  | .hbm, ⟨108, _⟩ => ⟨S8192x1024, .f32⟩
  | .hbm, ⟨109, _⟩ => ⟨S8192x1024, .f32⟩
  | .hbm, ⟨110, _⟩ => ⟨S8192x16x64, .f32⟩
  | .hbm, ⟨111, _⟩ => ⟨S8192x1024, .f32⟩
  | .hbm, ⟨112, _⟩ => ⟨S_, .f32⟩
  | .hbm, ⟨113, _⟩ => ⟨S8448x1024, .f32⟩
  | .hbm, ⟨114, _⟩ => ⟨S_, .f32⟩
  | .hbm, ⟨115, _⟩ => ⟨S8448x1024, .f32⟩
  | .hbm, ⟨116, _⟩ => ⟨S8448x1024, .bf16⟩
  | .hbm, ⟨117, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_cst_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_v16_2 : Ref sig .tc := ⟨.hbm, 38, rfl⟩
abbrev main_call0_cst_1 : Ref sig .tc := ⟨.hbm, 39, rfl⟩
abbrev main_call0_v6 : Ref sig .tc := ⟨.hbm, 40, rfl⟩
abbrev main_call0_v7 : Ref sig .tc := ⟨.hbm, 41, rfl⟩
abbrev main_v16_1 : Ref sig .tc := ⟨.hbm, 42, rfl⟩
abbrev main_v16_0 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_cst_1 : Ref sig .tc := ⟨.hbm, 48, rfl⟩
abbrev main_v21 : Ref sig .tc := ⟨.hbm, 49, rfl⟩
abbrev main_v22 : Ref sig .tc := ⟨.hbm, 50, rfl⟩
abbrev main_cst_2 : Ref sig .tc := ⟨.hbm, 51, rfl⟩
abbrev main_v23 : Ref sig .tc := ⟨.hbm, 52, rfl⟩
abbrev main_v24 : Ref sig .tc := ⟨.hbm, 53, rfl⟩
abbrev main_cst_3 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_cst_4 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_cst_5 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_cst_6 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_cst_7 : Ref sig .tc := ⟨.hbm, 93, rfl⟩
abbrev main_v60 : Ref sig .tc := ⟨.hbm, 94, rfl⟩
abbrev main_v61 : Ref sig .tc := ⟨.hbm, 95, rfl⟩
abbrev main_cst_8 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_call1_v0 : Ref sig .tc := ⟨.hbm, 106, rfl⟩
abbrev main_call1_v1 : Ref sig .tc := ⟨.hbm, 107, rfl⟩
abbrev main_call1_v2 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_cst_9 : Ref sig .tc := ⟨.hbm, 112, rfl⟩
abbrev main_v74 : Ref sig .tc := ⟨.hbm, 113, rfl⟩
abbrev main_cst_10 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩

abbrev nD : Nat := 1
abbrev τ : Topo := Topo.v7x

variable {F : FTy → Type} [FloatOps F]
-- ==== Proof.Pack.lean ====
module

public import proofs.«01_k».proof.Proof.Gen.Kernel12Ideal.Frame.Runs
public import Idealize.ShloMosaic.Lib.Claim
public import Idealize.ShloMosaic.Lib.Pointwise
public import Idealize.ShloMosaic.Lib.StableHlo.RunRead
public import Idealize.ShloMosaic.Lib.Pipeline.ValueKit

@[expose] public section

set_option maxRecDepth 16384

noncomputable section

/-! The parameters and the packed weights of the first MLP as the host code stacks them. -/

namespace Cert.Kernel12Ideal.Gen

open Idealize.ShloMosaic Idealize.ShloMosaic.TcCoe Idealize.ShloMosaic.Tactic

variable (m : (ℓ : Loc nD τ sig) → Buf (Elt Ideal) ℓ) (c : Dev nD)

/-- Argument `b` as launched. -/
abbrev arg (b : Ref sig .tc) := m ((c : Thread nD τ).loc b)

/-- Four rows over four rows. -/
def stack2 (a b : Vec Ideal S4x1024 .f32) : Vec Ideal S8x1024 .f32 :=
  concatenate (α := Elt Ideal .f32) S8x1024 0 [⟨S4x1024, a⟩, ⟨S4x1024, b⟩] concatenates_S4x1024_S4x1024_S8x1024_d0

/-- Four rows, one over another. -/
def stack4 (a b d e : Vec Ideal S1x1024 .f32) : Vec Ideal S4x1024 .f32 :=
  concatenate (α := Elt Ideal .f32) S4x1024 0 [⟨S1x1024, a⟩, ⟨S1x1024, b⟩, ⟨S1x1024, d⟩, ⟨S1x1024, e⟩]
    concatenates_S1x1024_S1x1024_S1x1024_S1x1024_S4x1024_d0

/-- Four parameters stacked over four zero rows. -/
def stacked (a b d e : Vec Ideal S1024 .f32) : Vec Ideal S8x1024 .f32 :=
  let row (a : Vec Ideal S1024 .f32) : Vec Ideal S1x1024 .f32 := broadcastInDim S1x1024 ![1] bcast_S1024_S1x1024_1 a
  stack2 (stack4 (row a) (row b) (row d) (row e))
    (broadcastInDim S4x1024 ![] bcast_S_S4x1024 (constant (F := Ideal) S_ .f32 0x00000000#32 : Vec Ideal S_ .f32))

/-- The first product's weights, a quarter of the columns to a leaf. -/
def pack1 (w : Vec Ideal S2x1024x4096 .f32) : Vec Ideal S4x2048x1024 .f32 :=
  shapeCast S4x2048x1024 (transpose S4x2x1024x1024 [2, 0, 1, 3] (shapeCast S2x1024x4x1024 w shapeCasts_S2x1024x4096_S2x1024x4x1024)
    transposes_S2x1024x4x1024_S4x2x1024x1024_2_0_1_3) shapeCasts_S4x2x1024x1024_S4x2048x1024

/-- The second product's weights, a quarter of the rows to a leaf. -/
def pack2 (w : Vec Ideal S2x4096x1024 .f32) : Vec Ideal S4x2048x1024 .f32 :=
  shapeCast S4x2048x1024 (transpose S4x2x1024x1024 [1, 0, 2, 3] (shapeCast S2x4x1024x1024 w shapeCasts_S2x4096x1024_S2x4x1024x1024)
    transposes_S2x4x1024x1024_S4x2x1024x1024_1_0_2_3) shapeCasts_S4x2x1024x1024_S4x2048x1024

/-- The packed weights. -/
def packed (a b : Vec Ideal S4x2048x1024 .f32) (d e : Vec Ideal S4x512x1024 .f32) (f : Vec Ideal S4x256x1024 .f32) :
    Vec Ideal S4x5376x1024 .bf16 :=
  truncf (F := Ideal) .bf16 (concatenate (α := Elt Ideal .f32) S4x5376x1024 1 [⟨S4x2048x1024, a⟩, ⟨S4x2048x1024, b⟩, ⟨S4x512x1024, d⟩, ⟨S4x512x1024, e⟩, ⟨S4x256x1024, f⟩]
    concatenates_S4x2048x1024_S4x2048x1024_S4x512x1024_S4x512x1024_S4x256x1024_S4x5376x1024_d1) bitsLt_bf16_f32

theorem V6_eq : V m c main_v6 = stacked (arg m c main_arg1) (arg m c main_arg2) (arg m c main_arg3) (arg m c main_arg4) := by
  unfold V
  after_reads_simp
  change stack2 _ _ = _
  after_reads_simp
  change stack2 (stack4 _ _ _ _) _ = _
  after_reads_simp
  rfl

/-- What the host has computed when it comes to the packing. -/
abbrev U23 (b : Ref sig .tc) := StableHlo.upto hostOps0 (fun b => m (c, b)) 23 (Proc.devRef .tc b)

theorem U23_w1 : U23 m c main_v9 = pack1 (arg m c main_arg5) := by
  unfold U23
  after_reads_simp
  rfl

theorem U23_w2 : U23 m c main_v12 = pack2 (arg m c main_arg6) := by
  unfold U23
  after_reads_simp
  rfl

theorem V23_eq : V m c main_v23 = packed (pack1 (arg m c main_arg5)) (pack2 (arg m c main_arg6))
    (U23 m c main_v15) (U23 m c main_v18) (U23 m c main_v21) := by
  rw [← U23_w1, ← U23_w2]
  unfold V
  after_reads_simp
  rfl

variable (a b d e : Vec Ideal S1024 .f32) (j : Fin 1024)

theorem stacked_at0 : stacked a b d e (ix2 0 j) = a (ix1 j) := by pointwise [stacked, stack2, stack4]
theorem stacked_at1 : stacked a b d e (ix2 1 j) = b (ix1 j) := by pointwise [stacked, stack2, stack4]
theorem stacked_at2 : stacked a b d e (ix2 2 j) = d (ix1 j) := by pointwise [stacked, stack2, stack4]
theorem stacked_at3 : stacked a b d e (ix2 3 j) = e (ix1 j) := by pointwise [stacked, stack2, stack4]

theorem packed_w1 (w v d e f) (s : Fin 4) (i j : Fin 1024) : packed (pack1 w) (pack2 v) d e f (ix3 s ⟨i.val, by omega⟩ j)
    = w (ix3 0 i ⟨1024 * s.val + j.val, by omega⟩) := by
  pointwise [packed, pack1]
  rw [dif_pos (by omega)]
  blk_ext

theorem packed_w2 (w v d e f) (s : Fin 4) (i j : Fin 1024) : packed (pack1 w) (pack2 v) d e f (ix3 s ⟨2048 + i.val, by omega⟩ j)
    = v (ix3 0 ⟨1024 * s.val + i.val, by omega⟩ j) := by
  pointwise [packed, pack2]
  rw [dif_pos (by omega)]
  blk_ext

end Cert.Kernel12Ideal.Gen
-- ==== Proof.Rows.lean ====
module

public import Idealize.ShloMosaic.Lib.Pointwise

@[expose] public section

noncomputable section

/-! The backward pass of one latent row, as functions of the row's entries: what the kernel
computes on each row of a tile and what the reference computes on each row of its arrays. -/

namespace Cert.Rows

open Idealize.ShloMosaic

/-- The row length as the programs write it. -/
def len : EReal := Ideal.ofBits .f32 0x44800000#32
/-- The norm's epsilon. -/
def eps : EReal := Ideal.ofBits .f32 0x358637BD#32
/-- Minus one half. -/
def mhalf : EReal := Ideal.ofBits .f32 0xBF000000#32
/-- Two. -/
def two : EReal := Ideal.ofBits .f32 0x40000000#32

/-- Mean square plus epsilon. -/
def msq (h : Fin 1024 → EReal) : EReal := Ideal.div (∑ k, h k * h k) len + eps
/-- Reciprocal root mean square. -/
def rs (h : Fin 1024 → EReal) : EReal := Ideal.rsqrt (msq h)
/-- Its derivative in the mean square. -/
def drs (h : Fin 1024 → EReal) : EReal := mhalf * Ideal.div (rs h) (msq h)
/-- The row over its root mean square. -/
def nrm (h : Fin 1024 → EReal) (j : Fin 1024) : EReal := h j * rs h
/-- The scaled row. -/
def scl (h g : Fin 1024 → EReal) (j : Fin 1024) : EReal := nrm h j * g j
/-- The norm with modulation. -/
def modn (h g sh sc : Fin 1024 → EReal) (j : Fin 1024) : EReal := scl h g j * (1 + sc j) + sh j
/-- Gradient before the squared rectifier. -/
def dact (p a : EReal) : EReal := p * two * max a 0
/-- The scalar that the norm's backward pass spreads over the row. -/
def spread (h dn : Fin 1024 → EReal) : EReal := Ideal.div ((∑ k, h k * dn k) * drs h) len
/-- Backward pass of the norm. -/
def back (h dn : Fin 1024 → EReal) (j : Fin 1024) : EReal :=
  dn j * rs h + h j * spread h dn + spread h dn * h j
/-- Gradient of the normed row, before the scale. -/
def dscl (sc du : Fin 1024 → EReal) (j : Fin 1024) : EReal := du j * (1 + sc j)
/-- Gradient of the normed row. -/
def dnrm (g sc du : Fin 1024 → EReal) (j : Fin 1024) : EReal := dscl sc du j * g j
/-- Gradient of the block's input. -/
def dho (dh h g sc du : Fin 1024 → EReal) (j : Fin 1024) : EReal := dh j + back h (dnrm g sc du) j
/-- Gradient behind a gate. -/
def gated (g d : Fin 1024 → EReal) (j : Fin 1024) : EReal := g j * d j
/-- The row without its mean. -/
def cent (cv : Fin 1024 → EReal) (j : Fin 1024) : EReal := cv j - Ideal.div (∑ k, cv k) len
/-- The layer norm's output. -/
def lnz (cv g b : Fin 1024 → EReal) (j : Fin 1024) : EReal := nrm (cent cv) j * g j + b j
/-- Gradient of `z` times its logistic. -/
def dsilu (z d : EReal) : EReal :=
  d * Ideal.logistic z + z * d * (Ideal.logistic z * (1 - Ideal.logistic z))
/-- Gradient of the layer norm's output. -/
def dz (cv g b ds : Fin 1024 → EReal) (j : Fin 1024) : EReal := dsilu (lnz cv g b j) (ds j)
/-- Gradient of the row without its mean. -/
def dcent (cv g b ds : Fin 1024 → EReal) (j : Fin 1024) : EReal :=
  back (cent cv) (fun k => dz cv g b ds k * g k) j
/-- Gradient of the row under a layer norm. -/
def dcv (cv g b ds : Fin 1024 → EReal) (j : Fin 1024) : EReal :=
  dcent cv g b ds j + Ideal.div (∑ k, -dcent cv g b ds k) len

/-- The gradient of the squared rectifier, selected by the sign or not. -/
theorem dact_select (p a : EReal) : (if 0 < a then p * (two * max a 0) else 0) = dact p a := by
  unfold dact
  split_ifs with h
  · rw [mul_assoc]
  · rw [max_eq_right (not_lt.mp h), mul_zero]

/-- A sum of four tiles of 1024. -/
theorem sum4 (f : Fin 4096 → EReal) :
    (∑ k : Fin 1024, f ⟨k.val, by omega⟩) + (∑ k : Fin 1024, f ⟨1024 + k.val, by omega⟩)
      + (∑ k : Fin 1024, f ⟨2048 + k.val, by omega⟩) + (∑ k : Fin 1024, f ⟨3072 + k.val, by omega⟩)
      = ∑ k, f k := by
  rw [Fin.sum_univ_tiles 4 1024 rfl f, Fin.sum_univ_four]
  congr 1

end Cert.Rows
-- ==== Proof.Mlp.lean ====
module

public import proofs.«01_k».proof.Proof.Rows

@[expose] public section

noncomputable section

/-! The forward pass of the squared rectifier's layer on one row. -/

namespace Cert.Rows

open Idealize.ShloMosaic

/-- The square of the positive part. -/
def relu2 (x : EReal) : EReal := max x 0 * max x 0
/-- The first product of the layer, on the modulated row. -/
def act (h g sh sc : Fin 1024 → EReal) (w : Fin 1024 → Fin 4096 → EReal) (k : Fin 4096) : EReal :=
  ∑ d : Fin 1024, modn h g sh sc d * w d k
/-- The second product of the layer. -/
def mlpY (a : Fin 4096 → EReal) (w : Fin 4096 → Fin 1024 → EReal) (j : Fin 1024) : EReal :=
  ∑ k : Fin 4096, relu2 (a k) * w k j
/-- The row plus its gated product. -/
def resid (h gt y : Fin 1024 → EReal) (j : Fin 1024) : EReal := h j + gt j * y j

/-- Every column lies in one of four tiles. -/
theorem tiles4 (P : Fin 4096 → Prop) (h0 : ∀ k : Fin 1024, P ⟨k.val, by omega⟩) (h1 : ∀ k : Fin 1024, P ⟨1024 + k.val, by omega⟩)
    (h2 : ∀ k : Fin 1024, P ⟨2048 + k.val, by omega⟩) (h3 : ∀ k : Fin 1024, P ⟨3072 + k.val, by omega⟩) (k : Fin 4096) : P k := by
  rcases lt_or_ge k.val 1024 with h | h
  · exact h0 ⟨k.val, h⟩
  rcases lt_or_ge k.val 2048 with h' | h'
  · have := h1 ⟨k.val - 1024, by omega⟩
    rwa [show (⟨1024 + (k.val - 1024), by omega⟩ : Fin 4096) = k from Fin.ext (by simp only []; omega)] at this
  rcases lt_or_ge k.val 3072 with h'' | h''
  · have := h2 ⟨k.val - 2048, by omega⟩
    rwa [show (⟨2048 + (k.val - 2048), by omega⟩ : Fin 4096) = k from Fin.ext (by simp only []; omega)] at this
  · have := h3 ⟨k.val - 3072, by omega⟩
    rwa [show (⟨3072 + (k.val - 3072), by omega⟩ : Fin 4096) = k from Fin.ext (by simp only []; omega)] at this

/-- The gradient of the first product, from the gradient of the second. -/
def dhid (dy : Fin 1024 → EReal) (a : Fin 4096 → EReal) (w : Fin 4096 → Fin 1024 → EReal) (k : Fin 4096) : EReal :=
  dact (∑ n : Fin 1024, dy n * w k n) (a k)
/-- The gradient of the first product's row. -/
def dinp (da : Fin 4096 → EReal) (w : Fin 1024 → Fin 4096 → EReal) (j : Fin 1024) : EReal := ∑ k : Fin 4096, da k * w j k

/-- Eight rows, one by one. -/
theorem eight (P : Fin 8 → Prop) (h0 : P 0) (h1 : P 1) (h2 : P 2) (h3 : P 3) (h4 : P 4) (h5 : P 5) (h6 : P 6) (h7 : P 7) :
    ∀ i, P i
  | ⟨0, _⟩ => h0
  | ⟨1, _⟩ => h1
  | ⟨2, _⟩ => h2
  | ⟨3, _⟩ => h3
  | ⟨4, _⟩ => h4
  | ⟨5, _⟩ => h5
  | ⟨6, _⟩ => h6
  | ⟨7, _⟩ => h7

/-- The gradients of the norm's weight, shift, scale and of the gate that come from one row, over four zeros. -/
def dprm (dh h g sc y du : Fin 1024 → EReal) (i : Fin 8) (j : Fin 1024) : EReal :=
  if i = 0 then nrm h j * dscl sc du j else if i = 1 then du j else if i = 2 then scl h g j * du j else if i = 3 then dh j * y j else 0

end Cert.Rows
-- ==== Proof.KFwd.lean ====
module

public import proofs.«01_k».proof.Proof.Gen.Kernel12Ideal.Skeleton
public import proofs.«01_k».proof.Proof.Mlp

@[expose] public section

set_option maxRecDepth 16384

noncomputable section

/-! What the body of the forward pass of the first MLP computes, entry by entry, in terms of `Cert.Rows`. -/

namespace Cert.Kernel12Ideal.Gen

open Idealize.ShloMosaic Idealize.ShloMosaic.TcCoe Idealize.ShloMosaic.Tactic

variable (r : Fin 256) (j : Fin 1024)

theorem pay5_at (x g sh sc) : k0_pay5 (F := Ideal) x g sh sc (ix2 r j)
    = Rows.modn (fun k => x (ix2 r k)) (fun k => g (ix2 0 k)) (fun k => sh (ix2 0 k)) (fun k => sc (ix2 0 k)) j := by
  pointwise [k0_pay5]; rfl

theorem pay1_at (u w) : k0_pay1 (F := Ideal) u w (ix2 r j) = ∑ d : Fin 1024, u (ix2 r d) * w (ix3 0 d j) := by
  pointwise [k0_pay1]

theorem pay7_at (x g sh sc w) : k0_pay7 (F := Ideal) x g sh sc w (ix2 r j)
    = ∑ d : Fin 1024, k0_pay5 (F := Ideal) x g sh sc (ix2 r d) * w (ix3 0 d j) := by
  pointwise [k0_pay7]

theorem pay10_at (u w) : k0_pay10 (F := Ideal) u w (ix2 r j) = ∑ d : Fin 1024, u (ix2 r d) * w (ix3 0 d j) := by
  pointwise [k0_pay10]

theorem pay12_at (u w) : k0_pay12 (F := Ideal) u w (ix2 r j) = ∑ d : Fin 1024, u (ix2 r d) * w (ix3 0 d j) := by
  pointwise [k0_pay12]

theorem pay2_at (u w) : k0_pay2 (F := Ideal) u w (ix2 r j) = ∑ d : Fin 1024, u (ix2 r d) * w (ix3 0 d j) := by
  pointwise [k0_pay2]; rw [pay1_at]

theorem pay8_at (x g sh sc w) : k0_pay8 (F := Ideal) x g sh sc w (ix2 r j)
    = ∑ d : Fin 1024, k0_pay5 (F := Ideal) x g sh sc (ix2 r d) * w (ix3 0 d j) := by
  pointwise [k0_pay8]; rw [pay7_at]

theorem pay11_at (u w) : k0_pay11 (F := Ideal) u w (ix2 r j) = ∑ d : Fin 1024, u (ix2 r d) * w (ix3 0 d j) := by
  pointwise [k0_pay11]; rw [pay10_at]

theorem pay13_at (u w) : k0_pay13 (F := Ideal) u w (ix2 r j) = ∑ d : Fin 1024, u (ix2 r d) * w (ix3 0 d j) := by
  pointwise [k0_pay13]; rw [pay12_at]

theorem pay9_at (x g sh sc w) : k0_pay9 (F := Ideal) x g sh sc w (ix2 r j)
    = Rows.relu2 (k0_pay7 (F := Ideal) x g sh sc w (ix2 r j)) := by
  pointwise [k0_pay9]; rfl

theorem pay14_at (u q v0 w1 v1 w2 v2) : k0_pay14 (F := Ideal) u k0_pay6 q v0 w1 v1 w2 v2 (ix2 r j)
    = (∑ k : Fin 1024, q (ix2 r k) * v0 (ix3 0 k j))
      + (∑ k : Fin 1024, Rows.relu2 (k0_pay10 (F := Ideal) u w1 (ix2 r k)) * v1 (ix3 0 k j))
      + (∑ k : Fin 1024, Rows.relu2 (k0_pay12 (F := Ideal) u w2 (ix2 r k)) * v2 (ix3 0 k j)) := by
  pointwise [k0_pay14, k0_pay6]; rfl

theorem pay3_at (u p w v) : k0_pay3 (F := Ideal) u p w v (ix2 r j)
    = p (ix2 r j) + ∑ k : Fin 1024, Rows.relu2 (k0_pay1 (F := Ideal) u w (ix2 r k)) * v (ix3 0 k j) := by
  pointwise [k0_pay3]; rfl

theorem pay4_at (h u p w v g) : k0_pay4 (F := Ideal) h u p w v g (ix2 r j)
    = h (ix2 r j) + g (ix2 0 j) * k0_pay3 (F := Ideal) u p w v (ix2 r j) := by
  pointwise [k0_pay4]

/-- The sum over the four leaves of the weights is the second product. -/
theorem y_at (x g sh sc) (w0 w1 w2 w3 v0 v1 v2 v3 : Vec Ideal S1x1024x1024 .bf16) (W : Fin 1024 → Fin 4096 → EReal)
    (U : Fin 4096 → Fin 1024 → EReal)
    (hw0 : ∀ d k : Fin 1024, w0 (ix3 0 d k) = W d ⟨k.val, by omega⟩) (hw1 : ∀ d k : Fin 1024, w1 (ix3 0 d k) = W d ⟨1024 + k.val, by omega⟩)
    (hw2 : ∀ d k : Fin 1024, w2 (ix3 0 d k) = W d ⟨2048 + k.val, by omega⟩) (hw3 : ∀ d k : Fin 1024, w3 (ix3 0 d k) = W d ⟨3072 + k.val, by omega⟩)
    (hv0 : ∀ k n : Fin 1024, v0 (ix3 0 k n) = U ⟨k.val, by omega⟩ n) (hv1 : ∀ k n : Fin 1024, v1 (ix3 0 k n) = U ⟨1024 + k.val, by omega⟩ n)
    (hv2 : ∀ k n : Fin 1024, v2 (ix3 0 k n) = U ⟨2048 + k.val, by omega⟩ n) (hv3 : ∀ k n : Fin 1024, v3 (ix3 0 k n) = U ⟨3072 + k.val, by omega⟩ n) :
    k0_pay3 (F := Ideal) (k0_pay5 x g sh sc) (k0_pay14 (k0_pay5 x g sh sc) k0_pay6 (k0_pay9 x g sh sc w0) v0 w1 v1 w2 v2) w3 v3 (ix2 r j)
      = Rows.mlpY (Rows.act (fun k => x (ix2 r k)) (fun k => g (ix2 0 k)) (fun k => sh (ix2 0 k)) (fun k => sc (ix2 0 k)) W) U j := by
  rw [pay3_at, pay14_at]
  simp only [pay9_at, pay7_at, pay10_at, pay12_at, pay1_at, pay5_at, hw0, hw1, hw2, hw3, hv0, hv1, hv2, hv3]
  exact Rows.sum4 fun k => Rows.relu2 (Rows.act _ _ _ _ W k) * U k j

end Cert.Kernel12Ideal.Gen
-- ==== Proof.RFwd.lean ====
module

public import proofs.«01_k».proof.Proof.Gen.Reference12Ideal.Read
public import proofs.«01_k».proof.Proof.Mlp

@[expose] public section

set_option maxRecDepth 16384

noncomputable section

/-! The reference's forward pass of the first MLP, entry by entry. -/

namespace Cert.Reference12Ideal.Read

open Idealize.ShloMosaic Idealize.ShloMosaic.TcCoe Idealize.ShloMosaic.Tactic

variable (x0 : (⟨S8192x1024, .f32⟩ : BufTy).Contents (Elt Ideal)) (x1 x2 x3 x4 : (⟨S1024, .f32⟩ : BufTy).Contents (Elt Ideal))
  (x5 : (⟨S2x1024x4096, .f32⟩ : BufTy).Contents (Elt Ideal)) (x6 : (⟨S2x4096x1024, .f32⟩ : BufTy).Contents (Elt Ideal))
  (r : Fin 8192) (j : Fin 1024) (k : Fin 4096)

theorem v7_at : val_main_v7 (F := Ideal) x0 (ix2 r 0) = Rows.rs fun k => x0 (ix2 r k) := by
  pointwise [val_main_v0, val_main_v1, val_main_cst, val_main_v2, val_main_v3, val_main_cst_0, val_main_v4, val_main_cst_1,
    val_main_v5, val_main_v6, val_main_v7]; rfl

theorem v20_at : val_main_v20 (F := Ideal) x0 x1 x2 x3 (ix2 r j)
    = Rows.modn (fun k => x0 (ix2 r k)) (fun k => x1 (ix1 k)) (fun k => x2 (ix1 k)) (fun k => x3 (ix1 k)) j := by
  pointwise [val_main_v8, val_main_v9, val_main_v10, val_main_v11, val_main_v12, val_main_cst_2, val_main_v13, val_main_v14,
    val_main_v15, val_main_v16, val_main_v17, val_main_v18, val_main_v19, val_main_v20]
  rw [v7_at]; rfl

theorem v22_at : val_main_v22 (F := Ideal) x5 (ix2 j k) = x5 (ix3 0 j k) := by
  pointwise [val_main_v21, val_main_v22]

theorem v27_at : val_main_v27 (F := Ideal) x6 (ix2 k j) = x6 (ix3 0 k j) := by
  pointwise [val_main_v26, val_main_v27]

/-- The row of the first product. -/
def actRow (k : Fin 4096) : EReal :=
  Rows.act (fun k => x0 (ix2 r k)) (fun k => x1 (ix1 k)) (fun k => x2 (ix1 k)) (fun k => x3 (ix1 k)) (fun d k => x5 (ix3 0 d k)) k

/-- The row of the second product. -/
def yRow (j : Fin 1024) : EReal := Rows.mlpY (actRow x0 x1 x2 x3 x5 r) (fun k j => x6 (ix3 0 k j)) j

theorem v23_at : val_main_v23 (F := Ideal) x0 x1 x2 x3 x5 (ix2 r k) = actRow x0 x1 x2 x3 x5 r k := by
  pointwise [val_main_v23]; simp only [v20_at, v22_at]; rfl

theorem v33_at : val_main_v33 (F := Ideal) x0 x1 x2 x3 x5 (ix2 r k) = actRow x0 x1 x2 x3 x5 r k := by
  pointwise [val_main_v33]; rw [v23_at]

theorem v28_at : val_main_v28 (F := Ideal) x0 x1 x2 x3 x5 x6 (ix2 r j) = yRow x0 x1 x2 x3 x5 x6 r j := by
  pointwise [val_main_v28, val_main_v25, val_main_v24, val_main_call0_v0, val_main_call0_cst]; simp only [v23_at, v27_at]; rfl

theorem v32_at : val_main_v32 (F := Ideal) x0 x1 x2 x3 x4 x5 x6 (ix2 r j)
    = Rows.resid (fun k => x0 (ix2 r k)) (fun k => x4 (ix1 k)) (yRow x0 x1 x2 x3 x5 x6 r) j := by
  pointwise [val_main_v32, val_main_v31, val_main_v30, val_main_v29]; rw [v28_at]; rfl

end Cert.Reference12Ideal.Read
-- ==== Proof.Stores.lean ====
module

public import Idealize.ShloMosaic.Lib.Pipeline.ValueKit
public import Idealize.ShloMosaic.Lib.WritesUnit

@[expose] public section

noncomputable section

/-! Reading a two-dimensional block after a list of stores of rectangles. -/

namespace Cert.Stores

open Idealize.ShloMosaic

variable {Val : EltTy → Type} [∀ e, Nonempty (Val e)] {e : EltTy} {p q a b p' q' : ℕ}

theorem not_mem_rows (h : ∀ x, (![a, b] : Fin 2 → ℕ) x + (![p', q'] : Fin 2 → ℕ) x ≤ (⟨2, ![p, q]⟩ : Shape).size x)
    (i : Fin p) (j : Fin q) (hi : i.val < a ∨ a + p' ≤ i.val) :
    (ix2 i j : (⟨2, ![p, q]⟩ : Shape).Idx) ∉ (Rect.unit (s := ⟨2, ![p, q]⟩) ![a, b] ![p', q'] h).set := by
  rw [Rect.mem_set_unit]
  intro hm
  have h0 : a ≤ i.val ∧ i.val < a + p' := hm 0
  omega

theorem not_mem_cols (h : ∀ x, (![a, b] : Fin 2 → ℕ) x + (![p', q'] : Fin 2 → ℕ) x ≤ (⟨2, ![p, q]⟩ : Shape).size x)
    (i : Fin p) (j : Fin q) (hj : j.val < b ∨ b + q' ≤ j.val) :
    (ix2 i j : (⟨2, ![p, q]⟩ : Shape).Idx) ∉ (Rect.unit (s := ⟨2, ![p, q]⟩) ![a, b] ![p', q'] h).set := by
  rw [Rect.mem_set_unit]
  intro hm
  have h1 : b ≤ j.val ∧ j.val < b + q' := hm 1
  omega

theorem emb_eq (h : ∀ x, (![a, b] : Fin 2 → ℕ) x + (![p', q'] : Fin 2 → ℕ) x ≤ (⟨2, ![p, q]⟩ : Shape).size x)
    (i : Fin p) (j : Fin q) (k : Fin p') (l : Fin q') (hi : i.val = a + k.val) (hj : j.val = b + l.val) :
    (Rect.unit (s := ⟨2, ![p, q]⟩) ![a, b] ![p', q'] h).emb (ix2 k l) = (ix2 i j : (⟨2, ![p, q]⟩ : Shape).Idx) := by
  funext x
  match x with
  | 0 => exact Fin.ext (by show a + 1 * k.val = i.val; omega)
  | 1 => exact Fin.ext (by show b + 1 * l.val = j.val; omega)

/-- The entry lies in the last store. -/
theorem canon_hit (h) (w : (⟨2, ![p', q']⟩ : Shape).Idx → Val e) (L : List (View.Piece Val ⟨2, ![p, q]⟩ e))
    (i : Fin p) (j : Fin q) (k : Fin p') (l : Fin q') (hi : i.val = a + k.val) (hj : j.val = b + l.val) :
    View.canon ((⟨Rect.unit (s := ⟨2, ![p, q]⟩) ![a, b] ![p', q'] h, w⟩ : View.Piece Val ⟨2, ![p, q]⟩ e) :: L) (ix2 i j) = w (ix2 k l) := by
  rw [← emb_eq h i j k l hi hj]
  exact View.canon_cons_emb (Rect.unit (s := ⟨2, ![p, q]⟩) ![a, b] ![p', q'] h) w L (ix2 k l)

/-- The entry's row lies off the last store. -/
theorem canon_miss (h) (w : (⟨2, ![p', q']⟩ : Shape).Idx → Val e) (L : List (View.Piece Val ⟨2, ![p, q]⟩ e))
    (i : Fin p) (j : Fin q) (hi : i.val < a ∨ a + p' ≤ i.val) :
    View.canon ((⟨Rect.unit (s := ⟨2, ![p, q]⟩) ![a, b] ![p', q'] h, w⟩ : View.Piece Val ⟨2, ![p, q]⟩ e) :: L) (ix2 i j)
      = View.canon L (ix2 i j) :=
  View.canon_cons_of_not_mem _ L (not_mem_rows h i j hi)

/-- The entry's column lies off the last store. -/
theorem canon_skip (h) (w : (⟨2, ![p', q']⟩ : Shape).Idx → Val e) (L : List (View.Piece Val ⟨2, ![p, q]⟩ e))
    (i : Fin p) (j : Fin q) (hj : j.val < b ∨ b + q' ≤ j.val) :
    View.canon ((⟨Rect.unit (s := ⟨2, ![p, q]⟩) ![a, b] ![p', q'] h, w⟩ : View.Piece Val ⟨2, ![p, q]⟩ e) :: L) (ix2 i j)
      = View.canon L (ix2 i j) :=
  View.canon_cons_of_not_mem _ L (not_mem_cols h i j hj)

variable {sig : RefSig} {κ : Kind} {sp : Space}

/-- A load of what the stores have left. -/
theorem cov_at (v : View sig κ sp ⟨2, ![p, q]⟩ e) (L : List (View.Piece Val ⟨2, ![p, q]⟩ e)) (h)
    (i : Fin p) (j : Fin q) (k : Fin p') (l : Fin q') (hi : i.val = a + k.val) (hj : j.val = b + l.val) :
    v.readCov L (Rect.unit (s := ⟨2, ![p, q]⟩) ![a, b] ![p', q'] h).toLoadRect (ix2 k l) = View.canon L (ix2 i j) := by
  rw [View.readCov_eq_canon', ← emb_eq h i j k l hi hj]
  rfl

/-- The entry lies in the last store over earlier contents. -/
theorem read_hit (v : View sig κ sp ⟨2, ![p, q]⟩ e) (f : v.ty.Contents Val) (h) (w : (⟨2, ![p', q']⟩ : Shape).Idx → Val e)
    (L : List (View.Piece Val ⟨2, ![p, q]⟩ e)) (i : Fin p) (j : Fin q) (k : Fin p') (l : Fin q')
    (hi : i.val = a + k.val) (hj : j.val = b + l.val) :
    v.read Val (v.writes Val f ((⟨Rect.unit (s := ⟨2, ![p, q]⟩) ![a, b] ![p', q'] h, w⟩ : View.Piece Val ⟨2, ![p, q]⟩ e) :: L)) (ix2 i j)
      = w (ix2 k l) := by
  rw [← emb_eq h i j k l hi hj]
  exact View.read_writes_cons_emb v f (Rect.unit (s := ⟨2, ![p, q]⟩) ![a, b] ![p', q'] h) w L (ix2 k l)

/-- The entry's row lies off the last store over earlier contents. -/
theorem read_miss (v : View sig κ sp ⟨2, ![p, q]⟩ e) (f : v.ty.Contents Val) (h) (w : (⟨2, ![p', q']⟩ : Shape).Idx → Val e)
    (L : List (View.Piece Val ⟨2, ![p, q]⟩ e)) (i : Fin p) (j : Fin q) (hi : i.val < a ∨ a + p' ≤ i.val) :
    v.read Val (v.writes Val f ((⟨Rect.unit (s := ⟨2, ![p, q]⟩) ![a, b] ![p', q'] h, w⟩ : View.Piece Val ⟨2, ![p, q]⟩ e) :: L)) (ix2 i j)
      = v.read Val (v.writes Val f L) (ix2 i j) := by
  refine View.read_writes_cons_unit_of_not_mem v f h w L (ix2 i j) rfl 0 ?_
  exact hi

/-- A load of a rectangle of a block. -/
theorem ld2 {Val : EltTy → Type} {φ : EltTy} {p q a b p' q' : ℕ} (v : (⟨2, ![p, q]⟩ : Shape).Idx → Val φ) (h) (i : Fin p') (j : Fin q')
    (hi : a + i.val < p) (hj : b + j.val < q) :
    View.ld v (Rect.unit ![a, b] ![p', q'] h) (ix2 i j) = v (ix2 ⟨a + i.val, hi⟩ ⟨b + j.val, hj⟩) := by
  unfold View.ld
  congr 1
  funext k
  match k with
  | 0 => exact Fin.ext (by simp [Rect.unit])
  | 1 => exact Fin.ext (by simp [Rect.unit])

/-- A load of one leaf of a stack. -/
theorem ld3 {Val : EltTy → Type} {φ : EltTy} {p q s a p' q' : ℕ} (v : (⟨3, ![s, p, q]⟩ : Shape).Idx → Val φ) (h) (i : Fin p') (j : Fin q')
    (ha : a < s) (hi : i.val < p) (hj : j.val < q) :
    View.ld v (Rect.unit ![a, 0, 0] ![1, p', q'] h) (ix3 0 i j) = v (ix3 ⟨a, ha⟩ ⟨i.val, hi⟩ ⟨j.val, hj⟩) := by
  unfold View.ld
  congr 1
  funext k
  match k with
  | 0 => exact Fin.ext (by simp [Rect.unit])
  | 1 => exact Fin.ext (by simp [Rect.unit])
  | 2 => exact Fin.ext (by simp [Rect.unit])

end Cert.Stores
-- ==== Proof.Fwd.lean ====
module

public import proofs.«01_k».proof.Proof.Gen.Kernel12Ideal.Value
public import proofs.«01_k».proof.Proof.Pack
public import proofs.«01_k».proof.Proof.KFwd
public import proofs.«01_k».proof.Proof.RFwd
public import proofs.«01_k».proof.Proof.Stores

@[expose] public section

set_option maxRecDepth 16384

noncomputable section

/-! The forward pass of the first MLP: the kernel's results are the reference's. -/

namespace Cert.Kernel12Ideal.Value

open Idealize.ShloMosaic Idealize.ShloMosaic.TcCoe Idealize.ShloMosaic.Tactic
open Cert.Kernel12Ideal Cert.Kernel12Ideal.Gen Idealize.SL.Sem
open Cert.Stores Cert.Reference12Ideal.Read

theorem idx_all : ∀ t : Fin cfg0.N, win0_0.index t = ![t.val, 0] ∧ win0_1.index t = ![0, 0] ∧ win0_2.index t = ![0, 0, 0]
    ∧ win0_3.index t = ![0, 2, 0] ∧ win0_4.index t = ![t.val, 0] ∧ win0_5.index t = ![t.val, 0] ∧ win0_6.index t = ![t.val, 0]
    ∧ t.val < 32 :=
  (by decide +kernel : ∀ t : Fin grid0.N, _)

variable (m : (ℓ : Loc nD τ sig) → Buf (Elt Ideal) ℓ) (c : Dev nD) (t : Fin cfg0.N)

/-- Row `r` of tile `t`. -/
def row (t : Fin cfg0.N) (r : Fin 256) : Fin 8192 := ⟨256 * t.val + r.val, by have := (idx_all t).2.2.2.2.2.2.2; omega⟩

theorem blk0 (r : Fin 256) (j : Fin 1024) : iblk m c 0 t (ix2 r j) = arg m c main_arg0 (ix2 (row t r) j) := by
  blk_ext [iblk, V, idx_all t, row]

theorem blk1 (i : Fin 8) (j : Fin 1024) : iblk m c 1 t (ix2 i j) = V m c main_v6 (ix2 i j) := by
  blk_ext [iblk, idx_all t]

theorem blk2 (s : Fin 4) (i j : Fin 1024) : X0_2 m c t (ix3 s i j) = V m c main_v23 (ix3 s ⟨i.val, by omega⟩ j) := by
  unfold X0_2 Pipeline.Window.fill
  rw [dif_pos (moved0_2 t _)]
  blk_ext [iblk, idx_all t]

theorem blk3 (s : Fin 4) (i j : Fin 1024) : X0_3 m c t (ix3 s i j) = V m c main_v23 (ix3 s ⟨2048 + i.val, by omega⟩ j) := by
  unfold X0_3 Pipeline.Window.fill
  rw [dif_pos (moved0_3 t _)]
  blk_ext [iblk, idx_all t]

theorem prm0 (h) (k : Fin 1024) : View.ld (iblk m c 1 t) (Rect.unit ![0, 0] ![1, 1024] h) (ix2 0 k) = arg m c main_arg1 (ix1 k) := by
  rw [ld2 _ _ _ _ (by omega) (by omega)]
  refine (blk1 m c t _ _).trans ?_
  rw [V6_eq]
  exact (congrArg _ (by blk_ext)).trans (stacked_at0 _ _ _ _ k)

theorem prm1 (h) (k : Fin 1024) : View.ld (iblk m c 1 t) (Rect.unit ![1, 0] ![1, 1024] h) (ix2 0 k) = arg m c main_arg2 (ix1 k) := by
  rw [ld2 _ _ _ _ (by omega) (by omega)]
  refine (blk1 m c t _ _).trans ?_
  rw [V6_eq]
  exact (congrArg _ (by blk_ext)).trans (stacked_at1 _ _ _ _ k)

theorem prm2 (h) (k : Fin 1024) : View.ld (iblk m c 1 t) (Rect.unit ![2, 0] ![1, 1024] h) (ix2 0 k) = arg m c main_arg3 (ix1 k) := by
  rw [ld2 _ _ _ _ (by omega) (by omega)]
  refine (blk1 m c t _ _).trans ?_
  rw [V6_eq]
  exact (congrArg _ (by blk_ext)).trans (stacked_at2 _ _ _ _ k)

theorem prm3 (h) (k : Fin 1024) : View.ld (iblk m c 1 t) (Rect.unit ![3, 0] ![1, 1024] h) (ix2 0 k) = arg m c main_arg4 (ix1 k) := by
  rw [ld2 _ _ _ _ (by omega) (by omega)]
  refine (blk1 m c t _ _).trans ?_
  rw [V6_eq]
  exact (congrArg _ (by blk_ext)).trans (stacked_at3 _ _ _ _ k)

/-- Leaf `a` of the first weights. -/
theorem w1_at (a : ℕ) (ha : a < 4) (h) (d k : Fin 1024) : View.ld (X0_2 m c t) (Rect.unit ![a, 0, 0] ![1, 1024, 1024] h) (ix3 0 d k)
    = arg m c main_arg5 (ix3 0 d ⟨1024 * a + k.val, by omega⟩) := by
  rw [ld3 _ _ _ _ ha (by omega) (by omega)]
  refine (blk2 m c t _ _ _).trans ?_
  rw [V23_eq]
  exact packed_w1 _ _ _ _ _ ⟨a, ha⟩ d k

/-- Leaf `a` of the second weights. -/
theorem w2_at (a : ℕ) (ha : a < 4) (h) (k n : Fin 1024) : View.ld (X0_3 m c t) (Rect.unit ![a, 0, 0] ![1, 1024, 1024] h) (ix3 0 k n)
    = arg m c main_arg6 (ix3 0 ⟨1024 * a + k.val, by omega⟩ n) := by
  rw [ld3 _ _ _ _ ha (by omega) (by omega)]
  refine (blk3 m c t _ _ _).trans ?_
  rw [V23_eq]
  exact packed_w2 _ _ _ _ _ ⟨a, ha⟩ k n

/-- The modulated row of the point. -/
theorem u_at (h0 h1 h2) (r : Fin 256) (j : Fin 1024) :
    k0_pay5 (F := Ideal) (iblk m c 0 t) (View.ld (iblk m c 1 t) (Rect.unit ![0, 0] ![1, 1024] h0))
      (View.ld (iblk m c 1 t) (Rect.unit ![1, 0] ![1, 1024] h1)) (View.ld (iblk m c 1 t) (Rect.unit ![2, 0] ![1, 1024] h2)) (ix2 r j)
    = Rows.modn (fun k => arg m c main_arg0 (ix2 (row t r) k)) (fun k => arg m c main_arg1 (ix1 k)) (fun k => arg m c main_arg2 (ix1 k))
        (fun k => arg m c main_arg3 (ix1 k)) j := by
  rw [pay5_at]
  simp only [blk0, prm0, prm1, prm2]

/-- The point's product with leaf `a` of the first weights. -/
theorem a_at (a : ℕ) (ha : a < 4) (h0 h1 h2 h) (r : Fin 256) (k : Fin 1024) (k' : Fin 4096) (hk : k'.val = 1024 * a + k.val) :
    ∑ d : Fin 1024, k0_pay5 (F := Ideal) (iblk m c 0 t) (View.ld (iblk m c 1 t) (Rect.unit ![0, 0] ![1, 1024] h0))
      (View.ld (iblk m c 1 t) (Rect.unit ![1, 0] ![1, 1024] h1)) (View.ld (iblk m c 1 t) (Rect.unit ![2, 0] ![1, 1024] h2)) (ix2 r d)
        * View.ld (X0_2 m c t) (Rect.unit ![a, 0, 0] ![1, 1024, 1024] h) (ix3 0 d k)
    = val_main_v33 (F := Ideal) (arg m c main_arg0) (arg m c main_arg1) (arg m c main_arg2) (arg m c main_arg3) (arg m c main_arg5) (ix2 (row t r) k') := by
  have e : k' = ⟨1024 * a + k.val, by omega⟩ := Fin.ext hk
  rw [v33_at, e]
  exact Finset.sum_congr rfl fun d _ => congrArg₂ (fun x y : EReal => x * y) (u_at m c t h0 h1 h2 r d) (w1_at m c t a ha h d k)

theorem out5 (r : Fin 256) (k : Fin 4096) : (outsAt0 m c t).2.1 (ix2 r k)
    = val_main_v33 (F := Ideal) (arg m c main_arg0) (arg m c main_arg1) (arg m c main_arg2) (arg m c main_arg3) (arg m c main_arg5) (ix2 (row t r) k) := by
  unfold outsAt0; dsimp only; frame_out
  induction k using Rows.tiles4 with
  | h0 k =>
    rw [canon_skip _ _ _ r _ (.inl (by simp only [] <;> omega)), canon_skip _ _ _ r _ (.inl (by simp only [] <;> omega)),
      canon_skip _ _ _ r _ (.inl (by simp only [] <;> omega)), canon_hit _ _ _ r _ r k (by omega) (by simp only [] <;> omega), pay8_at]
    exact a_at m c t 0 (by omega) _ _ _ _ r k _ (by simp only [] <;> omega)
  | h1 k =>
    rw [canon_skip _ _ _ r _ (.inl (by simp only [] <;> omega)), canon_skip _ _ _ r _ (.inl (by simp only [] <;> omega)),
      canon_hit _ _ _ r _ r k (by omega) (by simp only [] <;> omega), pay11_at]
    exact a_at m c t 1 (by omega) _ _ _ _ r k _ (by simp only [] <;> omega)
  | h2 k =>
    rw [canon_skip _ _ _ r _ (.inl (by simp only [] <;> omega)), canon_hit _ _ _ r _ r k (by omega) (by simp only [] <;> omega), pay13_at]
    exact a_at m c t 2 (by omega) _ _ _ _ r k _ (by simp only [] <;> omega)
  | h3 k =>
    rw [canon_hit _ _ _ r _ r k (by omega) (by simp only [] <;> omega), pay2_at]
    exact a_at m c t 3 (by omega) _ _ _ _ r k _ (by simp only [] <;> omega)

theorem out6 (r : Fin 256) (j : Fin 1024) : (outsAt0 m c t).2.2 (ix2 r j)
    = val_main_v28 (F := Ideal) (arg m c main_arg0) (arg m c main_arg1) (arg m c main_arg2) (arg m c main_arg3) (arg m c main_arg5) (arg m c main_arg6) (ix2 (row t r) j) := by
  unfold outsAt0; dsimp only; frame_out
  refine (y_at r j _ _ _ _ _ _ _ _ _ _ _ _ (fun d k => arg m c main_arg5 (ix3 0 d k)) (fun k n => arg m c main_arg6 (ix3 0 k n))
    (fun d k => (w1_at m c t 0 (by omega) _ d k).trans (congrArg _ (by blk_ext))) (fun d k => w1_at m c t 1 (by omega) _ d k)
    (fun d k => w1_at m c t 2 (by omega) _ d k) (fun d k => w1_at m c t 3 (by omega) _ d k)
    (fun d k => (w2_at m c t 0 (by omega) _ d k).trans (congrArg _ (by blk_ext))) (fun d k => w2_at m c t 1 (by omega) _ d k)
    (fun d k => w2_at m c t 2 (by omega) _ d k) (fun d k => w2_at m c t 3 (by omega) _ d k)).trans ?_
  rw [v28_at]
  simp only [blk0, prm0, prm1, prm2]
  rfl

theorem out4 (r : Fin 256) (j : Fin 1024) : (outsAt0 m c t).1 (ix2 r j)
    = val_main_v32 (F := Ideal) (arg m c main_arg0) (arg m c main_arg1) (arg m c main_arg2) (arg m c main_arg3) (arg m c main_arg4) (arg m c main_arg5) (arg m c main_arg6) (ix2 (row t r) j) := by
  have h6 := out6 m c t r j
  revert h6
  unfold outsAt0; dsimp only; frame_out
  intro h6
  rw [v28_at] at h6
  rw [pay4_at, v32_at, prm3]
  exact congrArg₂ (fun x y : EReal => x + y) (blk0 m c t r j) (congrArg _ h6)

theorem final4 : (dats m 0 c).arrAt 4 cfg0.N = val_main_v32 (F := Ideal) (arg m c main_arg0) (arg m c main_arg1) (arg m c main_arg2) (arg m c main_arg3) (arg m c main_arg4) (arg m c main_arg5) (arg m c main_arg6) := by
  refine (dats m 0 c).arrAt_eq_of_covers 4 _ (by decide +kernel) fun t hf y => ?_
  blk_simp
  rw [after0_4]
  idx_vars y
  refine (out4 m c t y0 y1).trans (congrArg _ ?_)
  blk_ext [idx_all t, row]

theorem final5 : (dats m 0 c).arrAt 5 cfg0.N = val_main_v33 (F := Ideal) (arg m c main_arg0) (arg m c main_arg1) (arg m c main_arg2) (arg m c main_arg3) (arg m c main_arg5) := by
  refine (dats m 0 c).arrAt_eq_of_covers 5 _ (by decide +kernel) fun t hf y => ?_
  blk_simp
  rw [after0_5]
  idx_vars y
  refine (out5 m c t y0 y1).trans (congrArg _ ?_)
  blk_ext [idx_all t, row]

theorem final6 : (dats m 0 c).arrAt 6 cfg0.N = val_main_v28 (F := Ideal) (arg m c main_arg0) (arg m c main_arg1) (arg m c main_arg2) (arg m c main_arg3) (arg m c main_arg5) (arg m c main_arg6) := by
  refine (dats m 0 c).arrAt_eq_of_covers 6 _ (by decide +kernel) fun t hf y => ?_
  blk_simp
  rw [after0_6]
  idx_vars y
  refine (out6 m c t y0 y1).trans (congrArg _ ?_)
  blk_ext [idx_all t, row]

end Cert.Kernel12Ideal.Value
-- ==== Proof.KBwd.lean ====
module

public import proofs.«01_k».proof.Proof.Gen.Kernel11Ideal.Skeleton
public import proofs.«01_k».proof.Proof.Mlp

@[expose] public section

set_option maxRecDepth 16384

noncomputable section

/-! What the body of the backward pass of the first MLP computes, entry by entry, in terms of `Cert.Rows`. -/

namespace Cert.Kernel11Ideal.Gen

open Idealize.ShloMosaic Idealize.ShloMosaic.TcCoe Idealize.ShloMosaic.Tactic

variable (r : Fin 256) (j : Fin 1024)

theorem pay1_at (x acc) : k0_pay1 (F := Ideal) x acc (ix2 0 j) = acc (ix2 0 j) + x (ix2 0 j) := by pointwise [k0_pay1]
theorem pay2_at (x acc) : k0_pay2 (F := Ideal) x acc (ix2 0 j) = acc (ix2 0 j) + x (ix2 0 j) := by pointwise [k0_pay2]
theorem pay3_at (x acc) : k0_pay3 (F := Ideal) x acc (ix2 0 j) = acc (ix2 0 j) + x (ix2 0 j) := by pointwise [k0_pay3]
theorem pay4_at (x acc y) : k0_pay4 (F := Ideal) x acc y (ix2 0 j) = acc (ix2 0 j) + ∑ i : Fin 256, x (ix2 i j) * y (ix2 i j) := by
  pointwise [k0_pay4]

theorem pay5_at (x) : k0_pay5 (F := Ideal) x (ix2 0 j) = x (ix2 0 j) := by
  pointwise [k0_pay5]

theorem pay6_at (x) : k0_pay6 (F := Ideal) x (ix2 r 0) = Rows.msq fun k => x (ix2 r k) := by
  pointwise [k0_pay6]; rfl

theorem pay7_at (x) : k0_pay7 (F := Ideal) x (ix2 r 0) = Rows.rs fun k => x (ix2 r k) := by
  pointwise [k0_pay7]; rw [pay6_at]; rfl

theorem pay8_at (x) : k0_pay8 (F := Ideal) x (ix2 r 0) = Rows.drs fun k => x (ix2 r k) := by
  pointwise [k0_pay8]; rw [pay7_at, pay6_at]; rfl

theorem pay9_at (x) : k0_pay9 (F := Ideal) x (ix2 r j) = Rows.nrm (fun k => x (ix2 r k)) j := by
  pointwise [k0_pay9]; rw [pay7_at]; rfl

theorem pay10_at (x g) : k0_pay10 (F := Ideal) x g (ix2 r j) = Rows.scl (fun k => x (ix2 r k)) (fun k => g (ix2 0 k)) j := by
  pointwise [k0_pay10]; rw [pay9_at, pay5_at]; rfl

theorem pay11_at (x) : k0_pay11 (F := Ideal) x (ix2 0 j) = 1 + x (ix2 0 j) := by
  pointwise [k0_pay11]

theorem pay12_at (x g sh sc) : k0_pay12 (F := Ideal) x g sh sc (ix2 r j)
    = Rows.modn (fun k => x (ix2 r k)) (fun k => g (ix2 0 k)) (fun k => sh (ix2 0 k)) (fun k => sc (ix2 0 k)) j := by
  pointwise [k0_pay12]; rw [pay10_at, pay11_at]; rfl

theorem pay13_at (x g) : k0_pay13 (F := Ideal) x g (ix2 r j) = Rows.gated (fun k => g (ix2 0 k)) (fun k => x (ix2 r k)) j := by
  pointwise [k0_pay13]; rfl

theorem pay14_at (d w a) : k0_pay14 (F := Ideal) d w a (ix2 r j)
    = Rows.dact (∑ n : Fin 1024, d (ix2 r n) * w (ix3 0 j n)) (a (ix2 r j)) := by
  pointwise [k0_pay14]; rfl

theorem pay15_at (d w a) : k0_pay15 (F := Ideal) d w a (ix2 r j)
    = Rows.dact (∑ n : Fin 1024, d (ix2 r n) * w (ix3 0 j n)) (a (ix2 r j)) := by
  pointwise [k0_pay15]; rw [pay14_at]

theorem pay16_at (d w a v) : k0_pay16 (F := Ideal) d w a v (ix2 r j)
    = ∑ k : Fin 1024, Rows.dact (∑ n : Fin 1024, d (ix2 r n) * w (ix3 0 k n)) (a (ix2 r k)) * v (ix3 0 j k) := by
  pointwise [k0_pay16]; simp only [pay14_at]

theorem pay17_at (d w a) : k0_pay17 (F := Ideal) d w a (ix2 r j)
    = Rows.dact (∑ n : Fin 1024, d (ix2 r n) * w (ix3 0 j n)) (a (ix2 r j)) := by
  pointwise [k0_pay17]; rfl

theorem pay18_at (d w a) : k0_pay18 (F := Ideal) d w a (ix2 r j)
    = Rows.dact (∑ n : Fin 1024, d (ix2 r n) * w (ix3 0 j n)) (a (ix2 r j)) := by
  pointwise [k0_pay18]; rw [pay17_at]

theorem pay19_at (d w a) : k0_pay19 (F := Ideal) d w a (ix2 r j)
    = Rows.dact (∑ n : Fin 1024, d (ix2 r n) * w (ix3 0 j n)) (a (ix2 r j)) := by
  pointwise [k0_pay19]; rfl

theorem pay20_at (d w a) : k0_pay20 (F := Ideal) d w a (ix2 r j)
    = Rows.dact (∑ n : Fin 1024, d (ix2 r n) * w (ix3 0 j n)) (a (ix2 r j)) := by
  pointwise [k0_pay20]; rw [pay19_at]

theorem pay21_at (d p q v w a u) : k0_pay21 (F := Ideal) d p q v w a u (ix2 r j)
    = p (ix2 r j) + (∑ k : Fin 1024, q (ix2 r k) * v (ix3 0 j k))
      + ∑ k : Fin 1024, Rows.dact (∑ n : Fin 1024, d (ix2 r n) * w (ix3 0 k n)) (a (ix2 r k)) * u (ix3 0 j k) := by
  pointwise [k0_pay21]; simp only [pay19_at]

theorem pay24_at (d w a) : k0_pay24 (F := Ideal) (k0_pay22 d w) (k0_pay23 a) (ix2 r j)
    = Rows.dact (∑ n : Fin 1024, d (ix2 r n) * w (ix3 0 j n)) (a (ix2 r j)) := by
  pointwise [k0_pay24, k0_pay22, k0_pay23]; rfl

theorem pay25_at (d w a) : k0_pay25 (F := Ideal) (k0_pay22 d w) (k0_pay23 a) (ix2 r j)
    = Rows.dact (∑ n : Fin 1024, d (ix2 r n) * w (ix3 0 j n)) (a (ix2 r j)) := by
  pointwise [k0_pay25]; rw [pay24_at]

theorem pay26_at (p d w a v) : k0_pay26 (F := Ideal) p (k0_pay22 d w) (k0_pay23 a) v (ix2 r j)
    = p (ix2 r j) + ∑ k : Fin 1024, Rows.dact (∑ n : Fin 1024, d (ix2 r n) * w (ix3 0 k n)) (a (ix2 r k)) * v (ix3 0 j k) := by
  pointwise [k0_pay26]; simp only [pay24_at]

theorem pay27_at (p q s v) : k0_pay27 (F := Ideal) p q s v (ix2 0 j) = ∑ i : Fin 256, k0_pay26 p q s v (ix2 i j) := by
  pointwise [k0_pay27]

theorem pay28_at (x p q s v) : k0_pay28 (F := Ideal) x p q s v (ix2 0 j)
    = ∑ i : Fin 256, x (ix2 i j) * k0_pay26 p q s v (ix2 i j) := by
  pointwise [k0_pay28]

theorem pay29_at (x p q s v) : k0_pay29 (F := Ideal) (k0_pay11 x) p q s v (ix2 r j)
    = Rows.dscl (fun k => x (ix2 0 k)) (fun k => k0_pay26 p q s v (ix2 r k)) j := by
  pointwise [k0_pay29]; rw [pay11_at]; rfl

theorem pay30_at (y x p q s v) : k0_pay30 (F := Ideal) y (k0_pay11 x) p q s v (ix2 0 j)
    = ∑ i : Fin 256, y (ix2 i j) * Rows.dscl (fun k => x (ix2 0 k)) (fun k => k0_pay26 p q s v (ix2 i k)) j := by
  pointwise [k0_pay30]; simp only [pay29_at]

theorem pay31_at (dh h g x p q s v) :
    k0_pay31 (F := Ideal) dh h (k0_pay5 g) (k0_pay7 h) (k0_pay8 h) (k0_pay11 x) p q s v (ix2 r j)
    = Rows.dho (fun k => dh (ix2 r k)) (fun k => h (ix2 r k)) (fun k => g (ix2 0 k)) (fun k => x (ix2 0 k))
        (fun k => k0_pay26 p q s v (ix2 r k)) j := by
  pointwise [k0_pay31]
  simp only [pay5_at, pay7_at, pay8_at, pay29_at, Fin.sum_univ_one]
  rfl

theorem pay32_at (i : Fin 8) : k0_pay32 (F := Ideal) (ix2 i j) = 0 := by
  pointwise [k0_pay32]

/-- The sum over the four leaves of the weights is the gradient of the modulated row. -/
theorem du_at (d : Vec Ideal S256x1024 .bf16) (a0 a1 a2 a3 : Vec Ideal S256x1024 .bf16) (w0 w1 w2 w3 v0 v1 v2 v3 : Vec Ideal S1x1024x1024 .bf16)
    (a : Fin 4096 → EReal) (W : Fin 1024 → Fin 4096 → EReal) (U : Fin 4096 → Fin 1024 → EReal)
    (ha0 : ∀ k : Fin 1024, a0 (ix2 r k) = a ⟨k.val, by omega⟩) (ha1 : ∀ k : Fin 1024, a1 (ix2 r k) = a ⟨1024 + k.val, by omega⟩)
    (ha2 : ∀ k : Fin 1024, a2 (ix2 r k) = a ⟨2048 + k.val, by omega⟩) (ha3 : ∀ k : Fin 1024, a3 (ix2 r k) = a ⟨3072 + k.val, by omega⟩)
    (hw0 : ∀ d k : Fin 1024, w0 (ix3 0 d k) = W d ⟨k.val, by omega⟩) (hw1 : ∀ d k : Fin 1024, w1 (ix3 0 d k) = W d ⟨1024 + k.val, by omega⟩)
    (hw2 : ∀ d k : Fin 1024, w2 (ix3 0 d k) = W d ⟨2048 + k.val, by omega⟩) (hw3 : ∀ d k : Fin 1024, w3 (ix3 0 d k) = W d ⟨3072 + k.val, by omega⟩)
    (hv0 : ∀ k n : Fin 1024, v0 (ix3 0 k n) = U ⟨k.val, by omega⟩ n) (hv1 : ∀ k n : Fin 1024, v1 (ix3 0 k n) = U ⟨1024 + k.val, by omega⟩ n)
    (hv2 : ∀ k n : Fin 1024, v2 (ix3 0 k n) = U ⟨2048 + k.val, by omega⟩ n) (hv3 : ∀ k n : Fin 1024, v3 (ix3 0 k n) = U ⟨3072 + k.val, by omega⟩ n) :
    k0_pay26 (F := Ideal) (k0_pay21 d (k0_pay16 d v0 a0 w0) (k0_pay17 d v1 a1) w1 v2 a2 w2) (k0_pay22 d v3) (k0_pay23 a3) w3 (ix2 r j)
      = Rows.dinp (Rows.dhid (fun n => d (ix2 r n)) a U) W j := by
  rw [pay26_at, pay21_at, pay16_at]
  simp only [pay17_at, ha0, ha1, ha2, ha3, hw0, hw1, hw2, hw3, hv0, hv1, hv2, hv3]
  exact Rows.sum4 fun k => Rows.dhid (fun n => d (ix2 r n)) a U k * W j k

end Cert.Kernel11Ideal.Gen
-- ==== Proof.RBwd.lean ====
module

public import proofs.«01_k».proof.Proof.Gen.Reference11Ideal.Read
public import proofs.«01_k».proof.Proof.Gen.Reference12Ideal.Read
public import proofs.«01_k».proof.Proof.RFwd

@[expose] public section

set_option maxRecDepth 16384

noncomputable section

/-! The reference's backward pass of the first MLP, entry by entry. -/

namespace Cert.Reference11Ideal.Read

open Idealize.ShloMosaic Idealize.ShloMosaic.TcCoe Idealize.ShloMosaic.Tactic
open Cert.Reference12Ideal.Read (actRow yRow)

variable (x0 x1 : (⟨S8192x1024, .f32⟩ : BufTy).Contents (Elt Ideal)) (x2 x3 x4 x5 : (⟨S1024, .f32⟩ : BufTy).Contents (Elt Ideal))
  (x6 : (⟨S2x1024x4096, .f32⟩ : BufTy).Contents (Elt Ideal)) (x7 : (⟨S2x4096x1024, .f32⟩ : BufTy).Contents (Elt Ideal))
  (r : Fin 8192) (j : Fin 1024) (k : Fin 4096)

/-- The row's gradient behind the gate. -/
def dyRow (j : Fin 1024) : EReal := Rows.gated (fun k => x5 (ix1 k)) (fun k => x0 (ix2 r k)) j

/-- The gradient of the first product's row. -/
def daRow (k : Fin 4096) : EReal := Rows.dhid (dyRow x0 x5 r) (actRow x1 x2 x3 x4 x6 r) (fun k j => x7 (ix3 0 k j)) k

/-- The gradient of the modulated row. -/
def duRow (j : Fin 1024) : EReal := Rows.dinp (daRow x0 x1 x2 x3 x4 x5 x6 x7 r) (fun d k => x6 (ix3 0 d k)) j

/-- What the row gives to the gradients of the parameters. -/
def prmRow (i : Fin 8) (j : Fin 1024) : EReal :=
  Rows.dprm (fun k => x0 (ix2 r k)) (fun k => x1 (ix2 r k)) (fun k => x2 (ix1 k)) (fun k => x4 (ix1 k))
    (yRow x1 x2 x3 x4 x6 x7 r) (duRow x0 x1 x2 x3 x4 x5 x6 x7 r) i j

theorem v8_at : val_main_v8 (F := Ideal) x1 (ix2 r 0) = Rows.msq fun k => x1 (ix2 r k) := by
  pointwise [val_main_v2, val_main_v3, val_main_cst_1, val_main_v4, val_main_v5, val_main_cst_2, val_main_v6, val_main_v7,
    val_main_cst_3, val_main_v8]; rfl

theorem v9_at : val_main_v9 (F := Ideal) x1 (ix2 r 0) = Rows.rs fun k => x1 (ix2 r k) := by
  pointwise [val_main_v9]; rw [v8_at]; rfl

theorem v12_at : val_main_v12 (F := Ideal) x1 (ix2 r 0) = Rows.drs fun k => x1 (ix2 r k) := by
  pointwise [val_main_v10, val_main_v11, val_main_cst_4, val_main_v12]; rw [v9_at, v8_at]; rfl

theorem v14_at : val_main_v14 (F := Ideal) x1 (ix2 r j) = Rows.nrm (fun k => x1 (ix2 r k)) j := by
  pointwise [val_main_v13, val_main_v14]; rw [v9_at]; rfl

theorem v17_at : val_main_v17 (F := Ideal) x1 x2 (ix2 r j) = Rows.scl (fun k => x1 (ix2 r k)) (fun k => x2 (ix1 k)) j := by
  pointwise [val_main_v15, val_main_v16, val_main_v17]; rw [v14_at]; rfl

theorem v25_at : val_main_v25 (F := Ideal) x1 x2 x3 x4 (ix2 r j)
    = Rows.modn (fun k => x1 (ix2 r k)) (fun k => x2 (ix1 k)) (fun k => x3 (ix1 k)) (fun k => x4 (ix1 k)) j := by
  pointwise [val_main_cst_5, val_main_v18, val_main_v19, val_main_v20, val_main_v21, val_main_v22, val_main_v23, val_main_v24, val_main_v25]
  rw [v17_at]; rfl

theorem v90_at : val_main_v90 (F := Ideal) x1 x2 x3 x4 (ix2 r j)
    = Rows.modn (fun k => x1 (ix2 r k)) (fun k => x2 (ix1 k)) (fun k => x3 (ix1 k)) (fun k => x4 (ix1 k)) j := by
  pointwise [val_main_v90]; rw [v25_at]

theorem v27_at : val_main_v27 (F := Ideal) x6 (ix2 j k) = x6 (ix3 0 j k) := by
  pointwise [val_main_v26, val_main_v27]

theorem v38_at : val_main_v38 (F := Ideal) x7 (ix2 k j) = x7 (ix3 0 k j) := by
  pointwise [val_main_v37, val_main_v38]

theorem v29_at : val_main_v29 (F := Ideal) x1 x2 x3 x4 x6 (ix2 r k) = actRow x1 x2 x3 x4 x6 r k := by
  pointwise [val_main_v28, val_main_v29, val_main_v0, val_main_cst]; simp only [v25_at, v27_at]; rfl

theorem v40_at : val_main_v40 (F := Ideal) x1 x2 x3 x4 x6 x7 (ix2 r j) = yRow x1 x2 x3 x4 x6 x7 r j := by
  pointwise [val_main_v30, val_main_v34, val_main_v39, val_main_v40, val_main_v1, val_main_cst_0, val_main_call0_v0, val_main_call0_cst]
  simp only [v29_at, v38_at]; rfl

theorem v47_at : val_main_v47 (F := Ideal) x0 x5 (ix2 r j) = dyRow x0 x5 r j := by
  pointwise [val_main_v41, val_main_v45, val_main_v46, val_main_v47]; rfl

theorem v89_at : val_main_v89 (F := Ideal) x0 x5 (ix2 r j) = dyRow x0 x5 r j := by
  pointwise [val_main_v89]; rw [v47_at]

theorem v55_at : val_main_v55 (F := Ideal) x0 x1 x2 x3 x4 x5 x6 x7 (ix2 r k) = daRow x0 x1 x2 x3 x4 x5 x6 x7 r k := by
  pointwise [val_main_v52, val_main_v53, val_main_v54, val_main_cst_11, val_main_v55, val_main_v30, val_main_v31, val_main_cst_6,
    val_main_v32, val_main_v33, val_main_cst_7, val_main_v35, val_main_cst_8, val_main_v36, val_main_call0_v0, val_main_call0_cst]
  simp only [v38_at, v47_at, v29_at]
  exact Rows.dact_select _ _

theorem v88_at : val_main_v88 (F := Ideal) x0 x1 x2 x3 x4 x5 x6 x7 (ix2 r k) = daRow x0 x1 x2 x3 x4 x5 x6 x7 r k := by
  pointwise [val_main_v88]; rw [v55_at]

theorem v56_at : val_main_v56 (F := Ideal) x0 x1 x2 x3 x4 x5 x6 x7 (ix2 r j) = duRow x0 x1 x2 x3 x4 x5 x6 x7 r j := by
  pointwise [val_main_v56]; simp only [v55_at, v27_at]; rfl

theorem v64_at : val_main_v64 (F := Ideal) x0 x1 x2 x3 x4 x5 x6 x7 (ix2 r j)
    = Rows.dscl (fun k => x4 (ix1 k)) (duRow x0 x1 x2 x3 x4 x5 x6 x7 r) j := by
  pointwise [val_main_v63, val_main_v64, val_main_cst_5, val_main_v18, val_main_v19, val_main_v20]; rw [v56_at]; rfl

theorem v70_at : val_main_v70 (F := Ideal) x0 x1 x2 x3 x4 x5 x6 x7 (ix2 r j)
    = Rows.dnrm (fun k => x2 (ix1 k)) (fun k => x4 (ix1 k)) (duRow x0 x1 x2 x3 x4 x5 x6 x7 r) j := by
  pointwise [val_main_v69, val_main_v70, val_main_v15]; rw [v64_at]; rfl

theorem v86_at : val_main_v86 (F := Ideal) x0 x1 x2 x3 x4 x5 x6 x7 (ix2 r j)
    = Rows.dho (fun k => x0 (ix2 r k)) (fun k => x1 (ix2 r k)) (fun k => x2 (ix1 k)) (fun k => x4 (ix1 k)) (duRow x0 x1 x2 x3 x4 x5 x6 x7 r) j := by
  pointwise [val_main_v72, val_main_v73, val_main_cst_18, val_main_v74, val_main_v75, val_main_v76, val_main_v77, val_main_v78, val_main_v79,
    val_main_cst_19, val_main_v80, val_main_v81, val_main_cst_20, val_main_v82, val_main_v83, val_main_v84, val_main_v85, val_main_v86]
  simp only [v70_at, v9_at, v12_at, Fin.sum_univ_one, add_assoc]
  unfold Rows.dho Rows.back
  rw [add_assoc]
  rfl

theorem v99_at (i : Fin 8) : val_main_v99 (F := Ideal) x0 x1 x2 x3 x4 x5 x6 x7 (ix2 i j)
    = ∑ r : Fin 8192, prmRow x0 x1 x2 x3 x4 x5 x6 x7 r i j := by
  revert i
  refine Rows.eight _ ?_ ?_ ?_ ?_ ?_ ?_ ?_ ?_
  · pointwise [val_main_v99, val_main_v91, val_main_v71, val_main_cst_17, val_main_v68, val_main_v67, val_main_cst_16, val_main_v66]
    simp only [v14_at, v64_at, Fin.sum_univ_one]; rfl
  · pointwise [val_main_v99, val_main_v92, val_main_v59, val_main_cst_13, val_main_v58, val_main_v57, val_main_cst_12]
    simp only [v56_at, Fin.sum_univ_one]; rfl
  · pointwise [val_main_v99, val_main_v93, val_main_v65, val_main_cst_15, val_main_v62, val_main_v61, val_main_cst_14, val_main_v60]
    simp only [v17_at, v56_at, Fin.sum_univ_one]; rfl
  · pointwise [val_main_v99, val_main_v94, val_main_v51, val_main_cst_10, val_main_v50, val_main_v49, val_main_cst_9, val_main_v48, val_main_v45]
    simp only [v40_at, Fin.sum_univ_one]; rfl
  · pointwise [val_main_v99, val_main_v95, val_main_v87, val_main_cst_21]; exact Finset.sum_const_zero.symm
  · pointwise [val_main_v99, val_main_v96, val_main_v87, val_main_cst_21]; exact Finset.sum_const_zero.symm
  · pointwise [val_main_v99, val_main_v97, val_main_v87, val_main_cst_21]; exact Finset.sum_const_zero.symm
  · pointwise [val_main_v99, val_main_v98, val_main_v87, val_main_cst_21]; exact Finset.sum_const_zero.symm

end Cert.Reference11Ideal.Read
-- ==== Proof.Bwd.lean ====
module

public import proofs.«01_k».proof.Proof.Gen.Kernel11Ideal.Value
public import proofs.«01_k».proof.Proof.Pack
public import proofs.«01_k».proof.Proof.KBwd
public import proofs.«01_k».proof.Proof.RBwd
public import proofs.«01_k».proof.Proof.Stores

@[expose] public section

set_option maxRecDepth 16384

noncomputable section

/-! The backward pass of the first MLP: what one grid point leaves in its output blocks. -/

namespace Cert.Kernel11Ideal.Value

open Idealize.ShloMosaic Idealize.ShloMosaic.TcCoe Idealize.ShloMosaic.Tactic
open Cert.Kernel11Ideal Cert.Kernel11Ideal.Gen Idealize.SL.Sem
open Cert.Stores Cert.Reference11Ideal.Read
open Cert.Kernel12Ideal.Gen (stack2 stack4 stacked stacked_at0 stacked_at1 stacked_at2 stacked_at3 pack1 pack2 packed packed_w1 packed_w2)
open Cert.Reference12Ideal.Read (actRow yRow)

theorem idx_ins : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0, 0] ∧ win0_6.index t = ![0, 2, 0] ∧ t.val < 32 :=
  (by decide +kernel : ∀ t : Fin grid0.N, _)

theorem idx_outs : ∀ t : Fin cfg0.N, win0_7.index t = ![t.val, 0] ∧ win0_8.index t = ![t.val, 0] ∧ win0_9.index t = ![t.val, 0]
    ∧ win0_10.index t = ![t.val, 0] ∧ win0_11.index t = ![0, 0] :=
  (by decide +kernel : ∀ t : Fin grid0.N, _)

variable (m : (ℓ : Loc nD τ sig) → Buf (Elt Ideal) ℓ) (c : Dev nD) (t : Fin cfg0.N)

/-- Argument `b` as launched. -/
abbrev arg (b : Ref sig .tc) := m ((c : Thread nD τ).loc b)

/-! ### What the host prepares -/

theorem V35_eq : V m c main_v35 = stacked (arg m c main_arg2) (arg m c main_arg3) (arg m c main_arg4) (arg m c main_arg5) := by
  unfold V
  after_reads_simp
  change stack2 _ _ = _
  after_reads_simp
  change stack2 (stack4 _ _ _ _) _ = _
  after_reads_simp
  rfl

/-- What the host has computed when it comes to the packing. -/
abbrev U58 (b : Ref sig .tc) := StableHlo.upto (List.flatten [hostOps0, hostOps0_1, hostOps0_2]) (fun b => m (c, b)) 58 (Proc.devRef .tc b)

theorem U58_w1 : U58 m c main_v38 = pack1 (arg m c main_arg6) := by
  unfold U58
  after_reads_simp
  rfl

theorem U58_w2 : U58 m c main_v41 = pack2 (arg m c main_arg7) := by
  unfold U58
  after_reads_simp
  rfl

theorem V52_eq : V m c main_v52 = packed (pack1 (arg m c main_arg6)) (pack2 (arg m c main_arg7))
    (U58 m c main_v44) (U58 m c main_v47) (U58 m c main_v50) := by
  rw [← U58_w1, ← U58_w2]
  unfold V
  after_reads_simp
  rfl

theorem V53_eq : V m c main_v53 = Cert.Reference12Ideal.Read.val_main_v33 (F := Ideal) (arg m c main_arg1) (arg m c main_arg2) (arg m c main_arg3) (arg m c main_arg4) (arg m c main_arg6) := rfl

theorem V28_eq : V m c main_v28 = Cert.Reference12Ideal.Read.val_main_v28 (F := Ideal) (arg m c main_arg1) (arg m c main_arg2) (arg m c main_arg3) (arg m c main_arg4) (arg m c main_arg6) (arg m c main_arg7) := rfl

/-! ### The blocks -/

/-- Row `r` of tile `t`. -/
def row (t : Fin cfg0.N) (r : Fin 256) : Fin 8192 := ⟨256 * t.val + r.val, by have := (idx_ins t).2.2.2.2.2.2.2; omega⟩

theorem blk0 (r : Fin 256) (j : Fin 1024) : iblk m c 0 t (ix2 r j) = arg m c main_arg0 (ix2 (row t r) j) := by
  blk_ext [iblk, V, idx_ins t, row]

theorem blk1 (r : Fin 256) (j : Fin 1024) : iblk m c 1 t (ix2 r j) = arg m c main_arg1 (ix2 (row t r) j) := by
  blk_ext [iblk, V, idx_ins t, row]

theorem blk2 (r : Fin 256) (j : Fin 4096) : iblk m c 2 t (ix2 r j)
    = actRow (arg m c main_arg1) (arg m c main_arg2) (arg m c main_arg3) (arg m c main_arg4) (arg m c main_arg6) (row t r) j := by
  rw [← Cert.Reference12Ideal.Read.v33_at, ← V53_eq]
  blk_ext [iblk, idx_ins t, row]

theorem blk3 (r : Fin 256) (j : Fin 1024) : iblk m c 3 t (ix2 r j)
    = yRow (arg m c main_arg1) (arg m c main_arg2) (arg m c main_arg3) (arg m c main_arg4) (arg m c main_arg6) (arg m c main_arg7) (row t r) j := by
  rw [← Cert.Reference12Ideal.Read.v28_at, ← V28_eq]
  blk_ext [iblk, idx_ins t, row]

theorem blk4 (i : Fin 8) (j : Fin 1024) : iblk m c 4 t (ix2 i j) = V m c main_v35 (ix2 i j) := by
  blk_ext [iblk, idx_ins t]

theorem blk5 (s : Fin 4) (i j : Fin 1024) : X0_5 m c t (ix3 s i j) = V m c main_v52 (ix3 s ⟨i.val, by omega⟩ j) := by
  unfold X0_5 Pipeline.Window.fill
  rw [dif_pos (moved0_5 t _)]
  blk_ext [iblk, idx_ins t]

theorem blk6 (s : Fin 4) (i j : Fin 1024) : X0_6 m c t (ix3 s i j) = V m c main_v52 (ix3 s ⟨2048 + i.val, by omega⟩ j) := by
  unfold X0_6 Pipeline.Window.fill
  rw [dif_pos (moved0_6 t _)]
  blk_ext [iblk, idx_ins t]

theorem prm0 (h) (k : Fin 1024) : View.ld (iblk m c 4 t) (Rect.unit ![0, 0] ![1, 1024] h) (ix2 0 k) = arg m c main_arg2 (ix1 k) := by
  rw [ld2 _ _ _ _ (by omega) (by omega)]
  refine (blk4 m c t _ _).trans ?_
  rw [V35_eq]
  exact (congrArg _ (by blk_ext)).trans (stacked_at0 _ _ _ _ k)

theorem prm1 (h) (k : Fin 1024) : View.ld (iblk m c 4 t) (Rect.unit ![1, 0] ![1, 1024] h) (ix2 0 k) = arg m c main_arg3 (ix1 k) := by
  rw [ld2 _ _ _ _ (by omega) (by omega)]
  refine (blk4 m c t _ _).trans ?_
  rw [V35_eq]
  exact (congrArg _ (by blk_ext)).trans (stacked_at1 _ _ _ _ k)

theorem prm2 (h) (k : Fin 1024) : View.ld (iblk m c 4 t) (Rect.unit ![2, 0] ![1, 1024] h) (ix2 0 k) = arg m c main_arg4 (ix1 k) := by
  rw [ld2 _ _ _ _ (by omega) (by omega)]
  refine (blk4 m c t _ _).trans ?_
  rw [V35_eq]
  exact (congrArg _ (by blk_ext)).trans (stacked_at2 _ _ _ _ k)

theorem prm3 (h) (k : Fin 1024) : View.ld (iblk m c 4 t) (Rect.unit ![3, 0] ![1, 1024] h) (ix2 0 k) = arg m c main_arg5 (ix1 k) := by
  rw [ld2 _ _ _ _ (by omega) (by omega)]
  refine (blk4 m c t _ _).trans ?_
  rw [V35_eq]
  exact (congrArg _ (by blk_ext)).trans (stacked_at3 _ _ _ _ k)

/-- Leaf `a` of the first weights. -/
theorem w1_at (a : ℕ) (ha : a < 4) (h) (d k : Fin 1024) (k' : Fin 4096) (hk : k'.val = 1024 * a + k.val) :
    View.ld (X0_5 m c t) (Rect.unit ![a, 0, 0] ![1, 1024, 1024] h) (ix3 0 d k) = arg m c main_arg6 (ix3 0 d k') := by
  rw [ld3 _ _ _ _ ha (by omega) (by omega), show k' = ⟨1024 * a + k.val, by omega⟩ from Fin.ext hk]
  refine (blk5 m c t _ _ _).trans ?_
  rw [V52_eq]
  exact packed_w1 _ _ _ _ _ ⟨a, ha⟩ d k

/-- Leaf `a` of the second weights. -/
theorem w2_at (a : ℕ) (ha : a < 4) (h) (k n : Fin 1024) (k' : Fin 4096) (hk : k'.val = 1024 * a + k.val) :
    View.ld (X0_6 m c t) (Rect.unit ![a, 0, 0] ![1, 1024, 1024] h) (ix3 0 k n) = arg m c main_arg7 (ix3 0 k' n) := by
  rw [ld3 _ _ _ _ ha (by omega) (by omega), show k' = ⟨1024 * a + k.val, by omega⟩ from Fin.ext hk]
  refine (blk6 m c t _ _ _).trans ?_
  rw [V52_eq]
  exact packed_w2 _ _ _ _ _ ⟨a, ha⟩ k n

/-- Quarter `b` of the saved first product. -/
theorem a_at (b : ℕ) (h) (r : Fin 256) (k : Fin 1024) (k' : Fin 4096) (hk : k'.val = b + k.val) :
    View.ld (iblk m c 2 t) (Rect.unit ![0, b] ![256, 1024] h) (ix2 r k)
    = actRow (arg m c main_arg1) (arg m c main_arg2) (arg m c main_arg3) (arg m c main_arg4) (arg m c main_arg6) (row t r) k' := by
  have hb : b + k.val < 4096 := hk ▸ k'.isLt
  obtain rfl : k' = ⟨b + k.val, hb⟩ := Fin.ext hk
  rw [ld2 _ _ _ _ (by omega) (by omega), blk2]
  exact congrArg (fun r => actRow _ _ _ _ _ (row t r) _) (Fin.ext (Nat.zero_add _))

/-! ### The gradients -/

/-- The gradient behind the gate. -/
def kdy : Vec Ideal S256x1024 .bf16 := k0_pay13 (F := Ideal) (iblk m c 0 t) (View.ld (iblk m c 4 t) (Rect.unit ![3, 0] ![1, 1024] inb_S8x1024_S1x1024_3_0))
/-- The input's gradient over the first three quarters of the hidden columns. -/
def kp : Vec Ideal S256x1024 .f32 := k0_pay21 (F := Ideal) (kdy m c t)
  (k0_pay16 (kdy m c t) (View.ld (X0_6 m c t) (Rect.unit ![0, 0, 0] ![1, 1024, 1024] inb_S4x1024x1024_S1x1024x1024_0_0_0)) (View.ld (iblk m c 2 t) (Rect.unit ![0, 0] ![256, 1024] inb_S256x4096_S256x1024_0_0)) (View.ld (X0_5 m c t) (Rect.unit ![0, 0, 0] ![1, 1024, 1024] inb_S4x1024x1024_S1x1024x1024_0_0_0)))
  (k0_pay17 (kdy m c t) (View.ld (X0_6 m c t) (Rect.unit ![1, 0, 0] ![1, 1024, 1024] inb_S4x1024x1024_S1x1024x1024_1_0_0)) (View.ld (iblk m c 2 t) (Rect.unit ![0, 1024] ![256, 1024] inb_S256x4096_S256x1024_0_1024))) (View.ld (X0_5 m c t) (Rect.unit ![1, 0, 0] ![1, 1024, 1024] inb_S4x1024x1024_S1x1024x1024_1_0_0)) (View.ld (X0_6 m c t) (Rect.unit ![2, 0, 0] ![1, 1024, 1024] inb_S4x1024x1024_S1x1024x1024_2_0_0)) (View.ld (iblk m c 2 t) (Rect.unit ![0, 2048] ![256, 1024] inb_S256x4096_S256x1024_0_2048)) (View.ld (X0_5 m c t) (Rect.unit ![2, 0, 0] ![1, 1024, 1024] inb_S4x1024x1024_S1x1024x1024_2_0_0))
/-- The last quarter's product. -/
def kq : Vec Ideal S256x1024 .f32 := k0_pay22 (F := Ideal) (kdy m c t) (View.ld (X0_6 m c t) (Rect.unit ![3, 0, 0] ![1, 1024, 1024] inb_S4x1024x1024_S1x1024x1024_3_0_0))
/-- The last quarter's activations. -/
def ks : Vec Ideal S256x1024 .f32 := k0_pay23 (F := Ideal) (View.ld (iblk m c 2 t) (Rect.unit ![0, 3072] ![256, 1024] inb_S256x4096_S256x1024_0_3072))
/-- The first weights' last leaf. -/
def kw : Vec Ideal S1x1024x1024 .bf16 := View.ld (X0_5 m c t) (Rect.unit ![3, 0, 0] ![1, 1024, 1024] inb_S4x1024x1024_S1x1024x1024_3_0_0)

/-- The reference's row of `dy`. -/
abbrev rdy (i : Fin 8192) := dyRow (arg m c main_arg0) (arg m c main_arg5) i
/-- The reference's row of `da`. -/
abbrev rda (i : Fin 8192) := daRow (arg m c main_arg0) (arg m c main_arg1) (arg m c main_arg2) (arg m c main_arg3) (arg m c main_arg4) (arg m c main_arg5) (arg m c main_arg6) (arg m c main_arg7) i
/-- The reference's gradient of the modulated row. -/
abbrev rdu (i : Fin 8192) := duRow (arg m c main_arg0) (arg m c main_arg1) (arg m c main_arg2) (arg m c main_arg3) (arg m c main_arg4) (arg m c main_arg5) (arg m c main_arg6) (arg m c main_arg7) i

theorem kdy_at (r : Fin 256) (j : Fin 1024) : kdy m c t (ix2 r j) = rdy m c (row t r) j := by
  unfold kdy
  rw [pay13_at]
  simp only [prm3, blk0]
  rfl

/-- The gradient of the first product, a quarter of the columns at a time. -/
theorem kda_at (a : ℕ) (ha : a < 4) (b : ℕ) (hb : b = 1024 * a) (h h') (r : Fin 256) (k : Fin 1024) (k' : Fin 4096) (hk : k'.val = b + k.val) :
    Rows.dact (∑ n : Fin 1024, kdy m c t (ix2 r n) * View.ld (X0_6 m c t) (Rect.unit ![a, 0, 0] ![1, 1024, 1024] h) (ix3 0 k n))
      (View.ld (iblk m c 2 t) (Rect.unit ![0, b] ![256, 1024] h') (ix2 r k)) = rda m c (row t r) k' := by
  refine congrArg₂ Rows.dact (Finset.sum_congr rfl fun n _ => congrArg₂ (fun x y : EReal => x * y) (kdy_at m c t r n) ?_) (a_at m c t b h' r k k' hk)
  exact w2_at m c t a ha h k n k' (by omega)

theorem kdu_at (r : Fin 256) (j : Fin 1024) : k0_pay26 (F := Ideal) (kp m c t) (kq m c t) (ks m c t) (kw m c t) (ix2 r j) = rdu m c (row t r) j := by
  unfold kq ks kp kw
  refine (du_at r j _ _ _ _ _ _ _ _ _ _ _ _ _ (actRow (arg m c main_arg1) (arg m c main_arg2) (arg m c main_arg3) (arg m c main_arg4) (arg m c main_arg6) (row t r))
    (fun d k => arg m c main_arg6 (ix3 0 d k)) (fun k n => arg m c main_arg7 (ix3 0 k n))
    (fun k => a_at m c t _ _ r k _ (by simp only [] <;> omega)) (fun k => a_at m c t _ _ r k _ (by simp only [] <;> omega))
    (fun k => a_at m c t _ _ r k _ (by simp only [] <;> omega)) (fun k => a_at m c t _ _ r k _ (by simp only [] <;> omega))
    (fun d k => w1_at m c t _ (by omega) _ d k _ (by simp only [] <;> omega)) (fun d k => w1_at m c t _ (by omega) _ d k _ (by simp only [] <;> omega))
    (fun d k => w1_at m c t _ (by omega) _ d k _ (by simp only [] <;> omega)) (fun d k => w1_at m c t _ (by omega) _ d k _ (by simp only [] <;> omega))
    (fun k n => w2_at m c t _ (by omega) _ k n _ (by simp only [] <;> omega)) (fun k n => w2_at m c t _ (by omega) _ k n _ (by simp only [] <;> omega))
    (fun k n => w2_at m c t _ (by omega) _ k n _ (by simp only [] <;> omega)) (fun k n => w2_at m c t _ (by omega) _ k n _ (by simp only [] <;> omega))).trans ?_
  simp only [kdy_at]
  rfl

/-- The gradient of the tile's input. -/
def kdx : Vec Ideal S256x1024 .f32 := k0_pay31 (F := Ideal) (iblk m c 0 t) (iblk m c 1 t) (k0_pay5 (View.ld (iblk m c 4 t) (Rect.unit ![0, 0] ![1, 1024] inb_S8x1024_S1x1024_0_0)))
  (k0_pay7 (iblk m c 1 t)) (k0_pay8 (iblk m c 1 t)) (k0_pay11 (View.ld (iblk m c 4 t) (Rect.unit ![2, 0] ![1, 1024] inb_S8x1024_S1x1024_2_0))) (kp m c t) (kq m c t) (ks m c t) (kw m c t)

theorem kdx_at (r : Fin 256) (j : Fin 1024) : kdx m c t (ix2 r j) = val_main_v86 (F := Ideal) (arg m c main_arg0) (arg m c main_arg1) (arg m c main_arg2) (arg m c main_arg3) (arg m c main_arg4) (arg m c main_arg5) (arg m c main_arg6) (arg m c main_arg7) (ix2 (row t r) j) := by
  unfold kdx
  rw [pay31_at, v86_at]
  simp only [kdu_at, prm0, prm2, blk0, blk1]

theorem ku_at (h0 h1 h2) (r : Fin 256) (j : Fin 1024) : k0_pay12 (F := Ideal) (iblk m c 1 t) (View.ld (iblk m c 4 t) (Rect.unit ![0, 0] ![1, 1024] h0))
      (View.ld (iblk m c 4 t) (Rect.unit ![1, 0] ![1, 1024] h1)) (View.ld (iblk m c 4 t) (Rect.unit ![2, 0] ![1, 1024] h2)) (ix2 r j)
    = val_main_v90 (F := Ideal) (arg m c main_arg1) (arg m c main_arg2) (arg m c main_arg3) (arg m c main_arg4) (ix2 (row t r) j) := by
  rw [pay12_at, v90_at]
  simp only [blk1, prm0, prm1, prm2]

/-! ### The blocks that each point writes whole -/

theorem out7 (r : Fin 256) (j : Fin 1024) : (outsAt0 m c t.val t.isLt).1 (ix2 r j)
    = val_main_v86 (F := Ideal) (arg m c main_arg0) (arg m c main_arg1) (arg m c main_arg2) (arg m c main_arg3) (arg m c main_arg4) (arg m c main_arg5) (arg m c main_arg6) (arg m c main_arg7) (ix2 (row t r) j) := by
  by_cases h : t.val % 32 = 0
  · rw [outsAt0_A m c t h]; dsimp only; frame_out
    exact kdx_at m c t r j
  · rw [outsAt0_B m c t h]; dsimp only; frame_out
    exact kdx_at m c t r j

theorem out9 (r : Fin 256) (j : Fin 1024) : (outsAt0 m c t.val t.isLt).2.2.1 (ix2 r j)
    = val_main_v89 (F := Ideal) (arg m c main_arg0) (arg m c main_arg5) (ix2 (row t r) j) := by
  rw [v89_at]
  by_cases h : t.val % 32 = 0
  · rw [outsAt0_A m c t h]; dsimp only; frame_out
    exact kdy_at m c t r j
  · rw [outsAt0_B m c t h]; dsimp only; frame_out
    exact kdy_at m c t r j

theorem out10 (r : Fin 256) (j : Fin 1024) : (outsAt0 m c t.val t.isLt).2.2.2.1 (ix2 r j)
    = val_main_v90 (F := Ideal) (arg m c main_arg1) (arg m c main_arg2) (arg m c main_arg3) (arg m c main_arg4) (ix2 (row t r) j) := by
  by_cases h : t.val % 32 = 0
  · rw [outsAt0_A m c t h]; dsimp only; frame_out
    exact ku_at m c t _ _ _ r j
  · rw [outsAt0_B m c t h]; dsimp only; frame_out
    exact ku_at m c t _ _ _ r j

/-- A block written a quarter of the columns at a time. -/
theorem quarters (f : Fin 4096 → EReal) (v0 v1 v2 v3 : Vec Ideal S256x1024 .bf16) (h0 h1 h2 h3) (r : Fin 256)
    (e0 : ∀ (k : Fin 1024) (k' : Fin 4096), k'.val = 0 + k.val → v0 (ix2 r k) = f k')
    (e1 : ∀ (k : Fin 1024) (k' : Fin 4096), k'.val = 1024 + k.val → v1 (ix2 r k) = f k')
    (e2 : ∀ (k : Fin 1024) (k' : Fin 4096), k'.val = 2048 + k.val → v2 (ix2 r k) = f k')
    (e3 : ∀ (k : Fin 1024) (k' : Fin 4096), k'.val = 3072 + k.val → v3 (ix2 r k) = f k') (k : Fin 4096) :
    View.canon (Val := Elt Ideal) (s := ⟨2, ![256, 4096]⟩) (e := .bf16) [⟨Rect.unit ![0, 3072] ![256, 1024] h3, v3⟩, ⟨Rect.unit ![0, 2048] ![256, 1024] h2, v2⟩,
      ⟨Rect.unit ![0, 1024] ![256, 1024] h1, v1⟩, ⟨Rect.unit ![0, 0] ![256, 1024] h0, v0⟩] (ix2 r k) = f k := by
  induction k using Rows.tiles4 with
  | h0 k =>
    rw [canon_skip _ _ _ r _ (.inl (by simp only [] <;> omega)), canon_skip _ _ _ r _ (.inl (by simp only [] <;> omega)),
      canon_skip _ _ _ r _ (.inl (by simp only [] <;> omega)), canon_hit _ _ _ r _ r k (by omega) (by simp only [] <;> omega)]
    exact e0 k _ (by simp only [] <;> omega)
  | h1 k =>
    rw [canon_skip _ _ _ r _ (.inl (by simp only [] <;> omega)), canon_skip _ _ _ r _ (.inl (by simp only [] <;> omega)),
      canon_hit _ _ _ r _ r k (by omega) (by simp only [] <;> omega)]
    exact e1 k _ (by simp only [] <;> omega)
  | h2 k =>
    rw [canon_skip _ _ _ r _ (.inl (by simp only [] <;> omega)), canon_hit _ _ _ r _ r k (by omega) (by simp only [] <;> omega)]
    exact e2 k _ (by simp only [] <;> omega)
  | h3 k =>
    rw [canon_hit _ _ _ r _ r k (by omega) (by simp only [] <;> omega)]
    exact e3 k _ (by simp only [] <;> omega)

theorem out8 (r : Fin 256) (k : Fin 4096) : (outsAt0 m c t.val t.isLt).2.1 (ix2 r k)
    = val_main_v88 (F := Ideal) (arg m c main_arg0) (arg m c main_arg1) (arg m c main_arg2) (arg m c main_arg3) (arg m c main_arg4) (arg m c main_arg5) (arg m c main_arg6) (arg m c main_arg7) (ix2 (row t r) k) := by
  rw [v88_at]
  by_cases h : t.val % 32 = 0
  · rw [outsAt0_A m c t h]; dsimp only; frame_out
    exact quarters (rda m c (row t r)) _ _ _ _ _ _ _ _ r
      (fun k k' hk => (pay15_at r k _ _ _).trans (kda_at m c t 0 (by omega) _ rfl _ _ r k k' hk))
      (fun k k' hk => (pay18_at r k _ _ _).trans (kda_at m c t 1 (by omega) _ rfl _ _ r k k' hk))
      (fun k k' hk => (pay20_at r k _ _ _).trans (kda_at m c t 2 (by omega) _ rfl _ _ r k k' hk))
      (fun k k' hk => (pay25_at r k _ _ _).trans (kda_at m c t 3 (by omega) _ rfl _ _ r k k' hk)) k
  · rw [outsAt0_B m c t h]; dsimp only; frame_out
    exact quarters (rda m c (row t r)) _ _ _ _ _ _ _ _ r
      (fun k k' hk => (pay15_at r k _ _ _).trans (kda_at m c t 0 (by omega) _ rfl _ _ r k k' hk))
      (fun k k' hk => (pay18_at r k _ _ _).trans (kda_at m c t 1 (by omega) _ rfl _ _ r k k' hk))
      (fun k k' hk => (pay20_at r k _ _ _).trans (kda_at m c t 2 (by omega) _ rfl _ _ r k k' hk))
      (fun k k' hk => (pay25_at r k _ _ _).trans (kda_at m c t 3 (by omega) _ rfl _ _ r k k' hk)) k

/-! ### The parameters' gradients, accumulated over the grid -/

/-- One row's summands in the stack of the parameters' gradients. -/
abbrev rprm (i : Fin 8192) (s : Fin 8) (j : Fin 1024) : EReal := prmRow (arg m c main_arg0) (arg m c main_arg1) (arg m c main_arg2) (arg m c main_arg3) (arg m c main_arg4) (arg m c main_arg5) (arg m c main_arg6) (arg m c main_arg7) i s j

theorem rows_sum (f : Fin 8192 → EReal) : ∑ p : Fin cfg0.N, ∑ r : Fin 256, f (row p r) = ∑ i, f i := by
  rw [Fin.sum_univ_tiles 32 256 rfl f]
  refine Finset.sum_congr rfl fun p _ => Finset.sum_congr rfl fun r _ => congrArg f (Fin.ext (by show 256 * p.val + r.val = p.val * 256 + r.val; omega))

theorem sum0 (j : Fin 1024) : k0_pay30 (F := Ideal) (k0_pay9 (iblk m c 1 t)) (k0_pay11 (View.ld (iblk m c 4 t) (Rect.unit ![2, 0] ![1, 1024] inb_S8x1024_S1x1024_2_0)))
    (kp m c t) (kq m c t) (ks m c t) (kw m c t) (ix2 0 j) = ∑ r : Fin 256, rprm m c (row t r) 0 j := by
  rw [pay30_at]
  refine Finset.sum_congr rfl fun r _ => ?_
  simp only [pay9_at, prm2, blk1, kdu_at]
  rfl

theorem sum1 (j : Fin 1024) : k0_pay27 (F := Ideal) (kp m c t) (kq m c t) (ks m c t) (kw m c t) (ix2 0 j) = ∑ r : Fin 256, rprm m c (row t r) 1 j := by
  rw [pay27_at]
  exact Finset.sum_congr rfl fun r _ => kdu_at m c t r j

theorem sum2 (j : Fin 1024) : k0_pay28 (F := Ideal) (k0_pay10 (iblk m c 1 t) (View.ld (iblk m c 4 t) (Rect.unit ![0, 0] ![1, 1024] inb_S8x1024_S1x1024_0_0)))
    (kp m c t) (kq m c t) (ks m c t) (kw m c t) (ix2 0 j) = ∑ r : Fin 256, rprm m c (row t r) 2 j := by
  rw [pay28_at]
  refine Finset.sum_congr rfl fun r _ => ?_
  simp only [pay10_at, prm0, blk1, kdu_at]
  rfl

theorem sum3 (j : Fin 1024) : ∑ r : Fin 256, @HMul.hMul EReal EReal EReal _ (iblk m c 0 t (ix2 r j)) (iblk m c 3 t (ix2 r j)) = ∑ r : Fin 256, rprm m c (row t r) 3 j := by
  refine Finset.sum_congr rfl fun r _ => ?_
  rw [blk0, blk3]
  rfl

/-- The rows behind the fourth hold nothing. -/
theorem sum4 (s : Fin 8) (hs : 4 ≤ s.val) (j : Fin 1024) : ∑ r : Fin 256, rprm m c (row t r) s j = 0 := by
  refine Finset.sum_eq_zero fun r _ => ?_
  unfold rprm prmRow Rows.dprm
  rw [if_neg (by rintro rfl; simp at hs), if_neg (by rintro rfl; simp at hs), if_neg (by rintro rfl; simp at hs), if_neg (by rintro rfl; simp at hs)]

theorem zero11 (h : t.val % 32 = 0) (s : Fin 8) (j : Fin 1024) : (outsAt0 m c t.val t.isLt).2.2.2.2 (ix2 s j)
    = 0 + ∑ r : Fin 256, rprm m c (row t r) s j := by
  rw [outsAt0_A m c t h]; dsimp only; frame_out
  induction s using Rows.eight with
  | h0 =>
    rw [canon_miss _ _ _ 0 _ (by decide), canon_miss _ _ _ 0 _ (by decide), canon_miss _ _ _ 0 _ (by decide), canon_hit _ _ _ 0 _ 0 j (by decide) (by omega), pay1_at,
      cov_at _ _ _ 0 j 0 j (by decide) (by omega), canon_hit _ _ _ 0 _ 0 j (by decide) (by omega), pay32_at]
    exact congrArg _ (sum0 m c t j)
  | h1 =>
    rw [canon_miss _ _ _ 1 _ (by decide), canon_miss _ _ _ 1 _ (by decide), canon_hit _ _ _ 1 _ 0 j (by decide) (by omega), pay2_at,
      cov_at _ _ _ 1 j 0 j (by decide) (by omega), canon_miss _ _ _ 1 _ (by decide), canon_hit _ _ _ 1 _ 1 j (by decide) (by omega), pay32_at]
    exact congrArg _ (sum1 m c t j)
  | h2 =>
    rw [canon_miss _ _ _ 2 _ (by decide), canon_hit _ _ _ 2 _ 0 j (by decide) (by omega), pay3_at,
      cov_at _ _ _ 2 j 0 j (by decide) (by omega), canon_miss _ _ _ 2 _ (by decide), canon_miss _ _ _ 2 _ (by decide), canon_hit _ _ _ 2 _ 2 j (by decide) (by omega), pay32_at]
    exact congrArg _ (sum2 m c t j)
  | h3 =>
    rw [canon_hit _ _ _ 3 _ 0 j (by decide) (by omega), pay4_at,
      cov_at _ _ _ 3 j 0 j (by decide) (by omega), canon_miss _ _ _ 3 _ (by decide), canon_miss _ _ _ 3 _ (by decide), canon_miss _ _ _ 3 _ (by decide), canon_hit _ _ _ 3 _ 3 j (by decide) (by omega), pay32_at]
    exact congrArg _ (sum3 m c t j)
  | _ =>
    rw [sum4 _ _ _ _ (by decide), zero_add, canon_miss _ _ _ _ _ (by decide), canon_miss _ _ _ _ _ (by decide), canon_miss _ _ _ _ _ (by decide), canon_miss _ _ _ _ _ (by decide),
      canon_hit _ _ _ _ _ _ j (Nat.zero_add _).symm (by omega), pay32_at]

theorem step11 (h : ¬t.val % 32 = 0) (s : Fin 8) (j : Fin 1024) : (outsAt0 m c t.val t.isLt).2.2.2.2 (ix2 s j)
    = (outsAt0 m c (t.val - 1) (Nat.lt_of_le_of_lt (Nat.sub_le _ _) t.isLt)).2.2.2.2 (ix2 s j)
      + ∑ r : Fin 256, rprm m c (row t r) s j := by
  rw [outsAt0_B m c t h]; dsimp only; frame_out
  induction s using Rows.eight with
  | h0 =>
    rw [read_miss _ _ _ _ _ 0 _ (by decide), read_miss _ _ _ _ _ 0 _ (by decide), read_miss _ _ _ _ _ 0 _ (by decide), read_hit _ _ _ _ _ 0 _ 0 j (by decide) (by omega), pay1_at]
    exact congrArg₂ (fun x y : EReal => x + y) ((ld2 _ _ _ _ (by decide) (by omega)).trans (congrArg _ (by blk_ext))) (sum0 m c t j)
  | h1 =>
    rw [read_miss _ _ _ _ _ 1 _ (by decide), read_miss _ _ _ _ _ 1 _ (by decide), read_hit _ _ _ _ _ 1 _ 0 j (by decide) (by omega), pay2_at]
    exact congrArg₂ (fun x y : EReal => x + y) ((ld2 _ _ _ _ (by decide) (by omega)).trans (congrArg _ (by blk_ext))) (sum1 m c t j)
  | h2 =>
    rw [read_miss _ _ _ _ _ 2 _ (by decide), read_hit _ _ _ _ _ 2 _ 0 j (by decide) (by omega), pay3_at]
    exact congrArg₂ (fun x y : EReal => x + y) ((ld2 _ _ _ _ (by decide) (by omega)).trans (congrArg _ (by blk_ext))) (sum2 m c t j)
  | h3 =>
    rw [read_hit _ _ _ _ _ 3 _ 0 j (by decide) (by omega), pay4_at]
    exact congrArg₂ (fun x y : EReal => x + y) ((ld2 _ _ _ _ (by decide) (by omega)).trans (congrArg _ (by blk_ext))) (sum3 m c t j)
  | _ =>
    rw [sum4 _ _ _ _ (by decide), add_zero, read_miss _ _ _ _ _ _ _ (by decide), read_miss _ _ _ _ _ _ _ (by decide), read_miss _ _ _ _ _ _ _ (by decide), read_miss _ _ _ _ _ _ _ (by decide), View.writes_nil]
    exact congrFun (Memref.IsWhole.read_unread _ _) _

theorem out11 (h : t.val % 32 = 31) (s : Fin 8) (j : Fin 1024) : (outsAt0 m c t.val t.isLt).2.2.2.2 (ix2 s j)
    = val_main_v99 (F := Ideal) (arg m c main_arg0) (arg m c main_arg1) (arg m c main_arg2) (arg m c main_arg3) (arg m c main_arg4) (arg m c main_arg5) (arg m c main_arg6) (arg m c main_arg7) (ix2 s j) := by
  rw [v99_at, Pipeline.eq_sum_fin_of_reset_step_last (fun n h => (outsAt0 m c n h).2.2.2.2 (ix2 s j)) 32 0
    (fun p => ∑ r : Fin 256, rprm m c (row p r) s j) (fun p h => zero11 m c p h s j) (fun p h => step11 m c p h s j)
    (le_of_eq N_0) t (by have := (idx_ins t).2.2.2.2.2.2.2; have h : cfg0.N = 32 := N_0; omega), zero_add, rows_sum (fun r => rprm m c r s j)]

/-! ### The results, array by array -/

theorem final7 : (dats m 0 c).arrAt 7 cfg0.N = val_main_v86 (F := Ideal) (arg m c main_arg0) (arg m c main_arg1) (arg m c main_arg2) (arg m c main_arg3) (arg m c main_arg4) (arg m c main_arg5) (arg m c main_arg6) (arg m c main_arg7) := by
  refine (dats m 0 c).arrAt_eq_of_covers 7 _ (by decide +kernel) fun t hf y => ?_
  blk_simp
  rw [after0_7]
  idx_vars y
  refine (out7 m c t y0 y1).trans (congrArg _ ?_)
  blk_ext [idx_outs t, row]

theorem final8 : (dats m 0 c).arrAt 8 cfg0.N = val_main_v88 (F := Ideal) (arg m c main_arg0) (arg m c main_arg1) (arg m c main_arg2) (arg m c main_arg3) (arg m c main_arg4) (arg m c main_arg5) (arg m c main_arg6) (arg m c main_arg7) := by
  refine (dats m 0 c).arrAt_eq_of_covers 8 _ (by decide +kernel) fun t hf y => ?_
  blk_simp
  rw [after0_8]
  idx_vars y
  refine (out8 m c t y0 y1).trans (congrArg _ ?_)
  blk_ext [idx_outs t, row]

theorem final9 : (dats m 0 c).arrAt 9 cfg0.N = val_main_v89 (F := Ideal) (arg m c main_arg0) (arg m c main_arg5) := by
  refine (dats m 0 c).arrAt_eq_of_covers 9 _ (by decide +kernel) fun t hf y => ?_
  blk_simp
  rw [after0_9]
  idx_vars y
  refine (out9 m c t y0 y1).trans (congrArg _ ?_)
  blk_ext [idx_outs t, row]

theorem final10 : (dats m 0 c).arrAt 10 cfg0.N = val_main_v90 (F := Ideal) (arg m c main_arg1) (arg m c main_arg2) (arg m c main_arg3) (arg m c main_arg4) := by
  refine (dats m 0 c).arrAt_eq_of_covers 10 _ (by decide +kernel) fun t hf y => ?_
  blk_simp
  rw [after0_10]
  idx_vars y
  refine (out10 m c t y0 y1).trans (congrArg _ ?_)
  blk_ext [idx_outs t, row]

theorem final11 : (dats m 0 c).arrAt 11 cfg0.N = val_main_v99 (F := Ideal) (arg m c main_arg0) (arg m c main_arg1) (arg m c main_arg2) (arg m c main_arg3) (arg m c main_arg4) (arg m c main_arg5) (arg m c main_arg6) (arg m c main_arg7) := by
  refine (dats m 0 c).arrAt_eq_of_covers 11 _ (by decide +kernel) fun t hf y => ?_
  blk_simp
  rw [after0_11]
  idx_vars y
  refine (out11 m c t ((flush0_11 t).mp hf) y0 y1).trans (congrArg _ ?_)
  blk_ext [idx_outs t]

end Cert.Kernel11Ideal.Value
-- ==== Proof.Tn.lean ====
module

public import Idealize.ShloMosaic.Lib.Pointwise
public import Idealize.ShloMosaic.Lib.Pipeline.ValueKit
public import proofs.«01_k».proof.Proof.Stores

@[expose] public section

noncomputable section

/-! A product of a transposed matrix with another, accumulated over tiles of rows. -/

namespace Cert.Tn

open Idealize.ShloMosaic

/-- An accumulator that is reset at the first tile of a run and steps at the others holds, at the run's last tile, the
sum over all rows. -/
theorem acc_tiles {N J B M : ℕ} [NeZero J] (hM : J * B = M) (S : (n : ℕ) → n < N → EReal) (x : Fin N → Fin B → EReal)
    (h0 : ∀ t : Fin N, t.val % J = 0 → S t.val t.isLt = 0 + ∑ k, x t k)
    (hs : ∀ t : Fin N, ¬t.val % J = 0 → S t.val t.isLt = S (t.val - 1) (Nat.lt_of_le_of_lt (Nat.sub_le _ _) t.isLt) + ∑ k, x t k)
    (f : Fin M → EReal) (t : Fin N) (ht : t.val % J = J - 1)
    (hx : ∀ p : Fin N, p.val / J = t.val / J → ∀ (k : Fin B) (r : Fin M), r.val = B * (p.val % J) + k.val → x p k = f r) :
    S t.val t.isLt = ∑ r, f r := by
  have hJ : 0 < J := NeZero.pos J
  rw [Pipeline.eq_sum_fin_of_reset_step_of_flush S J 0 (fun p => ∑ k, x p k) h0 hs t ht, zero_add, Fin.sum_univ_tiles J B hM]
  refine Finset.sum_congr rfl fun s _ => Finset.sum_congr rfl fun k _ => hx _ ?_ k _ ?_
  · show (J * (t.val / J) + s.val) / J = t.val / J
    rw [Nat.mul_add_div hJ, Nat.div_eq_of_lt s.isLt, Nat.add_zero]
  · show s.val * B + k.val = B * ((J * (t.val / J) + s.val) % J) + k.val
    rw [Nat.mul_add_mod, Nat.mod_eq_of_lt s.isLt, Nat.mul_comm]

/-- The product of the transpose of `a` with `b`. -/
def prod {M K L : ℕ} (a : (⟨2, ![M, K]⟩ : Shape).Idx → EReal) (b : (⟨2, ![M, L]⟩ : Shape).Idx → EReal) (i : Fin K) (j : Fin L) : EReal :=
  ∑ r : Fin M, a (ix2 r i) * b (ix2 r j)

theorem two (P : Fin 2 → Prop) (h0 : P 0) (h1 : P 1) : ∀ i, P i
  | ⟨0, _⟩ => h0
  | ⟨1, _⟩ => h1

theorem four (P : Fin 4 → Prop) (h0 : P 0) (h1 : P 1) (h2 : P 2) (h3 : P 3) : ∀ i, P i
  | ⟨0, _⟩ => h0
  | ⟨1, _⟩ => h1
  | ⟨2, _⟩ => h2
  | ⟨3, _⟩ => h3

variable {Val : EltTy → Type} [∀ e, Nonempty (Val e)] {e : EltTy} {s p q a : ℕ}

/-- The entry lies in the leaf stored last. -/
theorem leaf_hit (h) (w : (⟨3, ![1, p, q]⟩ : Shape).Idx → Val e) (L : List (View.Piece Val ⟨3, ![s, p, q]⟩ e))
    (l : Fin s) (i : Fin p) (j : Fin q) (hl : l.val = a) :
    View.canon ((⟨Rect.unit (s := ⟨3, ![s, p, q]⟩) ![a, 0, 0] ![1, p, q] h, w⟩ : View.Piece Val ⟨3, ![s, p, q]⟩ e) :: L) (ix3 l i j) = w (ix3 0 i j) := by
  have e0 : (Rect.unit (s := ⟨3, ![s, p, q]⟩) ![a, 0, 0] ![1, p, q] h).emb (ix3 0 i j) = (ix3 l i j : (⟨3, ![s, p, q]⟩ : Shape).Idx) := by
    funext x
    match x with
    | 0 => exact Fin.ext (by show a + 1 * 0 = l.val; omega)
    | 1 => exact Fin.ext (by show 0 + 1 * i.val = i.val; omega)
    | 2 => exact Fin.ext (by show 0 + 1 * j.val = j.val; omega)
  rw [← e0]
  exact View.canon_cons_emb (Rect.unit (s := ⟨3, ![s, p, q]⟩) ![a, 0, 0] ![1, p, q] h) w L (ix3 0 i j)

/-- The entry lies in another leaf than the one stored last. -/
theorem leaf_miss (h) (w : (⟨3, ![1, p, q]⟩ : Shape).Idx → Val e) (L : List (View.Piece Val ⟨3, ![s, p, q]⟩ e))
    (l : Fin s) (i : Fin p) (j : Fin q) (hl : l.val ≠ a) :
    View.canon ((⟨Rect.unit (s := ⟨3, ![s, p, q]⟩) ![a, 0, 0] ![1, p, q] h, w⟩ : View.Piece Val ⟨3, ![s, p, q]⟩ e) :: L) (ix3 l i j)
      = View.canon L (ix3 l i j) := by
  refine View.canon_cons_of_not_mem _ L ?_
  rw [Rect.mem_set_unit]
  intro hm
  have h0 : a ≤ l.val ∧ l.val < a + 1 := hm 0
  omega

/-- A load of a rectangle of a block that has been stored whole. -/
theorem cov_whole {sig : RefSig} {κ : Kind} {sp : Space} {p q a b p' q' : ℕ} (v : View sig κ sp ⟨2, ![p, q]⟩ e) (h) (w : (⟨2, ![p, q]⟩ : Shape).Idx → Val e) (h')
    (k : Fin p') (l : Fin q') (hk : a + k.val < p) (hl : b + l.val < q) :
    v.readCov [(⟨Rect.unit (s := ⟨2, ![p, q]⟩) ![0, 0] ![p, q] h, w⟩ : View.Piece Val ⟨2, ![p, q]⟩ e)] (Rect.unit (s := ⟨2, ![p, q]⟩) ![a, b] ![p', q'] h').toLoadRect (ix2 k l)
      = w (ix2 ⟨a + k.val, hk⟩ ⟨b + l.val, hl⟩) :=
  (Stores.cov_at v _ h' ⟨a + k.val, hk⟩ ⟨b + l.val, hl⟩ k l rfl rfl).trans
    (Stores.canon_hit h w [] _ _ ⟨a + k.val, hk⟩ ⟨b + l.val, hl⟩ (Nat.zero_add _).symm (Nat.zero_add _).symm)

end Cert.Tn
-- ==== Proof.TnPw2.lean ====
module

public import proofs.«01_k».proof.Proof.Gen.Kernel4Ideal.Value
public import proofs.«01_k».proof.Proof.Gen.Reference4Ideal.Run
public import proofs.«01_k».proof.Proof.Stores
public import proofs.«01_k».proof.Proof.Tn

@[expose] public section

set_option maxRecDepth 16384

noncomputable section

/-! The gradient of the conformer's second pointwise weight: accumulated over eight tiles of 1024 rows, written out
in four shards of 256 rows. -/

namespace Cert.Kernel4Ideal.Value

open Idealize.ShloMosaic Idealize.ShloMosaic.TcCoe Idealize.ShloMosaic.Tactic
open Cert.Kernel4Ideal Cert.Kernel4Ideal.Gen Idealize.SL.Sem
open Cert.Stores

theorem idx_all : ∀ t : Fin cfg0.N, win0_0.index t = ![t.val % 8, 0] ∧ win0_1.index t = ![t.val % 8, 0]
    ∧ win0_2.index t = ![0, 0, 0] ∧ t.val < 8 :=
  (by decide +kernel : ∀ t : Fin grid0.N, _)

theorem pay1_at (i j : Fin 1024) : k0_pay1 (F := Ideal) (ix2 i j) = 0 := by
  pointwise [k0_pay1]

theorem pay2_at (y x z) (i j : Fin 1024) : k0_pay2 (F := Ideal) y x z (ix2 i j)
    = x (ix2 i j) + ∑ k : Fin 1024, y (ix2 k i) * z (ix2 k j) := by
  pointwise [k0_pay2]

theorem pay3_at (x) (i : Fin 256) (j : Fin 1024) : k0_pay3 (F := Ideal) x (ix3 0 i j) = x (ix2 i j) := by
  pointwise [k0_pay3]

theorem pay4_at (x) (i : Fin 256) (j : Fin 1024) : k0_pay4 (F := Ideal) x (ix3 0 i j) = x (ix2 i j) := by
  pointwise [k0_pay4]

theorem pay5_at (x) (i : Fin 256) (j : Fin 1024) : k0_pay5 (F := Ideal) x (ix3 0 i j) = x (ix2 i j) := by
  pointwise [k0_pay5]

theorem pay6_at (x) (i : Fin 256) (j : Fin 1024) : k0_pay6 (F := Ideal) x (ix3 0 i j) = x (ix2 i j) := by
  pointwise [k0_pay6]

variable (m : (ℓ : Loc nD τ sig) → Buf (Elt Ideal) ℓ) (c : Dev nD) (t : Fin cfg0.N)

/-- The first factor. -/
abbrev argA : S8192x1024.Idx → EReal := m ((c.tc : Thread nD τ).loc main_arg0)
/-- The second factor. -/
abbrev argB : S8192x1024.Idx → EReal := m ((c.tc : Thread nD τ).loc main_arg1)

theorem blk0 (k i : Fin 1024) (r : Fin 8192) (hr : r.val = 1024 * (t.val % 8) + k.val) :
    iblk m c 0 t (ix2 k i) = argA m c (ix2 r i) := by
  blk_ext [iblk, V, idx_all t, hr]

theorem blk1 (k j : Fin 1024) (r : Fin 8192) (hr : r.val = 1024 * (t.val % 8) + k.val) :
    iblk m c 1 t (ix2 k j) = argB m c (ix2 r j) := by
  blk_ext [iblk, V, idx_all t, hr]

/-- What row `k` of tile `t` adds to the product. -/
def term (i j k : Fin 1024) : EReal := @HMul.hMul EReal EReal EReal _ (iblk m c 0 t (ix2 k i)) (iblk m c 1 t (ix2 k j))

theorem zero (h : t.val % 8 = 0) (i j : Fin 1024) : (outsAt0 m c t.val t.isLt).2 (ix2 i j) = 0 + ∑ k, term m c t i j k := by
  rw [outsAt0_A m c t h (by omega)]; dsimp only; frame_out
  rw [pay2_at, pay1_at]
  rfl

theorem step (h : ¬t.val % 8 = 0) (i j : Fin 1024) : (outsAt0 m c t.val t.isLt).2 (ix2 i j)
    = (outsAt0 m c (t.val - 1) (Nat.lt_of_le_of_lt (Nat.sub_le _ _) t.isLt)).2 (ix2 i j) + ∑ k, term m c t i j k := by
  by_cases h1 : t.val % 8 = 7
  · rw [outsAt0_C m c t h h1]; dsimp only; frame_out
    rw [pay2_at]
    exact congrArg (fun x : EReal => x + _) (congrFun (Memref.IsWhole.read_unread _ _) _)
  · rw [outsAt0_B m c t h h1]; dsimp only; frame_out
    rw [pay2_at]
    exact congrArg (fun x : EReal => x + _) (congrFun (Memref.IsWhole.read_unread _ _) _)

theorem acc (h : t.val % 8 = 7) (i j : Fin 1024) : (outsAt0 m c t.val t.isLt).2 (ix2 i j) = Tn.prod (argA m c) (argB m c) i j :=
  Tn.acc_tiles (J := 8) (B := 1024) rfl (fun n h => (outsAt0 m c n h).2 (ix2 i j)) (fun p => term m c p i j) (fun s h => zero m c s h i j)
    (fun s h => step m c s h i j) _ t h fun p _ k r hr =>
      congrArg₂ (fun x y : EReal => x * y) (blk0 m c p k i r hr) (blk1 m c p k j r hr)

theorem out_last (h : t.val % 8 = 7) (l : Fin 4) (i : Fin 256) (j : Fin 1024) : (outsAt0 m c t.val t.isLt).1 (ix3 l i j)
    = (outsAt0 m c t.val t.isLt).2 (ix2 ⟨256 * l.val + i.val, by omega⟩ j) := by
  rw [outsAt0_C m c t (by omega) h]; dsimp only; frame_out
  induction l using Tn.four with
  | h0 =>
    rw [Tn.leaf_miss _ _ _ 0 _ _ (by decide), Tn.leaf_miss _ _ _ 0 _ _ (by decide), Tn.leaf_miss _ _ _ 0 _ _ (by decide), Tn.leaf_hit _ _ _ 0 _ _ (by decide), pay3_at, Tn.cov_whole _ _ _ _ _ _ (by omega) (by omega)]
    exact congrArg _ (by blk_ext)
  | h1 =>
    rw [Tn.leaf_miss _ _ _ 1 _ _ (by decide), Tn.leaf_miss _ _ _ 1 _ _ (by decide), Tn.leaf_hit _ _ _ 1 _ _ (by decide), pay4_at, Tn.cov_whole _ _ _ _ _ _ (by omega) (by omega)]
    exact congrArg _ (by blk_ext)
  | h2 =>
    rw [Tn.leaf_miss _ _ _ 2 _ _ (by decide), Tn.leaf_hit _ _ _ 2 _ _ (by decide), pay5_at, Tn.cov_whole _ _ _ _ _ _ (by omega) (by omega)]
    exact congrArg _ (by blk_ext)
  | h3 =>
    rw [Tn.leaf_hit _ _ _ 3 _ _ (by decide), pay6_at, Tn.cov_whole _ _ _ _ _ _ (by omega) (by omega)]
    exact congrArg _ (by blk_ext)

/-- The gradient of the weight, in four shards of rows. -/
def grad (a b : S8192x1024.Idx → EReal) : S4x256x1024.Idx → EReal := fun x =>
  Tn.prod a b ⟨256 * (x 0).val + (x 1).val, by have h0 : (x 0).val < 4 := (x 0).isLt; have h1 : (x 1).val < 256 := (x 1).isLt; omega⟩ (x 2)

theorem final : (dats m 0 c).arrAt 2 cfg0.N = grad (argA m c) (argB m c) := by
  refine (dats m 0 c).arrAt_eq_of_covers 2 _ (by decide +kernel) fun t hf y => ?_
  blk_simp
  rw [after0_2]
  idx_vars y
  have h := (flush0_2 t).mp hf
  refine ((out_last m c t h y0 y1 y2).trans (acc m c t h _ y2)).trans
    (congrArg (grad (argA m c) (argB m c)) (a₁ := ix3 y0 y1 y2) ?_)
  blk_ext [idx_all t]

end Cert.Kernel4Ideal.Value

namespace Cert.Reference4Ideal.Value

open Idealize.ShloMosaic Idealize.ShloMosaic.TcCoe Idealize.ShloMosaic.Tactic Idealize.ShloMosaic.StableHlo
open Cert.Reference4Ideal Cert.Reference4Ideal.Gen Idealize.SL.Sem

/-- The reference's result as a function of its arguments. -/
def dw (a b : FVec Ideal S8192x1024 .bf16) : FVec Ideal S4x256x1024 .bf16 :=
  shapeCast _ (truncf .bf16 (transpose S1024x1024 [1, 0] (Host.dotGeneral dot_S8192x1024_S8192x1024_S1024x1024_0_0_1_1_n_n none (extf .f32 b bitsLt_bf16_f32) (extf .f32 a bitsLt_bf16_f32)) transposes_S1024x1024_S1024x1024_1_0) bitsLt_bf16_f32) shapeCasts_S1024x1024_S4x256x1024

theorem dw_eq (a b) : dw a b = Cert.Kernel4Ideal.Value.grad a b := by
  funext x
  idx_vars x
  change _ = Tn.prod a b ⟨256 * x0.val + x1.val, _⟩ x2
  pointwise [dw]
  exact Finset.sum_congr rfl fun k _ => (mul_comm _ _).trans
    (congrArg (fun z : Fin 1024 => @HMul.hMul EReal EReal EReal _ (a (ix2 k z)) (b (ix2 k x2))) (Fin.ext (by simp only []; omega)))

end Cert.Reference4Ideal.Value
-- ==== Proof.TnPw1.lean ====
module

public import proofs.«01_k».proof.Proof.Gen.Kernel5Ideal.Value
public import proofs.«01_k».proof.Proof.Gen.Reference5Ideal.Run
public import proofs.«01_k».proof.Proof.Stores
public import proofs.«01_k».proof.Proof.Tn

@[expose] public section

set_option maxRecDepth 16384

noncomputable section

/-! The gradient of the conformer's first pointwise weight: accumulated over eight tiles of 1024 rows, written out
in four shards of 512 columns. -/

namespace Cert.Kernel5Ideal.Value

open Idealize.ShloMosaic Idealize.ShloMosaic.TcCoe Idealize.ShloMosaic.Tactic
open Cert.Kernel5Ideal Cert.Kernel5Ideal.Gen Idealize.SL.Sem
open Cert.Stores

theorem idx_all : ∀ t : Fin cfg0.N, win0_0.index t = ![t.val % 8, 0] ∧ win0_1.index t = ![t.val % 8, t.val / 8]
    ∧ win0_2.index t = ![t.val / 8, 0, 0] ∧ t.val < 16 :=
  (by decide +kernel : ∀ t : Fin grid0.N, _)

theorem pay1_at (i j : Fin 1024) : k0_pay1 (F := Ideal) (ix2 i j) = 0 := by
  pointwise [k0_pay1]

theorem pay2_at (y x z) (i j : Fin 1024) : k0_pay2 (F := Ideal) y x z (ix2 i j)
    = x (ix2 i j) + ∑ k : Fin 1024, y (ix2 k i) * z (ix2 k j) := by
  pointwise [k0_pay2]

theorem pay3_at (x) (i : Fin 1024) (j : Fin 512) : k0_pay3 (F := Ideal) x (ix3 0 i j) = x (ix2 i j) := by
  pointwise [k0_pay3]

theorem pay4_at (x) (i : Fin 1024) (j : Fin 512) : k0_pay4 (F := Ideal) x (ix3 0 i j) = x (ix2 i j) := by
  pointwise [k0_pay4]

variable (m : (ℓ : Loc nD τ sig) → Buf (Elt Ideal) ℓ) (c : Dev nD) (t : Fin cfg0.N)

/-- The first factor. -/
abbrev argA : S8192x1024.Idx → EReal := m ((c.tc : Thread nD τ).loc main_arg0)
/-- The second factor. -/
abbrev argB : S8192x2048.Idx → EReal := m ((c.tc : Thread nD τ).loc main_arg1)

theorem blk0 (k i : Fin 1024) (r : Fin 8192) (hr : r.val = 1024 * (t.val % 8) + k.val) :
    iblk m c 0 t (ix2 k i) = argA m c (ix2 r i) := by
  blk_ext [iblk, V, idx_all t, hr]

theorem blk1 (k j : Fin 1024) (j' : Fin 2048) (r : Fin 8192) (hr : r.val = 1024 * (t.val % 8) + k.val) (hj : j'.val = 1024 * (t.val / 8) + j.val) :
    iblk m c 1 t (ix2 k j) = argB m c (ix2 r j') := by
  blk_ext [iblk, V, idx_all t, hr, hj]

/-- What row `k` of tile `t` adds to the product. -/
def term (i j k : Fin 1024) : EReal := @HMul.hMul EReal EReal EReal _ (iblk m c 0 t (ix2 k i)) (iblk m c 1 t (ix2 k j))

theorem zero (h : t.val % 8 = 0) (i j : Fin 1024) : (outsAt0 m c t.val t.isLt).2 (ix2 i j) = 0 + ∑ k, term m c t i j k := by
  rw [outsAt0_A m c t h (by omega)]; dsimp only; frame_out
  rw [pay2_at, pay1_at]
  rfl

theorem step (h : ¬t.val % 8 = 0) (i j : Fin 1024) : (outsAt0 m c t.val t.isLt).2 (ix2 i j)
    = (outsAt0 m c (t.val - 1) (Nat.lt_of_le_of_lt (Nat.sub_le _ _) t.isLt)).2 (ix2 i j) + ∑ k, term m c t i j k := by
  by_cases h1 : t.val % 8 = 7
  · rw [outsAt0_C m c t h h1]; dsimp only; frame_out
    rw [pay2_at]
    exact congrArg (fun x : EReal => x + _) (congrFun (Memref.IsWhole.read_unread _ _) _)
  · rw [outsAt0_B m c t h h1]; dsimp only; frame_out
    rw [pay2_at]
    exact congrArg (fun x : EReal => x + _) (congrFun (Memref.IsWhole.read_unread _ _) _)

theorem acc (h : t.val % 8 = 7) (i j : Fin 1024) (j' : Fin 2048) (hj : j'.val = 1024 * (t.val / 8) + j.val) : (outsAt0 m c t.val t.isLt).2 (ix2 i j) = Tn.prod (argA m c) (argB m c) i j' :=
  Tn.acc_tiles (J := 8) (B := 1024) rfl (fun n h => (outsAt0 m c n h).2 (ix2 i j)) (fun p => term m c p i j) (fun s h => zero m c s h i j)
    (fun s h => step m c s h i j) _ t h fun p hp k r hr =>
      congrArg₂ (fun x y : EReal => x * y) (blk0 m c p k i r hr) (blk1 m c p k j j' r hr (by omega))

theorem out_last (h : t.val % 8 = 7) (l : Fin 2) (i : Fin 1024) (j : Fin 512) : (outsAt0 m c t.val t.isLt).1 (ix3 l i j)
    = (outsAt0 m c t.val t.isLt).2 (ix2 i ⟨512 * l.val + j.val, by omega⟩) := by
  rw [outsAt0_C m c t (by omega) h]; dsimp only; frame_out
  induction l using Tn.two with
  | h0 =>
    rw [Tn.leaf_miss _ _ _ 0 _ _ (by decide), Tn.leaf_hit _ _ _ 0 _ _ (by decide), pay3_at, Tn.cov_whole _ _ _ _ _ _ (by omega) (by omega)]
    exact congrArg _ (by blk_ext)
  | h1 =>
    rw [Tn.leaf_hit _ _ _ 1 _ _ (by decide), pay4_at, Tn.cov_whole _ _ _ _ _ _ (by omega) (by omega)]
    exact congrArg _ (by blk_ext)

/-- The gradient of the weight, in four shards of columns. -/
def grad (a : S8192x1024.Idx → EReal) (b : S8192x2048.Idx → EReal) : S4x1024x512.Idx → EReal := fun x =>
  Tn.prod a b (x 1) ⟨512 * (x 0).val + (x 2).val, by have h0 : (x 0).val < 4 := (x 0).isLt; have h1 : (x 2).val < 512 := (x 2).isLt; omega⟩

theorem final : (dats m 0 c).arrAt 2 cfg0.N = grad (argA m c) (argB m c) := by
  refine (dats m 0 c).arrAt_eq_of_covers 2 _ (by decide +kernel) fun t hf y => ?_
  blk_simp
  rw [after0_2]
  idx_vars y
  have h := (flush0_2 t).mp hf
  have h' := (idx_all t).2.2.2
  refine ((out_last m c t h y0 y1 y2).trans (acc m c t h y1 _ ⟨512 * (2 * (t.val / 8) + y0.val) + y2.val, by omega⟩
    (by simp only []; omega))).trans
    (congrArg (grad (argA m c) (argB m c)) (a₁ := ix3 ⟨2 * (t.val / 8) + y0.val, by omega⟩ y1 y2) ?_)
  blk_ext [idx_all t]

end Cert.Kernel5Ideal.Value

namespace Cert.Reference5Ideal.Value

open Idealize.ShloMosaic Idealize.ShloMosaic.TcCoe Idealize.ShloMosaic.Tactic Idealize.ShloMosaic.StableHlo
open Cert.Reference5Ideal Cert.Reference5Ideal.Gen Idealize.SL.Sem

/-- The reference's result as a function of its arguments. -/
def dw (a : FVec Ideal S8192x1024 .bf16) (b : FVec Ideal S8192x2048 .bf16) : FVec Ideal S4x1024x512 .bf16 :=
  transpose S4x1024x512 [1, 0, 2] (shapeCast _ (truncf .bf16 (transpose S1024x2048 [1, 0] (Host.dotGeneral dot_S8192x2048_S8192x1024_S2048x1024_0_0_1_1_n_n none (extf .f32 b bitsLt_bf16_f32) (extf .f32 a bitsLt_bf16_f32)) transposes_S2048x1024_S1024x2048_1_0) bitsLt_bf16_f32) shapeCasts_S1024x2048_S1024x4x512) transposes_S1024x4x512_S4x1024x512_1_0_2

theorem dw_eq (a b) : dw a b = Cert.Kernel5Ideal.Value.grad a b := by
  funext x
  idx_vars x
  change _ = Tn.prod a b x1 ⟨512 * x0.val + x2.val, _⟩
  pointwise [dw]
  exact Finset.sum_congr rfl fun k _ => (mul_comm _ _).trans
    (congrArg (fun z : EReal => a (ix2 k x1) * z) (congrArg b (by blk_ext)))

end Cert.Reference5Ideal.Value
-- ==== Proof.TnOut.lean ====
module

public import proofs.«01_k».proof.Proof.Gen.Kernel6Ideal.Value
public import proofs.«01_k».proof.Proof.Gen.Reference6Ideal.Run
public import proofs.«01_k».proof.Proof.Stores
public import proofs.«01_k».proof.Proof.Tn

@[expose] public section

set_option maxRecDepth 16384

noncomputable section

/-! The gradient of the mixers' output weights (the scan's and the gating unit's): accumulated over eight tiles of 1024 rows, written out
in two shards of 512 rows. -/

namespace Cert.Kernel6Ideal.Value

open Idealize.ShloMosaic Idealize.ShloMosaic.TcCoe Idealize.ShloMosaic.Tactic
open Cert.Kernel6Ideal Cert.Kernel6Ideal.Gen Idealize.SL.Sem
open Cert.Stores

theorem idx_all : ∀ t : Fin cfg0.N, win0_0.index t = ![t.val % 8, 0] ∧ win0_1.index t = ![t.val % 8, 0]
    ∧ win0_2.index t = ![0, 0, 0] ∧ t.val < 8 :=
  (by decide +kernel : ∀ t : Fin grid0.N, _)

theorem pay1_at (i j : Fin 1024) : k0_pay1 (F := Ideal) (ix2 i j) = 0 := by
  pointwise [k0_pay1]

theorem pay2_at (y x z) (i j : Fin 1024) : k0_pay2 (F := Ideal) y x z (ix2 i j)
    = x (ix2 i j) + ∑ k : Fin 1024, y (ix2 k i) * z (ix2 k j) := by
  pointwise [k0_pay2]

theorem pay3_at (x) (i : Fin 512) (j : Fin 1024) : k0_pay3 (F := Ideal) x (ix3 0 i j) = x (ix2 i j) := by
  pointwise [k0_pay3]

theorem pay4_at (x) (i : Fin 512) (j : Fin 1024) : k0_pay4 (F := Ideal) x (ix3 0 i j) = x (ix2 i j) := by
  pointwise [k0_pay4]

variable (m : (ℓ : Loc nD τ sig) → Buf (Elt Ideal) ℓ) (c : Dev nD) (t : Fin cfg0.N)

/-- The first factor. -/
abbrev argA : S8192x1024.Idx → EReal := m ((c.tc : Thread nD τ).loc main_arg0)
/-- The second factor. -/
abbrev argB : S8192x1024.Idx → EReal := m ((c.tc : Thread nD τ).loc main_arg1)

theorem blk0 (k i : Fin 1024) (r : Fin 8192) (hr : r.val = 1024 * (t.val % 8) + k.val) :
    iblk m c 0 t (ix2 k i) = argA m c (ix2 r i) := by
  blk_ext [iblk, V, idx_all t, hr]

theorem blk1 (k j : Fin 1024) (r : Fin 8192) (hr : r.val = 1024 * (t.val % 8) + k.val) :
    iblk m c 1 t (ix2 k j) = argB m c (ix2 r j) := by
  blk_ext [iblk, V, idx_all t, hr]

/-- What row `k` of tile `t` adds to the product. -/
def term (i j k : Fin 1024) : EReal := @HMul.hMul EReal EReal EReal _ (iblk m c 0 t (ix2 k i)) (iblk m c 1 t (ix2 k j))

theorem zero (h : t.val % 8 = 0) (i j : Fin 1024) : (outsAt0 m c t.val t.isLt).2 (ix2 i j) = 0 + ∑ k, term m c t i j k := by
  rw [outsAt0_A m c t h (by omega)]; dsimp only; frame_out
  rw [pay2_at, pay1_at]
  rfl

theorem step (h : ¬t.val % 8 = 0) (i j : Fin 1024) : (outsAt0 m c t.val t.isLt).2 (ix2 i j)
    = (outsAt0 m c (t.val - 1) (Nat.lt_of_le_of_lt (Nat.sub_le _ _) t.isLt)).2 (ix2 i j) + ∑ k, term m c t i j k := by
  by_cases h1 : t.val % 8 = 7
  · rw [outsAt0_C m c t h h1]; dsimp only; frame_out
    rw [pay2_at]
    exact congrArg (fun x : EReal => x + _) (congrFun (Memref.IsWhole.read_unread _ _) _)
  · rw [outsAt0_B m c t h h1]; dsimp only; frame_out
    rw [pay2_at]
    exact congrArg (fun x : EReal => x + _) (congrFun (Memref.IsWhole.read_unread _ _) _)

theorem acc (h : t.val % 8 = 7) (i j : Fin 1024) : (outsAt0 m c t.val t.isLt).2 (ix2 i j) = Tn.prod (argA m c) (argB m c) i j :=
  Tn.acc_tiles (J := 8) (B := 1024) rfl (fun n h => (outsAt0 m c n h).2 (ix2 i j)) (fun p => term m c p i j) (fun s h => zero m c s h i j)
    (fun s h => step m c s h i j) _ t h fun p _ k r hr =>
      congrArg₂ (fun x y : EReal => x * y) (blk0 m c p k i r hr) (blk1 m c p k j r hr)

theorem out_last (h : t.val % 8 = 7) (l : Fin 2) (i : Fin 512) (j : Fin 1024) : (outsAt0 m c t.val t.isLt).1 (ix3 l i j)
    = (outsAt0 m c t.val t.isLt).2 (ix2 ⟨512 * l.val + i.val, by omega⟩ j) := by
  rw [outsAt0_C m c t (by omega) h]; dsimp only; frame_out
  induction l using Tn.two with
  | h0 =>
    rw [Tn.leaf_miss _ _ _ 0 _ _ (by decide), Tn.leaf_hit _ _ _ 0 _ _ (by decide), pay3_at, Tn.cov_whole _ _ _ _ _ _ (by omega) (by omega)]
    exact congrArg _ (by blk_ext)
  | h1 =>
    rw [Tn.leaf_hit _ _ _ 1 _ _ (by decide), pay4_at, Tn.cov_whole _ _ _ _ _ _ (by omega) (by omega)]
    exact congrArg _ (by blk_ext)

/-- The gradient of the weight, in two shards of rows. -/
def grad (a b : S8192x1024.Idx → EReal) : S2x512x1024.Idx → EReal := fun x =>
  Tn.prod a b ⟨512 * (x 0).val + (x 1).val, by have h0 : (x 0).val < 2 := (x 0).isLt; have h1 : (x 1).val < 512 := (x 1).isLt; omega⟩ (x 2)

theorem final : (dats m 0 c).arrAt 2 cfg0.N = grad (argA m c) (argB m c) := by
  refine (dats m 0 c).arrAt_eq_of_covers 2 _ (by decide +kernel) fun t hf y => ?_
  blk_simp
  rw [after0_2]
  idx_vars y
  have h := (flush0_2 t).mp hf
  refine ((out_last m c t h y0 y1 y2).trans (acc m c t h _ y2)).trans
    (congrArg (grad (argA m c) (argB m c)) (a₁ := ix3 y0 y1 y2) ?_)
  blk_ext [idx_all t]

end Cert.Kernel6Ideal.Value

namespace Cert.Reference6Ideal.Value

open Idealize.ShloMosaic Idealize.ShloMosaic.TcCoe Idealize.ShloMosaic.Tactic Idealize.ShloMosaic.StableHlo
open Cert.Reference6Ideal Cert.Reference6Ideal.Gen Idealize.SL.Sem

/-- The reference's result as a function of its arguments. -/
def dw (a b : FVec Ideal S8192x1024 .bf16) : FVec Ideal S2x512x1024 .bf16 :=
  shapeCast _ (truncf .bf16 (transpose S1024x1024 [1, 0] (Host.dotGeneral dot_S8192x1024_S8192x1024_S1024x1024_0_0_1_1_n_n none (extf .f32 b bitsLt_bf16_f32) (extf .f32 a bitsLt_bf16_f32)) transposes_S1024x1024_S1024x1024_1_0) bitsLt_bf16_f32) shapeCasts_S1024x1024_S2x512x1024

theorem dw_eq (a b) : dw a b = Cert.Kernel6Ideal.Value.grad a b := by
  funext x
  idx_vars x
  change _ = Tn.prod a b ⟨512 * x0.val + x1.val, _⟩ x2
  pointwise [dw]
  exact Finset.sum_congr rfl fun k _ => (mul_comm _ _).trans
    (congrArg (fun z : Fin 1024 => @HMul.hMul EReal EReal EReal _ (a (ix2 k z)) (b (ix2 k x2))) (Fin.ext (by simp only []; omega)))

end Cert.Reference6Ideal.Value
-- ==== Proof.TnInZ.lean ====
module

public import proofs.«01_k».proof.Proof.Gen.Kernel7Ideal.Value
public import proofs.«01_k».proof.Proof.Gen.Reference7Ideal.Run
public import proofs.«01_k».proof.Proof.Tn

@[expose] public section

set_option maxRecDepth 16384

noncomputable section

/-! The gradient of the mixer's input weights for `z`: accumulated in place over eleven tiles of 768 rows. -/

namespace Cert.Kernel7Ideal.Value

open Idealize.ShloMosaic Idealize.ShloMosaic.TcCoe Idealize.ShloMosaic.Tactic
open Cert.Kernel7Ideal Cert.Kernel7Ideal.Gen Idealize.SL.Sem

theorem idx_all : ∀ t : Fin cfg0.N, win0_0.index t = ![t.val % 11, 0] ∧ win0_1.index t = ![t.val % 11, t.val / 11]
    ∧ win0_2.index t = ![0, t.val / 11] ∧ t.val < 11 :=
  (by decide +kernel : ∀ t : Fin grid0.N, _)

theorem pay1_at (i j : Fin 1024) : k0_pay1 (F := Ideal) (ix2 i j) = 0 := by
  pointwise [k0_pay1]

theorem pay2_at (y x z) (i j : Fin 1024) : k0_pay2 (F := Ideal) y x z (ix2 i j)
    = x (ix2 i j) + ∑ k : Fin 768, y (ix2 k i) * z (ix2 k j) := by
  pointwise [k0_pay2]

variable (m : (ℓ : Loc nD τ sig) → Buf (Elt Ideal) ℓ) (c : Dev nD) (t : Fin cfg0.N)

/-- The first factor. -/
abbrev argA : S8448x1024.Idx → EReal := m ((c.tc : Thread nD τ).loc main_arg0)
/-- The second factor. -/
abbrev argB : S8448x1024.Idx → EReal := m ((c.tc : Thread nD τ).loc main_arg1)

theorem blk0 (k : Fin 768) (i : Fin 1024) (r : Fin 8448) (hr : r.val = 768 * (t.val % 11) + k.val) :
    iblk m c 0 t (ix2 k i) = argA m c (ix2 r i) := by
  blk_ext [iblk, V, idx_all t, hr]

theorem blk1 (k : Fin 768) (j j' : Fin 1024) (r : Fin 8448) (hr : r.val = 768 * (t.val % 11) + k.val) (hj : j'.val = 1024 * (t.val / 11) + j.val) :
    iblk m c 1 t (ix2 k j) = argB m c (ix2 r j') := by
  blk_ext [iblk, V, idx_all t, hr, hj]

/-- What row `k` of tile `t` adds to the product. -/
def term (i j : Fin 1024) (k : Fin 768) : EReal := @HMul.hMul EReal EReal EReal _ (iblk m c 0 t (ix2 k i)) (iblk m c 1 t (ix2 k j))

theorem zero (h : t.val % 11 = 0) (i j : Fin 1024) : outsAt0 m c t.val t.isLt (ix2 i j) = 0 + ∑ k, term m c t i j k := by
  rw [outsAt0_A m c t h, out_A_2_eq, pay2_at, pay1_at]
  rfl

theorem step (h : ¬t.val % 11 = 0) (i j : Fin 1024) : outsAt0 m c t.val t.isLt (ix2 i j)
    = outsAt0 m c (t.val - 1) (Nat.lt_of_le_of_lt (Nat.sub_le _ _) t.isLt) (ix2 i j) + ∑ k, term m c t i j k := by
  rw [outsAt0_B m c t h, out_B_2_eq, pay2_at]
  rfl

theorem out_at (h : t.val % 11 = 10) (i j j' : Fin 1024) (hj : j'.val = 1024 * (t.val / 11) + j.val) :
    outsAt0 m c t.val t.isLt (ix2 i j) = Tn.prod (argA m c) (argB m c) i j' :=
  Tn.acc_tiles (J := 11) (B := 768) rfl (fun n h => outsAt0 m c n h (ix2 i j)) (fun p => term m c p i j) (fun s h => zero m c s h i j)
    (fun s h => step m c s h i j) _ t h fun p hp k r hr =>
      congrArg₂ (fun x y : EReal => x * y) (blk0 m c p k i r hr) (blk1 m c p k j j' r hr (by omega))

theorem final : (dats m 0 c).arrAt 2 cfg0.N = fun x : S1024x1024.Idx => Tn.prod (argA m c) (argB m c) (x 0) (x 1) := by
  refine (dats m 0 c).arrAt_eq_of_covers 2 _ (by decide +kernel) fun t hf y => ?_
  blk_simp
  rw [after0_2]
  idx_vars y
  have h := (flush0_2 t).mp hf
  have h' := (idx_all t).2.2.2
  refine (out_at m c t h y0 y1 ⟨1024 * (t.val / 11) + y1.val, by omega⟩ rfl).trans
    (congrArg (fun x : S1024x1024.Idx => Tn.prod (argA m c) (argB m c) (x 0) (x 1)) (a₁ := ix2 y0 ⟨1024 * (t.val / 11) + y1.val, by omega⟩) ?_)
  blk_ext [idx_all t]

end Cert.Kernel7Ideal.Value

namespace Cert.Reference7Ideal.Value

open Idealize.ShloMosaic Idealize.ShloMosaic.TcCoe Idealize.ShloMosaic.Tactic Idealize.ShloMosaic.StableHlo
open Cert.Reference7Ideal Cert.Reference7Ideal.Gen Idealize.SL.Sem

/-- The reference's result as a function of its arguments. -/
def dw (a : FVec Ideal S8448x1024 .bf16) (b : FVec Ideal S8448x1024 .bf16) : FVec Ideal S1024x1024 .f32 :=
  transpose S1024x1024 [1, 0] (Host.dotGeneral dot_S8448x1024_S8448x1024_S1024x1024_0_0_1_1_n_n none (extf .f32 b bitsLt_bf16_f32) (extf .f32 a bitsLt_bf16_f32)) transposes_S1024x1024_S1024x1024_1_0

theorem dw_eq (a b) : dw a b = fun x : S1024x1024.Idx => Tn.prod a b (x 0) (x 1) := by
  funext x
  idx_vars x
  pointwise [dw]
  exact Finset.sum_congr rfl fun k _ => mul_comm _ _

end Cert.Reference7Ideal.Value
-- ==== Proof.TnInXbc.lean ====
module

public import proofs.«01_k».proof.Proof.Gen.Kernel8Ideal.Value
public import proofs.«01_k».proof.Proof.Gen.Reference8Ideal.Run
public import proofs.«01_k».proof.Proof.Tn

@[expose] public section

set_option maxRecDepth 16384

noncomputable section

/-! The gradient of the mixer's input weights for the convolved part: accumulated in place over eleven tiles of 768 rows. -/

namespace Cert.Kernel8Ideal.Value

open Idealize.ShloMosaic Idealize.ShloMosaic.TcCoe Idealize.ShloMosaic.Tactic
open Cert.Kernel8Ideal Cert.Kernel8Ideal.Gen Idealize.SL.Sem

theorem idx_all : ∀ t : Fin cfg0.N, win0_0.index t = ![t.val % 11, 0] ∧ win0_1.index t = ![t.val % 11, t.val / 11]
    ∧ win0_2.index t = ![0, t.val / 11] ∧ t.val < 22 :=
  (by decide +kernel : ∀ t : Fin grid0.N, _)

theorem pay1_at (i : Fin 1024) (j : Fin 768) : k0_pay1 (F := Ideal) (ix2 i j) = 0 := by
  pointwise [k0_pay1]

theorem pay2_at (y x z) (i : Fin 1024) (j : Fin 768) : k0_pay2 (F := Ideal) y x z (ix2 i j)
    = x (ix2 i j) + ∑ k : Fin 768, y (ix2 k i) * z (ix2 k j) := by
  pointwise [k0_pay2]

variable (m : (ℓ : Loc nD τ sig) → Buf (Elt Ideal) ℓ) (c : Dev nD) (t : Fin cfg0.N)

/-- The first factor. -/
abbrev argA : S8448x1024.Idx → EReal := m ((c.tc : Thread nD τ).loc main_arg0)
/-- The second factor. -/
abbrev argB : S8448x1536.Idx → EReal := m ((c.tc : Thread nD τ).loc main_arg1)

theorem blk0 (k : Fin 768) (i : Fin 1024) (r : Fin 8448) (hr : r.val = 768 * (t.val % 11) + k.val) :
    iblk m c 0 t (ix2 k i) = argA m c (ix2 r i) := by
  blk_ext [iblk, V, idx_all t, hr]

theorem blk1 (k : Fin 768) (j : Fin 768) (j' : Fin 1536) (r : Fin 8448) (hr : r.val = 768 * (t.val % 11) + k.val) (hj : j'.val = 768 * (t.val / 11) + j.val) :
    iblk m c 1 t (ix2 k j) = argB m c (ix2 r j') := by
  blk_ext [iblk, V, idx_all t, hr, hj]

/-- What row `k` of tile `t` adds to the product. -/
def term (i : Fin 1024) (j : Fin 768) (k : Fin 768) : EReal := @HMul.hMul EReal EReal EReal _ (iblk m c 0 t (ix2 k i)) (iblk m c 1 t (ix2 k j))

theorem zero (h : t.val % 11 = 0) (i : Fin 1024) (j : Fin 768) : outsAt0 m c t.val t.isLt (ix2 i j) = 0 + ∑ k, term m c t i j k := by
  rw [outsAt0_A m c t h, out_A_2_eq, pay2_at, pay1_at]
  rfl

theorem step (h : ¬t.val % 11 = 0) (i : Fin 1024) (j : Fin 768) : outsAt0 m c t.val t.isLt (ix2 i j)
    = outsAt0 m c (t.val - 1) (Nat.lt_of_le_of_lt (Nat.sub_le _ _) t.isLt) (ix2 i j) + ∑ k, term m c t i j k := by
  rw [outsAt0_B m c t h, out_B_2_eq, pay2_at]
  rfl

theorem out_at (h : t.val % 11 = 10) (i : Fin 1024) (j : Fin 768) (j' : Fin 1536) (hj : j'.val = 768 * (t.val / 11) + j.val) :
    outsAt0 m c t.val t.isLt (ix2 i j) = Tn.prod (argA m c) (argB m c) i j' :=
  Tn.acc_tiles (J := 11) (B := 768) rfl (fun n h => outsAt0 m c n h (ix2 i j)) (fun p => term m c p i j) (fun s h => zero m c s h i j)
    (fun s h => step m c s h i j) _ t h fun p hp k r hr =>
      congrArg₂ (fun x y : EReal => x * y) (blk0 m c p k i r hr) (blk1 m c p k j j' r hr (by omega))

theorem final : (dats m 0 c).arrAt 2 cfg0.N = fun x : S1024x1536.Idx => Tn.prod (argA m c) (argB m c) (x 0) (x 1) := by
  refine (dats m 0 c).arrAt_eq_of_covers 2 _ (by decide +kernel) fun t hf y => ?_
  blk_simp
  rw [after0_2]
  idx_vars y
  have h := (flush0_2 t).mp hf
  have h' := (idx_all t).2.2.2
  refine (out_at m c t h y0 y1 ⟨768 * (t.val / 11) + y1.val, by omega⟩ rfl).trans
    (congrArg (fun x : S1024x1536.Idx => Tn.prod (argA m c) (argB m c) (x 0) (x 1)) (a₁ := ix2 y0 ⟨768 * (t.val / 11) + y1.val, by omega⟩) ?_)
  blk_ext [idx_all t]

end Cert.Kernel8Ideal.Value

namespace Cert.Reference8Ideal.Value

open Idealize.ShloMosaic Idealize.ShloMosaic.TcCoe Idealize.ShloMosaic.Tactic Idealize.ShloMosaic.StableHlo
open Cert.Reference8Ideal Cert.Reference8Ideal.Gen Idealize.SL.Sem

/-- The reference's result as a function of its arguments. -/
def dw (a : FVec Ideal S8448x1024 .bf16) (b : FVec Ideal S8448x1536 .bf16) : FVec Ideal S1024x1536 .f32 :=
  transpose S1024x1536 [1, 0] (Host.dotGeneral dot_S8448x1536_S8448x1024_S1536x1024_0_0_1_1_n_n none (extf .f32 b bitsLt_bf16_f32) (extf .f32 a bitsLt_bf16_f32)) transposes_S1536x1024_S1024x1536_1_0

theorem dw_eq (a b) : dw a b = fun x : S1024x1536.Idx => Tn.prod a b (x 0) (x 1) := by
  funext x
  idx_vars x
  pointwise [dw]
  exact Finset.sum_congr rfl fun k _ => mul_comm _ _

end Cert.Reference8Ideal.Value
-- ==== Proof.TnInDt.lean ====
module

public import proofs.«01_k».proof.Proof.Gen.Kernel9Ideal.Value
public import proofs.«01_k».proof.Proof.Gen.Reference9Ideal.Run
public import proofs.«01_k».proof.Proof.Tn

@[expose] public section

set_option maxRecDepth 16384

noncomputable section

/-! The gradient of the mixer's input weights for the step sizes: accumulated in place over eleven tiles of 768 rows. -/

namespace Cert.Kernel9Ideal.Value

open Idealize.ShloMosaic Idealize.ShloMosaic.TcCoe Idealize.ShloMosaic.Tactic
open Cert.Kernel9Ideal Cert.Kernel9Ideal.Gen Idealize.SL.Sem

theorem idx_all : ∀ t : Fin cfg0.N, win0_0.index t = ![t.val % 11, 0] ∧ win0_1.index t = ![t.val % 11, t.val / 11]
    ∧ win0_2.index t = ![0, t.val / 11] ∧ t.val < 11 :=
  (by decide +kernel : ∀ t : Fin grid0.N, _)

theorem pay1_at (i : Fin 1024) (j : Fin 128) : k0_pay1 (F := Ideal) (ix2 i j) = 0 := by
  pointwise [k0_pay1]

theorem pay2_at (y x z) (i : Fin 1024) (j : Fin 128) : k0_pay2 (F := Ideal) y x z (ix2 i j)
    = x (ix2 i j) + ∑ k : Fin 768, y (ix2 k i) * z (ix2 k j) := by
  pointwise [k0_pay2]

variable (m : (ℓ : Loc nD τ sig) → Buf (Elt Ideal) ℓ) (c : Dev nD) (t : Fin cfg0.N)

/-- The first factor. -/
abbrev argA : S8448x1024.Idx → EReal := m ((c.tc : Thread nD τ).loc main_arg0)
/-- The second factor. -/
abbrev argB : S8448x128.Idx → EReal := m ((c.tc : Thread nD τ).loc main_arg1)

theorem blk0 (k : Fin 768) (i : Fin 1024) (r : Fin 8448) (hr : r.val = 768 * (t.val % 11) + k.val) :
    iblk m c 0 t (ix2 k i) = argA m c (ix2 r i) := by
  blk_ext [iblk, V, idx_all t, hr]

theorem blk1 (k : Fin 768) (j : Fin 128) (j' : Fin 128) (r : Fin 8448) (hr : r.val = 768 * (t.val % 11) + k.val) (hj : j'.val = 128 * (t.val / 11) + j.val) :
    iblk m c 1 t (ix2 k j) = argB m c (ix2 r j') := by
  blk_ext [iblk, V, idx_all t, hr, hj]

/-- What row `k` of tile `t` adds to the product. -/
def term (i : Fin 1024) (j : Fin 128) (k : Fin 768) : EReal := @HMul.hMul EReal EReal EReal _ (iblk m c 0 t (ix2 k i)) (iblk m c 1 t (ix2 k j))

theorem zero (h : t.val % 11 = 0) (i : Fin 1024) (j : Fin 128) : outsAt0 m c t.val t.isLt (ix2 i j) = 0 + ∑ k, term m c t i j k := by
  rw [outsAt0_A m c t h, out_A_2_eq, pay2_at, pay1_at]
  rfl

theorem step (h : ¬t.val % 11 = 0) (i : Fin 1024) (j : Fin 128) : outsAt0 m c t.val t.isLt (ix2 i j)
    = outsAt0 m c (t.val - 1) (Nat.lt_of_le_of_lt (Nat.sub_le _ _) t.isLt) (ix2 i j) + ∑ k, term m c t i j k := by
  rw [outsAt0_B m c t h, out_B_2_eq, pay2_at]
  rfl

theorem out_at (h : t.val % 11 = 10) (i : Fin 1024) (j : Fin 128) (j' : Fin 128) (hj : j'.val = 128 * (t.val / 11) + j.val) :
    outsAt0 m c t.val t.isLt (ix2 i j) = Tn.prod (argA m c) (argB m c) i j' :=
  Tn.acc_tiles (J := 11) (B := 768) rfl (fun n h => outsAt0 m c n h (ix2 i j)) (fun p => term m c p i j) (fun s h => zero m c s h i j)
    (fun s h => step m c s h i j) _ t h fun p hp k r hr =>
      congrArg₂ (fun x y : EReal => x * y) (blk0 m c p k i r hr) (blk1 m c p k j j' r hr (by omega))

theorem final : (dats m 0 c).arrAt 2 cfg0.N = fun x : S1024x128.Idx => Tn.prod (argA m c) (argB m c) (x 0) (x 1) := by
  refine (dats m 0 c).arrAt_eq_of_covers 2 _ (by decide +kernel) fun t hf y => ?_
  blk_simp
  rw [after0_2]
  idx_vars y
  have h := (flush0_2 t).mp hf
  have h' := (idx_all t).2.2.2
  refine (out_at m c t h y0 y1 ⟨128 * (t.val / 11) + y1.val, by omega⟩ rfl).trans
    (congrArg (fun x : S1024x128.Idx => Tn.prod (argA m c) (argB m c) (x 0) (x 1)) (a₁ := ix2 y0 ⟨128 * (t.val / 11) + y1.val, by omega⟩) ?_)
  blk_ext [idx_all t]

end Cert.Kernel9Ideal.Value

namespace Cert.Reference9Ideal.Value

open Idealize.ShloMosaic Idealize.ShloMosaic.TcCoe Idealize.ShloMosaic.Tactic Idealize.ShloMosaic.StableHlo
open Cert.Reference9Ideal Cert.Reference9Ideal.Gen Idealize.SL.Sem

/-- The reference's result as a function of its arguments. -/
def dw (a : FVec Ideal S8448x1024 .bf16) (b : FVec Ideal S8448x128 .bf16) : FVec Ideal S1024x128 .f32 :=
  transpose S1024x128 [1, 0] (Host.dotGeneral dot_S8448x128_S8448x1024_S128x1024_0_0_1_1_n_n none (extf .f32 b bitsLt_bf16_f32) (extf .f32 a bitsLt_bf16_f32)) transposes_S128x1024_S1024x128_1_0

theorem dw_eq (a b) : dw a b = fun x : S1024x128.Idx => Tn.prod a b (x 0) (x 1) := by
  funext x
  idx_vars x
  pointwise [dw]
  exact Finset.sum_congr rfl fun k _ => mul_comm _ _

end Cert.Reference9Ideal.Value
-- ==== Proof.TnInUv.lean ====
module

public import proofs.«01_k».proof.Proof.Gen.Kernel10Ideal.Value
public import proofs.«01_k».proof.Proof.Gen.Reference10Ideal.Run
public import proofs.«01_k».proof.Proof.Tn

@[expose] public section

set_option maxRecDepth 16384

noncomputable section

/-! The gradient of the mixer's input weights for the gating unit: accumulated in place over eleven tiles of 768 rows. -/

namespace Cert.Kernel10Ideal.Value

open Idealize.ShloMosaic Idealize.ShloMosaic.TcCoe Idealize.ShloMosaic.Tactic
open Cert.Kernel10Ideal Cert.Kernel10Ideal.Gen Idealize.SL.Sem

theorem idx_all : ∀ t : Fin cfg0.N, win0_0.index t = ![t.val % 11, 0] ∧ win0_1.index t = ![t.val % 11, t.val / 11]
    ∧ win0_2.index t = ![0, t.val / 11] ∧ t.val < 22 :=
  (by decide +kernel : ∀ t : Fin grid0.N, _)

theorem pay1_at (i : Fin 1024) (j : Fin 1024) : k0_pay1 (F := Ideal) (ix2 i j) = 0 := by
  pointwise [k0_pay1]

theorem pay2_at (y x z) (i : Fin 1024) (j : Fin 1024) : k0_pay2 (F := Ideal) y x z (ix2 i j)
    = x (ix2 i j) + ∑ k : Fin 768, y (ix2 k i) * z (ix2 k j) := by
  pointwise [k0_pay2]

variable (m : (ℓ : Loc nD τ sig) → Buf (Elt Ideal) ℓ) (c : Dev nD) (t : Fin cfg0.N)

/-- The first factor. -/
abbrev argA : S8448x1024.Idx → EReal := m ((c.tc : Thread nD τ).loc main_arg0)
/-- The second factor. -/
abbrev argB : S8448x2048.Idx → EReal := m ((c.tc : Thread nD τ).loc main_arg1)

theorem blk0 (k : Fin 768) (i : Fin 1024) (r : Fin 8448) (hr : r.val = 768 * (t.val % 11) + k.val) :
    iblk m c 0 t (ix2 k i) = argA m c (ix2 r i) := by
  blk_ext [iblk, V, idx_all t, hr]

theorem blk1 (k : Fin 768) (j : Fin 1024) (j' : Fin 2048) (r : Fin 8448) (hr : r.val = 768 * (t.val % 11) + k.val) (hj : j'.val = 1024 * (t.val / 11) + j.val) :
    iblk m c 1 t (ix2 k j) = argB m c (ix2 r j') := by
  blk_ext [iblk, V, idx_all t, hr, hj]

/-- What row `k` of tile `t` adds to the product. -/
def term (i : Fin 1024) (j : Fin 1024) (k : Fin 768) : EReal := @HMul.hMul EReal EReal EReal _ (iblk m c 0 t (ix2 k i)) (iblk m c 1 t (ix2 k j))

theorem zero (h : t.val % 11 = 0) (i : Fin 1024) (j : Fin 1024) : outsAt0 m c t.val t.isLt (ix2 i j) = 0 + ∑ k, term m c t i j k := by
  rw [outsAt0_A m c t h, out_A_2_eq, pay2_at, pay1_at]
  rfl

theorem step (h : ¬t.val % 11 = 0) (i : Fin 1024) (j : Fin 1024) : outsAt0 m c t.val t.isLt (ix2 i j)
    = outsAt0 m c (t.val - 1) (Nat.lt_of_le_of_lt (Nat.sub_le _ _) t.isLt) (ix2 i j) + ∑ k, term m c t i j k := by
  rw [outsAt0_B m c t h, out_B_2_eq, pay2_at]
  rfl

theorem out_at (h : t.val % 11 = 10) (i : Fin 1024) (j : Fin 1024) (j' : Fin 2048) (hj : j'.val = 1024 * (t.val / 11) + j.val) :
    outsAt0 m c t.val t.isLt (ix2 i j) = Tn.prod (argA m c) (argB m c) i j' :=
  Tn.acc_tiles (J := 11) (B := 768) rfl (fun n h => outsAt0 m c n h (ix2 i j)) (fun p => term m c p i j) (fun s h => zero m c s h i j)
    (fun s h => step m c s h i j) _ t h fun p hp k r hr =>
      congrArg₂ (fun x y : EReal => x * y) (blk0 m c p k i r hr) (blk1 m c p k j j' r hr (by omega))

theorem final : (dats m 0 c).arrAt 2 cfg0.N = fun x : S1024x2048.Idx => Tn.prod (argA m c) (argB m c) (x 0) (x 1) := by
  refine (dats m 0 c).arrAt_eq_of_covers 2 _ (by decide +kernel) fun t hf y => ?_
  blk_simp
  rw [after0_2]
  idx_vars y
  have h := (flush0_2 t).mp hf
  have h' := (idx_all t).2.2.2
  refine (out_at m c t h y0 y1 ⟨1024 * (t.val / 11) + y1.val, by omega⟩ rfl).trans
    (congrArg (fun x : S1024x2048.Idx => Tn.prod (argA m c) (argB m c) (x 0) (x 1)) (a₁ := ix2 y0 ⟨1024 * (t.val / 11) + y1.val, by omega⟩) ?_)
  blk_ext [idx_all t]

end Cert.Kernel10Ideal.Value

namespace Cert.Reference10Ideal.Value

open Idealize.ShloMosaic Idealize.ShloMosaic.TcCoe Idealize.ShloMosaic.Tactic Idealize.ShloMosaic.StableHlo
open Cert.Reference10Ideal Cert.Reference10Ideal.Gen Idealize.SL.Sem

/-- The reference's result as a function of its arguments. -/
def dw (a : FVec Ideal S8448x1024 .bf16) (b : FVec Ideal S8448x2048 .bf16) : FVec Ideal S1024x2048 .f32 :=
  transpose S1024x2048 [1, 0] (Host.dotGeneral dot_S8448x2048_S8448x1024_S2048x1024_0_0_1_1_n_n none (extf .f32 b bitsLt_bf16_f32) (extf .f32 a bitsLt_bf16_f32)) transposes_S2048x1024_S1024x2048_1_0

theorem dw_eq (a b) : dw a b = fun x : S1024x2048.Idx => Tn.prod a b (x 0) (x 1) := by
  funext x
  idx_vars x
  pointwise [dw]
  exact Finset.sum_congr rfl fun k _ => mul_comm _ _

end Cert.Reference10Ideal.Value
-- ==== Proof.RowsLoss.lean ====
module

public import proofs.«01_k».proof.Proof.Mlp

@[expose] public section

noncomputable section

/-! The loss's row: the final norm, the squared error against the target, and the way back through
the norm in the factored form in which the kernel computes it. -/

namespace Cert.Rows

open Idealize.ShloMosaic

/-- One over the row length as the kernel writes it. -/
def inv : EReal := Ideal.ofBits .f32 0x3A800000#32
/-- One half. -/
def half : EReal := Ideal.ofBits .f32 0x3F000000#32

theorem len_eq : len = ((1024 : ℝ) : EReal) := by
  simp [len, Ideal.ofBits, Ideal.ieee, -EReal.coe_mul]; norm_num
theorem inv_eq : inv = ((1024⁻¹ : ℝ) : EReal) := by
  simp [inv, Ideal.ofBits, Ideal.ieee, -EReal.coe_mul]; norm_num
theorem half_eq : half = ((2⁻¹ : ℝ) : EReal) := by
  simp [half, Ideal.ofBits, Ideal.ieee, -EReal.coe_mul]; norm_num
theorem mhalf_eq : mhalf = ((-2⁻¹ : ℝ) : EReal) := by
  simp [mhalf, Ideal.ofBits, Ideal.ieee, -EReal.coe_mul]; norm_num
theorem two_eq : two = ((2 : ℝ) : EReal) := by
  simp [two, Ideal.ofBits, Ideal.ieee, -EReal.coe_mul]; norm_num
theorem eps_pos : 0 < eps := by
  have h : ∃ r : ℝ, 0 < r ∧ eps = (r : EReal) := by
    refine ⟨_, ?_, by simp [eps, Ideal.ofBits, Ideal.ieee, -EReal.coe_mul]; rfl⟩
    positivity
  obtain ⟨r, h0, h⟩ := h
  rw [h]; exact EReal.coe_pos.mpr h0

/-- Dividing by the row length is multiplying by its inverse. -/
theorem div_len (x : EReal) : Ideal.div x len = x * inv := by
  unfold Ideal.div
  rw [len_eq, inv_eq, if_neg (EReal.coe_ne_zero.mpr (by norm_num)), ← EReal.coe_inv]

theorem inv_nonneg : 0 ≤ inv := by rw [inv_eq]; exact EReal.coe_nonneg.mpr (by norm_num)
theorem inv_ne_top : inv ≠ ⊤ := by rw [inv_eq]; exact EReal.coe_ne_top _
theorem half_nonneg : 0 ≤ half := by rw [half_eq]; exact EReal.coe_nonneg.mpr (by norm_num)
theorem half_ne_top : half ≠ ⊤ := by rw [half_eq]; exact EReal.coe_ne_top _

theorem half_two : half * two = 1 := by
  rw [half_eq, two_eq, ← EReal.coe_mul]; norm_num

theorem two_mhalf : two * mhalf = -1 := by
  rw [mhalf_eq, two_eq, ← EReal.coe_mul]; norm_num

theorem add_self (x : EReal) : x + x = two * x := by
  have h : two = 1 + 1 := by rw [two_eq, ← EReal.coe_one, ← EReal.coe_add]; norm_num
  rw [h, EReal.right_distrib_of_nonneg zero_le_one zero_le_one, one_mul]

theorem sq_nonneg (x : EReal) : 0 ≤ x * x := by
  induction x with
  | bot => rw [EReal.bot_mul_bot]; exact le_top
  | coe r => rw [← EReal.coe_mul]; exact EReal.coe_nonneg.mpr (mul_self_nonneg r)
  | top => rw [EReal.top_mul_top]; exact le_top

/-- A finite factor that isn't negative moves into a sum. -/
theorem mul_sum {ι : Type} (r : EReal) (h0 : 0 ≤ r) (ht : r ≠ ⊤) (s : Finset ι) (f : ι → EReal) :
    r * ∑ i ∈ s, f i = ∑ i ∈ s, r * f i := by
  classical
  induction s using Finset.induction_on with
  | empty => simp
  | insert a s ha ih => rw [Finset.sum_insert ha, Finset.sum_insert ha, EReal.left_distrib_of_nonneg_of_ne_top h0 ht, ih]

theorem msq_pos (h : Fin 1024 → EReal) : 0 < msq h := by
  unfold msq
  rw [div_len]
  exact lt_of_lt_of_le eps_pos (le_add_of_nonneg_left (mul_nonneg (Finset.sum_nonneg fun k _ => sq_nonneg (h k)) inv_nonneg))

/-- The reciprocal root of a positive value is finite and not negative, and over that value it is its own cube. -/
theorem rsqrt_pos (x : EReal) (hx : 0 < x) :
    0 ≤ Ideal.rsqrt x ∧ Ideal.rsqrt x ≠ ⊤ ∧ Ideal.div (Ideal.rsqrt x) x = Ideal.rsqrt x * Ideal.rsqrt x * Ideal.rsqrt x := by
  induction x with
  | bot => exact absurd hx (by simp)
  | top =>
    have h : Ideal.rsqrt ⊤ = 0 := rfl
    rw [h]
    refine ⟨le_refl _, by simp, ?_⟩
    unfold Ideal.div
    rw [if_neg (by simp), zero_mul, zero_mul, zero_mul]
  | coe r =>
    have hr : 0 < r := EReal.coe_pos.mp hx
    have h : Ideal.rsqrt (r : EReal) = (((Real.sqrt r)⁻¹ : ℝ) : EReal) := by
      show (if r < 0 then _ else if r = 0 then _ else _) = _
      rw [if_neg (not_lt.mpr hr.le), if_neg hr.ne']
    rw [h]
    refine ⟨EReal.coe_nonneg.mpr (by positivity), EReal.coe_ne_top _, ?_⟩
    unfold Ideal.div
    rw [if_neg (EReal.coe_ne_zero.mpr hr.ne'), ← EReal.coe_inv, ← EReal.coe_mul, ← EReal.coe_mul, ← EReal.coe_mul]
    congr 1
    have hs : Real.sqrt r * Real.sqrt r = r := Real.mul_self_sqrt hr.le
    have h0 : Real.sqrt r ≠ 0 := (Real.sqrt_pos.mpr hr).ne'
    conv_lhs => rw [← hs]
    rw [mul_inv]
    simp only [Real.sqrt_mul_self (Real.sqrt_nonneg r)]
    ring

theorem rs_nonneg (h : Fin 1024 → EReal) : 0 ≤ rs h := (rsqrt_pos _ (msq_pos h)).1
theorem rs_ne_top (h : Fin 1024 → EReal) : rs h ≠ ⊤ := (rsqrt_pos _ (msq_pos h)).2.1
theorem div_rs (h : Fin 1024 → EReal) : Ideal.div (rs h) (msq h) = rs h * rs h * rs h := (rsqrt_pos _ (msq_pos h)).2.2

/-- The norm's backward pass in the factored form. -/
theorem back_eq (h dn : Fin 1024 → EReal) (j : Fin 1024) :
    rs h * (dn j - nrm h j * Ideal.div (∑ k, dn k * nrm h k) len) = back h dn j := by
  have hs : ∑ k, dn k * nrm h k = rs h * ∑ k, h k * dn k := by
    rw [mul_sum _ (rs_nonneg h) (rs_ne_top h)]
    refine Finset.sum_congr rfl fun k _ => ?_
    unfold nrm
    ac_rfl
  rw [hs, sub_eq_add_neg, EReal.left_distrib_of_nonneg_of_ne_top (rs_nonneg h) (rs_ne_top h)]
  unfold back spread drs nrm
  rw [div_rs, div_len, div_len, add_assoc, mul_comm (_ * inv) (h j), add_self, mul_comm (rs h) (dn j)]
  congr 1
  generalize (∑ k, h k * dn k) = S
  rw [show two * (h j * (S * (mhalf * (rs h * rs h * rs h)) * inv)) = two * mhalf * (rs h * (h j * rs h * (rs h * S * inv))) by ac_rfl,
    two_mhalf, mul_neg, neg_mul, one_mul]

/-- The error of the normed, scaled row. -/
def err (h g tgt : Fin 1024 → EReal) (j : Fin 1024) : EReal := scl h g j - tgt j
/-- The gradient of the normed, scaled row. -/
def derr (h g tgt : Fin 1024 → EReal) (j : Fin 1024) : EReal := err h g tgt j * inv
/-- The gradient of the normed row. -/
def dfin (h g tgt : Fin 1024 → EReal) (j : Fin 1024) : EReal := derr h g tgt j * g j
/-- The row's part of the loss. -/
def lossRow (h g tgt : Fin 1024 → EReal) : EReal := half * (∑ k, err h g tgt k * err h g tgt k) * inv

/-- The gradient of the mean of squares. -/
theorem derr_mean (e : EReal) : Ideal.div (half * 1) len * (two * e) = e * inv := by
  rw [div_len, mul_one, show half * inv * (two * e) = half * two * (e * inv) by ac_rfl, half_two, one_mul]

/-- The loss of several rows. -/
theorem loss_sum {ι : Type} [Fintype ι] (f : ι → EReal) : half * (∑ i, f i) * inv = ∑ i, half * f i * inv := by
  rw [mul_sum _ half_nonneg half_ne_top, mul_comm, mul_sum _ inv_nonneg inv_ne_top]
  exact Finset.sum_congr rfl fun i _ => mul_comm _ _

end Cert.Rows
-- ==== Proof.KLoss.lean ====
module

public import proofs.«01_k».proof.Proof.Gen.Kernel13Ideal.Skeleton
public import proofs.«01_k».proof.Proof.RowsLoss

@[expose] public section

set_option maxRecDepth 16384

noncomputable section

/-! What the body of the forward pass of the second MLP with the loss computes, entry by entry, in terms of `Cert.Rows`. -/

namespace Cert.Kernel13Ideal.Gen

open Idealize.ShloMosaic Idealize.ShloMosaic.TcCoe Idealize.ShloMosaic.Tactic

variable (r : Fin 256) (j : Fin 1024)

theorem pay1_at (x g sh sc) : k0_pay1 (F := Ideal) x g sh sc (ix2 r j)
    = Rows.modn (fun k => x (ix2 r k)) (fun k => g (ix2 0 k)) (fun k => sh (ix2 0 k)) (fun k => sc (ix2 0 k)) j := by
  pointwise [k0_pay1]; rfl

theorem pay3_at (x g sh sc w) : k0_pay3 (F := Ideal) x g sh sc w (ix2 r j)
    = ∑ d : Fin 1024, k0_pay1 (F := Ideal) x g sh sc (ix2 r d) * w (ix3 0 d j) := by
  pointwise [k0_pay3]

theorem pay6_at (u w) : k0_pay6 (F := Ideal) u w (ix2 r j) = ∑ d : Fin 1024, u (ix2 r d) * w (ix3 0 d j) := by
  pointwise [k0_pay6]

theorem pay8_at (u w) : k0_pay8 (F := Ideal) u w (ix2 r j) = ∑ d : Fin 1024, u (ix2 r d) * w (ix3 0 d j) := by
  pointwise [k0_pay8]

theorem pay11_at (u w) : k0_pay11 (F := Ideal) u w (ix2 r j) = ∑ d : Fin 1024, u (ix2 r d) * w (ix3 0 d j) := by
  pointwise [k0_pay11]

theorem pay4_at (x g sh sc w) : k0_pay4 (F := Ideal) x g sh sc w (ix2 r j)
    = ∑ d : Fin 1024, k0_pay1 (F := Ideal) x g sh sc (ix2 r d) * w (ix3 0 d j) := by
  pointwise [k0_pay4]; rw [pay3_at]

theorem pay7_at (u w) : k0_pay7 (F := Ideal) u w (ix2 r j) = ∑ d : Fin 1024, u (ix2 r d) * w (ix3 0 d j) := by
  pointwise [k0_pay7]; rw [pay6_at]

theorem pay9_at (u w) : k0_pay9 (F := Ideal) u w (ix2 r j) = ∑ d : Fin 1024, u (ix2 r d) * w (ix3 0 d j) := by
  pointwise [k0_pay9]; rw [pay8_at]

theorem pay12_at (u w) : k0_pay12 (F := Ideal) u w (ix2 r j) = ∑ d : Fin 1024, u (ix2 r d) * w (ix3 0 d j) := by
  pointwise [k0_pay12]; rw [pay11_at]

theorem pay5_at (x g sh sc w) : k0_pay5 (F := Ideal) x g sh sc w (ix2 r j)
    = Rows.relu2 (k0_pay3 (F := Ideal) x g sh sc w (ix2 r j)) := by
  pointwise [k0_pay5]; rfl

theorem pay10_at (u q v0 w1 v1 w2 v2) : k0_pay10 (F := Ideal) u k0_pay2 q v0 w1 v1 w2 v2 (ix2 r j)
    = (∑ k : Fin 1024, q (ix2 r k) * v0 (ix3 0 k j))
      + (∑ k : Fin 1024, Rows.relu2 (k0_pay6 (F := Ideal) u w1 (ix2 r k)) * v1 (ix3 0 k j))
      + (∑ k : Fin 1024, Rows.relu2 (k0_pay8 (F := Ideal) u w2 (ix2 r k)) * v2 (ix3 0 k j)) := by
  pointwise [k0_pay10, k0_pay2]; rfl

theorem pay13_at (u p w v) : k0_pay13 (F := Ideal) u p w v (ix2 r j)
    = p (ix2 r j) + ∑ k : Fin 1024, Rows.relu2 (k0_pay11 (F := Ideal) u w (ix2 r k)) * v (ix3 0 k j) := by
  pointwise [k0_pay13]; rfl

theorem pay14_at (h u p w v g) : k0_pay14 (F := Ideal) h u p w v g (ix2 r j)
    = h (ix2 r j) + g (ix2 0 j) * k0_pay13 (F := Ideal) u p w v (ix2 r j) := by
  pointwise [k0_pay14]

/-- The sum over the four leaves of the weights is the second product. -/
theorem y_at (x g sh sc) (w0 w1 w2 w3 v0 v1 v2 v3 : Vec Ideal S1x1024x1024 .bf16) (W : Fin 1024 → Fin 4096 → EReal)
    (U : Fin 4096 → Fin 1024 → EReal)
    (hw0 : ∀ d k : Fin 1024, w0 (ix3 0 d k) = W d ⟨k.val, by omega⟩) (hw1 : ∀ d k : Fin 1024, w1 (ix3 0 d k) = W d ⟨1024 + k.val, by omega⟩)
    (hw2 : ∀ d k : Fin 1024, w2 (ix3 0 d k) = W d ⟨2048 + k.val, by omega⟩) (hw3 : ∀ d k : Fin 1024, w3 (ix3 0 d k) = W d ⟨3072 + k.val, by omega⟩)
    (hv0 : ∀ k n : Fin 1024, v0 (ix3 0 k n) = U ⟨k.val, by omega⟩ n) (hv1 : ∀ k n : Fin 1024, v1 (ix3 0 k n) = U ⟨1024 + k.val, by omega⟩ n)
    (hv2 : ∀ k n : Fin 1024, v2 (ix3 0 k n) = U ⟨2048 + k.val, by omega⟩ n) (hv3 : ∀ k n : Fin 1024, v3 (ix3 0 k n) = U ⟨3072 + k.val, by omega⟩ n) :
    k0_pay13 (F := Ideal) (k0_pay1 x g sh sc) (k0_pay10 (k0_pay1 x g sh sc) k0_pay2 (k0_pay5 x g sh sc w0) v0 w1 v1 w2 v2) w3 v3 (ix2 r j)
      = Rows.mlpY (Rows.act (fun k => x (ix2 r k)) (fun k => g (ix2 0 k)) (fun k => sh (ix2 0 k)) (fun k => sc (ix2 0 k)) W) U j := by
  rw [pay13_at, pay10_at]
  simp only [pay5_at, pay3_at, pay6_at, pay8_at, pay11_at, pay1_at, hw0, hw1, hw2, hw3, hv0, hv1, hv2, hv3]
  exact Rows.sum4 fun k => Rows.relu2 (Rows.act _ _ _ _ W k) * U k j

theorem pay15_at (g) : k0_pay15 (F := Ideal) g (ix2 0 j) = g (ix2 0 j) := by pointwise [k0_pay15]

theorem pay16_at (i : Fin 8) : k0_pay16 (F := Ideal) (ix2 i j) = 0 := by pointwise [k0_pay16]

theorem pay17_at (i : Fin 8) (l : Fin 128) : k0_pay17 (F := Ideal) (ix2 i l) = 0 := by pointwise [k0_pay17]

theorem pay18_at (x u p w v g) : k0_pay18 (F := Ideal) x u p w v g (ix2 r 0) = Rows.rs fun k => k0_pay14 (F := Ideal) x u p w v g (ix2 r k) := by
  pointwise [k0_pay18]; rfl

theorem pay19_at (x u p w v g) : k0_pay19 (F := Ideal) x u p w v g (ix2 r j) = Rows.nrm (fun k => k0_pay14 (F := Ideal) x u p w v g (ix2 r k)) j := by
  pointwise [k0_pay19]; rw [pay18_at]; rfl

theorem pay20_at (x u p w v g f) : k0_pay20 (F := Ideal) x u p w v g f (ix2 r j)
    = Rows.scl (fun k => k0_pay14 (F := Ideal) x u p w v g (ix2 r k)) (fun k => f (ix2 0 k)) j := by
  pointwise [k0_pay20]; rw [pay19_at, pay15_at]; rfl

theorem pay21_at (t s) : k0_pay21 (F := Ideal) t s (ix2 r j) = s (ix2 r j) - t (ix2 r j) := by pointwise [k0_pay21]

theorem pay23_at (t s) : k0_pay23 (F := Ideal) t s (ix2 r j) = (s (ix2 r j) - t (ix2 r j)) * Rows.inv := by
  pointwise [k0_pay23]; rw [pay21_at]; rfl

theorem pay22_at (t s a) (i : Fin 8) (l : Fin 128) : k0_pay22 (F := Ideal) t s a (ix2 i l)
    = a (ix2 i l) + Rows.half * (∑ r : Fin 256, ∑ k : Fin 1024, (s (ix2 r k) - t (ix2 r k)) * (s (ix2 r k) - t (ix2 r k))) * Rows.inv := by
  pointwise [k0_pay22]; simp only [pay21_at]; rfl

theorem pay24_at (t n s a) : k0_pay24 (F := Ideal) t n s a (ix2 0 j)
    = a (ix2 0 j) + ∑ r : Fin 256, (s (ix2 r j) - t (ix2 r j)) * Rows.inv * n (ix2 r j) := by
  pointwise [k0_pay24]; simp only [pay23_at]

theorem pay25_at (t g q n s) : k0_pay25 (F := Ideal) t g q n s (ix2 r j)
    = q (ix2 r 0) * ((s (ix2 r j) - t (ix2 r j)) * Rows.inv * g (ix2 0 j)
        - n (ix2 r j) * Ideal.div (∑ k : Fin 1024, (s (ix2 r k) - t (ix2 r k)) * Rows.inv * g (ix2 0 k) * n (ix2 r k)) Rows.len) := by
  pointwise [k0_pay25]; simp only [pay23_at]; rfl

end Cert.Kernel13Ideal.Gen
-- ==== Proof.RLoss.lean ====
module

public import proofs.«01_k».proof.Proof.Gen.Reference13Ideal.Read
public import proofs.«01_k».proof.Proof.RFwd
public import proofs.«01_k».proof.Proof.RowsLoss

@[expose] public section

set_option maxRecDepth 16384

noncomputable section

/-! The reference's forward pass of the second MLP with the loss and its gradient, entry by entry. -/

namespace Cert.Reference13Ideal.Read

open Idealize.ShloMosaic Idealize.ShloMosaic.TcCoe Idealize.ShloMosaic.Tactic

variable (x0 : (⟨S8192x1024, .f32⟩ : BufTy).Contents (Elt Ideal)) (x1 x2 x3 x4 : (⟨S1024, .f32⟩ : BufTy).Contents (Elt Ideal))
  (x5 : (⟨S2x1024x4096, .f32⟩ : BufTy).Contents (Elt Ideal)) (x6 : (⟨S2x4096x1024, .f32⟩ : BufTy).Contents (Elt Ideal))
  (x10 : (⟨S1024, .f32⟩ : BufTy).Contents (Elt Ideal)) (x11 : (⟨S8192x1024, .f32⟩ : BufTy).Contents (Elt Ideal))
  (r : Fin 8192) (j : Fin 1024) (k : Fin 4096)

theorem v20_at : val_main_v20 (F := Ideal) x0 x1 x2 x3 (ix2 r j)
    = Rows.modn (fun k => x0 (ix2 r k)) (fun k => x1 (ix1 k)) (fun k => x2 (ix1 k)) (fun k => x3 (ix1 k)) j :=
  Cert.Reference12Ideal.Read.v20_at x0 x1 x2 x3 r j

theorem v22_at : val_main_v22 (F := Ideal) x5 (ix2 j k) = x5 (ix3 1 j k) := by
  pointwise [val_main_v21, val_main_v22]

theorem v27_at : val_main_v27 (F := Ideal) x6 (ix2 k j) = x6 (ix3 1 k j) := by
  pointwise [val_main_v26, val_main_v27]

/-- The row of the first product. -/
def actRow (k : Fin 4096) : EReal :=
  Rows.act (fun k => x0 (ix2 r k)) (fun k => x1 (ix1 k)) (fun k => x2 (ix1 k)) (fun k => x3 (ix1 k)) (fun d k => x5 (ix3 1 d k)) k

/-- The row of the second product. -/
def yRow (j : Fin 1024) : EReal := Rows.mlpY (actRow x0 x1 x2 x3 x5 r) (fun k j => x6 (ix3 1 k j)) j

/-- The row of the layer's result. -/
def hRow (j : Fin 1024) : EReal := Rows.resid (fun k => x0 (ix2 r k)) (fun k => x4 (ix1 k)) (yRow x0 x1 x2 x3 x5 x6 r) j

/-- The row's gradient of the final norm's weight. -/
def dgRow (j : Fin 1024) : EReal :=
  Rows.derr (hRow x0 x1 x2 x3 x4 x5 x6 r) (fun k => x10 (ix1 k)) (fun k => x11 (ix2 r k)) j * Rows.nrm (hRow x0 x1 x2 x3 x4 x5 x6 r) j

/-- The row's part of the loss. -/
def lRow : EReal := Rows.lossRow (hRow x0 x1 x2 x3 x4 x5 x6 r) (fun k => x10 (ix1 k)) (fun k => x11 (ix2 r k))

theorem v23_at : val_main_v23 (F := Ideal) x0 x1 x2 x3 x5 (ix2 r k) = actRow x0 x1 x2 x3 x5 r k := by
  pointwise [val_main_v23]; simp only [v20_at, v22_at]; rfl

theorem v85_at : val_main_v85 (F := Ideal) x0 x1 x2 x3 x5 (ix2 r k) = actRow x0 x1 x2 x3 x5 r k := by
  pointwise [val_main_v85]; rw [v23_at]

theorem v28_at : val_main_v28 (F := Ideal) x0 x1 x2 x3 x5 x6 (ix2 r j) = yRow x0 x1 x2 x3 x5 x6 r j := by
  pointwise [val_main_v28, val_main_v25, val_main_v24, val_main_call0_v0, val_main_call0_cst]; simp only [v23_at, v27_at]; rfl

theorem v32_at : val_main_v32 (F := Ideal) x0 x1 x2 x3 x4 x5 x6 (ix2 r j) = hRow x0 x1 x2 x3 x4 x5 x6 r j := by
  pointwise [val_main_v32, val_main_v31, val_main_v30, val_main_v29]; rw [v28_at]; rfl

theorem v39_at : val_main_v39 (F := Ideal) x0 x1 x2 x3 x4 x5 x6 (ix2 r 0) = Rows.msq (hRow x0 x1 x2 x3 x4 x5 x6 r) := by
  pointwise [val_main_v33, val_main_cst_3, val_main_v34, val_main_v35, val_main_cst_4, val_main_v36, val_main_v37, val_main_cst_5,
    val_main_v38, val_main_v39]
  simp only [v32_at]; rfl

theorem v40_at : val_main_v40 (F := Ideal) x0 x1 x2 x3 x4 x5 x6 (ix2 r 0) = Rows.rs (hRow x0 x1 x2 x3 x4 x5 x6 r) := by
  pointwise [val_main_v40]; rw [v39_at]; rfl

theorem v43_at : val_main_v43 (F := Ideal) x0 x1 x2 x3 x4 x5 x6 (ix2 r 0) = Rows.drs (hRow x0 x1 x2 x3 x4 x5 x6 r) := by
  pointwise [val_main_v41, val_main_cst_6, val_main_v42, val_main_v43]; rw [v40_at, v39_at]; rfl

theorem v45_at : val_main_v45 (F := Ideal) x0 x1 x2 x3 x4 x5 x6 (ix2 r j) = Rows.nrm (hRow x0 x1 x2 x3 x4 x5 x6 r) j := by
  pointwise [val_main_v44, val_main_v45]; rw [v40_at, v32_at]; rfl

theorem v49_at : val_main_v49 (F := Ideal) x0 x1 x2 x3 x4 x5 x6 x10 x11 (ix2 r j)
    = Rows.err (hRow x0 x1 x2 x3 x4 x5 x6 r) (fun k => x10 (ix1 k)) (fun k => x11 (ix2 r k)) j := by
  pointwise [val_main_v46, val_main_v47, val_main_v48, val_main_v49]; rw [v45_at]; rfl

theorem v63_at : val_main_v63 (F := Ideal) x0 x1 x2 x3 x4 x5 x6 x10 x11 (ix2 r j)
    = Rows.derr (hRow x0 x1 x2 x3 x4 x5 x6 r) (fun k => x10 (ix1 k)) (fun k => x11 (ix2 r k)) j := by
  refine Eq.trans ?_ (Rows.derr_mean _)
  rw [← v49_at]
  pointwise [val_main_cst_7, val_main_v51, val_main_v52, val_main_cst_12, val_main_cst_13, val_main_v58, val_main_v59, val_main_cst_14,
    val_main_v60, val_main_v61, val_main_v62, val_main_v63]
  rfl

theorem v68_at : val_main_v68 (F := Ideal) x0 x1 x2 x3 x4 x5 x6 x10 x11 (ix2 r j)
    = Rows.dfin (hRow x0 x1 x2 x3 x4 x5 x6 r) (fun k => x10 (ix1 k)) (fun k => x11 (ix2 r k)) j := by
  pointwise [val_main_v46, val_main_v67, val_main_v68]; rw [v63_at]; rfl

theorem v83_at : val_main_v83 (F := Ideal) x0 x1 x2 x3 x4 x5 x6 x10 x11 (ix2 r j)
    = Rows.back (hRow x0 x1 x2 x3 x4 x5 x6 r)
        (Rows.dfin (hRow x0 x1 x2 x3 x4 x5 x6 r) (fun k => x10 (ix1 k)) (fun k => x11 (ix2 r k))) j := by
  pointwise [val_main_v70, val_main_cst_17, val_main_v71, val_main_v72, val_main_v73, val_main_v74, val_main_v75, val_main_cst_18,
    val_main_v76, val_main_v77, val_main_cst_19, val_main_v78, val_main_v79, val_main_v80, val_main_v81, val_main_v82, val_main_v83]
  simp only [v68_at, v32_at, v40_at, v43_at, Fin.sum_univ_one]
  rfl

theorem v94_at (i : Fin 8) : val_main_v94 (F := Ideal) x0 x1 x2 x3 x4 x5 x6 x10 x11 (ix2 i j)
    = ∑ r : Fin 8192, if i = 0 then dgRow x0 x1 x2 x3 x4 x5 x6 x10 x11 r j else 0 := by
  revert i
  refine Rows.eight _ ?_ ?_ ?_ ?_ ?_ ?_ ?_ ?_
  · pointwise [val_main_v94, val_main_v86, val_main_v69, val_main_cst_16, val_main_v66, val_main_v65, val_main_cst_15, val_main_v64]
    simp only [v45_at, v63_at, Fin.sum_univ_one]
    exact Finset.sum_congr rfl fun r _ => mul_comm _ _
  · pointwise [val_main_v94, val_main_v87, val_main_v84, val_main_cst_20]; exact Finset.sum_const_zero.symm
  · pointwise [val_main_v94, val_main_v88, val_main_v84, val_main_cst_20]; exact Finset.sum_const_zero.symm
  · pointwise [val_main_v94, val_main_v89, val_main_v84, val_main_cst_20]; exact Finset.sum_const_zero.symm
  · pointwise [val_main_v94, val_main_v90, val_main_v84, val_main_cst_20]; exact Finset.sum_const_zero.symm
  · pointwise [val_main_v94, val_main_v91, val_main_v84, val_main_cst_20]; exact Finset.sum_const_zero.symm
  · pointwise [val_main_v94, val_main_v92, val_main_v84, val_main_cst_20]; exact Finset.sum_const_zero.symm
  · pointwise [val_main_v94, val_main_v93, val_main_v84, val_main_cst_20]; exact Finset.sum_const_zero.symm

theorem v55_at : val_main_v55 (F := Ideal) x0 x1 x2 x3 x4 x5 x6 x10 x11 (ix1 r)
    = (∑ k : Fin 1024, Rows.err (hRow x0 x1 x2 x3 x4 x5 x6 r) (fun k => x10 (ix1 k)) (fun k => x11 (ix2 r k)) k
        * Rows.err (hRow x0 x1 x2 x3 x4 x5 x6 r) (fun k => x10 (ix1 k)) (fun k => x11 (ix2 r k)) k) * Rows.inv := by
  rw [← Rows.div_len]
  pointwise [val_main_v50, val_main_cst_8, val_main_v53, val_main_cst_9, val_main_v54, val_main_v55]
  simp only [v49_at]
  rfl

theorem v95_at (i : Fin 8) (l : Fin 128) : val_main_v95 (F := Ideal) x0 x1 x2 x3 x4 x5 x6 x10 x11 (ix2 i l)
    = ∑ r : Fin 8192, lRow x0 x1 x2 x3 x4 x5 x6 x10 x11 r := by
  pointwise [val_main_v95, val_main_v57, val_main_v56, val_main_cst_10, val_main_cst_11]
  simp only [v55_at]
  refine (Rows.mul_sum Rows.half Rows.half_nonneg Rows.half_ne_top _ _).trans (Finset.sum_congr rfl fun r _ => ?_)
  exact (mul_assoc _ _ _).symm

end Cert.Reference13Ideal.Read
-- ==== Proof.Loss.lean ====
module

public import proofs.«01_k».proof.Proof.Gen.Kernel13Ideal.Value
public import proofs.«01_k».proof.Proof.Bwd
public import proofs.«01_k».proof.Proof.KLoss
public import proofs.«01_k».proof.Proof.RLoss
public import proofs.«01_k».proof.Proof.Stores

@[expose] public section

set_option maxRecDepth 16384

noncomputable section

/-! The forward pass of the second MLP with the loss: the kernel's results are the reference's. -/

namespace Cert.Kernel13Ideal.Value

open Idealize.ShloMosaic Idealize.ShloMosaic.TcCoe Idealize.ShloMosaic.Tactic
open Cert.Kernel13Ideal Cert.Kernel13Ideal.Gen Idealize.SL.Sem
open Cert.Stores Cert.Reference13Ideal.Read
open Cert.Kernel12Ideal.Gen (stack2 stack4 stacked stacked_at0 stacked_at1 stacked_at2 stacked_at3 pack1 pack2 packed)
open Cert.Kernel11Ideal.Value (quarters)

theorem idx_ins : ∀ t : Fin cfg0.N, win0_0.index t = ![t.val, 0] ∧ win0_1.index t = ![0, 0] ∧ win0_2.index t = ![0, 1, 0]
    ∧ win0_3.index t = ![0, 3, 0] ∧ win0_4.index t = ![t.val, 0] ∧ win0_5.index t = ![0, 0] ∧ t.val < 32 :=
  (by decide +kernel : ∀ t : Fin grid0.N, _)

theorem idx_outs : ∀ t : Fin cfg0.N, win0_6.index t = ![t.val, 0] ∧ win0_7.index t = ![t.val, 0] ∧ win0_8.index t = ![t.val, 0]
    ∧ win0_9.index t = ![0, 0] ∧ win0_10.index t = ![0, 0] :=
  (by decide +kernel : ∀ t : Fin grid0.N, _)

variable (m : (ℓ : Loc nD τ sig) → Buf (Elt Ideal) ℓ) (c : Dev nD) (t : Fin cfg0.N)

/-- Argument `b` as launched. -/
abbrev arg (b : Ref sig .tc) := m ((c : Thread nD τ).loc b)

/-! ### What the host prepares -/

theorem V6_eq : V m c main_v6 = stacked (arg m c main_arg1) (arg m c main_arg2) (arg m c main_arg3) (arg m c main_arg4) := by
  unfold V
  after_reads_simp
  change stack2 _ _ = _
  after_reads_simp
  change stack2 (stack4 _ _ _ _) _ = _
  after_reads_simp
  rfl

/-- What the host has computed when it comes to the packing. -/
abbrev U23 (b : Ref sig .tc) := StableHlo.upto hostOps0 (fun b => m (c, b)) 23 (Proc.devRef .tc b)

theorem U23_w1 : U23 m c main_v9 = pack1 (arg m c main_arg5) := by
  unfold U23
  after_reads_simp
  rfl

theorem U23_w2 : U23 m c main_v12 = pack2 (arg m c main_arg6) := by
  unfold U23
  after_reads_simp
  rfl

theorem V23_eq : V m c main_v23 = packed (pack1 (arg m c main_arg5)) (pack2 (arg m c main_arg6))
    (U23 m c main_v15) (U23 m c main_v18) (U23 m c main_v21) := by
  rw [← U23_w1, ← U23_w2]
  unfold V
  after_reads_simp
  rfl

theorem V24_at (j : Fin 1024) : V m c main_v24 (ix2 0 j) = arg m c main_arg10 (ix1 j) := by
  unfold V
  after_reads_simp
  pointwise

/-- The second layer's first weights in the pack. -/
theorem packed_l1 (w v d e f) (s : Fin 4) (i j : Fin 1024) : packed (pack1 w) (pack2 v) d e f (ix3 s ⟨1024 + i.val, by omega⟩ j)
    = w (ix3 1 i ⟨1024 * s.val + j.val, by omega⟩) := by
  pointwise [packed, pack1]
  rw [dif_pos (by omega)]
  blk_ext

/-- The second layer's second weights in the pack. -/
theorem packed_l2 (w v d e f) (s : Fin 4) (i j : Fin 1024) : packed (pack1 w) (pack2 v) d e f (ix3 s ⟨3072 + i.val, by omega⟩ j)
    = v (ix3 1 ⟨1024 * s.val + i.val, by omega⟩ j) := by
  pointwise [packed, pack2]
  rw [dif_neg (by omega), dif_pos (by omega)]
  blk_ext

/-! ### The blocks -/

/-- Row `r` of tile `t`. -/
def row (t : Fin cfg0.N) (r : Fin 256) : Fin 8192 := ⟨256 * t.val + r.val, by have := (idx_ins t).2.2.2.2.2.2; omega⟩

theorem blk0 (r : Fin 256) (j : Fin 1024) : iblk m c 0 t (ix2 r j) = arg m c main_arg0 (ix2 (row t r) j) := by
  blk_ext [iblk, V, idx_ins t, row]

theorem blk1 (i : Fin 8) (j : Fin 1024) : iblk m c 1 t (ix2 i j) = V m c main_v6 (ix2 i j) := by
  blk_ext [iblk, idx_ins t]

theorem blk2 (s : Fin 4) (i j : Fin 1024) : X0_2 m c t (ix3 s i j) = V m c main_v23 (ix3 s ⟨1024 + i.val, by omega⟩ j) := by
  unfold X0_2 Pipeline.Window.fill
  rw [dif_pos (moved0_2 t _)]
  blk_ext [iblk, idx_ins t]

theorem blk3 (s : Fin 4) (i j : Fin 1024) : X0_3 m c t (ix3 s i j) = V m c main_v23 (ix3 s ⟨3072 + i.val, by omega⟩ j) := by
  unfold X0_3 Pipeline.Window.fill
  rw [dif_pos (moved0_3 t _)]
  blk_ext [iblk, idx_ins t]

theorem blk4 (r : Fin 256) (j : Fin 1024) : iblk m c 4 t (ix2 r j) = arg m c main_arg11 (ix2 (row t r) j) := by
  blk_ext [iblk, V, idx_ins t, row]

theorem blk5 (j : Fin 1024) : iblk m c 5 t (ix2 0 j) = arg m c main_arg10 (ix1 j) := by
  rw [← V24_at]
  blk_ext [iblk, idx_ins t]

theorem prm0 (h) (k : Fin 1024) : View.ld (iblk m c 1 t) (Rect.unit ![0, 0] ![1, 1024] h) (ix2 0 k) = arg m c main_arg1 (ix1 k) := by
  rw [ld2 _ _ _ _ (by omega) (by omega)]
  refine (blk1 m c t _ _).trans ?_
  rw [V6_eq]
  exact (congrArg _ (by blk_ext)).trans (stacked_at0 _ _ _ _ k)

theorem prm1 (h) (k : Fin 1024) : View.ld (iblk m c 1 t) (Rect.unit ![1, 0] ![1, 1024] h) (ix2 0 k) = arg m c main_arg2 (ix1 k) := by
  rw [ld2 _ _ _ _ (by omega) (by omega)]
  refine (blk1 m c t _ _).trans ?_
  rw [V6_eq]
  exact (congrArg _ (by blk_ext)).trans (stacked_at1 _ _ _ _ k)

theorem prm2 (h) (k : Fin 1024) : View.ld (iblk m c 1 t) (Rect.unit ![2, 0] ![1, 1024] h) (ix2 0 k) = arg m c main_arg3 (ix1 k) := by
  rw [ld2 _ _ _ _ (by omega) (by omega)]
  refine (blk1 m c t _ _).trans ?_
  rw [V6_eq]
  exact (congrArg _ (by blk_ext)).trans (stacked_at2 _ _ _ _ k)

theorem prm3 (h) (k : Fin 1024) : View.ld (iblk m c 1 t) (Rect.unit ![3, 0] ![1, 1024] h) (ix2 0 k) = arg m c main_arg4 (ix1 k) := by
  rw [ld2 _ _ _ _ (by omega) (by omega)]
  refine (blk1 m c t _ _).trans ?_
  rw [V6_eq]
  exact (congrArg _ (by blk_ext)).trans (stacked_at3 _ _ _ _ k)

/-- Leaf `a` of the first weights. -/
theorem w1_at (a : ℕ) (ha : a < 4) (h) (d k : Fin 1024) (k' : Fin 4096) (hk : k'.val = 1024 * a + k.val) :
    View.ld (X0_2 m c t) (Rect.unit ![a, 0, 0] ![1, 1024, 1024] h) (ix3 0 d k) = arg m c main_arg5 (ix3 1 d k') := by
  rw [ld3 _ _ _ _ ha (by omega) (by omega), show k' = ⟨1024 * a + k.val, by omega⟩ from Fin.ext hk]
  refine (blk2 m c t _ _ _).trans ?_
  rw [V23_eq]
  exact packed_l1 _ _ _ _ _ ⟨a, ha⟩ d k

/-- Leaf `a` of the second weights. -/
theorem w2_at (a : ℕ) (ha : a < 4) (h) (k n : Fin 1024) (k' : Fin 4096) (hk : k'.val = 1024 * a + k.val) :
    View.ld (X0_3 m c t) (Rect.unit ![a, 0, 0] ![1, 1024, 1024] h) (ix3 0 k n) = arg m c main_arg6 (ix3 1 k' n) := by
  rw [ld3 _ _ _ _ ha (by omega) (by omega), show k' = ⟨1024 * a + k.val, by omega⟩ from Fin.ext hk]
  refine (blk3 m c t _ _ _).trans ?_
  rw [V23_eq]
  exact packed_l2 _ _ _ _ _ ⟨a, ha⟩ k n

/-! ### The layer -/

/-- The modulated tile. -/
def ku : Vec Ideal S256x1024 .bf16 := k0_pay1 (F := Ideal) (iblk m c 0 t) (View.ld (iblk m c 1 t) (Rect.unit ![0, 0] ![1, 1024] inb_S8x1024_S1x1024_0_0))
  (View.ld (iblk m c 1 t) (Rect.unit ![1, 0] ![1, 1024] inb_S8x1024_S1x1024_1_0)) (View.ld (iblk m c 1 t) (Rect.unit ![2, 0] ![1, 1024] inb_S8x1024_S1x1024_2_0))
/-- Leaf 0 of the first weights. -/
abbrev kw0 := View.ld (X0_2 m c t) (Rect.unit ![0, 0, 0] ![1, 1024, 1024] inb_S4x1024x1024_S1x1024x1024_0_0_0)
/-- Leaf 1 of the first weights. -/
abbrev kw1 := View.ld (X0_2 m c t) (Rect.unit ![1, 0, 0] ![1, 1024, 1024] inb_S4x1024x1024_S1x1024x1024_1_0_0)
/-- Leaf 2 of the first weights. -/
abbrev kw2 := View.ld (X0_2 m c t) (Rect.unit ![2, 0, 0] ![1, 1024, 1024] inb_S4x1024x1024_S1x1024x1024_2_0_0)
/-- Leaf 3 of the first weights. -/
abbrev kw3 := View.ld (X0_2 m c t) (Rect.unit ![3, 0, 0] ![1, 1024, 1024] inb_S4x1024x1024_S1x1024x1024_3_0_0)
/-- Leaf 0 of the second weights. -/
abbrev kv0 := View.ld (X0_3 m c t) (Rect.unit ![0, 0, 0] ![1, 1024, 1024] inb_S4x1024x1024_S1x1024x1024_0_0_0)
/-- Leaf 1 of the second weights. -/
abbrev kv1 := View.ld (X0_3 m c t) (Rect.unit ![1, 0, 0] ![1, 1024, 1024] inb_S4x1024x1024_S1x1024x1024_1_0_0)
/-- Leaf 2 of the second weights. -/
abbrev kv2 := View.ld (X0_3 m c t) (Rect.unit ![2, 0, 0] ![1, 1024, 1024] inb_S4x1024x1024_S1x1024x1024_2_0_0)
/-- Leaf 3 of the second weights. -/
abbrev kv3 := View.ld (X0_3 m c t) (Rect.unit ![3, 0, 0] ![1, 1024, 1024] inb_S4x1024x1024_S1x1024x1024_3_0_0)
/-- The squared rectifier of the first leaf's product. -/
def kr : Vec Ideal S256x1024 .bf16 := k0_pay5 (F := Ideal) (iblk m c 0 t) (View.ld (iblk m c 1 t) (Rect.unit ![0, 0] ![1, 1024] inb_S8x1024_S1x1024_0_0))
  (View.ld (iblk m c 1 t) (Rect.unit ![1, 0] ![1, 1024] inb_S8x1024_S1x1024_1_0)) (View.ld (iblk m c 1 t) (Rect.unit ![2, 0] ![1, 1024] inb_S8x1024_S1x1024_2_0)) (kw0 m c t)
/-- The second product over the first three leaves. -/
def kp : Vec Ideal S256x1024 .f32 := k0_pay10 (F := Ideal) (ku m c t) k0_pay2 (kr m c t) (kv0 m c t) (kw1 m c t) (kv1 m c t) (kw2 m c t) (kv2 m c t)
/-- The gate. -/
abbrev kg := View.ld (iblk m c 1 t) (Rect.unit ![3, 0] ![1, 1024] inb_S8x1024_S1x1024_3_0)
/-- The layer's result. -/
def kh : Vec Ideal S256x1024 .f32 := k0_pay14 (F := Ideal) (iblk m c 0 t) (ku m c t) (kp m c t) (kw3 m c t) (kv3 m c t) (kg m c t)
/-- The reciprocal root mean square of the layer's result. -/
def kq : Vec Ideal S256x1 .f32 := k0_pay18 (F := Ideal) (iblk m c 0 t) (ku m c t) (kp m c t) (kw3 m c t) (kv3 m c t) (kg m c t)
/-- The normed result. -/
def kn : Vec Ideal S256x1024 .f32 := k0_pay19 (F := Ideal) (iblk m c 0 t) (ku m c t) (kp m c t) (kw3 m c t) (kv3 m c t) (kg m c t)
/-- The normed, scaled result. -/
def ks : Vec Ideal S256x1024 .f32 := k0_pay20 (F := Ideal) (iblk m c 0 t) (ku m c t) (kp m c t) (kw3 m c t) (kv3 m c t) (kg m c t) (iblk m c 5 t)

/-- The reference's row of the layer's result. -/
abbrev rh (i : Fin 8192) := hRow (arg m c main_arg0) (arg m c main_arg1) (arg m c main_arg2) (arg m c main_arg3) (arg m c main_arg4) (arg m c main_arg5) (arg m c main_arg6) i
/-- The reference's weight of the final norm. -/
abbrev rg (k : Fin 1024) : EReal := arg m c main_arg10 (ix1 k)
/-- The reference's row of the target. -/
abbrev rt (i : Fin 8192) (k : Fin 1024) : EReal := arg m c main_arg11 (ix2 i k)

theorem ku_at (r : Fin 256) (j : Fin 1024) : ku m c t (ix2 r j)
    = Rows.modn (fun k => arg m c main_arg0 (ix2 (row t r) k)) (fun k => arg m c main_arg1 (ix1 k)) (fun k => arg m c main_arg2 (ix1 k))
        (fun k => arg m c main_arg3 (ix1 k)) j := by
  unfold ku
  rw [pay1_at]
  simp only [blk0, prm0, prm1, prm2]

/-- The tile's product with leaf `a` of the first weights. -/
theorem a_at (a : ℕ) (ha : a < 4) (b : ℕ) (hb : b = 1024 * a) (h) (r : Fin 256) (k : Fin 1024) (k' : Fin 4096) (hk : k'.val = b + k.val) :
    ∑ d : Fin 1024, ku m c t (ix2 r d) * View.ld (X0_2 m c t) (Rect.unit ![a, 0, 0] ![1, 1024, 1024] h) (ix3 0 d k)
    = val_main_v85 (F := Ideal) (arg m c main_arg0) (arg m c main_arg1) (arg m c main_arg2) (arg m c main_arg3) (arg m c main_arg5) (ix2 (row t r) k') := by
  rw [v85_at]
  exact Finset.sum_congr rfl fun d _ => congrArg₂ (fun x y : EReal => x * y) (ku_at m c t r d) (w1_at m c t a ha h d k k' (by omega))

theorem ky_at (r : Fin 256) (j : Fin 1024) : k0_pay13 (F := Ideal) (ku m c t) (kp m c t) (kw3 m c t) (kv3 m c t) (ix2 r j)
    = yRow (arg m c main_arg0) (arg m c main_arg1) (arg m c main_arg2) (arg m c main_arg3) (arg m c main_arg5) (arg m c main_arg6) (row t r) j := by
  unfold kp kr ku
  refine (y_at r j _ _ _ _ _ _ _ _ _ _ _ _ (fun d k => arg m c main_arg5 (ix3 1 d k)) (fun k n => arg m c main_arg6 (ix3 1 k n))
    (fun d k => w1_at m c t _ (by omega) _ d k _ (by simp only [] <;> omega)) (fun d k => w1_at m c t _ (by omega) _ d k _ (by simp only [] <;> omega))
    (fun d k => w1_at m c t _ (by omega) _ d k _ (by simp only [] <;> omega)) (fun d k => w1_at m c t _ (by omega) _ d k _ (by simp only [] <;> omega))
    (fun k n => w2_at m c t _ (by omega) _ k n _ (by simp only [] <;> omega)) (fun k n => w2_at m c t _ (by omega) _ k n _ (by simp only [] <;> omega))
    (fun k n => w2_at m c t _ (by omega) _ k n _ (by simp only [] <;> omega)) (fun k n => w2_at m c t _ (by omega) _ k n _ (by simp only [] <;> omega))).trans ?_
  simp only [blk0, prm0, prm1, prm2]
  rfl

theorem kh_at (r : Fin 256) (j : Fin 1024) : k0_pay14 (F := Ideal) (iblk m c 0 t) (ku m c t) (kp m c t) (kw3 m c t) (kv3 m c t) (kg m c t) (ix2 r j)
    = rh m c (row t r) j := by
  rw [pay14_at, ky_at]
  exact congrArg₂ (fun x y : EReal => x + y) (blk0 m c t r j) (congrArg₂ (fun x y : EReal => x * y) (prm3 m c t _ j) rfl)

theorem kq_at (r : Fin 256) : kq m c t (ix2 r 0) = Rows.rs (rh m c (row t r)) := by
  unfold kq
  rw [pay18_at]
  simp only [kh_at]

theorem kn_at (r : Fin 256) (j : Fin 1024) : kn m c t (ix2 r j) = Rows.nrm (rh m c (row t r)) j := by
  unfold kn
  rw [pay19_at]
  simp only [kh_at]

/-- The tile's error. -/
theorem ke_at (r : Fin 256) (j : Fin 1024) : @HSub.hSub EReal EReal EReal _ (ks m c t (ix2 r j)) (iblk m c 4 t (ix2 r j))
    = Rows.err (rh m c (row t r)) (rg m c) (rt m c (row t r)) j := by
  unfold ks
  rw [pay20_at, blk4]
  simp only [kh_at, blk5]
  rfl

/-- The gradient of the layer's result. -/
def kdx : Vec Ideal S256x1024 .f32 := k0_pay25 (F := Ideal) (iblk m c 4 t) (k0_pay15 (iblk m c 5 t)) (kq m c t) (kn m c t) (ks m c t)

theorem kdx_at (r : Fin 256) (j : Fin 1024) : kdx m c t (ix2 r j)
    = val_main_v83 (F := Ideal) (arg m c main_arg0) (arg m c main_arg1) (arg m c main_arg2) (arg m c main_arg3) (arg m c main_arg4) (arg m c main_arg5) (arg m c main_arg6) (arg m c main_arg10) (arg m c main_arg11) (ix2 (row t r) j) := by
  unfold kdx
  rw [pay25_at, v83_at, ← Rows.back_eq]
  simp only [ke_at, kn_at, kq_at, pay15_at, blk5]
  rfl

/-! ### The blocks that each point writes whole -/

theorem out6 (r : Fin 256) (j : Fin 1024) : (outsAt0 m c t.val t.isLt).1 (ix2 r j)
    = val_main_v83 (F := Ideal) (arg m c main_arg0) (arg m c main_arg1) (arg m c main_arg2) (arg m c main_arg3) (arg m c main_arg4) (arg m c main_arg5) (arg m c main_arg6) (arg m c main_arg10) (arg m c main_arg11) (ix2 (row t r) j) := by
  by_cases h : t.val % 32 = 0
  · rw [outsAt0_A m c t h]; dsimp only; frame_out
    exact kdx_at m c t r j
  · rw [outsAt0_B m c t h]; dsimp only; frame_out
    exact kdx_at m c t r j

theorem out8 (r : Fin 256) (j : Fin 1024) : (outsAt0 m c t.val t.isLt).2.2.1 (ix2 r j)
    = val_main_v28 (F := Ideal) (arg m c main_arg0) (arg m c main_arg1) (arg m c main_arg2) (arg m c main_arg3) (arg m c main_arg5) (arg m c main_arg6) (ix2 (row t r) j) := by
  rw [v28_at]
  by_cases h : t.val % 32 = 0
  · rw [outsAt0_A m c t h]; dsimp only; frame_out
    exact ky_at m c t r j
  · rw [outsAt0_B m c t h]; dsimp only; frame_out
    exact ky_at m c t r j

theorem out7 (r : Fin 256) (k : Fin 4096) : (outsAt0 m c t.val t.isLt).2.1 (ix2 r k)
    = val_main_v85 (F := Ideal) (arg m c main_arg0) (arg m c main_arg1) (arg m c main_arg2) (arg m c main_arg3) (arg m c main_arg5) (ix2 (row t r) k) := by
  by_cases h : t.val % 32 = 0
  · rw [outsAt0_A m c t h]; dsimp only; frame_out
    exact quarters (fun k => val_main_v85 (F := Ideal) (arg m c main_arg0) (arg m c main_arg1) (arg m c main_arg2) (arg m c main_arg3) (arg m c main_arg5) (ix2 (row t r) k)) _ _ _ _ _ _ _ _ r
      (fun k k' hk => (pay4_at r k _ _ _ _ _).trans (a_at m c t 0 (by omega) _ rfl _ r k k' hk))
      (fun k k' hk => (pay7_at r k _ _).trans (a_at m c t 1 (by omega) _ rfl _ r k k' hk))
      (fun k k' hk => (pay9_at r k _ _).trans (a_at m c t 2 (by omega) _ rfl _ r k k' hk))
      (fun k k' hk => (pay12_at r k _ _).trans (a_at m c t 3 (by omega) _ rfl _ r k k' hk)) k
  · rw [outsAt0_B m c t h]; dsimp only; frame_out
    exact quarters (fun k => val_main_v85 (F := Ideal) (arg m c main_arg0) (arg m c main_arg1) (arg m c main_arg2) (arg m c main_arg3) (arg m c main_arg5) (ix2 (row t r) k)) _ _ _ _ _ _ _ _ r
      (fun k k' hk => (pay4_at r k _ _ _ _ _).trans (a_at m c t 0 (by omega) _ rfl _ r k k' hk))
      (fun k k' hk => (pay7_at r k _ _).trans (a_at m c t 1 (by omega) _ rfl _ r k k' hk))
      (fun k k' hk => (pay9_at r k _ _).trans (a_at m c t 2 (by omega) _ rfl _ r k k' hk))
      (fun k k' hk => (pay12_at r k _ _).trans (a_at m c t 3 (by omega) _ rfl _ r k k' hk)) k

/-! ### The weight's gradient and the loss, accumulated over the grid -/

theorem rows_sum (f : Fin 8192 → EReal) : ∑ p : Fin cfg0.N, ∑ r : Fin 256, f (row p r) = ∑ i, f i := by
  rw [Fin.sum_univ_tiles 32 256 rfl f]
  refine Finset.sum_congr rfl fun p _ => Finset.sum_congr rfl fun r _ => congrArg f (Fin.ext (by show 256 * p.val + r.val = p.val * 256 + r.val; omega))

/-- One row's summand in the stack of the parameters' gradients. -/
abbrev rpg (i : Fin 8192) (s : Fin 8) (j : Fin 1024) : EReal := if s = 0 then dgRow (arg m c main_arg0) (arg m c main_arg1) (arg m c main_arg2) (arg m c main_arg3) (arg m c main_arg4) (arg m c main_arg5) (arg m c main_arg6) (arg m c main_arg10) (arg m c main_arg11) i j else 0

theorem dg_sum (j : Fin 1024) : ∑ r : Fin 256, @HSub.hSub EReal EReal EReal _ (ks m c t (ix2 r j)) (iblk m c 4 t (ix2 r j)) * Rows.inv * kn m c t (ix2 r j)
    = ∑ r : Fin 256, rpg m c (row t r) 0 j := by
  refine Finset.sum_congr rfl fun r _ => ?_
  rw [ke_at, kn_at, rpg, if_pos rfl]
  rfl

theorem dg_none (s : Fin 8) (hs : 1 ≤ s.val) (j : Fin 1024) : ∑ r : Fin 256, rpg m c (row t r) s j = 0 :=
  Finset.sum_eq_zero fun r _ => if_neg (by rintro rfl; simp at hs)

theorem l_sum : Rows.half * (∑ r : Fin 256, ∑ k : Fin 1024, @HSub.hSub EReal EReal EReal _ (ks m c t (ix2 r k)) (iblk m c 4 t (ix2 r k))
      * @HSub.hSub EReal EReal EReal _ (ks m c t (ix2 r k)) (iblk m c 4 t (ix2 r k))) * Rows.inv
    = ∑ r : Fin 256, lRow (arg m c main_arg0) (arg m c main_arg1) (arg m c main_arg2) (arg m c main_arg3) (arg m c main_arg4) (arg m c main_arg5) (arg m c main_arg6) (arg m c main_arg10) (arg m c main_arg11) (row t r) := by
  rw [Rows.loss_sum]
  simp only [ke_at]
  rfl

theorem zero9 (h : t.val % 32 = 0) (s : Fin 8) (j : Fin 1024) : (outsAt0 m c t.val t.isLt).2.2.2.1 (ix2 s j)
    = 0 + ∑ r : Fin 256, rpg m c (row t r) s j := by
  rw [outsAt0_A m c t h]; dsimp only; frame_out
  rcases Nat.eq_zero_or_pos s.val with h0 | h0
  · obtain rfl : s = 0 := Fin.ext h0
    rw [canon_hit _ _ _ 0 _ 0 j (by decide) (by omega), pay24_at, cov_at _ _ _ 0 j 0 j (by decide) (by omega), canon_hit _ _ _ 0 _ 0 j (by decide) (by omega), pay16_at]
    exact congrArg _ (dg_sum m c t j)
  · rw [dg_none m c t s h0, zero_add, canon_miss _ _ _ s _ (.inr (by omega)), canon_hit _ _ _ s _ s j (Nat.zero_add _).symm (by omega), pay16_at]

theorem step9 (h : ¬t.val % 32 = 0) (s : Fin 8) (j : Fin 1024) : (outsAt0 m c t.val t.isLt).2.2.2.1 (ix2 s j)
    = (outsAt0 m c (t.val - 1) (Nat.lt_of_le_of_lt (Nat.sub_le _ _) t.isLt)).2.2.2.1 (ix2 s j)
      + ∑ r : Fin 256, rpg m c (row t r) s j := by
  rw [outsAt0_B m c t h]; dsimp only; frame_out
  rcases Nat.eq_zero_or_pos s.val with h0 | h0
  · obtain rfl : s = 0 := Fin.ext h0
    rw [read_hit _ _ _ _ _ 0 _ 0 j (by decide) (by omega), pay24_at]
    exact congrArg₂ (fun x y : EReal => x + y) ((ld2 _ _ _ _ (by decide) (by omega)).trans (congrArg _ (by blk_ext))) (dg_sum m c t j)
  · rw [dg_none m c t s h0, add_zero, read_miss _ _ _ _ _ s _ (.inr (by omega)), View.writes_nil]
    exact congrFun (Memref.IsWhole.read_unread _ _) _

theorem out9 (h : t.val % 32 = 31) (s : Fin 8) (j : Fin 1024) : (outsAt0 m c t.val t.isLt).2.2.2.1 (ix2 s j)
    = val_main_v94 (F := Ideal) (arg m c main_arg0) (arg m c main_arg1) (arg m c main_arg2) (arg m c main_arg3) (arg m c main_arg4) (arg m c main_arg5) (arg m c main_arg6) (arg m c main_arg10) (arg m c main_arg11) (ix2 s j) := by
  rw [v94_at, Pipeline.eq_sum_fin_of_reset_step_last (fun n h => (outsAt0 m c n h).2.2.2.1 (ix2 s j)) 32 0
    (fun p => ∑ r : Fin 256, rpg m c (row p r) s j) (fun p h => zero9 m c p h s j) (fun p h => step9 m c p h s j)
    (le_of_eq N_0) t (by have := (idx_ins t).2.2.2.2.2.2; have h : cfg0.N = 32 := N_0; omega), zero_add, rows_sum (fun r => rpg m c r s j)]

theorem zero10 (h : t.val % 32 = 0) (s : Fin 8) (l : Fin 128) : (outsAt0 m c t.val t.isLt).2.2.2.2 (ix2 s l)
    = 0 + ∑ r : Fin 256, lRow (arg m c main_arg0) (arg m c main_arg1) (arg m c main_arg2) (arg m c main_arg3) (arg m c main_arg4) (arg m c main_arg5) (arg m c main_arg6) (arg m c main_arg10) (arg m c main_arg11) (row t r) := by
  rw [outsAt0_A m c t h]; dsimp only; frame_out
  rw [pay22_at, pay17_at]
  exact congrArg _ (l_sum m c t)

theorem step10 (h : ¬t.val % 32 = 0) (s : Fin 8) (l : Fin 128) : (outsAt0 m c t.val t.isLt).2.2.2.2 (ix2 s l)
    = (outsAt0 m c (t.val - 1) (Nat.lt_of_le_of_lt (Nat.sub_le _ _) t.isLt)).2.2.2.2 (ix2 s l)
      + ∑ r : Fin 256, lRow (arg m c main_arg0) (arg m c main_arg1) (arg m c main_arg2) (arg m c main_arg3) (arg m c main_arg4) (arg m c main_arg5) (arg m c main_arg6) (arg m c main_arg10) (arg m c main_arg11) (row t r) := by
  rw [outsAt0_B m c t h]; dsimp only; frame_out
  rw [pay22_at]
  exact congrArg₂ (fun x y : EReal => x + y) rfl (l_sum m c t)

theorem out10 (h : t.val % 32 = 31) (s : Fin 8) (l : Fin 128) : (outsAt0 m c t.val t.isLt).2.2.2.2 (ix2 s l)
    = val_main_v95 (F := Ideal) (arg m c main_arg0) (arg m c main_arg1) (arg m c main_arg2) (arg m c main_arg3) (arg m c main_arg4) (arg m c main_arg5) (arg m c main_arg6) (arg m c main_arg10) (arg m c main_arg11) (ix2 s l) := by
  rw [v95_at, Pipeline.eq_sum_fin_of_reset_step_last (fun n h => (outsAt0 m c n h).2.2.2.2 (ix2 s l)) 32 0
    (fun p => ∑ r : Fin 256, lRow (arg m c main_arg0) (arg m c main_arg1) (arg m c main_arg2) (arg m c main_arg3) (arg m c main_arg4) (arg m c main_arg5) (arg m c main_arg6) (arg m c main_arg10) (arg m c main_arg11) (row p r)) (fun p h => zero10 m c p h s l) (fun p h => step10 m c p h s l)
    (le_of_eq N_0) t (by have := (idx_ins t).2.2.2.2.2.2; have h : cfg0.N = 32 := N_0; omega), zero_add, rows_sum (fun r => lRow (arg m c main_arg0) (arg m c main_arg1) (arg m c main_arg2) (arg m c main_arg3) (arg m c main_arg4) (arg m c main_arg5) (arg m c main_arg6) (arg m c main_arg10) (arg m c main_arg11) r)]

/-! ### The results, array by array -/

theorem final6 : (dats m 0 c).arrAt 6 cfg0.N = val_main_v83 (F := Ideal) (arg m c main_arg0) (arg m c main_arg1) (arg m c main_arg2) (arg m c main_arg3) (arg m c main_arg4) (arg m c main_arg5) (arg m c main_arg6) (arg m c main_arg10) (arg m c main_arg11) := by
  refine (dats m 0 c).arrAt_eq_of_covers 6 _ (by decide +kernel) fun t hf y => ?_
  blk_simp
  rw [after0_6]
  idx_vars y
  refine (out6 m c t y0 y1).trans (congrArg _ ?_)
  blk_ext [idx_outs t, row]

theorem final7 : (dats m 0 c).arrAt 7 cfg0.N = val_main_v85 (F := Ideal) (arg m c main_arg0) (arg m c main_arg1) (arg m c main_arg2) (arg m c main_arg3) (arg m c main_arg5) := by
  refine (dats m 0 c).arrAt_eq_of_covers 7 _ (by decide +kernel) fun t hf y => ?_
  blk_simp
  rw [after0_7]
  idx_vars y
  refine (out7 m c t y0 y1).trans (congrArg _ ?_)
  blk_ext [idx_outs t, row]

theorem final8 : (dats m 0 c).arrAt 8 cfg0.N = val_main_v28 (F := Ideal) (arg m c main_arg0) (arg m c main_arg1) (arg m c main_arg2) (arg m c main_arg3) (arg m c main_arg5) (arg m c main_arg6) := by
  refine (dats m 0 c).arrAt_eq_of_covers 8 _ (by decide +kernel) fun t hf y => ?_
  blk_simp
  rw [after0_8]
  idx_vars y
  refine (out8 m c t y0 y1).trans (congrArg _ ?_)
  blk_ext [idx_outs t, row]

theorem final9 : (dats m 0 c).arrAt 9 cfg0.N = val_main_v94 (F := Ideal) (arg m c main_arg0) (arg m c main_arg1) (arg m c main_arg2) (arg m c main_arg3) (arg m c main_arg4) (arg m c main_arg5) (arg m c main_arg6) (arg m c main_arg10) (arg m c main_arg11) := by
  refine (dats m 0 c).arrAt_eq_of_covers 9 _ (by decide +kernel) fun t hf y => ?_
  blk_simp
  rw [after0_9]
  idx_vars y
  refine (out9 m c t ((flush0_9 t).mp hf) y0 y1).trans (congrArg _ ?_)
  blk_ext [idx_outs t]

theorem final10 : (dats m 0 c).arrAt 10 cfg0.N = val_main_v95 (F := Ideal) (arg m c main_arg0) (arg m c main_arg1) (arg m c main_arg2) (arg m c main_arg3) (arg m c main_arg4) (arg m c main_arg5) (arg m c main_arg6) (arg m c main_arg10) (arg m c main_arg11) := by
  refine (dats m 0 c).arrAt_eq_of_covers 10 _ (by decide +kernel) fun t hf y => ?_
  blk_simp
  rw [after0_10]
  idx_vars y
  refine (out10 m c t ((flush0_10 t).mp hf) y0 y1).trans (congrArg _ ?_)
  blk_ext [idx_outs t]

end Cert.Kernel13Ideal.Value
-- ==== Proof.KGlu.lean ====
module

public import proofs.«01_k».proof.Proof.Gen.Kernel14Ideal.Skeleton
public import proofs.«01_k».proof.Proof.Mlp

@[expose] public section

set_option maxRecDepth 16384

noncomputable section

namespace Cert.Rows

open Idealize.ShloMosaic

/-- The first product of the conformer layer, on the modulated row, with its bias. -/
def aff (h g sh sc : Fin 1024 → EReal) (w : Fin 1024 → Fin 2048 → EReal) (b : Fin 2048 → EReal) (k : Fin 2048) : EReal :=
  (∑ d : Fin 1024, modn h g sh sc d * w d k) + b k
/-- The first half of the row times the logistic of its second half. -/
def glu (a : Fin 2048 → EReal) (j : Fin 1024) : EReal := a ⟨j.val, by omega⟩ * Ideal.logistic (a ⟨1024 + j.val, by omega⟩)

end Cert.Rows

/-! What the body of the conformer layer's first forward call computes, entry by entry, in terms of `Cert.Rows`. -/

namespace Cert.Kernel14Ideal.Gen

open Idealize.ShloMosaic Idealize.ShloMosaic.TcCoe Idealize.ShloMosaic.Tactic

variable (r : Fin 256) (j : Fin 1024) (k : Fin 2048) (x g sh sc w b)

theorem pay1_at : k0_pay1 (F := Ideal) x g sh sc w b (ix2 r k)
    = Rows.aff (fun k => x (ix2 r k)) (fun k => g (ix2 0 k)) (fun k => sh (ix2 0 k)) (fun k => sc (ix2 0 k))
        (fun d k => w (ix2 d k)) (fun k => b (ix2 0 k)) k := by
  pointwise [k0_pay1]; rfl

theorem pay2_at : k0_pay2 (F := Ideal) x g sh sc w b (ix2 r k) = k0_pay1 (F := Ideal) x g sh sc w b (ix2 r k) := by
  pointwise [k0_pay2]

theorem pay3_at : k0_pay3 (F := Ideal) x g sh sc w b (ix2 r j)
    = Rows.glu (fun k => k0_pay1 (F := Ideal) x g sh sc w b (ix2 r k)) j := by
  pointwise [k0_pay3]; rfl

end Cert.Kernel14Ideal.Gen
-- ==== Proof.RGlu.lean ====
module

public import proofs.«01_k».proof.Proof.Gen.Reference14Ideal.Read
public import proofs.«01_k».proof.Proof.KGlu

@[expose] public section

set_option maxRecDepth 16384

noncomputable section

/-! The reference's conformer layer up to its gated unit, entry by entry. -/

namespace Cert.Reference14Ideal.Read

open Idealize.ShloMosaic Idealize.ShloMosaic.TcCoe Idealize.ShloMosaic.Tactic

variable (x0 : (⟨S8192x1024, .f32⟩ : BufTy).Contents (Elt Ideal)) (x1 x2 x3 : (⟨S1024, .f32⟩ : BufTy).Contents (Elt Ideal))
  (x5 : (⟨S1x1024x2048, .f32⟩ : BufTy).Contents (Elt Ideal)) (x6 : (⟨S1x2048, .f32⟩ : BufTy).Contents (Elt Ideal))
  (r : Fin 8192) (j : Fin 1024) (k : Fin 2048)

theorem v7_at : val_main_v7 (F := Ideal) x0 (ix2 r 0) = Rows.rs fun k => x0 (ix2 r k) := by
  pointwise [val_main_v0, val_main_v1, val_main_cst, val_main_v2, val_main_v3, val_main_cst_0, val_main_v4, val_main_cst_1,
    val_main_v5, val_main_v6, val_main_v7]; rfl

theorem v20_at : val_main_v20 (F := Ideal) x0 x1 x2 x3 (ix2 r j)
    = Rows.modn (fun k => x0 (ix2 r k)) (fun k => x1 (ix1 k)) (fun k => x2 (ix1 k)) (fun k => x3 (ix1 k)) j := by
  pointwise [val_main_v8, val_main_v9, val_main_v10, val_main_v11, val_main_v12, val_main_cst_2, val_main_v13, val_main_v14,
    val_main_v15, val_main_v16, val_main_v17, val_main_v18, val_main_v19, val_main_v20]
  rw [v7_at]; rfl

theorem v21_at : val_main_v21 (F := Ideal) x5 (ix2 j k) = x5 (ix3 0 j k) := by
  pointwise [val_main_v21]

theorem v25_at : val_main_v25 (F := Ideal) x6 (ix2 r k) = x6 (ix2 0 k) := by
  pointwise [val_main_v23, val_main_v24, val_main_v25]

theorem v26_at : val_main_v26 (F := Ideal) x0 x1 x2 x3 x5 x6 (ix2 r k)
    = Rows.aff (fun k => x0 (ix2 r k)) (fun k => x1 (ix1 k)) (fun k => x2 (ix1 k)) (fun k => x3 (ix1 k)) (fun d k => x5 (ix3 0 d k))
        (fun k => x6 (ix2 0 k)) k := by
  pointwise [val_main_v26, val_main_v22]; simp only [v20_at, v21_at, v25_at]; rfl

theorem v36_at : val_main_v36 (F := Ideal) x0 x1 x2 x3 x5 x6 (ix2 r k) = val_main_v26 (F := Ideal) x0 x1 x2 x3 x5 x6 (ix2 r k) := by
  pointwise [val_main_v36]

theorem v35_at : val_main_v35 (F := Ideal) x0 x1 x2 x3 x5 x6 (ix2 r j)
    = Rows.glu (fun k => val_main_v26 (F := Ideal) x0 x1 x2 x3 x5 x6 (ix2 r k)) j := by
  pointwise [val_main_v35, val_main_v34, val_main_v33, val_main_cst_4, val_main_v32, val_main_v31, val_main_cst_3, val_main_v30,
    val_main_v29, val_main_v28, val_main_v27]
  rfl

end Cert.Reference14Ideal.Read
-- ==== Proof.Glu.lean ====
module

public import proofs.«01_k».proof.Proof.Gen.Kernel14Ideal.Value
public import proofs.«01_k».proof.Proof.Pack
public import proofs.«01_k».proof.Proof.KGlu
public import proofs.«01_k».proof.Proof.RGlu
public import proofs.«01_k».proof.Proof.Stores

@[expose] public section

set_option maxRecDepth 16384

noncomputable section

/-! The conformer layer's first forward call: the kernel's results are the reference's. -/

namespace Cert.Kernel14Ideal.Value

open Idealize.ShloMosaic Idealize.ShloMosaic.TcCoe Idealize.ShloMosaic.Tactic
open Cert.Kernel14Ideal Cert.Kernel14Ideal.Gen Idealize.SL.Sem
open Cert.Stores Cert.Reference14Ideal.Read
open Cert.Kernel12Ideal.Gen (stack2 stack4 stacked stacked_at0 stacked_at1 stacked_at2)

theorem idx_all : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0] ∧ t.val < 32 :=
  (by decide +kernel : ∀ t : Fin grid0.N, _)

variable (m : (ℓ : Loc nD τ sig) → Buf (Elt Ideal) ℓ) (c : Dev nD) (t : Fin cfg0.N)

/-- Argument `b` as launched. -/
abbrev arg (b : Ref sig .tc) := m ((c : Thread nD τ).loc b)

theorem V6_eq : V m c main_v6 = stacked (arg m c main_arg1) (arg m c main_arg2) (arg m c main_arg3) (arg m c main_arg4) := by
  unfold V
  after_reads_simp
  change stack2 _ _ = _
  after_reads_simp
  change stack2 (stack4 _ _ _ _) _ = _
  after_reads_simp
  rfl

theorem V8_at (d : Fin 1024) (k : Fin 2048) : V m c main_v8 (ix2 d k) = arg m c main_arg5 (ix3 0 d k) := by
  unfold V
  after_reads_simp
  pointwise

/-- Row `r` of tile `t`. -/
def row (t : Fin cfg0.N) (r : Fin 256) : Fin 8192 := ⟨256 * t.val + r.val, by have := (idx_all t).2.2.2.2.2.2; omega⟩

theorem blk0 (r : Fin 256) (j : Fin 1024) : iblk m c 0 t (ix2 r j) = arg m c main_arg0 (ix2 (row t r) j) := by
  blk_ext [iblk, V, idx_all t, row]

theorem blk1 (i : Fin 8) (j : Fin 1024) : iblk m c 1 t (ix2 i j) = V m c main_v6 (ix2 i j) := by
  blk_ext [iblk, idx_all t]

theorem blk2 (d : Fin 1024) (k : Fin 2048) : iblk m c 2 t (ix2 d k) = arg m c main_arg5 (ix3 0 d k) := by
  refine Eq.trans ?_ (V8_at m c d k)
  blk_ext [iblk, idx_all t]

theorem blk3 (k : Fin 2048) : iblk m c 3 t (ix2 0 k) = arg m c main_arg6 (ix2 0 k) := by
  blk_ext [iblk, V, idx_all t]

theorem prm0 (h) (k : Fin 1024) : View.ld (iblk m c 1 t) (Rect.unit ![0, 0] ![1, 1024] h) (ix2 0 k) = arg m c main_arg1 (ix1 k) := by
  rw [ld2 _ _ _ _ (by omega) (by omega)]
  refine (blk1 m c t _ _).trans ?_
  rw [V6_eq]
  exact (congrArg _ (by blk_ext)).trans (stacked_at0 _ _ _ _ k)

theorem prm1 (h) (k : Fin 1024) : View.ld (iblk m c 1 t) (Rect.unit ![1, 0] ![1, 1024] h) (ix2 0 k) = arg m c main_arg2 (ix1 k) := by
  rw [ld2 _ _ _ _ (by omega) (by omega)]
  refine (blk1 m c t _ _).trans ?_
  rw [V6_eq]
  exact (congrArg _ (by blk_ext)).trans (stacked_at1 _ _ _ _ k)

theorem prm2 (h) (k : Fin 1024) : View.ld (iblk m c 1 t) (Rect.unit ![2, 0] ![1, 1024] h) (ix2 0 k) = arg m c main_arg3 (ix1 k) := by
  rw [ld2 _ _ _ _ (by omega) (by omega)]
  refine (blk1 m c t _ _).trans ?_
  rw [V6_eq]
  exact (congrArg _ (by blk_ext)).trans (stacked_at2 _ _ _ _ k)

/-- The product with its bias, of the point. -/
theorem a_at (h0 h1 h2) (r : Fin 256) (k : Fin 2048) :
    k0_pay1 (F := Ideal) (iblk m c 0 t) (View.ld (iblk m c 1 t) (Rect.unit ![0, 0] ![1, 1024] h0))
      (View.ld (iblk m c 1 t) (Rect.unit ![1, 0] ![1, 1024] h1)) (View.ld (iblk m c 1 t) (Rect.unit ![2, 0] ![1, 1024] h2))
      (iblk m c 2 t) (iblk m c 3 t) (ix2 r k)
    = val_main_v26 (F := Ideal) (arg m c main_arg0) (arg m c main_arg1) (arg m c main_arg2) (arg m c main_arg3) (arg m c main_arg5) (arg m c main_arg6) (ix2 (row t r) k) := by
  rw [pay1_at, v26_at]
  simp only [blk0, prm0, prm1, prm2, blk2, blk3]

theorem out5 (r : Fin 256) (k : Fin 2048) : out0_5 (iblk m c 0 t) (iblk m c 1 t) (iblk m c 2 t) (iblk m c 3 t) (ix2 r k)
    = val_main_v36 (F := Ideal) (arg m c main_arg0) (arg m c main_arg1) (arg m c main_arg2) (arg m c main_arg3) (arg m c main_arg5) (arg m c main_arg6) (ix2 (row t r) k) := by
  frame_out
  rw [pay2_at, v36_at]
  exact a_at m c t _ _ _ r k

theorem out4 (r : Fin 256) (j : Fin 1024) : out0_4 (iblk m c 0 t) (iblk m c 1 t) (iblk m c 2 t) (iblk m c 3 t) (ix2 r j)
    = val_main_v35 (F := Ideal) (arg m c main_arg0) (arg m c main_arg1) (arg m c main_arg2) (arg m c main_arg3) (arg m c main_arg5) (arg m c main_arg6) (ix2 (row t r) j) := by
  frame_out
  rw [pay3_at, v35_at]
  exact congrArg (fun f => Rows.glu f j) (funext fun k => a_at m c t _ _ _ r k)

theorem final4 : (dats m 0 c).arrAt 4 cfg0.N = val_main_v35 (F := Ideal) (arg m c main_arg0) (arg m c main_arg1) (arg m c main_arg2) (arg m c main_arg3) (arg m c main_arg5) (arg m c main_arg6) := by
  refine (dats m 0 c).arrAt_eq_of_covers 4 _ (by decide +kernel) fun t hf y => ?_
  blk_simp
  rw [after0_4]
  idx_vars y
  refine (out4 m c t y0 y1).trans (congrArg _ ?_)
  blk_ext [idx_all t, row]

theorem final5 : (dats m 0 c).arrAt 5 cfg0.N = val_main_v36 (F := Ideal) (arg m c main_arg0) (arg m c main_arg1) (arg m c main_arg2) (arg m c main_arg3) (arg m c main_arg5) (arg m c main_arg6) := by
  refine (dats m 0 c).arrAt_eq_of_covers 5 _ (by decide +kernel) fun t hf y => ?_
  blk_simp
  rw [after0_5]
  idx_vars y
  refine (out5 m c t y0 y1).trans (congrArg _ ?_)
  blk_ext [idx_all t, row]

end Cert.Kernel14Ideal.Value
-- ==== Proof.RowsMix.lean ====
module

public import proofs.«01_k».proof.Proof.Rows

@[expose] public section

noncomputable section

/-! The end of the mixer on one row: the gate and the norm of each half, and their backward pass. -/

namespace Cert.Rows

open Idealize.ShloMosaic

/-- Half the row length as the programs write it. -/
def halfLen : EReal := Ideal.ofBits .f32 0x44000000#32
/-- The two scans' outputs with the skip, times the gate. -/
def gy (yf yb d xs z : Fin 1024 → EReal) (j : Fin 1024) : EReal :=
  (yf j + yb j + d j * xs j) * (z j * Ideal.logistic (z j))
/-- Half `s` of a row. -/
def part (y : Fin 1024 → EReal) (s : Fin 2) (i : Fin 512) : EReal := y ⟨512 * s.val + i.val, by omega⟩
/-- Reciprocal root mean square of half a row. -/
def rs2 (h : Fin 512 → EReal) : EReal := Ideal.rsqrt (Ideal.div (∑ k, h k * h k) halfLen + eps)
/-- The norm of each half of a row. -/
def gn (y g : Fin 1024 → EReal) (s : Fin 2) (i : Fin 512) : EReal := part y s i * rs2 (part y s) * part g s i

/-- Every column lies in one of two halves. -/
theorem halves (P : Fin 1024 → Prop) (h : ∀ (s : Fin 2) (i : Fin 512), P ⟨512 * s.val + i.val, by omega⟩) (k : Fin 1024) : P k := by
  have := h ⟨k.val / 512, by omega⟩ ⟨k.val % 512, by omega⟩
  rwa [show (⟨512 * (k.val / 512) + k.val % 512, by omega⟩ : Fin 1024) = k from Fin.ext (by simp only []; omega)] at this

/-- The derivative of the reciprocal root mean square of half a row in its mean square. -/
def drs2 (h : Fin 512 → EReal) : EReal := mhalf * Ideal.div (rs2 h) (Ideal.div (∑ k, h k * h k) halfLen + eps)
/-- The scalar that the backward pass of the norm of half a row spreads over it. -/
def spread2 (h dn : Fin 512 → EReal) : EReal := Ideal.div ((∑ k, h k * dn k) * drs2 h) halfLen
/-- Backward pass of the norm of half a row. -/
def back2 (h dn : Fin 512 → EReal) (i : Fin 512) : EReal := dn i * rs2 h + h i * spread2 h dn + spread2 h dn * h i
/-- Gradient of the gated row, half by half, from the norm's weight and the gradient of the norm's output. -/
def dgn (y g d : Fin 1024 → EReal) (s : Fin 2) (i : Fin 512) : EReal :=
  back2 (part y s) (fun k => part d s k * part g s k) i
/-- Gradient of a factor of the output product, from the gate, the gradient of the result and the weights. -/
def dfac (g d : Fin 1024 → EReal) (w : Fin 1024 → Fin 1024 → EReal) (j : Fin 1024) : EReal := ∑ k, g k * d k * w j k

end Cert.Rows
-- ==== Proof.KMix.lean ====
module

public import proofs.«01_k».proof.Proof.Gen.Kernel15Ideal.Skeleton
public import proofs.«01_k».proof.Proof.RowsMix
public import Idealize.ShloMosaic.Lib.Claim
public import Idealize.ShloMosaic.Lib.Pipeline.ValueKit

@[expose] public section

set_option maxRecDepth 16384

noncomputable section

/-! What the body of the mixer's last forward call computes, entry by entry, in terms of `Cert.Rows`. -/

namespace Cert.Kernel15Ideal.Gen

open Idealize.ShloMosaic Idealize.ShloMosaic.TcCoe Idealize.ShloMosaic.Tactic

variable (r : Fin 256) (j : Fin 1024) (i : Fin 512)

theorem pay5_at (yf yb d xs z) : k0_pay5 (F := Ideal) yf yb d xs z (ix2 r j)
    = Rows.gy (fun k => yf (ix2 r k)) (fun k => yb (ix2 r k)) (fun k => d (ix2 0 k)) (fun k => xs (ix2 r k)) (fun k => z (ix2 r k)) j := by
  pointwise [k0_pay5]; rfl

theorem pay6_at (yf yb d xs z g) : k0_pay6 (F := Ideal) yf yb d xs z g (ix2 r i)
    = Rows.gn (fun k => k0_pay5 (F := Ideal) yf yb d xs z (ix2 r k)) (fun k => g (ix2 0 k)) 0 i := by
  pointwise [k0_pay6, k0_pay4]
  simp only [Rows.gn, Rows.part, Rows.rs2, Rows.halfLen, Rows.eps, Fin.val_zero, Nat.mul_zero, Nat.zero_add]

theorem pay7_at (yf yb d xs z g) : k0_pay7 (F := Ideal) yf yb d xs z (ix2 r i) * k0_pay8 (F := Ideal) g (ix2 0 i)
    = Rows.gn (fun k => k0_pay5 (F := Ideal) yf yb d xs z (ix2 r k)) (fun k => g (ix2 0 k)) 1 i := by
  pointwise [k0_pay7, k0_pay8, k0_pay4]
  simp only [Rows.gn, Rows.part, Rows.rs2, Rows.halfLen, Rows.eps, Fin.val_one, Nat.mul_one]

theorem pay1_lo (a b g) : k0_pay1 (F := Ideal) a b g (ix2 r ⟨512 * (0 : Fin 2).val + i.val, by omega⟩) = a (ix2 r i) := by
  pointwise [k0_pay1]

theorem pay1_hi (a b g) : k0_pay1 (F := Ideal) a b g (ix2 r ⟨512 * (1 : Fin 2).val + i.val, by omega⟩) = b (ix2 r i) * g (ix2 0 i) := by
  pointwise [k0_pay1]

/-- The gated norm of the two scans' outputs. -/
theorem gn_at (yf yb d xs z g) (s : Fin 2) :
    k0_pay1 (F := Ideal) (k0_pay6 yf yb d xs z g) (k0_pay7 yf yb d xs z) (k0_pay8 g) (ix2 r ⟨512 * s.val + i.val, by omega⟩)
    = Rows.gn (Rows.gy (fun k => yf (ix2 r k)) (fun k => yb (ix2 r k)) (fun k => d (ix2 0 k)) (fun k => xs (ix2 r k)) (fun k => z (ix2 r k)))
        (fun k => g (ix2 0 k)) s i := by
  match s with
  | 0 => rw [pay1_lo, pay6_at]; simp only [pay5_at]
  | 1 => rw [pay1_hi, pay7_at]; simp only [pay5_at]

theorem pay2_at (a b g w q v) : k0_pay2 (F := Ideal) a b g w q v (ix2 r j)
    = (∑ k : Fin 1024, k0_pay1 (F := Ideal) a b g (ix2 r k) * w (ix2 k j)) + ∑ k : Fin 1024, q (ix2 r k) * v (ix2 k j) := by
  pointwise [k0_pay2]

theorem pay3_at (a b g w q v h t) : k0_pay3 (F := Ideal) a b g w q v h t (ix2 r j)
    = h (ix2 r j) + t (ix2 0 j) * k0_pay2 (F := Ideal) a b g w q v (ix2 r j) := by
  pointwise [k0_pay3]

end Cert.Kernel15Ideal.Gen
-- ==== Proof.RMix.lean ====
module

public import proofs.«01_k».proof.Proof.Gen.Reference15Ideal.Read
public import proofs.«01_k».proof.Proof.KMix

@[expose] public section

set_option maxRecDepth 16384

noncomputable section

/-! The reference's gate, norm and last product of the mixer, entry by entry. -/

namespace Cert.Reference15Ideal.Read

open Idealize.ShloMosaic Idealize.ShloMosaic.TcCoe Idealize.ShloMosaic.Tactic

variable (x0 : (⟨S8192x1024, .f32⟩ : BufTy).Contents (Elt Ideal)) (x1 x2 : (⟨S8448x1024, .f32⟩ : BufTy).Contents (Elt Ideal))
  (x3 : (⟨S8448x1536, .f32⟩ : BufTy).Contents (Elt Ideal)) (x4 : (⟨S8448x1024, .f32⟩ : BufTy).Contents (Elt Ideal))
  (x5 : (⟨S8192x1024, .bf16⟩ : BufTy).Contents (Elt Ideal)) (x9 : (⟨S1024, .f32⟩ : BufTy).Contents (Elt Ideal))
  (x10 : (⟨S1x16, .f32⟩ : BufTy).Contents (Elt Ideal)) (x11 : (⟨S1x1024, .f32⟩ : BufTy).Contents (Elt Ideal))
  (x12 : (⟨S1x2048x1024, .f32⟩ : BufTy).Contents (Elt Ideal))
  (r : Fin 8192) (j : Fin 1024) (s : Fin 2) (i : Fin 512)

/-- Row `r` behind the context rows. -/
def lat (r : Fin 8192) : Fin 8448 := ⟨256 + r.val, by omega⟩

theorem v13_at : val_main_v13 (F := Ideal) x1 x2 x3 x10 (ix2 r j)
    = x1 (ix2 (lat r) j) + x2 (ix2 (lat r) j) + x10 (ix2 0 ⟨j.val / 64, by omega⟩) * x3 (ix2 (lat r) ⟨j.val, by omega⟩) := by
  pointwise [val_main_v0, val_main_v1, val_main_v2, val_main_v4, val_main_v6, val_main_v7, val_main_v8, val_main_v9, val_main_v10,
    val_main_v11, val_main_v12, val_main_v13]
  rfl

theorem v14_at : val_main_v14 (F := Ideal) x4 (ix2 r j) = x4 (ix2 (lat r) j) * Ideal.logistic (x4 (ix2 (lat r) j)) := by
  pointwise [val_main_v14, val_main_call0_v5, val_main_call0_v4, val_main_call0_cst_0, val_main_call0_v3, val_main_call0_v2,
    val_main_call0_cst, val_main_call0_v1, val_main_call0_v0, val_main_v3]
  rfl

/-- The gated row. -/
abbrev gRow (r : Fin 8192) : Fin 1024 → EReal :=
  Rows.gy (fun k => x1 (ix2 (lat r) k)) (fun k => x2 (ix2 (lat r) k)) (fun k => x10 (ix2 0 ⟨k.val / 64, by omega⟩))
    (fun k => x3 (ix2 (lat r) ⟨k.val, by omega⟩)) (fun k => x4 (ix2 (lat r) k))

theorem v15_at : val_main_v15 (F := Ideal) x1 x2 x3 x4 x10 (ix2 r j) = gRow x1 x2 x3 x4 x10 r j := by
  pointwise [val_main_v15]; rw [v13_at, v14_at]; rfl

theorem v16_at : val_main_v16 (F := Ideal) x1 x2 x3 x4 x10 (ix3 r s i) = Rows.part (gRow x1 x2 x3 x4 x10 r) s i := by
  pointwise [val_main_v16]
  rw [v15_at]
  exact congrArg (gRow x1 x2 x3 x4 x10 r) (Fin.ext (by simp only [] <;> omega))

theorem v25_at : val_main_v25 (F := Ideal) x1 x2 x3 x4 x10 (ix3 r s 0) = Rows.rs2 (Rows.part (gRow x1 x2 x3 x4 x10 r) s) := by
  pointwise [val_main_v25, val_main_v24, val_main_v23, val_main_cst_1, val_main_v22, val_main_v21, val_main_cst_0, val_main_v20,
    val_main_v19, val_main_cst, val_main_v18]
  simp only [v16_at]; rfl

theorem v29_at : val_main_v29 (F := Ideal) x11 (ix3 r s i) = Rows.part (fun k => x11 (ix2 0 k)) s i := by
  pointwise [val_main_v29, val_main_v28, val_main_v17, val_main_v5]
  exact congrArg (fun k => x11 (ix2 0 k)) (Fin.ext (by simp only [] <;> omega))

theorem v30_at : val_main_v30 (F := Ideal) x1 x2 x3 x4 x10 x11 (ix3 r s i)
    = Rows.gn (gRow x1 x2 x3 x4 x10 r) (fun k => x11 (ix2 0 k)) s i := by
  pointwise [val_main_v30, val_main_v27, val_main_v26]
  rw [v16_at, v25_at, v29_at]; rfl

theorem v31_at : val_main_v31 (F := Ideal) x1 x2 x3 x4 x10 x11 (ix2 r ⟨512 * s.val + i.val, by omega⟩)
    = Rows.gn (gRow x1 x2 x3 x4 x10 r) (fun k => x11 (ix2 0 k)) s i := by
  pointwise [val_main_v31]
  exact v30_at x1 x2 x3 x4 x10 x11 r s i

theorem v40_at : val_main_v40 (F := Ideal) x1 x2 x3 x4 x10 x11 (ix2 r j) = val_main_v31 (F := Ideal) x1 x2 x3 x4 x10 x11 (ix2 r j) := by
  pointwise [val_main_v40]

theorem v33_lo : val_main_v33 (F := Ideal) x1 x2 x3 x4 x5 x10 x11 (ix2 r ⟨j.val, by omega⟩)
    = val_main_v31 (F := Ideal) x1 x2 x3 x4 x10 x11 (ix2 r j) := by
  pointwise [val_main_v33]

theorem v33_hi : val_main_v33 (F := Ideal) x1 x2 x3 x4 x5 x10 x11 (ix2 r ⟨1024 + j.val, by omega⟩) = x5 (ix2 r j) := by
  pointwise [val_main_v33, val_main_v32]

/-- A sum of two tiles of 1024. -/
theorem sum2 (f : Fin 2048 → EReal) :
    (∑ k, f k) = (∑ k : Fin 1024, f ⟨k.val, by omega⟩) + ∑ k : Fin 1024, f ⟨1024 + k.val, by omega⟩ := by
  rw [Fin.sum_univ_tiles 2 1024 rfl f, Fin.sum_univ_two]
  congr 1

theorem v34_at (k : Fin 2048) : val_main_v34 (F := Ideal) x12 (ix2 k j) = x12 (ix3 0 k j) := by
  pointwise [val_main_v34]

theorem v35_at : val_main_v35 (F := Ideal) x1 x2 x3 x4 x5 x10 x11 x12 (ix2 r j)
    = (∑ k : Fin 1024, val_main_v31 (F := Ideal) x1 x2 x3 x4 x10 x11 (ix2 r k) * x12 (ix3 0 ⟨k.val, by omega⟩ j))
      + ∑ k : Fin 1024, x5 (ix2 r k) * x12 (ix3 0 ⟨1024 + k.val, by omega⟩ j) := by
  pointwise [val_main_v35]
  rw [sum2]
  simp only [v33_lo, v33_hi, v34_at]

theorem v39_at : val_main_v39 (F := Ideal) x0 x1 x2 x3 x4 x5 x9 x10 x11 x12 (ix2 r j)
    = x0 (ix2 r j) + x9 (ix1 j) * val_main_v35 (F := Ideal) x1 x2 x3 x4 x5 x10 x11 x12 (ix2 r j) := by
  pointwise [val_main_v39, val_main_v38, val_main_v37, val_main_v36]

end Cert.Reference15Ideal.Read
-- ==== Proof.Mix.lean ====
module

public import proofs.«01_k».proof.Proof.Gen.Kernel15Ideal.Value
public import proofs.«01_k».proof.Proof.Pack
public import proofs.«01_k».proof.Proof.KMix
public import proofs.«01_k».proof.Proof.RMix
public import proofs.«01_k».proof.Proof.Stores

@[expose] public section

set_option maxRecDepth 16384

noncomputable section

/-! The mixer's last forward call: the kernel's results are the reference's. -/

namespace Cert.Kernel15Ideal.Value

open Idealize.ShloMosaic Idealize.ShloMosaic.TcCoe Idealize.ShloMosaic.Tactic
open Cert.Kernel15Ideal Cert.Kernel15Ideal.Gen Idealize.SL.Sem
open Cert.Stores Cert.Reference15Ideal.Read
open Cert.Kernel12Ideal.Gen (stack2 stack4 stacked stacked_at3)

theorem idx_ins : ∀ t : Fin cfg0.N, win0_0.index t = ![t.val, 0] ∧ win0_1.index t = ![t.val + 1, 0] ∧ win0_2.index t = ![t.val + 1, 0]
    ∧ win0_3.index t = ![t.val + 1, 0] ∧ win0_4.index t = ![t.val + 1, 0] ∧ win0_5.index t = ![t.val, 0] ∧ t.val < 32 :=
  (by decide +kernel : ∀ t : Fin grid0.N, _)

theorem idx_prms : ∀ t : Fin cfg0.N, win0_6.index t = ![0, 0] ∧ win0_7.index t = ![0, 0] ∧ win0_8.index t = ![0, 0] ∧ win0_9.index t = ![0, 0] :=
  (by decide +kernel : ∀ t : Fin grid0.N, _)

theorem idx_outs : ∀ t : Fin cfg0.N, win0_10.index t = ![t.val, 0] ∧ win0_11.index t = ![t.val, 0] ∧ win0_12.index t = ![t.val, 0] :=
  (by decide +kernel : ∀ t : Fin grid0.N, _)

variable (m : (ℓ : Loc nD τ sig) → Buf (Elt Ideal) ℓ) (c : Dev nD) (t : Fin cfg0.N)

/-- Argument `b` as launched. -/
abbrev arg (b : Ref sig .tc) := m ((c : Thread nD τ).loc b)

theorem V6_eq : V m c main_v6 = stacked (arg m c main_arg6) (arg m c main_arg7) (arg m c main_arg8) (arg m c main_arg9) := by
  unfold V
  after_reads_simp
  change stack2 _ _ = _
  after_reads_simp
  change stack2 (stack4 _ _ _ _) _ = _
  after_reads_simp
  rfl

/-- The skip's weight of a column is that of the column's head. -/
theorem V10_at (j : Fin 1024) : V m c main_v10 (ix2 0 j) = arg m c main_arg10 (ix2 0 ⟨j.val / 64, by omega⟩) := by
  unfold V
  after_reads_simp
  pointwise

theorem V12_at (j : Fin 1024) : V m c main_v12 (ix2 0 j) = arg m c main_arg11 (ix2 0 j) := by
  unfold V
  after_reads_simp
  pointwise

theorem V14_at (k : Fin 2048) (j : Fin 1024) : V m c main_v14 (ix2 k j) = arg m c main_arg12 (ix3 0 k j) := by
  unfold V
  after_reads_simp
  pointwise

/-- Row `r` of tile `t`. -/
def row (t : Fin cfg0.N) (r : Fin 256) : Fin 8192 := ⟨256 * t.val + r.val, by have := (idx_ins t).2.2.2.2.2.2; omega⟩

variable (r : Fin 256) (j : Fin 1024)

theorem blk0 : iblk m c 0 t (ix2 r j) = arg m c main_arg0 (ix2 (row t r) j) := by
  blk_ext [iblk, V, idx_ins t, row]

theorem blk1 : iblk m c 1 t (ix2 r j) = arg m c main_arg1 (ix2 (lat (row t r)) j) := by
  blk_ext [iblk, V, idx_ins t, row, lat]

theorem blk2 : iblk m c 2 t (ix2 r j) = arg m c main_arg2 (ix2 (lat (row t r)) j) := by
  blk_ext [iblk, V, idx_ins t, row, lat]

theorem blk3 : X0_3 m c t (ix2 r j) = arg m c main_arg3 (ix2 (lat (row t r)) ⟨j.val, by omega⟩) := by
  unfold X0_3 Pipeline.Window.fill
  rw [dif_pos (moved0_3 t _)]
  blk_ext [iblk, V, idx_ins t, row, lat]

theorem blk4 : iblk m c 4 t (ix2 r j) = arg m c main_arg4 (ix2 (lat (row t r)) j) := by
  blk_ext [iblk, V, idx_ins t, row, lat]

theorem blk5 : iblk m c 5 t (ix2 r j) = arg m c main_arg5 (ix2 (row t r) j) := by
  blk_ext [iblk, V, idx_ins t, row]

theorem blk6 (i : Fin 8) : iblk m c 6 t (ix2 i j) = V m c main_v6 (ix2 i j) := by
  blk_ext [iblk, idx_prms t]

theorem blk7 : iblk m c 7 t (ix2 0 j) = arg m c main_arg10 (ix2 0 ⟨j.val / 64, by omega⟩) := by
  refine Eq.trans ?_ (V10_at m c j)
  blk_ext [iblk, idx_prms t]

theorem blk8 : iblk m c 8 t (ix2 0 j) = arg m c main_arg11 (ix2 0 j) := by
  refine Eq.trans ?_ (V12_at m c j)
  blk_ext [iblk, idx_prms t]

theorem blk9 (k : Fin 2048) : iblk m c 9 t (ix2 k j) = arg m c main_arg12 (ix3 0 k j) := by
  refine Eq.trans ?_ (V14_at m c k j)
  blk_ext [iblk, idx_prms t]

theorem prm3 (h) (k : Fin 1024) : View.ld (iblk m c 6 t) (Rect.unit ![3, 0] ![1, 1024] h) (ix2 0 k) = arg m c main_arg9 (ix1 k) := by
  rw [ld2 _ _ _ _ (by omega) (by omega)]
  refine (blk6 m c t _ _).trans ?_
  rw [V6_eq]
  exact (congrArg _ (by blk_ext)).trans (stacked_at3 _ _ _ _ k)

theorem w_lo (h) (k : Fin 1024) : View.ld (iblk m c 9 t) (Rect.unit ![0, 0] ![1024, 1024] h) (ix2 k j)
    = arg m c main_arg12 (ix3 0 ⟨k.val, by omega⟩ j) := by
  rw [ld2 _ _ _ _ (by omega) (by omega)]
  refine (blk9 m c t _ _).trans (congrArg _ ?_)
  blk_ext

theorem w_hi (h) (k : Fin 1024) : View.ld (iblk m c 9 t) (Rect.unit ![1024, 0] ![1024, 1024] h) (ix2 k j)
    = arg m c main_arg12 (ix3 0 ⟨1024 + k.val, by omega⟩ j) := by
  rw [ld2 _ _ _ _ (by omega) (by omega)]
  refine (blk9 m c t _ _).trans (congrArg _ ?_)
  blk_ext

/-- The gated norm of the point. -/
theorem y_at : k0_pay1 (F := Ideal) (k0_pay6 (iblk m c 1 t) (iblk m c 2 t) (iblk m c 7 t) (X0_3 m c t) (iblk m c 4 t) (iblk m c 8 t))
      (k0_pay7 (iblk m c 1 t) (iblk m c 2 t) (iblk m c 7 t) (X0_3 m c t) (iblk m c 4 t)) (k0_pay8 (iblk m c 8 t)) (ix2 r j)
    = val_main_v31 (F := Ideal) (arg m c main_arg1) (arg m c main_arg2) (arg m c main_arg3) (arg m c main_arg4) (arg m c main_arg10) (arg m c main_arg11) (ix2 (row t r) j) := by
  induction j using Rows.halves with
  | h s i =>
    rw [gn_at, v31_at]
    simp only [blk1, blk2, blk3, blk4, blk7, blk8]

theorem out11 : (outsAt0 m c t).2.1 (ix2 r j)
    = val_main_v40 (F := Ideal) (arg m c main_arg1) (arg m c main_arg2) (arg m c main_arg3) (arg m c main_arg4) (arg m c main_arg10) (arg m c main_arg11) (ix2 (row t r) j) := by
  unfold outsAt0; dsimp only; frame_out
  rw [v40_at]
  exact y_at m c t r j

theorem out12 : (outsAt0 m c t).2.2 (ix2 r j)
    = val_main_v35 (F := Ideal) (arg m c main_arg1) (arg m c main_arg2) (arg m c main_arg3) (arg m c main_arg4) (arg m c main_arg5) (arg m c main_arg10) (arg m c main_arg11) (arg m c main_arg12) (ix2 (row t r) j) := by
  unfold outsAt0; dsimp only; frame_out
  rw [pay2_at, v35_at]
  exact congrArg₂ (fun x y : EReal => x + y)
    (Finset.sum_congr rfl fun k _ => congrArg₂ (fun x y : EReal => x * y) (y_at m c t r k) (w_lo m c t j _ k))
    (Finset.sum_congr rfl fun k _ => congrArg₂ (fun x y : EReal => x * y) (blk5 m c t r k) (w_hi m c t j _ k))

theorem out10 : (outsAt0 m c t).1 (ix2 r j)
    = val_main_v39 (F := Ideal) (arg m c main_arg0) (arg m c main_arg1) (arg m c main_arg2) (arg m c main_arg3) (arg m c main_arg4) (arg m c main_arg5) (arg m c main_arg9) (arg m c main_arg10) (arg m c main_arg11) (arg m c main_arg12) (ix2 (row t r) j) := by
  have h := out12 m c t r j
  revert h
  unfold outsAt0; dsimp only; frame_out
  intro h
  rw [pay3_at, v39_at, prm3]
  exact congrArg₂ (fun x y : EReal => x + y) (blk0 m c t r j) (congrArg _ h)

theorem final10 : (dats m 0 c).arrAt 10 cfg0.N = val_main_v39 (F := Ideal) (arg m c main_arg0) (arg m c main_arg1) (arg m c main_arg2) (arg m c main_arg3) (arg m c main_arg4) (arg m c main_arg5) (arg m c main_arg9) (arg m c main_arg10) (arg m c main_arg11) (arg m c main_arg12) := by
  refine (dats m 0 c).arrAt_eq_of_covers 10 _ (by decide +kernel) fun t hf y => ?_
  blk_simp
  rw [after0_10]
  idx_vars y
  refine (out10 m c t y0 y1).trans (congrArg _ ?_)
  blk_ext [idx_outs t, row]

theorem final11 : (dats m 0 c).arrAt 11 cfg0.N = val_main_v40 (F := Ideal) (arg m c main_arg1) (arg m c main_arg2) (arg m c main_arg3) (arg m c main_arg4) (arg m c main_arg10) (arg m c main_arg11) := by
  refine (dats m 0 c).arrAt_eq_of_covers 11 _ (by decide +kernel) fun t hf y => ?_
  blk_simp
  rw [after0_11]
  idx_vars y
  refine (out11 m c t y0 y1).trans (congrArg _ ?_)
  blk_ext [idx_outs t, row]

theorem final12 : (dats m 0 c).arrAt 12 cfg0.N = val_main_v35 (F := Ideal) (arg m c main_arg1) (arg m c main_arg2) (arg m c main_arg3) (arg m c main_arg4) (arg m c main_arg5) (arg m c main_arg10) (arg m c main_arg11) (arg m c main_arg12) := by
  refine (dats m 0 c).arrAt_eq_of_covers 12 _ (by decide +kernel) fun t hf y => ?_
  blk_simp
  rw [after0_12]
  idx_vars y
  refine (out12 m c t y0 y1).trans (congrArg _ ?_)
  blk_ext [idx_outs t, row]

end Cert.Kernel15Ideal.Value
-- ==== Proof.KHy1.lean ====
module

public import proofs.«01_k».proof.Proof.Gen.Kernel16Ideal.Skeleton
public import proofs.«01_k».proof.Proof.Rows
public import Idealize.ShloMosaic.Lib.Claim
public import Idealize.ShloMosaic.Lib.Pipeline.ValueKit

@[expose] public section

set_option maxRecDepth 16384

noncomputable section

namespace Cert.Rows

open Idealize.ShloMosaic

/-- The cube's factor in the smooth rectifier. -/
def cube : EReal := Ideal.ofBits .f32 0x3D372713#32
/-- The factor under its hyperbolic tangent. -/
def fac : EReal := Ideal.ofBits .f32 0x3F4C422A#32
/-- One half. -/
def hf : EReal := Ideal.ofBits .f32 0x3F000000#32
/-- The smooth rectifier. -/
def gelu (x : EReal) : EReal := x * (hf * (1 + Ideal.tanh (fac * (x + cube * (x * (x * x))))))
/-- The second half of a row of 2048, rectified. -/
def up (h : Fin 2048 → EReal) (k : Fin 1024) : EReal := gelu (h ⟨1024 + k.val, by omega⟩)
/-- One entry of the gated spatial mix: the gate times a row of weights on a column, shifted. -/
def sg (g : EReal) (w v : Fin 128 → EReal) (b : EReal) : EReal := g * ((∑ k, w k * v k) + b)
/-- The gated spatial mix of entry `q`, `l` of the block of chunk `n` and column group `s`, from a tile's gate and values. -/
def sgb (g v : Fin 256 → Fin 1024 → EReal) (w : Fin 128 → EReal) (b : EReal) (n : Fin 2) (s : Fin 8) (q l : Fin 128) : EReal :=
  sg (g ⟨128 * n.val + q.val, by omega⟩ ⟨128 * s.val + l.val, by omega⟩) w
    (fun k => v ⟨128 * n.val + k.val, by omega⟩ ⟨128 * s.val + l.val, by omega⟩) b

/-- Every entry of a tile lies in one of sixteen blocks. -/
theorem blocks (P : Fin 256 → Fin 1024 → Prop)
    (h : ∀ (n : Fin 2) (s : Fin 8) (q l : Fin 128), P ⟨128 * n.val + q.val, by omega⟩ ⟨128 * s.val + l.val, by omega⟩)
    (r : Fin 256) (j : Fin 1024) : P r j := by
  have := h ⟨r.val / 128, by omega⟩ ⟨j.val / 128, by omega⟩ ⟨r.val % 128, by omega⟩ ⟨j.val % 128, by omega⟩
  rwa [show (⟨128 * (r.val / 128) + r.val % 128, by omega⟩ : Fin 256) = r from Fin.ext (by simp only []; omega),
    show (⟨128 * (j.val / 128) + j.val % 128, by omega⟩ : Fin 1024) = j from Fin.ext (by simp only []; omega)] at this

end Cert.Rows

/-! What the body of the mixer's first forward call computes, entry by entry, in terms of `Cert.Rows`. -/

namespace Cert.Kernel16Ideal.Gen

open Idealize.ShloMosaic Idealize.ShloMosaic.TcCoe Idealize.ShloMosaic.Tactic

/-- The first tile is the context's. -/
theorem tile_cond : ∀ t : Fin 33, Scalar.cmpi .slt (BitVec.ofNat 32 t.val) 1#32 = if t.val < 1 then 1#1 else 0#1 := by decide

variable (i : grid0.Coords) (r : Fin 256) (j : Fin 1024) (x y : Vec Ideal S256x1024 .f32)

/-- The tile of the point. -/
def tile : Vec Ideal S256x1024 .f32 := Scalar.select (Scalar.cmpi .slt (BitVec.ofNat 32 (i 0).val) 1#32) x y

theorem pay2_at (g sh sc) : k0_pay2 (F := Ideal) i x y g sh sc (ix2 r j)
    = Rows.modn (fun k => tile i x y (ix2 r k)) (fun k => g (ix3 0 0 k)) (fun k => sh (ix3 0 0 k)) (fun k => sc (ix3 0 0 k)) j := by
  unfold k0_pay2
  change _ = Rows.modn (fun k => (Scalar.select (Scalar.cmpi .slt (BitVec.ofNat 32 (i 0).val) 1#32) x y : Vec Ideal S256x1024 .f32) (ix2 r k)) _ _ _ j
  generalize (Scalar.select (Scalar.cmpi .slt (BitVec.ofNat 32 (i 0).val) 1#32) x y : Vec Ideal S256x1024 .f32) = z
  pointwise
  rfl

theorem pay3_at (g sh sc w) : k0_pay3 (F := Ideal) i x y g sh sc w (ix2 r j)
    = ∑ k : Fin 1024, k0_pay2 (F := Ideal) i x y g sh sc (ix2 r k) * w (ix2 k j) := by
  pointwise [k0_pay3]

variable (u : FVec Ideal S256x1024 .bf16)

theorem pay4_at (w) (j : Fin 1536) : k0_pay4 (F := Ideal) u w (ix2 r j) = ∑ k : Fin 1024, u (ix2 r k) * w (ix2 k j) := by
  pointwise [k0_pay4]

theorem pay5_at (w) (j : Fin 128) : k0_pay5 (F := Ideal) u w (ix2 r j) = ∑ k : Fin 1024, u (ix2 r k) * w (ix2 k j) := by
  pointwise [k0_pay5]

theorem pay6_at (w) (j : Fin 2048) : k0_pay6 (F := Ideal) u w (ix2 r j) = ∑ k : Fin 1024, u (ix2 r k) * w (ix2 k j) := by
  pointwise [k0_pay6]

theorem pay7_at (w) : k0_pay7 (F := Ideal) u w (ix2 r j) = Rows.gelu (k0_pay6 (F := Ideal) u w (ix2 r ⟨j.val, by omega⟩)) := by
  pointwise [k0_pay7]; rfl

theorem pay8_at (w) : k0_pay8 (F := Ideal) u w (ix2 r j) = k0_pay6 (F := Ideal) u w (ix2 r ⟨1024 + j.val, by omega⟩) := by
  pointwise [k0_pay8]

theorem pay9_at (w) : Rows.hf * k0_pay9 (F := Ideal) u w (ix2 r j)
    = Rows.hf * (1 + Ideal.tanh (Rows.fac * (k0_pay8 (F := Ideal) u w (ix2 r j)
        + Rows.cube * (k0_pay8 (F := Ideal) u w (ix2 r j) * (k0_pay8 (F := Ideal) u w (ix2 r j) * k0_pay8 (F := Ideal) u w (ix2 r j)))))) := by
  pointwise [k0_pay9]; rfl

theorem pay10_at (a d g b) : k0_pay10 (F := Ideal) a d g b (ix2 r j)
    = Rows.lnz (fun k => a (ix2 r k) * (Rows.hf * d (ix2 r k))) (fun k => g (ix2 0 k)) (fun k => b (ix2 0 k)) j := by
  pointwise [k0_pay10]; rfl

/-- The normed second half. -/
theorem vln_at (w g b) : k0_pay10 (F := Ideal) (k0_pay8 u w) (k0_pay9 u w) g b (ix2 r j)
    = Rows.lnz (Rows.up fun k => k0_pay6 (F := Ideal) u w (ix2 r k)) (fun k => g (ix2 0 k)) (fun k => b (ix2 0 k)) j := by
  rw [pay10_at]
  simp only [pay9_at, pay8_at]
  rfl

variable (a : FVec Ideal S256x1024 .f32) (v : FVec Ideal S256x1024 .bf16) (q l : Fin 128)

/-- The gated spatial mix of a block, from the block's weights and shifts. -/
abbrev mix (w : Vec Ideal S1x128x128 .bf16) (b : Vec Ideal S128x1 .f32) (n : Fin 2) (s : Fin 8) : EReal :=
  Rows.sgb (fun r k => a (ix2 r k)) (fun r k => v (ix2 r k)) (fun k => w (ix3 0 q k)) (b (ix2 q 0)) n s q l

theorem blk00_at (d e f h w b) : k0_pay11 (F := Ideal) a d e f h w b (ix2 q l) = mix a (k0_pay10 d e f h) q l w b 0 0 := by
  pointwise [k0_pay11]
  simp [mix, Rows.sgb, Rows.sg]

theorem blk01_at (w b) : k0_pay12 (F := Ideal) a v w b (ix2 q l) = mix a v q l w b 0 1 := by
  pointwise [k0_pay12]
  simp [mix, Rows.sgb, Rows.sg]

theorem blk02_at (w b) : k0_pay13 (F := Ideal) a v w b (ix2 q l) = mix a v q l w b 0 2 := by
  pointwise [k0_pay13]
  simp [mix, Rows.sgb, Rows.sg]

theorem blk03_at (w b) : k0_pay14 (F := Ideal) a v w b (ix2 q l) = mix a v q l w b 0 3 := by
  pointwise [k0_pay14]
  simp [mix, Rows.sgb, Rows.sg]

theorem blk04_at (w b) : k0_pay15 (F := Ideal) a v w b (ix2 q l) = mix a v q l w b 0 4 := by
  pointwise [k0_pay15]
  simp [mix, Rows.sgb, Rows.sg]

theorem blk05_at (w b) : k0_pay16 (F := Ideal) a v w b (ix2 q l) = mix a v q l w b 0 5 := by
  pointwise [k0_pay16]
  simp [mix, Rows.sgb, Rows.sg]

theorem blk06_at (w b) : k0_pay18 (F := Ideal) (k0_pay17 a v w b) (ix2 q l) = mix a v q l w b 0 6 := by
  pointwise [k0_pay18, k0_pay17]
  simp [mix, Rows.sgb, Rows.sg]

theorem blk07_at (w b) : k0_pay19 (F := Ideal) a v w b (ix2 q l) = mix a v q l w b 0 7 := by
  pointwise [k0_pay19]
  simp [mix, Rows.sgb, Rows.sg]

theorem blk10_at (w b) : k0_pay20 (F := Ideal) a v w b (ix2 q l) = mix a v q l w b 1 0 := by
  pointwise [k0_pay20]
  simp [mix, Rows.sgb, Rows.sg]

theorem blk11_at (w b) : k0_pay23 (F := Ideal) a (k0_pay21 v w) (k0_pay22 b) (ix2 q l) = mix a v q l w b 1 1 := by
  pointwise [k0_pay23, k0_pay21, k0_pay22]
  simp [mix, Rows.sgb, Rows.sg]

theorem blk12_at (w b) : k0_pay24 (F := Ideal) a v w b (ix2 q l) = mix a v q l w b 1 2 := by
  pointwise [k0_pay24]
  simp [mix, Rows.sgb, Rows.sg]

theorem blk13_at (w b) : k0_pay25 (F := Ideal) a v w b (ix2 q l) = mix a v q l w b 1 3 := by
  pointwise [k0_pay25]
  simp [mix, Rows.sgb, Rows.sg]

theorem blk14_at (w b) : k0_pay27 (F := Ideal) a (k0_pay26 v w) b (ix2 q l) = mix a v q l w b 1 4 := by
  pointwise [k0_pay27, k0_pay26]
  simp [mix, Rows.sgb, Rows.sg]

theorem blk15_at (w b) : k0_pay28 (F := Ideal) a v w b (ix2 q l) = mix a v q l w b 1 5 := by
  pointwise [k0_pay28]
  simp [mix, Rows.sgb, Rows.sg]

theorem blk16_at (w b) : k0_pay29 (F := Ideal) a v w b (ix2 q l) = mix a v q l w b 1 6 := by
  pointwise [k0_pay29]
  simp [mix, Rows.sgb, Rows.sg]

theorem blk17_at (w b) : k0_pay1 (F := Ideal) a (k0_pay30 w) (k0_pay31 v) (constant S128x128 .f32 0x00000000#32) b (ix2 q l) = mix a v q l w b 1 7 := by
  pointwise [k0_pay1, k0_pay30, k0_pay31]
  simp [mix, Rows.sgb, Rows.sg]

end Cert.Kernel16Ideal.Gen
-- ==== Proof.Hy1Mix.lean ====
module

public import proofs.«01_k».proof.Proof.Gen.Kernel16Ideal.Frame
public import proofs.«01_k».proof.Proof.KHy1
public import proofs.«01_k».proof.Proof.Stores

@[expose] public section

set_option maxRecDepth 16384

noncomputable section

/-! The gated spatial mix of a tile, block by block, and the values that the stores share. -/

namespace Cert.Kernel16Ideal.Gen

open Idealize.ShloMosaic Idealize.ShloMosaic.TcCoe Idealize.ShloMosaic.Tactic
open Cert.Stores

variable (i : grid0.Coords) (x0 x1 : Vec Ideal S256x1024 .f32) (x2 : Vec Ideal S1x8x1024 .f32) (x3 : Vec Ideal S1024x1024 .bf16)
  (x4 : Vec Ideal S1024x2048 .bf16) (x5 : Vec Ideal S1024x1536 .bf16) (x6 : Vec Ideal S1024x128 .bf16) (x7 x8 : Vec Ideal S1x1024 .f32)
  (x9 : Vec Ideal S8x128x128 .bf16) (x10 : Vec Ideal S128x128 .f32)

theorem pay32_eq : k0_pay32 i x0 x1 x2 x3 x4 x5 x6 x7 x8 x9 x10 = k0_pay2 i x0 x1 (View.ld x2 r0_1) (View.ld x2 r0_2) (View.ld x2 r0_3) := by
  unfold k0_pay32
  rw [View.ld_unit_lit _ x0 (by decide), View.ld_unit_lit _ x1 (by decide)]

theorem pay33_eq : k0_pay33 i x0 x1 x2 x3 x4 x5 x6 x7 x8 x9 x10 = k0_pay7 (k0_pay32 i x0 x1 x2 x3 x4 x5 x6 x7 x8 x9 x10) x4 := by
  unfold k0_pay33
  rw [View.ld_unit_lit _ x4 (by decide)]

theorem pay36_eq : k0_pay36 i x0 x1 x2 x3 x4 x5 x6 x7 x8 x9 x10
    = k0_pay10 (k0_pay8 (k0_pay32 i x0 x1 x2 x3 x4 x5 x6 x7 x8 x9 x10) x4) (k0_pay9 (k0_pay32 i x0 x1 x2 x3 x4 x5 x6 x7 x8 x9 x10) x4) x7 x8 := by
  unfold k0_pay36 k0_pay34 k0_pay35
  rw [View.ld_unit_lit _ x4 (by decide), View.ld_unit_lit _ x7 (by decide), View.ld_unit_lit _ x8 (by decide)]

variable (q l : Fin 128)

/-- A block's weights and shifts are those of its column group. -/
theorem mix_eq (a : FVec Ideal S256x1024 .f32) (v : FVec Ideal S256x1024 .bf16) (n : Fin 2) (s : ℕ) (hs : s < 8) (h) (h') :
    mix a v q l (View.ld x9 (Rect.unit ![s, 0, 0] ![1, 128, 128] h)) (View.ld x10 (Rect.unit ![0, s] ![128, 1] h')) n ⟨s, hs⟩
    = Rows.sgb (fun r k => a (ix2 r k)) (fun r k => v (ix2 r k)) (fun k => x9 (ix3 ⟨s, hs⟩ q k)) (x10 (ix2 q ⟨s, by omega⟩)) n ⟨s, hs⟩ q l := by
  unfold mix
  refine congrArg₂ (fun w b => Rows.sgb _ _ w b n ⟨s, hs⟩ q l) (funext fun k => ?_) ?_
  · rw [ld3 x9 h q k hs (by omega) (by omega)]
  · rw [ld2 x10 h' q 0 (by omega) (by show s + 0 < 128; omega)]
    exact congrArg x10 (by blk_ext)

theorem out15_mix (n : Fin 2) (s : Fin 8) : out0_15 i x0 x1 x2 x3 x4 x5 x6 x7 x8 x9 x10 (ix2 ⟨128 * n.val + q.val, by omega⟩ ⟨128 * s.val + l.val, by omega⟩)
    = Rows.sgb (fun r k => k0_pay33 i x0 x1 x2 x3 x4 x5 x6 x7 x8 x9 x10 (ix2 r k)) (fun r k => k0_pay36 i x0 x1 x2 x3 x4 x5 x6 x7 x8 x9 x10 (ix2 r k))
        (fun k => x9 (ix3 s q k)) (x10 (ix2 q ⟨s.val, by omega⟩)) n s q l := by
  obtain ⟨n, hn⟩ := n
  obtain ⟨s, hs⟩ := s
  unfold out0_15
  interval_cases n <;> interval_cases s <;>
  · repeat first
      | refine (canon_miss _ _ _ _ _ (by dsimp only; omega)).trans ?_
      | refine (canon_skip _ _ _ _ _ (by dsimp only; omega)).trans ?_
    refine (canon_hit _ _ _ _ _ q l (by dsimp only <;> omega) (by dsimp only <;> omega)).trans ?_
    simp only [blk00_at, blk01_at, blk02_at, blk03_at, blk04_at, blk05_at, blk06_at, blk07_at,
      blk10_at, blk11_at, blk12_at, blk13_at, blk14_at, blk15_at, blk16_at, blk17_at]
    exact mix_eq x9 x10 q l _ _ _ _ hs _ _

end Cert.Kernel16Ideal.Gen
-- ==== Proof.RHy1.lean ====
module

public import proofs.«01_k».proof.Proof.Gen.Reference16Ideal.Read
public import proofs.«01_k».proof.Proof.KHy1

@[expose] public section

set_option maxRecDepth 16384

noncomputable section

/-! The reference of the mixer's first forward call, entry by entry, in terms of `Cert.Rows`. -/

namespace Cert.Reference16Ideal.Read

open Idealize.ShloMosaic Idealize.ShloMosaic.TcCoe Idealize.ShloMosaic.Tactic
open Cert.Reference16Ideal Cert.Reference16Ideal.Gen

variable (x0 : Vec Ideal S256x1024 .f32) (x1 : Vec Ideal S8192x1024 .f32) (x2 x3 x4 x5 x6 : Vec Ideal S1024 .f32)
  (x8 : Vec Ideal S1x1024x4640 .f32) (x9 x10 : Vec Ideal S1x1024 .f32) (x11 : Vec Ideal S1x8x128x128 .f32) (x12 : Vec Ideal S1x8x128 .f32)

theorem v20_at (r : Fin 256) (j : Fin 1024) : val_main_v20 (F := Ideal) x0 x2 x3 x4 (ix2 r j)
    = Rows.modn (fun k => x0 (ix2 r k)) (fun k => x2 (ix1 k)) (fun k => x3 (ix1 k)) (fun k => x4 (ix1 k)) j := by
  pointwise [val_main_v20, val_main_v19, val_main_v18, val_main_v17, val_main_v16, val_main_v15, val_main_v14, val_main_v13, val_main_cst_2, val_main_v12,
    val_main_v11, val_main_v10, val_main_v9, val_main_v8, val_main_v7, val_main_v6, val_main_v5, val_main_cst_1, val_main_v4, val_main_v3, val_main_cst_0,
    val_main_v2, val_main_v1, val_main_cst, val_main_v0]
  rfl

theorem v41_at (r : Fin 8192) (j : Fin 1024) : val_main_v41 (F := Ideal) x1 x2 x5 x6 (ix2 r j)
    = Rows.modn (fun k => x1 (ix2 r k)) (fun k => x2 (ix1 k)) (fun k => x5 (ix1 k)) (fun k => x6 (ix1 k)) j := by
  pointwise [val_main_v41, val_main_v40, val_main_v39, val_main_v38, val_main_v37, val_main_v36, val_main_v35, val_main_v34, val_main_cst_6, val_main_v33,
    val_main_v32, val_main_v31, val_main_v30, val_main_v29, val_main_v28, val_main_v27, val_main_v26, val_main_cst_5, val_main_v25, val_main_v24, val_main_cst_4,
    val_main_v23, val_main_v22, val_main_cst_3, val_main_v21]
  rfl

theorem v42_ctx (r : Fin 256) (j : Fin 1024) : val_main_v42 (F := Ideal) x0 x1 x2 x3 x4 x5 x6 (ix2 ⟨r.val, by omega⟩ j)
    = val_main_v20 (F := Ideal) x0 x2 x3 x4 (ix2 r j) := by
  pointwise [val_main_v42]

theorem v42_lat (r : Fin 8192) (j : Fin 1024) : val_main_v42 (F := Ideal) x0 x1 x2 x3 x4 x5 x6 (ix2 ⟨256 + r.val, by omega⟩ j)
    = val_main_v41 (F := Ideal) x1 x2 x5 x6 (ix2 r j) := by
  pointwise [val_main_v42]

variable (r : Fin 8448)

theorem v44_at (j : Fin 4640) : val_main_v44 (F := Ideal) x0 x1 x2 x3 x4 x5 x6 x8 (ix2 r j)
    = ∑ k : Fin 1024, val_main_v42 (F := Ideal) x0 x1 x2 x3 x4 x5 x6 (ix2 r k) * x8 (ix3 0 k j) := by
  pointwise [val_main_v44, val_main_v43]

theorem v45_at (j : Fin 1024) : val_main_v45 (F := Ideal) x0 x1 x2 x3 x4 x5 x6 x8 (ix2 r j)
    = val_main_v44 (F := Ideal) x0 x1 x2 x3 x4 x5 x6 x8 (ix2 r ⟨j.val, by omega⟩) := by
  pointwise [val_main_v45]

theorem v46_at (j : Fin 1536) : val_main_v46 (F := Ideal) x0 x1 x2 x3 x4 x5 x6 x8 (ix2 r j)
    = val_main_v44 (F := Ideal) x0 x1 x2 x3 x4 x5 x6 x8 (ix2 r ⟨1024 + j.val, by omega⟩) := by
  pointwise [val_main_v46]

theorem v48_at (j : Fin 2048) : val_main_v48 (F := Ideal) x0 x1 x2 x3 x4 x5 x6 x8 (ix2 r j)
    = val_main_v44 (F := Ideal) x0 x1 x2 x3 x4 x5 x6 x8 (ix2 r ⟨2592 + j.val, by omega⟩) := by
  pointwise [val_main_v48]

theorem v102_lo (j : Fin 128) (hj : j.val < 32) : val_main_v102 (F := Ideal) x0 x1 x2 x3 x4 x5 x6 x8 (ix2 r j)
    = val_main_v44 (F := Ideal) x0 x1 x2 x3 x4 x5 x6 x8 (ix2 r ⟨2560 + j.val, by omega⟩) := by
  pointwise [val_main_v102, val_main_v47]
  rw [dif_pos hj]

theorem v102_hi (j : Fin 128) (hj : ¬ j.val < 32) : val_main_v102 (F := Ideal) x0 x1 x2 x3 x4 x5 x6 x8 (ix2 r j) = 0 := by
  pointwise [val_main_v102, val_main_v101, val_main_cst_16]
  rw [dif_neg hj]

variable (n : Fin 8192)

theorem v62_at (j : Fin 2048) : val_main_v62 (F := Ideal) x0 x1 x2 x3 x4 x5 x6 x8 (ix2 n j)
    = Rows.gelu (val_main_v48 (F := Ideal) x0 x1 x2 x3 x4 x5 x6 x8 (ix2 ⟨256 + n.val, by omega⟩ j)) := by
  pointwise [val_main_v62, val_main_v61, val_main_v60, val_main_cst_10, val_main_v59, val_main_v58, val_main_cst_9, val_main_v57, val_main_v56, val_main_v55,
    val_main_cst_8, val_main_v54, val_main_v53, val_main_v52, val_main_cst_7, val_main_v51, val_main_v50, val_main_v49]
  unfold Rows.gelu
  rw [mul_comm (_ * _) (val_main_v48 (F := Ideal) x0 x1 x2 x3 x4 x5 x6 x8 _)]
  rfl

variable (j : Fin 1024)

theorem v63_at : val_main_v63 (F := Ideal) x0 x1 x2 x3 x4 x5 x6 x8 (ix2 n j)
    = Rows.gelu (val_main_v48 (F := Ideal) x0 x1 x2 x3 x4 x5 x6 x8 (ix2 ⟨256 + n.val, by omega⟩ ⟨j.val, by omega⟩)) := by
  rw [← v62_at]
  pointwise [val_main_v63]

theorem v64_at : val_main_v64 (F := Ideal) x0 x1 x2 x3 x4 x5 x6 x8 (ix2 n j)
    = Rows.up (fun k => val_main_v48 (F := Ideal) x0 x1 x2 x3 x4 x5 x6 x8 (ix2 ⟨256 + n.val, by omega⟩ k)) j := by
  unfold Rows.up
  rw [← v62_at]
  pointwise [val_main_v64]

theorem v72_at : val_main_v72 (F := Ideal) x0 x1 x2 x3 x4 x5 x6 x8 (ix2 n j)
    = Rows.cent (fun k => val_main_v64 (F := Ideal) x0 x1 x2 x3 x4 x5 x6 x8 (ix2 n k)) j := by
  pointwise [val_main_v72, val_main_v71, val_main_v70, val_main_v69, val_main_cst_12, val_main_v68, val_main_v67, val_main_cst_11]
  rfl

theorem v88_at : val_main_v88 (F := Ideal) x0 x1 x2 x3 x4 x5 x6 x8 x9 x10 (ix2 n j)
    = Rows.lnz (Rows.up fun k => val_main_v48 (F := Ideal) x0 x1 x2 x3 x4 x5 x6 x8 (ix2 ⟨256 + n.val, by omega⟩ k))
        (fun k => x9 (ix2 0 k)) (fun k => x10 (ix2 0 k)) j := by
  pointwise [val_main_v88, val_main_v87, val_main_v86, val_main_v66, val_main_v85, val_main_v84, val_main_v83, val_main_v65, val_main_v82, val_main_v81,
    val_main_v80, val_main_v79, val_main_v78, val_main_cst_15, val_main_v77, val_main_v76, val_main_cst_14, val_main_v75, val_main_v74, val_main_cst_13,
    val_main_v73]
  simp only [v72_at, v64_at]
  rfl

variable (p : Fin 64) (s : Fin 8) (q l : Fin 128)

theorem v91_at : val_main_v91 (F := Ideal) x0 x1 x2 x3 x4 x5 x6 x8 x9 x10 x11 (ix4 s p l q)
    = ∑ k : Fin 128, x11 (ix4 0 s q k) * val_main_v88 (F := Ideal) x0 x1 x2 x3 x4 x5 x6 x8 x9 x10 (ix2 ⟨128 * p.val + k.val, by omega⟩ ⟨128 * s.val + l.val, by omega⟩) := by
  pointwise [val_main_v91, val_main_v90, val_main_v89]
  refine Finset.sum_congr rfl fun k _ => ?_
  rw [mul_comm]
  refine congrArg₂ (fun a b : EReal => a * b) (congrArg x11 ?_) (congrArg (val_main_v88 (F := Ideal) x0 x1 x2 x3 x4 x5 x6 x8 x9 x10) ?_)
  all_goals blk_ext

theorem v98_at : val_main_v98 (F := Ideal) x0 x1 x2 x3 x4 x5 x6 x8 x9 x10 x11 x12 (ix4 p q s l)
    = val_main_v91 (F := Ideal) x0 x1 x2 x3 x4 x5 x6 x8 x9 x10 x11 (ix4 s p l q) + x12 (ix3 0 s q) := by
  pointwise [val_main_v98, val_main_v97, val_main_v96, val_main_v95, val_main_v94, val_main_v93, val_main_v92]

theorem v103_at : val_main_v103 (F := Ideal) x0 x1 x2 x3 x4 x5 x6 x8 x9 x10 x11 x12 (ix2 ⟨128 * p.val + q.val, by omega⟩ ⟨128 * s.val + l.val, by omega⟩)
    = Rows.sg (val_main_v63 (F := Ideal) x0 x1 x2 x3 x4 x5 x6 x8 (ix2 ⟨128 * p.val + q.val, by omega⟩ ⟨128 * s.val + l.val, by omega⟩))
        (fun k => x11 (ix4 0 s q k))
        (fun k => val_main_v88 (F := Ideal) x0 x1 x2 x3 x4 x5 x6 x8 x9 x10 (ix2 ⟨128 * p.val + k.val, by omega⟩ ⟨128 * s.val + l.val, by omega⟩))
        (x12 (ix3 0 s q)) := by
  unfold Rows.sg
  rw [← v91_at, ← v98_at]
  pointwise [val_main_v103, val_main_v100, val_main_v99]

end Cert.Reference16Ideal.Read
-- ==== Proof.Hy1.lean ====
module

public import proofs.«01_k».proof.Proof.Gen.Kernel16Ideal.Value
public import proofs.«01_k».proof.Proof.Hy1Mix
public import proofs.«01_k».proof.Proof.RHy1
public import Idealize.ShloMosaic.Lib.StableHlo.RunRead

@[expose] public section

set_option maxRecDepth 16384

noncomputable section

/-! The mixer's first forward call: the kernel's results are the reference's. -/

namespace Cert.Kernel16Ideal.Value

open Idealize.ShloMosaic Idealize.ShloMosaic.TcCoe Idealize.ShloMosaic.Tactic
open Cert.Kernel16Ideal Cert.Kernel16Ideal.Gen Idealize.SL.Sem
open Cert.Stores Cert.Reference16Ideal.Read

theorem idx_ins : ∀ t : Fin cfg0.N, win0_0.index t = ![0, 0] ∧ win0_1.index t = ![t.val - 1, 0]
    ∧ win0_2.index t = ![if t.val < 1 then 0 else 1, 0, 0] ∧ t.val < 33 :=
  (by decide +kernel : ∀ t : Fin grid0.N, _)

theorem idx_prms : ∀ t : Fin cfg0.N, win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0, 0] ∧ win0_10.index t = ![0, 0] :=
  (by decide +kernel : ∀ t : Fin grid0.N, _)

theorem idx_outs : ∀ t : Fin cfg0.N, win0_11.index t = ![t.val, 0] ∧ win0_12.index t = ![t.val, 0] ∧ win0_13.index t = ![t.val, 0]
    ∧ win0_14.index t = ![t.val, 0] ∧ win0_15.index t = ![t.val - 1, 0] :=
  (by decide +kernel : ∀ t : Fin grid0.N, _)

theorem coords_val : ∀ t : Fin cfg0.N, (grid0.coords t 0).val = t.val :=
  (by decide +kernel : ∀ t : Fin grid0.N, _)

/-- The context's tile writes no block of the gated spatial mix back. -/
theorem flush15 : ∀ t : Fin cfg0.N, (cfg0.win 15).flush t = true → 1 ≤ t.val :=
  (by decide +kernel : ∀ t : Fin grid0.N, (cfg0.win 15).flush t = true → 1 ≤ t.val)

variable (m : (ℓ : Loc nD τ sig) → Buf (Elt Ideal) ℓ) (c : Dev nD) (t : Fin cfg0.N)

/-- Argument `b` as launched. -/
abbrev arg (b : Ref sig .tc) := m ((c : Thread nD τ).loc b)

/-! ### What the host prepares -/

/-- A parameter as a row. -/
def prow (a : Vec Ideal S1024 .f32) : Vec Ideal S1x1024 .f32 := broadcastInDim S1x1024 ![1] bcast_S1024_S1x1024_1 a
/-- Three rows, one over another. -/
def rows3 (a b d : Vec Ideal S1x1024 .f32) : Vec Ideal S3x1024 .f32 :=
  concatenate (α := Elt Ideal .f32) S3x1024 0 [⟨S1x1024, a⟩, ⟨S1x1024, b⟩, ⟨S1x1024, d⟩] concatenates_S1x1024_S1x1024_S1x1024_S3x1024_d0
/-- Four rows, one over another. -/
def rows4 (a b d e : Vec Ideal S1x1024 .f32) : Vec Ideal S4x1024 .f32 :=
  concatenate (α := Elt Ideal .f32) S4x1024 0 [⟨S1x1024, a⟩, ⟨S1x1024, b⟩, ⟨S1x1024, d⟩, ⟨S1x1024, e⟩]
    concatenates_S1x1024_S1x1024_S1x1024_S1x1024_S4x1024_d0
/-- Three rows over five. -/
def over3 (a : Vec Ideal S3x1024 .f32) (b : Vec Ideal S5x1024 .f32) : Vec Ideal S8x1024 .f32 :=
  concatenate (α := Elt Ideal .f32) S8x1024 0 [⟨S3x1024, a⟩, ⟨S5x1024, b⟩] concatenates_S3x1024_S5x1024_S8x1024_d0
/-- Four rows over four. -/
def over4 (a b : Vec Ideal S4x1024 .f32) : Vec Ideal S8x1024 .f32 :=
  concatenate (α := Elt Ideal .f32) S8x1024 0 [⟨S4x1024, a⟩, ⟨S4x1024, b⟩] concatenates_S4x1024_S4x1024_S8x1024_d0
/-- A stack as a leaf. -/
def leaf (a : Vec Ideal S8x1024 .f32) : Vec Ideal S1x8x1024 .f32 := broadcastInDim S1x8x1024 ![1, 2] bcast_S8x1024_S1x8x1024_1_2 a
/-- Two leaves. -/
def leaves (a b : Vec Ideal S1x8x1024 .f32) : Vec Ideal S2x8x1024 .f32 :=
  concatenate (α := Elt Ideal .f32) S2x8x1024 0 [⟨S1x8x1024, a⟩, ⟨S1x8x1024, b⟩] concatenates_S1x8x1024_S1x8x1024_S2x8x1024_d0
/-- The parameters of the context over those of the latents. -/
def prms (g a b d e f : Vec Ideal S1024 .f32) : Vec Ideal S2x8x1024 .f32 :=
  leaves (leaf (over3 (rows3 (prow g) (prow a) (prow b)) (broadcastInDim S5x1024 ![] bcast_S_S5x1024 (constant (F := Ideal) S_ .f32 0x00000000#32 : Vec Ideal S_ .f32))))
    (leaf (over4 (rows4 (prow g) (prow d) (prow e) (prow f)) (broadcastInDim S4x1024 ![] bcast_S_S4x1024 (constant (F := Ideal) S_ .f32 0x00000000#32 : Vec Ideal S_ .f32))))

theorem V15_eq : V m c main_v15 = prms (arg m c main_arg2) (arg m c main_arg3) (arg m c main_arg4) (arg m c main_arg5) (arg m c main_arg6) (arg m c main_arg7) := by
  unfold V
  after_reads_simp
  change leaves _ _ = _
  after_reads_simp
  change leaves (leaf (over3 _ _)) (leaf (over4 _ _)) = _
  after_reads_simp
  change leaves (leaf (over3 (rows3 _ _ _) _)) (leaf (over4 (rows4 _ _ _ _) _)) = _
  after_reads_simp
  rfl

section
variable (g a b d e f : Vec Ideal S1024 .f32) (j : Fin 1024)

theorem prms_00 : prms g a b d e f (ix3 0 0 j) = g (ix1 j) := by pointwise [prms, leaves, leaf, over3, rows3, prow]
theorem prms_01 : prms g a b d e f (ix3 0 1 j) = a (ix1 j) := by pointwise [prms, leaves, leaf, over3, rows3, prow]
theorem prms_02 : prms g a b d e f (ix3 0 2 j) = b (ix1 j) := by pointwise [prms, leaves, leaf, over3, rows3, prow]
theorem prms_10 : prms g a b d e f (ix3 1 0 j) = g (ix1 j) := by pointwise [prms, leaves, leaf, over4, rows4, prow]
theorem prms_11 : prms g a b d e f (ix3 1 1 j) = d (ix1 j) := by pointwise [prms, leaves, leaf, over4, rows4, prow]
theorem prms_12 : prms g a b d e f (ix3 1 2 j) = e (ix1 j) := by pointwise [prms, leaves, leaf, over4, rows4, prow]

end

theorem V18_at (k j : Fin 1024) : V m c main_v18 (ix2 k j) = arg m c main_arg8 (ix3 0 k ⟨j.val, by omega⟩) := by
  unfold V
  after_reads_simp
  pointwise

theorem V19_at (k : Fin 1024) (j : Fin 1536) : V m c main_v19 (ix2 k j) = arg m c main_arg8 (ix3 0 k ⟨1024 + j.val, by omega⟩) := by
  unfold V
  after_reads_simp
  pointwise

theorem V21_at (k : Fin 1024) (j : Fin 2048) : V m c main_v21 (ix2 k j) = arg m c main_arg8 (ix3 0 k ⟨2592 + j.val, by omega⟩) := by
  unfold V
  after_reads_simp
  pointwise

theorem V23_lo (k : Fin 1024) (j : Fin 128) (hj : j.val < 32) : V m c main_v23 (ix2 k j) = arg m c main_arg8 (ix3 0 k ⟨2560 + j.val, by omega⟩) := by
  unfold V
  after_reads_simp
  pointwise
  rw [dif_pos hj]

theorem V23_hi (k : Fin 1024) (j : Fin 128) (hj : ¬ j.val < 32) : V m c main_v23 (ix2 k j) = (0 : EReal) := by
  unfold V
  after_reads_simp
  pointwise
  rw [dif_neg hj]

theorem V25_at (j : Fin 1024) : V m c main_v25 (ix2 0 j) = arg m c main_arg9 (ix2 0 j) := by
  unfold V
  after_reads_simp
  pointwise

theorem V27_at (j : Fin 1024) : V m c main_v27 (ix2 0 j) = arg m c main_arg10 (ix2 0 j) := by
  unfold V
  after_reads_simp
  pointwise

theorem V29_at (s : Fin 8) (q k : Fin 128) : V m c main_v29 (ix3 s q k) = arg m c main_arg11 (ix4 0 s q k) := by
  unfold V
  after_reads_simp
  pointwise

theorem V33_at (q : Fin 128) (s : Fin 8) : V m c main_v33 (ix2 q ⟨s.val, by omega⟩) = arg m c main_arg12 (ix3 0 s q) := by
  unfold V
  after_reads_simp
  pointwise

/-! ### Blocks -/

/-- Row `r` of tile `t`. -/
def row (t : Fin cfg0.N) (r : Fin 256) : Fin 8448 := ⟨256 * t.val + r.val, by have := (idx_ins t).2.2.2; omega⟩
/-- Row `r` of tile `t` among the latents. -/
def lrow (t : Fin cfg0.N) (r : Fin 256) : Fin 8192 := ⟨256 * (t.val - 1) + r.val, by have := (idx_ins t).2.2.2; omega⟩

variable (r : Fin 256) (j : Fin 1024)

theorem blk0 : iblk m c 0 t (ix2 r j) = arg m c main_arg0 (ix2 r j) := by
  blk_ext [iblk, V, idx_ins t]

theorem blk1 : iblk m c 1 t (ix2 r j) = arg m c main_arg1 (ix2 (lrow t r) j) := by
  blk_ext [iblk, V, idx_ins t, lrow]

theorem blk2 (a : Fin 8) : iblk m c 2 t (ix3 0 a j) = V m c main_v15 (ix3 (if t.val < 1 then 0 else 1) a j) := by
  by_cases h : t.val < 1
  · rw [if_pos h]; blk_ext [iblk, idx_ins t, if_pos h]
  · rw [if_neg h]; blk_ext [iblk, idx_ins t, if_neg h]

theorem blk3 (k : Fin 1024) : iblk m c 3 t (ix2 k j) = V m c main_v18 (ix2 k j) := by
  blk_ext [iblk, idx_prms t]

theorem blk4 (k : Fin 1024) (j : Fin 2048) : iblk m c 4 t (ix2 k j) = V m c main_v21 (ix2 k j) := by
  blk_ext [iblk, idx_prms t]

theorem blk5 (k : Fin 1024) (j : Fin 1536) : iblk m c 5 t (ix2 k j) = V m c main_v19 (ix2 k j) := by
  blk_ext [iblk, idx_prms t]

theorem blk6 (k : Fin 1024) (j : Fin 128) : iblk m c 6 t (ix2 k j) = V m c main_v23 (ix2 k j) := by
  blk_ext [iblk, idx_prms t]

theorem blk7 : iblk m c 7 t (ix2 0 j) = arg m c main_arg9 (ix2 0 j) := by
  refine Eq.trans ?_ (V25_at m c j)
  blk_ext [iblk, idx_prms t]

theorem blk8 : iblk m c 8 t (ix2 0 j) = arg m c main_arg10 (ix2 0 j) := by
  refine Eq.trans ?_ (V27_at m c j)
  blk_ext [iblk, idx_prms t]

theorem blk9 (s : Fin 8) (q k : Fin 128) : iblk m c 9 t (ix3 s q k) = arg m c main_arg11 (ix4 0 s q k) := by
  refine Eq.trans ?_ (V29_at m c s q k)
  blk_ext [iblk, idx_prms t]

theorem blk10 (q : Fin 128) (s : Fin 8) : iblk m c 10 t (ix2 q ⟨s.val, by omega⟩) = arg m c main_arg12 (ix3 0 s q) := by
  refine Eq.trans ?_ (V33_at m c q s)
  blk_ext [iblk, idx_prms t]

/-- A row of the tile's leaf of parameters. -/
theorem ld_prm (a : ℕ) (ha : a < 8) (h) (k : Fin 1024) : View.ld (iblk m c 2 t) (Rect.unit ![0, a, 0] ![1, 1, 1024] h) (ix3 0 0 k)
    = V m c main_v15 (ix3 (if t.val < 1 then 0 else 1) ⟨a, ha⟩ k) := by
  rw [← blk2]
  unfold View.ld
  congr 1
  funext k
  match k with
  | 0 => exact Fin.ext (by simp [Rect.unit])
  | 1 => exact Fin.ext (by simp [Rect.unit])
  | 2 => exact Fin.ext (by simp [Rect.unit])

/-- The rows of the tile: the context's on the first, the latents' on the others. -/
theorem tile_at : tile (grid0.coords t) (iblk m c 0 t) (iblk m c 1 t) (ix2 r j)
    = if t.val < 1 then arg m c main_arg0 (ix2 r j) else arg m c main_arg1 (ix2 (lrow t r) j) := by
  unfold tile
  rw [coords_val t, show Scalar.cmpi .slt (BitVec.ofNat 32 t.val) 1#32 = _ from tile_cond ⟨t.val, (idx_ins t).2.2.2⟩]
  by_cases h : t.val < 1
  · simp only [h, if_true]
    exact blk0 m c t r j
  · simp only [h, if_false]
    exact blk1 m c t r j

/-- The modulated rows of the tile. -/
theorem u_at (h0 h1 h2) : k0_pay2 (F := Ideal) (grid0.coords t) (iblk m c 0 t) (iblk m c 1 t) (View.ld (iblk m c 2 t) (Rect.unit ![0, 0, 0] ![1, 1, 1024] h0))
      (View.ld (iblk m c 2 t) (Rect.unit ![0, 1, 0] ![1, 1, 1024] h1)) (View.ld (iblk m c 2 t) (Rect.unit ![0, 2, 0] ![1, 1, 1024] h2)) (ix2 r j)
    = val_main_v42 (F := Ideal) (arg m c main_arg0) (arg m c main_arg1) (arg m c main_arg2) (arg m c main_arg3) (arg m c main_arg4) (arg m c main_arg5) (arg m c main_arg6) (ix2 (row t r) j) := by
  rw [pay2_at]
  simp only [tile_at, ld_prm m c t _ (by omega : 0 < 8), ld_prm m c t _ (by omega : 1 < 8), ld_prm m c t _ (by omega : 2 < 8)]
  by_cases h : t.val < 1
  · simp only [h, if_true]
    refine Eq.trans ?_ ((v42_ctx (arg m c main_arg0) (arg m c main_arg1) (arg m c main_arg2) (arg m c main_arg3) (arg m c main_arg4) (arg m c main_arg5) (arg m c main_arg6) r j).symm.trans (congrArg _ (by blk_ext [row])))
    rw [v20_at]
    exact congr (congr (congr (congrArg (Rows.modn _) (funext fun k => by rw [V15_eq]; exact prms_00 _ _ _ _ _ _ k)) (funext fun k => by rw [V15_eq]; exact prms_01 _ _ _ _ _ _ k))
      (funext fun k => by rw [V15_eq]; exact prms_02 _ _ _ _ _ _ k)) rfl
  · simp only [h, if_false]
    refine Eq.trans ?_ ((v42_lat (arg m c main_arg0) (arg m c main_arg1) (arg m c main_arg2) (arg m c main_arg3) (arg m c main_arg4) (arg m c main_arg5) (arg m c main_arg6) (lrow t r) j).symm.trans (congrArg _ (by blk_ext [row, lrow])))
    rw [v41_at]
    exact congr (congr (congr (congrArg (Rows.modn _) (funext fun k => by rw [V15_eq]; exact prms_10 _ _ _ _ _ _ k)) (funext fun k => by rw [V15_eq]; exact prms_11 _ _ _ _ _ _ k))
      (funext fun k => by rw [V15_eq]; exact prms_12 _ _ _ _ _ _ k)) rfl

theorem u_at' : k0_pay32 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r j)
    = val_main_v42 (F := Ideal) (arg m c main_arg0) (arg m c main_arg1) (arg m c main_arg2) (arg m c main_arg3) (arg m c main_arg4) (arg m c main_arg5) (arg m c main_arg6) (ix2 (row t r) j) := by
  rw [pay32_eq]
  exact u_at m c t r j _ _ _

/-! ### What a point writes -/

theorem out11 : out0_11 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r j)
    = val_main_v45 (F := Ideal) (arg m c main_arg0) (arg m c main_arg1) (arg m c main_arg2) (arg m c main_arg3) (arg m c main_arg4) (arg m c main_arg5) (arg m c main_arg6) (arg m c main_arg8) (ix2 (row t r) j) := by
  frame_out
  rw [pay3_at, v45_at, v44_at]
  exact Finset.sum_congr rfl fun k _ => congrArg₂ (fun x y : EReal => x * y) (u_at m c t r k _ _ _) ((blk3 m c t j k).trans (V18_at m c k j))

/-- The second product of the tile. -/
theorem uv_at (j : Fin 2048) : k0_pay6 (F := Ideal) (k0_pay32 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t)) (iblk m c 4 t) (ix2 r j)
    = val_main_v48 (F := Ideal) (arg m c main_arg0) (arg m c main_arg1) (arg m c main_arg2) (arg m c main_arg3) (arg m c main_arg4) (arg m c main_arg5) (arg m c main_arg6) (arg m c main_arg8) (ix2 (row t r) j) := by
  rw [pay6_at, v48_at, v44_at]
  exact Finset.sum_congr rfl fun k _ => congrArg₂ (fun x y : EReal => x * y) (u_at' m c t r k) ((blk4 m c t k j).trans (V21_at m c k j))

theorem out12 (j : Fin 2048) : out0_12 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r j)
    = val_main_v48 (F := Ideal) (arg m c main_arg0) (arg m c main_arg1) (arg m c main_arg2) (arg m c main_arg3) (arg m c main_arg4) (arg m c main_arg5) (arg m c main_arg6) (arg m c main_arg8) (ix2 (row t r) j) := by
  frame_out
  exact uv_at m c t r j

theorem out13 (j : Fin 1536) : out0_13 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r j)
    = val_main_v46 (F := Ideal) (arg m c main_arg0) (arg m c main_arg1) (arg m c main_arg2) (arg m c main_arg3) (arg m c main_arg4) (arg m c main_arg5) (arg m c main_arg6) (arg m c main_arg8) (ix2 (row t r) j) := by
  frame_out
  rw [pay4_at, v46_at, v44_at]
  exact Finset.sum_congr rfl fun k _ => congrArg₂ (fun x y : EReal => x * y) (u_at' m c t r k) ((blk5 m c t k j).trans (V19_at m c k j))

theorem out14 (j : Fin 128) : out0_14 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r j)
    = val_main_v102 (F := Ideal) (arg m c main_arg0) (arg m c main_arg1) (arg m c main_arg2) (arg m c main_arg3) (arg m c main_arg4) (arg m c main_arg5) (arg m c main_arg6) (arg m c main_arg8) (ix2 (row t r) j) := by
  frame_out
  rw [pay5_at]
  by_cases h : j.val < 32
  · rw [v102_lo _ _ _ _ _ _ _ _ _ j h, v44_at]
    exact Finset.sum_congr rfl fun k _ => congrArg₂ (fun x y : EReal => x * y) (u_at' m c t r k) ((blk6 m c t k j).trans (V23_lo m c k j h))
  · rw [v102_hi _ _ _ _ _ _ _ _ _ j h]
    refine Finset.sum_eq_zero fun k _ => ?_
    exact (congrArg (fun y : EReal => _ * y) ((blk6 m c t k j).trans (V23_hi m c k j h))).trans (mul_zero _)

theorem row_lrow (ht : 1 ≤ t.val) : row t r = ⟨256 + (lrow t r).val, by omega⟩ := Fin.ext (by simp only [row, lrow]; omega)

theorem gate_at (ht : 1 ≤ t.val) : k0_pay33 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r j)
    = val_main_v63 (F := Ideal) (arg m c main_arg0) (arg m c main_arg1) (arg m c main_arg2) (arg m c main_arg3) (arg m c main_arg4) (arg m c main_arg5) (arg m c main_arg6) (arg m c main_arg8) (ix2 (lrow t r) j) := by
  rw [pay33_eq, pay7_at, v63_at, uv_at, row_lrow t r ht]

theorem vln_row (ht : 1 ≤ t.val) : k0_pay36 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r j)
    = val_main_v88 (F := Ideal) (arg m c main_arg0) (arg m c main_arg1) (arg m c main_arg2) (arg m c main_arg3) (arg m c main_arg4) (arg m c main_arg5) (arg m c main_arg6) (arg m c main_arg8) (arg m c main_arg9) (arg m c main_arg10) (ix2 (lrow t r) j) := by
  rw [pay36_eq, vln_at, v88_at]
  simp only [uv_at, row_lrow t r ht, blk7, blk8]

theorem out15_blk (ht : 1 ≤ t.val) (n : Fin 2) (s : Fin 8) (q l : Fin 128) :
    out0_15 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 ⟨128 * n.val + q.val, by omega⟩ ⟨128 * s.val + l.val, by omega⟩)
    = val_main_v103 (F := Ideal) (arg m c main_arg0) (arg m c main_arg1) (arg m c main_arg2) (arg m c main_arg3) (arg m c main_arg4) (arg m c main_arg5) (arg m c main_arg6) (arg m c main_arg8) (arg m c main_arg9) (arg m c main_arg10) (arg m c main_arg11) (arg m c main_arg12) (ix2 (lrow t ⟨128 * n.val + q.val, by omega⟩) ⟨128 * s.val + l.val, by omega⟩) := by
  have hN := (idx_ins t).2.2.2
  have e : ∀ k : Fin 128, lrow t ⟨128 * n.val + k.val, by omega⟩ = ⟨128 * (⟨2 * (t.val - 1) + n.val, by omega⟩ : Fin 64).val + k.val, by dsimp only; omega⟩ :=
    fun k => Fin.ext (by simp only [lrow]; omega)
  rw [out15_mix, e q, v103_at]
  unfold Rows.sgb
  simp only [gate_at m c t _ _ ht, vln_row m c t _ _ ht, e, blk9, blk10]

theorem out15 (ht : 1 ≤ t.val) : out0_15 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r j)
    = val_main_v103 (F := Ideal) (arg m c main_arg0) (arg m c main_arg1) (arg m c main_arg2) (arg m c main_arg3) (arg m c main_arg4) (arg m c main_arg5) (arg m c main_arg6) (arg m c main_arg8) (arg m c main_arg9) (arg m c main_arg10) (arg m c main_arg11) (arg m c main_arg12) (ix2 (lrow t r) j) :=
  Rows.blocks (fun r j => out0_15 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r j)
    = val_main_v103 (F := Ideal) (arg m c main_arg0) (arg m c main_arg1) (arg m c main_arg2) (arg m c main_arg3) (arg m c main_arg4) (arg m c main_arg5) (arg m c main_arg6) (arg m c main_arg8) (arg m c main_arg9) (arg m c main_arg10) (arg m c main_arg11) (arg m c main_arg12) (ix2 (lrow t r) j)) (fun n s q l => out15_blk m c t ht n s q l) r j

/-! ### The results, array by array -/

theorem final11 : (dats m 0 c).arrAt 11 cfg0.N = val_main_v45 (F := Ideal) (arg m c main_arg0) (arg m c main_arg1) (arg m c main_arg2) (arg m c main_arg3) (arg m c main_arg4) (arg m c main_arg5) (arg m c main_arg6) (arg m c main_arg8) := by
  refine (dats m 0 c).arrAt_eq_of_covers 11 _ (by decide +kernel) fun t hf y => ?_
  blk_simp
  rw [after0_11]
  idx_vars y
  refine (out11 m c t y0 y1).trans (congrArg _ ?_)
  blk_ext [idx_outs t, row]

theorem final12 : (dats m 0 c).arrAt 12 cfg0.N = val_main_v48 (F := Ideal) (arg m c main_arg0) (arg m c main_arg1) (arg m c main_arg2) (arg m c main_arg3) (arg m c main_arg4) (arg m c main_arg5) (arg m c main_arg6) (arg m c main_arg8) := by
  refine (dats m 0 c).arrAt_eq_of_covers 12 _ (by decide +kernel) fun t hf y => ?_
  blk_simp
  rw [after0_12]
  idx_vars y
  refine (out12 m c t y0 y1).trans (congrArg _ ?_)
  blk_ext [idx_outs t, row]

theorem final13 : (dats m 0 c).arrAt 13 cfg0.N = val_main_v46 (F := Ideal) (arg m c main_arg0) (arg m c main_arg1) (arg m c main_arg2) (arg m c main_arg3) (arg m c main_arg4) (arg m c main_arg5) (arg m c main_arg6) (arg m c main_arg8) := by
  refine (dats m 0 c).arrAt_eq_of_covers 13 _ (by decide +kernel) fun t hf y => ?_
  blk_simp
  rw [after0_13]
  idx_vars y
  refine (out13 m c t y0 y1).trans (congrArg _ ?_)
  blk_ext [idx_outs t, row]

theorem final14 : (dats m 0 c).arrAt 14 cfg0.N = val_main_v102 (F := Ideal) (arg m c main_arg0) (arg m c main_arg1) (arg m c main_arg2) (arg m c main_arg3) (arg m c main_arg4) (arg m c main_arg5) (arg m c main_arg6) (arg m c main_arg8) := by
  refine (dats m 0 c).arrAt_eq_of_covers 14 _ (by decide +kernel) fun t hf y => ?_
  blk_simp
  rw [after0_14]
  idx_vars y
  refine (out14 m c t y0 y1).trans (congrArg _ ?_)
  blk_ext [idx_outs t, row]

theorem final15 : (dats m 0 c).arrAt 15 cfg0.N = val_main_v103 (F := Ideal) (arg m c main_arg0) (arg m c main_arg1) (arg m c main_arg2) (arg m c main_arg3) (arg m c main_arg4) (arg m c main_arg5) (arg m c main_arg6) (arg m c main_arg8) (arg m c main_arg9) (arg m c main_arg10) (arg m c main_arg11) (arg m c main_arg12) := by
  refine (dats m 0 c).arrAt_eq_of_covers 15 _ (by decide +kernel) fun t hf y => ?_
  have ht := flush15 t hf
  blk_simp
  rw [after0_15]
  idx_vars y
  refine (out15 m c t y0 y1 ht).trans (congrArg _ ?_)
  blk_ext [idx_outs t, lrow]

end Cert.Kernel16Ideal.Value
-- ==== Proof.RunHy1.lean ====
module

public import proofs.«01_k».proof.Proof.Gen.Reference16Ideal.Read

@[expose] public section

set_option maxRecDepth 16384

noncomputable section

/-! The run of the reference's first forward call, with its results as functions of the arguments. -/

namespace Cert.Reference16Ideal.Read

open Idealize.ShloMosaic Idealize.ShloMosaic.TcCoe Idealize.ShloMosaic.Tactic
open Cert.Reference16Ideal Cert.Reference16Ideal.Gen Idealize.SL.Sem

theorem run_vals (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem (c.tc.loc main_v45) = val_main_v45 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg8))
      ∧ r.2.mem (c.tc.loc main_v48) = val_main_v48 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg8))
      ∧ r.2.mem (c.tc.loc main_v46) = val_main_v46 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg8))
      ∧ r.2.mem (c.tc.loc main_v102) = val_main_v102 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg8))
      ∧ r.2.mem (c.tc.loc main_v103) = val_main_v103 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg8)) (m (c.tc.loc main_arg9)) (m (c.tc.loc main_arg10)) (m (c.tc.loc main_arg11)) (m (c.tc.loc main_arg12))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7)
      ∧ r.2.mem (c.tc.loc main_arg8) = m (c.tc.loc main_arg8)
      ∧ r.2.mem (c.tc.loc main_arg9) = m (c.tc.loc main_arg9)
      ∧ r.2.mem (c.tc.loc main_arg10) = m (c.tc.loc main_arg10)
      ∧ r.2.mem (c.tc.loc main_arg11) = m (c.tc.loc main_arg11)
      ∧ r.2.mem (c.tc.loc main_arg12) = m (c.tc.loc main_arg12) :=
  (θ_run defs _ _).mono (fun r h c => ⟨(h c).1.trans (val_main_v45_eq ..), (h c).2.1.trans (val_main_v48_eq ..), (h c).2.2.1.trans (val_main_v46_eq ..),
    (h c).2.2.2.1.trans (val_main_v102_eq ..), (h c).2.2.2.2.1.trans (val_main_v103_eq m c), (h c).2.2.2.2.2⟩) (Value.run (F := Ideal) m ρ)

end Cert.Reference16Ideal.Read
-- ==== Proof.KMixB.lean ====
module

public import proofs.«01_k».proof.Proof.Gen.Kernel17Ideal.Skeleton
public import proofs.«01_k».proof.Proof.RowsMix
public import Idealize.ShloMosaic.Lib.Claim
public import Idealize.ShloMosaic.Lib.Pipeline.ValueKit

@[expose] public section

set_option maxRecDepth 16384

noncomputable section

/-! What the body of the backward call of the mixer's end computes, entry by entry, in terms of `Cert.Rows`. -/

namespace Cert.Kernel17Ideal.Gen

open Idealize.ShloMosaic Idealize.ShloMosaic.TcCoe Idealize.ShloMosaic.Tactic

variable (r : Fin 256) (j : Fin 1024) (i : Fin 512)

theorem pay12_at (xs yf yb d) : k0_pay12 (F := Ideal) xs yf yb d (ix2 r j)
    = yf (ix2 r j) + yb (ix2 r j) + d (ix2 0 j) * xs (ix2 r j) := by
  pointwise [k0_pay12]

theorem pay14_at (z) : k0_pay14 (F := Ideal) z (ix2 r j) = Ideal.logistic (z (ix2 r j)) := by
  pointwise [k0_pay14]

theorem pay15_at (z) : k0_pay15 (F := Ideal) z (ix2 r j) = Ideal.logistic (z (ix2 r j)) * (1 - Ideal.logistic (z (ix2 r j))) := by
  pointwise [k0_pay15, k0_pay14]

theorem pay16_at (z) : k0_pay16 (F := Ideal) z (ix2 r j) = z (ix2 r j) * Ideal.logistic (z (ix2 r j)) := by
  pointwise [k0_pay16, k0_pay14]

theorem pay9_at (d g) : k0_pay9 (F := Ideal) d g (ix2 r j) = g (ix2 0 j) * d (ix2 r j) := by
  pointwise [k0_pay9]

theorem pay10_at (d g w) : k0_pay10 (F := Ideal) d g w (ix2 r j)
    = Rows.dfac (fun k => g (ix2 0 k)) (fun k => d (ix2 r k)) (fun a b => w (ix2 a b)) j := by
  pointwise [k0_pay10]
  simp only [pay9_at, Rows.dfac]

theorem pay11_at (d g w) : k0_pay11 (F := Ideal) d g w (ix2 r j)
    = Rows.dfac (fun k => g (ix2 0 k)) (fun k => d (ix2 r k)) (fun a b => w (ix2 a b)) j := by
  pointwise [k0_pay11]
  simp only [pay9_at, Rows.dfac]

theorem pay13_at (g) : k0_pay13 (F := Ideal) g (ix2 0 j) = g (ix2 0 j) := by
  pointwise [k0_pay13]

/-- The gated row of the block. -/
abbrev grow (y g : FVec Ideal S256x1024 .f32) (r : Fin 256) (k : Fin 1024) : EReal := y (ix2 r k) * g (ix2 r k)

variable (y g : FVec Ideal S256x1024 .f32) (n : FVec Ideal S1x1024 .f32) (d : FVec Ideal S256x1024 .f32)

theorem pay18_at : k0_pay18 (F := Ideal) y g (ix2 r i) = Rows.part (grow y g r) 0 i := by
  pointwise [k0_pay18, k0_pay17]
  simp only [Rows.part, Fin.val_zero, Nat.mul_zero, Nat.zero_add]

theorem pay24_at : k0_pay24 (F := Ideal) y g (ix2 r i) = Rows.part (grow y g r) 1 i := by
  pointwise [k0_pay24, k0_pay17]
  simp only [Rows.part, Fin.val_one, Nat.mul_one]

theorem pay20_at : k0_pay20 (F := Ideal) y g (ix2 r 0) = Rows.rs2 (Rows.part (grow y g r) 0) := by
  pointwise [k0_pay20, k0_pay19]
  simp only [pay18_at]; rfl

theorem pay21_at : k0_pay21 (F := Ideal) y g (ix2 r 0) = Rows.drs2 (Rows.part (grow y g r) 0) := by
  pointwise [k0_pay21, k0_pay19]
  simp only [pay18_at, pay20_at]; rfl

theorem pay26_at : k0_pay26 (F := Ideal) y g (ix2 r 0) = Rows.rs2 (Rows.part (grow y g r) 1) := by
  pointwise [k0_pay26, k0_pay25]
  simp only [pay24_at]; rfl

theorem pay23_at : k0_pay23 (F := Ideal) n (ix2 0 i) = Rows.part (fun k => n (ix2 0 k)) 0 i := by
  pointwise [k0_pay23]
  simp only [Rows.part, Fin.val_zero, Nat.mul_zero, Nat.zero_add]

theorem pay27_at : k0_pay27 (F := Ideal) d (ix2 r i) = Rows.part (fun k => d (ix2 r k)) 0 i := by
  pointwise [k0_pay27]
  simp only [Rows.part, Fin.val_zero, Nat.mul_zero, Nat.zero_add]

theorem pay29_at : k0_pay29 (F := Ideal) d n (ix2 r i) = Rows.part (fun k => d (ix2 r k)) 1 i * Rows.part (fun k => n (ix2 0 k)) 1 i := by
  pointwise [k0_pay29, k0_pay28]
  simp only [Rows.part, Fin.val_one, Nat.mul_one]

theorem pay31_at : k0_pay31 (F := Ideal) d y n g (ix2 r i)
    = Rows.part (fun k => d (ix2 r k)) 1 i * Rows.part (fun k => n (ix2 0 k)) 1 i * Rows.rs2 (Rows.part (grow y g r) 1) := by
  pointwise [k0_pay31]
  simp only [pay29_at, pay26_at]

theorem pay32_at : k0_pay32 (F := Ideal) d y n g (ix2 r 0)
    = Rows.spread2 (Rows.part (grow y g r) 1) (fun k => Rows.part (fun k => d (ix2 r k)) 1 k * Rows.part (fun k => n (ix2 0 k)) 1 k) := by
  pointwise [k0_pay32, k0_pay25]
  simp only [pay29_at, pay26_at, pay24_at]; rfl

theorem pay34_lo (a b e f h p q s) : k0_pay34 (F := Ideal) a b e f h p q s (ix2 r ⟨512 * (0 : Fin 2).val + i.val, by omega⟩)
    = p (ix2 r i) * f (ix2 0 i) * b (ix2 r 0)
      + a (ix2 r i) * Ideal.div ((∑ k, a (ix2 r k) * (p (ix2 r k) * f (ix2 0 k))) * e (ix2 r 0)) Rows.halfLen
      + Ideal.div ((∑ k, a (ix2 r k) * (p (ix2 r k) * f (ix2 0 k))) * e (ix2 r 0)) Rows.halfLen * a (ix2 r i) := by
  pointwise [k0_pay34]
  simp only [Rows.halfLen, Fin.sum_univ_one]

theorem pay34_hi (a b e f h p q s) : k0_pay34 (F := Ideal) a b e f h p q s (ix2 r ⟨512 * (1 : Fin 2).val + i.val, by omega⟩)
    = q (ix2 r i) + h (ix2 r i) * s (ix2 r 0) + s (ix2 r 0) * h (ix2 r i) := by
  pointwise [k0_pay34]
  simp only [Fin.sum_univ_one]

/-- The gradient of the gated row. -/
abbrev dgated (y g d : FVec Ideal S256x1024 .f32) (n : FVec Ideal S1x1024 .f32) : FVec Ideal S256x1024 .f32 :=
  k0_pay34 (k0_pay18 y g) (k0_pay20 y g) (k0_pay21 y g) (k0_pay23 n) (k0_pay24 y g) (k0_pay27 d) (k0_pay31 d y n g) (k0_pay32 d y n g)

theorem dgated_at (s : Fin 2) : dgated y g d n (ix2 r ⟨512 * s.val + i.val, by omega⟩)
    = Rows.dgn (grow y g r) (fun k => n (ix2 0 k)) (fun k => d (ix2 r k)) s i := by
  match s with
  | 0 => rw [dgated, pay34_lo]; simp only [pay18_at, pay20_at, pay21_at, pay23_at, pay27_at]; rfl
  | 1 => rw [dgated, pay34_hi]; simp only [pay24_at, pay31_at, pay32_at]; rfl

theorem pay35_at (a b e f h p q s) : k0_pay35 (F := Ideal) g a b e f h p q s (ix2 r j)
    = k0_pay34 (F := Ideal) a b e f h p q s (ix2 r j) * g (ix2 r j) := by
  pointwise [k0_pay35]

theorem pay36_at (z l t a b e f h p q s) : k0_pay36 (F := Ideal) y z l t a b e f h p q s (ix2 r j)
    = y (ix2 r j) * k0_pay34 (F := Ideal) a b e f h p q s (ix2 r j) * l (ix2 r j)
      + z (ix2 r j) * (y (ix2 r j) * k0_pay34 (F := Ideal) a b e f h p q s (ix2 r j)) * t (ix2 r j) := by
  pointwise [k0_pay36]

theorem pay2_at : k0_pay2 (F := Ideal) (ix2 r j) = 0 := by pointwise [k0_pay2]
theorem pay3_at : k0_pay3 (F := Ideal) (ix2 r j) = 0 := by pointwise [k0_pay3]
theorem pay4_at : k0_pay4 (F := Ideal) (ix2 r j) = 0 := by pointwise [k0_pay4]

end Cert.Kernel17Ideal.Gen
-- ==== Proof.RMixB.lean ====
module

public import proofs.«01_k».proof.Proof.Gen.Reference17Ideal.Read
public import proofs.«01_k».proof.Proof.RowsMix

@[expose] public section

set_option maxRecDepth 16384

noncomputable section

/-! The reference's backward pass of the mixer's end, entry by entry, in terms of `Cert.Rows`. -/

namespace Cert.Reference17Ideal.Read

open Idealize.ShloMosaic Idealize.ShloMosaic.TcCoe Idealize.ShloMosaic.Tactic
open Cert.Reference17Ideal Cert.Reference17Ideal.Gen

variable (x0 : (⟨S8192x1024, .f32⟩ : BufTy).Contents (Elt Ideal)) (x2 x3 : (⟨S8448x1024, .f32⟩ : BufTy).Contents (Elt Ideal))
  (x4 : (⟨S8448x1536, .f32⟩ : BufTy).Contents (Elt Ideal)) (x5 : (⟨S8448x1024, .f32⟩ : BufTy).Contents (Elt Ideal))
  (x9 : (⟨S1024, .f32⟩ : BufTy).Contents (Elt Ideal)) (x10 : (⟨S1x16, .f32⟩ : BufTy).Contents (Elt Ideal))
  (x11 : (⟨S1x1024, .f32⟩ : BufTy).Contents (Elt Ideal)) (x12 : (⟨S1x2048x1024, .f32⟩ : BufTy).Contents (Elt Ideal))
  (r : Fin 8192) (j : Fin 1024) (s : Fin 2) (i : Fin 512)

/-- Row `r` behind the context rows. -/
def lat (r : Fin 8192) : Fin 8448 := ⟨256 + r.val, by omega⟩

/-- The two scans' outputs with the skip. -/
abbrev yRow (r : Fin 8192) (k : Fin 1024) : EReal :=
  x2 (ix2 (lat r) k) + x3 (ix2 (lat r) k) + x10 (ix2 0 ⟨k.val / 64, by omega⟩) * x4 (ix2 (lat r) ⟨k.val, by omega⟩)
/-- The gate. -/
abbrev zRow (r : Fin 8192) (k : Fin 1024) : EReal := x5 (ix2 (lat r) k) * Ideal.logistic (x5 (ix2 (lat r) k))
/-- The gated row. -/
abbrev gRow (r : Fin 8192) (k : Fin 1024) : EReal := yRow x2 x3 x4 x10 r k * zRow x5 r k
/-- The gradient of the norm's output. -/
abbrev dRow (r : Fin 8192) : Fin 1024 → EReal :=
  Rows.dfac (fun k => x9 (ix1 k)) (fun k => x0 (ix2 r k)) (fun a b => x12 (ix3 0 ⟨a.val, by omega⟩ b))

theorem v15_at : val_main_v15 (F := Ideal) x2 x3 x4 x10 (ix2 r j) = yRow x2 x3 x4 x10 r j := by
  pointwise [val_main_v0, val_main_v3, val_main_v4, val_main_v6, val_main_v8, val_main_v9, val_main_v10, val_main_v11, val_main_v12,
    val_main_v13, val_main_v14, val_main_v15]
  rfl

theorem sig_at : val_main_v16_2 (F := Ideal) x5 (ix2 r j) = Ideal.logistic (x5 (ix2 (lat r) j)) := by
  pointwise [val_main_v16_2, val_main_call0_v4, val_main_call0_cst_0, val_main_call0_v3, val_main_call0_v2,
    val_main_call0_cst, val_main_call0_v1, val_main_call0_v0, val_main_v5]
  rfl

theorem dsig_at : val_main_v16_1 (F := Ideal) x5 (ix2 r j)
    = Ideal.logistic (x5 (ix2 (lat r) j)) * (1 - Ideal.logistic (x5 (ix2 (lat r) j))) := by
  pointwise [val_main_v16_1, val_main_call0_v7, val_main_call0_v6, val_main_call0_cst_1]
  rw [sig_at]

theorem silu_at : val_main_v16_0 (F := Ideal) x5 (ix2 r j) = zRow x5 r j := by
  pointwise [val_main_v16_0, val_main_v5]
  rw [sig_at]; rfl

theorem v18_at : val_main_v18 (F := Ideal) x2 x3 x4 x5 x10 (ix3 r s i) = Rows.part (gRow x2 x3 x4 x5 x10 r) s i := by
  pointwise [val_main_v18, val_main_v17]
  rw [v15_at, silu_at]
  exact congrArg (gRow x2 x3 x4 x5 x10 r) (Fin.ext (by simp only [] <;> omega))

theorem v27_at : val_main_v27 (F := Ideal) x2 x3 x4 x5 x10 (ix3 r s 0) = Rows.rs2 (Rows.part (gRow x2 x3 x4 x5 x10 r) s) := by
  pointwise [val_main_v27, val_main_v26, val_main_v25, val_main_cst_3, val_main_v24, val_main_v23, val_main_cst_2, val_main_v22,
    val_main_v21, val_main_cst_1, val_main_v20]
  simp only [v18_at]; rfl

theorem v30_at : val_main_v30 (F := Ideal) x2 x3 x4 x5 x10 (ix3 r s 0) = Rows.drs2 (Rows.part (gRow x2 x3 x4 x5 x10 r) s) := by
  pointwise [val_main_v30, val_main_v29, val_main_cst_4, val_main_v28, val_main_v26, val_main_v25, val_main_cst_3, val_main_v24,
    val_main_v23, val_main_cst_2, val_main_v22, val_main_v21, val_main_cst_1, val_main_v20]
  simp only [v18_at, v27_at]; rfl

theorem v46_at : val_main_v46 (F := Ideal) x0 x9 (ix2 r j) = x9 (ix1 j) * x0 (ix2 r j) := by
  pointwise [val_main_v46, val_main_v45, val_main_v42]

theorem v77_at : val_main_v77 (F := Ideal) x0 x9 (ix2 r j) = x9 (ix1 j) * x0 (ix2 r j) := by
  pointwise [val_main_v77]
  rw [v46_at]

theorem v48_at : val_main_v48 (F := Ideal) x0 x9 x12 (ix2 r j) = dRow x0 x9 x12 r j := by
  pointwise [val_main_v48, val_main_v47, val_main_v39]
  simp only [v46_at]; rfl

theorem v49_at : val_main_v49 (F := Ideal) x0 x9 x12 (ix2 r j)
    = Rows.dfac (fun k => x9 (ix1 k)) (fun k => x0 (ix2 r k)) (fun a b => x12 (ix3 0 ⟨1024 + a.val, by omega⟩ b)) j := by
  pointwise [val_main_v49, val_main_v47, val_main_v39]
  simp only [v46_at]; rfl

theorem v53_at : val_main_v53 (F := Ideal) x0 x9 x11 x12 (ix3 r s i)
    = Rows.part (dRow x0 x9 x12 r) s i * Rows.part (fun k => x11 (ix2 0 k)) s i := by
  pointwise [val_main_v53, val_main_v52, val_main_v51, val_main_v33, val_main_v19, val_main_v7]
  rw [v48_at]
  exact congrArg₂ (fun a b => dRow x0 x9 x12 r a * x11 (ix2 0 b)) (Fin.ext (by simp only [] <;> omega)) (Fin.ext (by simp only [] <;> omega))

theorem v63_at : val_main_v63 (F := Ideal) x0 x2 x3 x4 x5 x9 x10 x11 x12 (ix3 r s i)
    = Rows.spread2 (Rows.part (gRow x2 x3 x4 x5 x10 r) s)
        (fun k => Rows.part (dRow x0 x9 x12 r) s k * Rows.part (fun k => x11 (ix2 0 k)) s k) := by
  pointwise [val_main_v63, val_main_v62, val_main_cst_8, val_main_v61, val_main_v60, val_main_cst_7, val_main_v59, val_main_v56, val_main_v55,
    val_main_cst_6, val_main_v54]
  simp only [Fin.sum_univ_one]
  rw [v30_at]
  simp only [v18_at, v53_at]; rfl

theorem v67_at : val_main_v67 (F := Ideal) x0 x2 x3 x4 x5 x9 x10 x11 x12 (ix3 r s i)
    = Rows.dgn (gRow x2 x3 x4 x5 x10 r) (fun k => x11 (ix2 0 k)) (dRow x0 x9 x12 r) s i := by
  pointwise [val_main_v67, val_main_v66, val_main_v65, val_main_v64, val_main_v58, val_main_v57]
  rw [v63_at, v53_at, v18_at, v27_at]; rfl

theorem v68_at : val_main_v68 (F := Ideal) x0 x2 x3 x4 x5 x9 x10 x11 x12 (ix2 r ⟨512 * s.val + i.val, by omega⟩)
    = Rows.dgn (gRow x2 x3 x4 x5 x10 r) (fun k => x11 (ix2 0 k)) (dRow x0 x9 x12 r) s i := by
  pointwise [val_main_v68]
  exact v67_at x0 x2 x3 x4 x5 x9 x10 x11 x12 r s i

theorem v73_at : val_main_v73 (F := Ideal) x0 x2 x3 x4 x5 x9 x10 x11 x12 (ix2 r j)
    = val_main_v68 (F := Ideal) x0 x2 x3 x4 x5 x9 x10 x11 x12 (ix2 r j) * zRow x5 r j := by
  pointwise [val_main_v73, val_main_v72, val_main_v70]
  rw [← silu_at]

theorem v71_at : val_main_v71 (F := Ideal) x0 x2 x3 x4 x5 x9 x10 x11 x12 (ix2 r j)
    = yRow x2 x3 x4 x10 r j * val_main_v68 (F := Ideal) x0 x2 x3 x4 x5 x9 x10 x11 x12 (ix2 r j) * Ideal.logistic (x5 (ix2 (lat r) j))
      + x5 (ix2 (lat r) j) * (yRow x2 x3 x4 x10 r j * val_main_v68 (F := Ideal) x0 x2 x3 x4 x5 x9 x10 x11 x12 (ix2 r j))
        * (Ideal.logistic (x5 (ix2 (lat r) j)) * (1 - Ideal.logistic (x5 (ix2 (lat r) j)))) := by
  pointwise [val_main_v71, val_main_call1_v2, val_main_call1_v1, val_main_call1_v0, val_main_v69, val_main_v5]
  rw [v15_at, sig_at, dsig_at]; rfl

/-! The results over context and latents: zero on the context's rows. -/

theorem v75_lat : val_main_v75 (F := Ideal) x0 x2 x3 x4 x5 x9 x10 x11 x12 (ix2 (lat r) j)
    = val_main_v73 (F := Ideal) x0 x2 x3 x4 x5 x9 x10 x11 x12 (ix2 r j) := by
  pointwise [val_main_v75, lat]

theorem v75_ctx (q : Fin 256) : val_main_v75 (F := Ideal) x0 x2 x3 x4 x5 x9 x10 x11 x12 (ix2 ⟨q.val, by omega⟩ j) = 0 := by
  pointwise [val_main_v75, val_main_cst_10]
  exact dif_neg fun h => h.1

theorem v76_lat : val_main_v76 (F := Ideal) x0 x2 x3 x4 x5 x9 x10 x11 x12 (ix2 (lat r) j)
    = val_main_v71 (F := Ideal) x0 x2 x3 x4 x5 x9 x10 x11 x12 (ix2 r j) := by
  pointwise [val_main_v76, val_main_v74, lat]

theorem v76_ctx (q : Fin 256) : val_main_v76 (F := Ideal) x0 x2 x3 x4 x5 x9 x10 x11 x12 (ix2 ⟨q.val, by omega⟩ j) = 0 := by
  pointwise [val_main_v76, val_main_v74, val_main_cst_9]
  exact dif_neg fun h => h.1

theorem v50_lat : val_main_v50 (F := Ideal) x0 x9 x12 (ix2 (lat r) j) = val_main_v49 (F := Ideal) x0 x9 x12 (ix2 r j) := by
  pointwise [val_main_v50, lat]

theorem v50_ctx (q : Fin 256) : val_main_v50 (F := Ideal) x0 x9 x12 (ix2 ⟨q.val, by omega⟩ j) = 0 := by
  pointwise [val_main_v50, val_main_cst_5]
  exact dif_neg fun h => h.1

end Cert.Reference17Ideal.Read
-- ==== Proof.MixB.lean ====
module

public import proofs.«01_k».proof.Proof.Gen.Kernel17Ideal.Value
public import proofs.«01_k».proof.Proof.Pack
public import proofs.«01_k».proof.Proof.KMixB
public import proofs.«01_k».proof.Proof.RMixB
public import proofs.«01_k».proof.Proof.Stores
public import Idealize.ShloMosaic.Lib.StableHlo.RunRead

@[expose] public section

set_option maxRecDepth 16384

noncomputable section

/-! The backward call of the mixer's end: the kernel's results are the reference's. -/

namespace Cert.Kernel17Ideal.Value

open Idealize.ShloMosaic Idealize.ShloMosaic.TcCoe Idealize.ShloMosaic.Tactic
open Cert.Kernel17Ideal Cert.Kernel17Ideal.Gen Idealize.SL.Sem
open Cert.Stores Cert.Reference17Ideal.Read
open Cert.Kernel12Ideal.Gen (stack2 stack4 stacked stacked_at3)

theorem idx_ins : ∀ t : Fin cfg0.N, win0_0.index t = ![t.val - 1, 0] ∧ win0_1.index t = ![t.val - 1, 0] ∧ win0_2.index t = ![t.val, 0]
    ∧ win0_3.index t = ![t.val, 0] ∧ win0_4.index t = ![t.val, 0] ∧ win0_5.index t = ![t.val, 0] ∧ t.val < 33 :=
  (by decide +kernel : ∀ t : Fin grid0.N, _)

theorem idx_prms : ∀ t : Fin cfg0.N, win0_6.index t = ![0, 0] ∧ win0_7.index t = ![0, 0] ∧ win0_8.index t = ![0, 0] ∧ win0_9.index t = ![0, 0] :=
  (by decide +kernel : ∀ t : Fin grid0.N, _)

theorem idx_outs : ∀ t : Fin cfg0.N, win0_10.index t = ![t.val, 0] ∧ win0_11.index t = ![t.val, 0] ∧ win0_12.index t = ![t.val, 0]
    ∧ win0_13.index t = ![t.val - 1, 0] :=
  (by decide +kernel : ∀ t : Fin grid0.N, _)

/-- The context's tile writes no block of the gated gradient back. -/
theorem flush13 : ∀ t : Fin cfg0.N, (cfg0.win 13).flush t = true → 1 ≤ t.val :=
  (by decide +kernel : ∀ t : Fin grid0.N, (cfg0.win 13).flush t = true → 1 ≤ t.val)

variable (m : (ℓ : Loc nD τ sig) → Buf (Elt Ideal) ℓ) (c : Dev nD) (t : Fin cfg0.N)

/-- Argument `b` as launched. -/
abbrev arg (b : Ref sig .tc) := m ((c : Thread nD τ).loc b)

theorem V6_eq : V m c main_v6 = stacked (arg m c main_arg6) (arg m c main_arg7) (arg m c main_arg8) (arg m c main_arg9) := by
  unfold V
  after_reads_simp
  change stack2 _ _ = _
  after_reads_simp
  change stack2 (stack4 _ _ _ _) _ = _
  after_reads_simp
  rfl

/-- The skip's weight of a column is that of the column's head. -/
theorem V10_at (j : Fin 1024) : V m c main_v10 (ix2 0 j) = arg m c main_arg10 (ix2 0 ⟨j.val / 64, by omega⟩) := by
  unfold V
  after_reads_simp
  pointwise

theorem V12_at (j : Fin 1024) : V m c main_v12 (ix2 0 j) = arg m c main_arg11 (ix2 0 j) := by
  unfold V
  after_reads_simp
  pointwise

theorem V14_at (k : Fin 2048) (j : Fin 1024) : V m c main_v14 (ix2 k j) = arg m c main_arg12 (ix3 0 k j) := by
  unfold V
  after_reads_simp
  pointwise

/-- Row `r` of tile `t`. -/
def row (t : Fin cfg0.N) (r : Fin 256) : Fin 8448 := ⟨256 * t.val + r.val, by have := (idx_ins t).2.2.2.2.2.2; omega⟩
/-- Row `r` of tile `t` among the latents. -/
def lrow (t : Fin cfg0.N) (r : Fin 256) : Fin 8192 := ⟨256 * (t.val - 1) + r.val, by have := (idx_ins t).2.2.2.2.2.2; omega⟩

theorem row_lat (ht : 1 ≤ t.val) (r : Fin 256) : row t r = lat (lrow t r) := Fin.ext (by simp only [row, lrow, lat]; omega)
theorem row_ctx (ht : ¬ 1 ≤ t.val) (r : Fin 256) : row t r = ⟨r.val, by omega⟩ := Fin.ext (by simp only [row]; omega)

variable (r : Fin 256) (j : Fin 1024)

theorem blk0 : iblk m c 0 t (ix2 r j) = arg m c main_arg0 (ix2 (lrow t r) j) := by
  blk_ext [iblk, V, idx_ins t, lrow]

theorem blk2 : iblk m c 2 t (ix2 r j) = arg m c main_arg2 (ix2 (row t r) j) := by
  blk_ext [iblk, V, idx_ins t, row]

theorem blk3 : iblk m c 3 t (ix2 r j) = arg m c main_arg3 (ix2 (row t r) j) := by
  blk_ext [iblk, V, idx_ins t, row]

theorem blk4 : X0_4 m c t (ix2 r j) = arg m c main_arg4 (ix2 (row t r) ⟨j.val, by omega⟩) := by
  unfold X0_4 Pipeline.Window.fill
  rw [dif_pos (moved0_4 t _)]
  blk_ext [iblk, V, idx_ins t, row]

theorem blk5 : iblk m c 5 t (ix2 r j) = arg m c main_arg5 (ix2 (row t r) j) := by
  blk_ext [iblk, V, idx_ins t, row]

theorem blk6 (i : Fin 8) : iblk m c 6 t (ix2 i j) = V m c main_v6 (ix2 i j) := by
  blk_ext [iblk, idx_prms t]

theorem blk7 : iblk m c 7 t (ix2 0 j) = arg m c main_arg10 (ix2 0 ⟨j.val / 64, by omega⟩) := by
  refine Eq.trans ?_ (V10_at m c j)
  blk_ext [iblk, idx_prms t]

theorem blk8 : iblk m c 8 t (ix2 0 j) = arg m c main_arg11 (ix2 0 j) := by
  refine Eq.trans ?_ (V12_at m c j)
  blk_ext [iblk, idx_prms t]

theorem blk9 (k : Fin 2048) : iblk m c 9 t (ix2 k j) = arg m c main_arg12 (ix3 0 k j) := by
  refine Eq.trans ?_ (V14_at m c k j)
  blk_ext [iblk, idx_prms t]

theorem prm3 (h) (k : Fin 1024) : View.ld (iblk m c 6 t) (Rect.unit ![3, 0] ![1, 1024] h) (ix2 0 k) = arg m c main_arg9 (ix1 k) := by
  rw [ld2 _ _ _ _ (by omega) (by omega)]
  refine (blk6 m c t _ _).trans ?_
  rw [V6_eq]
  exact (congrArg _ (by blk_ext)).trans (stacked_at3 _ _ _ _ k)

theorem w_lo (h) (k : Fin 1024) : View.ld (iblk m c 9 t) (Rect.unit ![0, 0] ![1024, 1024] h) (ix2 k j)
    = arg m c main_arg12 (ix3 0 ⟨k.val, by omega⟩ j) := by
  rw [ld2 _ _ _ _ (by omega) (by omega)]
  refine (blk9 m c t _ _).trans (congrArg _ ?_)
  blk_ext

theorem w_hi (h) (k : Fin 1024) : View.ld (iblk m c 9 t) (Rect.unit ![1024, 0] ![1024, 1024] h) (ix2 k j)
    = arg m c main_arg12 (ix3 0 ⟨1024 + k.val, by omega⟩ j) := by
  rw [ld2 _ _ _ _ (by omega) (by omega)]
  refine (blk9 m c t _ _).trans (congrArg _ ?_)
  blk_ext

section
variable (ht : 1 ≤ t.val)
include ht

theorem not_first : ¬ t.val % 33 = 0 := by have := (idx_ins t).2.2.2.2.2.2; omega

theorem lat13 : (outsAt0 m c t.val t.isLt).2.2.2.1 (ix2 r j)
    = val_main_v77 (F := Ideal) (arg m c main_arg0) (arg m c main_arg9) (ix2 (lrow t r) j) := by
  rw [outsAt0_B m c t (not_first t ht) (not_first t ht) ht]; dsimp only; frame_out
  rw [v77_at, pay9_at, prm3, blk0]

theorem lat12 : (outsAt0 m c t.val t.isLt).2.2.1 (ix2 r j)
    = val_main_v49 (F := Ideal) (arg m c main_arg0) (arg m c main_arg9) (arg m c main_arg12) (ix2 (lrow t r) j) := by
  rw [outsAt0_B m c t (not_first t ht) (not_first t ht) ht]; dsimp only; frame_out
  rw [v49_at, pay10_at]
  simp only [prm3, blk0, w_hi]

/-- The gradient of the gated row. -/
theorem gated_at : dgated (k0_pay12 (X0_4 m c t) (iblk m c 2 t) (iblk m c 3 t) (iblk m c 7 t)) (k0_pay16 (iblk m c 5 t))
      (k0_pay11 (iblk m c 0 t) (View.ld (iblk m c 6 t) (Rect.unit ![3, 0] ![1, 1024] inb_S8x1024_S1x1024_3_0))
        (View.ld (iblk m c 9 t) (Rect.unit ![0, 0] ![1024, 1024] inb_S2048x1024_S1024x1024_0_0)))
      (k0_pay13 (iblk m c 8 t)) (ix2 r j)
    = val_main_v68 (F := Ideal) (arg m c main_arg0) (arg m c main_arg2) (arg m c main_arg3) (arg m c main_arg4) (arg m c main_arg5) (arg m c main_arg9) (arg m c main_arg10) (arg m c main_arg11) (arg m c main_arg12) (ix2 (lrow t r) j) := by
  induction j using Rows.halves with
  | h s i =>
    have hg : grow (k0_pay12 (X0_4 m c t) (iblk m c 2 t) (iblk m c 3 t) (iblk m c 7 t)) (k0_pay16 (iblk m c 5 t)) r
        = gRow (arg m c main_arg2) (arg m c main_arg3) (arg m c main_arg4) (arg m c main_arg5) (arg m c main_arg10) (lrow t r) :=
      funext fun k => by simp only [grow, pay12_at, pay16_at, blk2, blk3, blk4, blk5, blk7, row_lat t ht]
    rw [dgated_at, v68_at, hg]
    simp only [pay11_at, pay13_at, prm3, blk0, blk8, w_lo]

theorem lat10 : (outsAt0 m c t.val t.isLt).1 (ix2 r j) = val_main_v73 (F := Ideal) (arg m c main_arg0) (arg m c main_arg2) (arg m c main_arg3) (arg m c main_arg4) (arg m c main_arg5) (arg m c main_arg9) (arg m c main_arg10) (arg m c main_arg11) (arg m c main_arg12) (ix2 (lrow t r) j) := by
  rw [outsAt0_B m c t (not_first t ht) (not_first t ht) ht]; dsimp only; frame_out
  rw [v73_at, pay35_at, pay16_at, blk5, row_lat t ht]
  exact congrArg (· * zRow (arg m c main_arg5) (lrow t r) j) (gated_at m c t r j ht)

theorem lat11 : (outsAt0 m c t.val t.isLt).2.1 (ix2 r j) = val_main_v71 (F := Ideal) (arg m c main_arg0) (arg m c main_arg2) (arg m c main_arg3) (arg m c main_arg4) (arg m c main_arg5) (arg m c main_arg9) (arg m c main_arg10) (arg m c main_arg11) (arg m c main_arg12) (ix2 (lrow t r) j) := by
  rw [outsAt0_B m c t (not_first t ht) (not_first t ht) ht]; dsimp only; frame_out
  rw [v71_at, pay36_at, pay12_at, pay14_at, pay15_at, blk2, blk3, blk4, blk5, blk7, row_lat t ht, ← gated_at m c t r j ht]
  rfl

end

section
variable (ht : ¬ 1 ≤ t.val)
include ht

theorem first : t.val % 33 = 0 := by omega

theorem ctx10 : (outsAt0 m c t.val t.isLt).1 (ix2 r j) = (0 : EReal) := by
  rw [outsAt0_A m c t (first t ht) (first t ht) ht]; dsimp only; frame_out
  rw [pay2_at]

theorem ctx11 : (outsAt0 m c t.val t.isLt).2.1 (ix2 r j) = (0 : EReal) := by
  rw [outsAt0_A m c t (first t ht) (first t ht) ht]; dsimp only; frame_out
  rw [pay3_at]

theorem ctx12 : (outsAt0 m c t.val t.isLt).2.2.1 (ix2 r j) = (0 : EReal) := by
  rw [outsAt0_A m c t (first t ht) (first t ht) ht]; dsimp only; frame_out
  rw [pay4_at]

end

theorem out10 : (outsAt0 m c t.val t.isLt).1 (ix2 r j) = val_main_v75 (F := Ideal) (arg m c main_arg0) (arg m c main_arg2) (arg m c main_arg3) (arg m c main_arg4) (arg m c main_arg5) (arg m c main_arg9) (arg m c main_arg10) (arg m c main_arg11) (arg m c main_arg12) (ix2 (row t r) j) := by
  by_cases ht : 1 ≤ t.val
  · rw [lat10 m c t r j ht, row_lat t ht, v75_lat]
  · rw [ctx10 m c t r j ht, row_ctx t ht, v75_ctx]

theorem out11 : (outsAt0 m c t.val t.isLt).2.1 (ix2 r j) = val_main_v76 (F := Ideal) (arg m c main_arg0) (arg m c main_arg2) (arg m c main_arg3) (arg m c main_arg4) (arg m c main_arg5) (arg m c main_arg9) (arg m c main_arg10) (arg m c main_arg11) (arg m c main_arg12) (ix2 (row t r) j) := by
  by_cases ht : 1 ≤ t.val
  · rw [lat11 m c t r j ht, row_lat t ht, v76_lat]
  · rw [ctx11 m c t r j ht, row_ctx t ht, v76_ctx]

theorem out12 : (outsAt0 m c t.val t.isLt).2.2.1 (ix2 r j)
    = val_main_v50 (F := Ideal) (arg m c main_arg0) (arg m c main_arg9) (arg m c main_arg12) (ix2 (row t r) j) := by
  by_cases ht : 1 ≤ t.val
  · rw [lat12 m c t r j ht, row_lat t ht, v50_lat]
  · rw [ctx12 m c t r j ht, row_ctx t ht, v50_ctx]

theorem final10 : (dats m 0 c).arrAt 10 cfg0.N = val_main_v75 (F := Ideal) (arg m c main_arg0) (arg m c main_arg2) (arg m c main_arg3) (arg m c main_arg4) (arg m c main_arg5) (arg m c main_arg9) (arg m c main_arg10) (arg m c main_arg11) (arg m c main_arg12) := by
  refine (dats m 0 c).arrAt_eq_of_covers 10 _ (by decide +kernel) fun t hf y => ?_
  blk_simp
  rw [after0_10]
  idx_vars y
  refine (out10 m c t y0 y1).trans (congrArg _ ?_)
  blk_ext [idx_outs t, row]

theorem final11 : (dats m 0 c).arrAt 11 cfg0.N = val_main_v76 (F := Ideal) (arg m c main_arg0) (arg m c main_arg2) (arg m c main_arg3) (arg m c main_arg4) (arg m c main_arg5) (arg m c main_arg9) (arg m c main_arg10) (arg m c main_arg11) (arg m c main_arg12) := by
  refine (dats m 0 c).arrAt_eq_of_covers 11 _ (by decide +kernel) fun t hf y => ?_
  blk_simp
  rw [after0_11]
  idx_vars y
  refine (out11 m c t y0 y1).trans (congrArg _ ?_)
  blk_ext [idx_outs t, row]

theorem final12 : (dats m 0 c).arrAt 12 cfg0.N = val_main_v50 (F := Ideal) (arg m c main_arg0) (arg m c main_arg9) (arg m c main_arg12) := by
  refine (dats m 0 c).arrAt_eq_of_covers 12 _ (by decide +kernel) fun t hf y => ?_
  blk_simp
  rw [after0_12]
  idx_vars y
  refine (out12 m c t y0 y1).trans (congrArg _ ?_)
  blk_ext [idx_outs t, row]

theorem final13 : (dats m 0 c).arrAt 13 cfg0.N = val_main_v77 (F := Ideal) (arg m c main_arg0) (arg m c main_arg9) := by
  refine (dats m 0 c).arrAt_eq_of_covers 13 _ (by decide +kernel) fun t hf y => ?_
  have ht := flush13 t hf
  blk_simp
  rw [after0_13]
  idx_vars y
  refine (lat13 m c t y0 y1 ht).trans (congrArg _ ?_)
  blk_ext [idx_outs t, lrow]

end Cert.Kernel17Ideal.Value
-- ==== Proof.RRows.lean ====
module

public import proofs.«01_k».proof.Proof.Gen.ReferenceIdeal.Read
public import proofs.«01_k».proof.Proof.Rows

@[expose] public section

set_option maxRecDepth 16384

noncomputable section

/-! What the reference computes, entry by entry, in terms of `Cert.Rows`. -/

namespace Cert.ReferenceIdeal.Read

open Idealize.ShloMosaic Idealize.ShloMosaic.TcCoe Idealize.ShloMosaic.Tactic

variable (x0 x1 x2 : (⟨S8192x1024, .f32⟩ : BufTy).Contents (Elt Ideal))
  (x3 x4 x5 x7 x8 x9 x10 x11 x12 : (⟨S1024, .f32⟩ : BufTy).Contents (Elt Ideal))
  (x6 : (⟨S1x1024x1024, .f32⟩ : BufTy).Contents (Elt Ideal))
  (x13 : (⟨S2x1024x4096, .f32⟩ : BufTy).Contents (Elt Ideal))
  (x14 : (⟨S2x4096x1024, .f32⟩ : BufTy).Contents (Elt Ideal))
  (r : Fin 8192) (j : Fin 1024) (k : Fin 4096)

/-! ### The two-layer block -/

theorem v47_at : (val_main_v47 (F := Ideal) x1 x2 x3 x4 x5 x6 x7 x8) (ix2 r 0) = Rows.msq fun k => (val_main_v40 (F := Ideal) x1 x2 x3 x4 x5 x6 x7 x8) (ix2 r k) := by
  pointwise [val_main_v41, val_main_v42, val_main_cst_7, val_main_v43, val_main_v44, val_main_cst_8, val_main_v45, val_main_v46, val_main_cst_9, val_main_v47]; rfl

theorem v48_at : (val_main_v48 (F := Ideal) x1 x2 x3 x4 x5 x6 x7 x8) (ix2 r 0) = Rows.rs fun k => (val_main_v40 (F := Ideal) x1 x2 x3 x4 x5 x6 x7 x8) (ix2 r k) := by
  pointwise [val_main_v48]; rw [v47_at]; rfl

theorem v51_at : (val_main_v51 (F := Ideal) x1 x2 x3 x4 x5 x6 x7 x8) (ix2 r 0) = Rows.drs fun k => (val_main_v40 (F := Ideal) x1 x2 x3 x4 x5 x6 x7 x8) (ix2 r k) := by
  pointwise [val_main_v49, val_main_v50, val_main_cst_10, val_main_v51]; rw [v48_at, v47_at]; rfl

theorem v53_at : (val_main_v53 (F := Ideal) x1 x2 x3 x4 x5 x6 x7 x8) (ix2 r j) = Rows.nrm (fun k => (val_main_v40 (F := Ideal) x1 x2 x3 x4 x5 x6 x7 x8) (ix2 r k)) j := by
  pointwise [val_main_v52, val_main_v53]; rw [v48_at]; rfl

theorem v56_at : (val_main_v56 (F := Ideal) x1 x2 x3 x4 x5 x6 x7 x8 x9) (ix2 r j) = Rows.scl (fun k => (val_main_v40 (F := Ideal) x1 x2 x3 x4 x5 x6 x7 x8) (ix2 r k)) (fun k => x9 (ix1 k)) j := by
  pointwise [val_main_v54, val_main_v55, val_main_v56]; rw [v53_at]; rfl

theorem v64_at : (val_main_v64 (F := Ideal) x1 x2 x3 x4 x5 x6 x7 x8 x9 x10 x11) (ix2 r j)
    = Rows.modn (fun k => (val_main_v40 (F := Ideal) x1 x2 x3 x4 x5 x6 x7 x8) (ix2 r k)) (fun k => x9 (ix1 k)) (fun k => x10 (ix1 k)) (fun k => x11 (ix1 k)) j := by
  pointwise [val_main_v57, val_main_cst_11, val_main_v58, val_main_v59, val_main_v60, val_main_v61, val_main_v62, val_main_v63, val_main_v64]; rw [v56_at]; rfl

theorem v66_at : (val_main_v66 (F := Ideal) x13) (ix2 j k) = x13 (ix3 1 j k) := by
  pointwise [val_main_v65, val_main_v66]

theorem v77_at : (val_main_v77 (F := Ideal) x14) (ix2 k j) = x14 (ix3 1 k j) := by
  pointwise [val_main_v76, val_main_v77]

/-- The first product, before the squared rectifier. -/
theorem v68_at : (val_main_v68 (F := Ideal) x1 x2 x3 x4 x5 x6 x7 x8 x9 x10 x11 x13) (ix2 r k) = ∑ d : Fin 1024, (val_main_v64 (F := Ideal) x1 x2 x3 x4 x5 x6 x7 x8 x9 x10 x11) (ix2 r d) * x13 (ix3 1 d k) := by
  pointwise [val_main_v67, val_main_v68, val_main_v1, val_main_cst_0]; simp only [v66_at]

theorem v87_at : (val_main_v87 (F := Ideal) x0 x12) (ix2 r j) = Rows.gated (fun k => x12 (ix1 k)) (fun k => x0 (ix2 r k)) j := by
  pointwise [val_main_v80, val_main_v85, val_main_v86, val_main_v87]; rfl

theorem v95_at : (val_main_v95 (F := Ideal) x0 x1 x2 x3 x4 x5 x6 x7 x8 x9 x10 x11 x12 x13 x14) (ix2 r k)
    = Rows.dact (∑ n : Fin 1024, (val_main_v87 (F := Ideal) x0 x12) (ix2 r n) * x14 (ix3 1 k n)) ((val_main_v68 (F := Ideal) x1 x2 x3 x4 x5 x6 x7 x8 x9 x10 x11 x13) (ix2 r k)) := by
  pointwise [val_main_v92, val_main_v93, val_main_v94, val_main_cst_17, val_main_v95, val_main_v69, val_main_v70, val_main_cst_12, val_main_v71, val_main_v72, val_main_cst_13, val_main_v74, val_main_cst_14, val_main_v75, val_main_call1_v0, val_main_call1_cst]
  simp only [v77_at]
  exact Rows.dact_select _ _

theorem v96_at : (val_main_v96 (F := Ideal) x0 x1 x2 x3 x4 x5 x6 x7 x8 x9 x10 x11 x12 x13 x14) (ix2 r j) = ∑ k : Fin 4096, (val_main_v95 (F := Ideal) x0 x1 x2 x3 x4 x5 x6 x7 x8 x9 x10 x11 x12 x13 x14) (ix2 r k) * x13 (ix3 1 j k) := by
  pointwise [val_main_v96]; simp only [v66_at]

theorem v104_at : (val_main_v104 (F := Ideal) x0 x1 x2 x3 x4 x5 x6 x7 x8 x9 x10 x11 x12 x13 x14) (ix2 r j) = Rows.dscl (fun k => x11 (ix1 k)) (fun k => (val_main_v96 (F := Ideal) x0 x1 x2 x3 x4 x5 x6 x7 x8 x9 x10 x11 x12 x13 x14) (ix2 r k)) j := by
  pointwise [val_main_v103, val_main_v104, val_main_v57, val_main_cst_11, val_main_v58, val_main_v59]; rfl

theorem v110_at : (val_main_v110 (F := Ideal) x0 x1 x2 x3 x4 x5 x6 x7 x8 x9 x10 x11 x12 x13 x14) (ix2 r j) = Rows.dnrm (fun k => x9 (ix1 k)) (fun k => x11 (ix1 k)) (fun k => (val_main_v96 (F := Ideal) x0 x1 x2 x3 x4 x5 x6 x7 x8 x9 x10 x11 x12 x13 x14) (ix2 r k)) j := by
  pointwise [val_main_v109, val_main_v110, val_main_v54]; rw [v104_at]; rfl

theorem v126_at : (val_main_v126 (F := Ideal) x0 x1 x2 x3 x4 x5 x6 x7 x8 x9 x10 x11 x12 x13 x14) (ix2 r j) = Rows.dho (fun k => x0 (ix2 r k)) (fun k => (val_main_v40 (F := Ideal) x1 x2 x3 x4 x5 x6 x7 x8) (ix2 r k))
    (fun k => x9 (ix1 k)) (fun k => x11 (ix1 k)) (fun k => (val_main_v96 (F := Ideal) x0 x1 x2 x3 x4 x5 x6 x7 x8 x9 x10 x11 x12 x13 x14) (ix2 r k)) j := by
  pointwise [val_main_v112, val_main_v113, val_main_cst_24, val_main_v114, val_main_v115, val_main_v116, val_main_v117, val_main_v118, val_main_v119, val_main_cst_25, val_main_v120, val_main_v121, val_main_cst_26, val_main_v122, val_main_v123, val_main_v124, val_main_v125, val_main_v126, val_main_v84]
  simp only [v110_at, v48_at, v51_at, Fin.sum_univ_one, add_assoc]
  unfold Rows.dho Rows.back
  rw [add_assoc]
  rfl

/-! ### The convolution's tail -/

theorem v36_at : (val_main_v36 (F := Ideal) x2 x3 x4 x5 x6 x7) (ix2 r j) = (val_main_v35 (F := Ideal) x2 x3 x4 x5 x6 x7) (ix2 r j) := by
  pointwise [val_main_v36, val_main_v0, val_main_cst]

theorem v128_at : (val_main_v128 (F := Ideal) x0 x1 x2 x3 x4 x5 x6 x7 x8 x9 x10 x11 x12 x13 x14) (ix2 r j) = Rows.gated (fun k => x8 (ix1 k)) (fun k => (val_main_v126 (F := Ideal) x0 x1 x2 x3 x4 x5 x6 x7 x8 x9 x10 x11 x12 x13 x14) (ix2 r k)) j := by
  pointwise [val_main_v127, val_main_v128, val_main_v37]; rfl

theorem v11_at : (val_main_v11 (F := Ideal) x2 x3) (ix2 r j) = Rows.cent (fun k => (val_main_v4 (F := Ideal) x2 x3) (ix2 r k)) j := by
  pointwise [val_main_v6, val_main_cst_1, val_main_v7, val_main_v8, val_main_cst_2, val_main_v9, val_main_v10, val_main_v11]; rfl

theorem v18_at : (val_main_v18 (F := Ideal) x2 x3) (ix2 r 0) = Rows.msq (Rows.cent fun k => (val_main_v4 (F := Ideal) x2 x3) (ix2 r k)) := by
  pointwise [val_main_v12, val_main_v13, val_main_cst_3, val_main_v14, val_main_v15, val_main_cst_4, val_main_v16, val_main_v17, val_main_cst_5, val_main_v18]; simp only [v11_at]; rfl

theorem v19_at : (val_main_v19 (F := Ideal) x2 x3) (ix2 r 0) = Rows.rs (Rows.cent fun k => (val_main_v4 (F := Ideal) x2 x3) (ix2 r k)) := by
  pointwise [val_main_v19]; rw [v18_at]; rfl

theorem v22_at : (val_main_v22 (F := Ideal) x2 x3) (ix2 r 0) = Rows.drs (Rows.cent fun k => (val_main_v4 (F := Ideal) x2 x3) (ix2 r k)) := by
  pointwise [val_main_v20, val_main_v21, val_main_cst_6, val_main_v22]; rw [v19_at, v18_at]; rfl

theorem v24_at : (val_main_v24 (F := Ideal) x2 x3) (ix2 r j) = Rows.nrm (Rows.cent fun k => (val_main_v4 (F := Ideal) x2 x3) (ix2 r k)) j := by
  pointwise [val_main_v23, val_main_v24]; rw [v19_at, v11_at]; rfl

theorem v30_at : (val_main_v30 (F := Ideal) x2 x3 x4 x5) (ix2 r j)
    = Rows.lnz (fun k => (val_main_v4 (F := Ideal) x2 x3) (ix2 r k)) (fun k => x4 (ix1 k)) (fun k => x5 (ix1 k)) j := by
  pointwise [val_main_v25, val_main_v26, val_main_v27, val_main_v28, val_main_v29, val_main_v30]; rw [v24_at]; rfl

theorem v31_2_at : (val_main_v31_2 (F := Ideal) x2 x3 x4 x5) (ix2 r j) = Ideal.logistic ((val_main_v30 (F := Ideal) x2 x3 x4 x5) (ix2 r j)) := by
  pointwise [val_main_v31_2, val_main_call0_v0, val_main_call0_v1, val_main_call0_v2, val_main_call0_cst, val_main_call0_v3, val_main_call0_v4, val_main_call0_cst_0]; rfl

theorem v5_at (i : Fin 1024) : (val_main_v5 (F := Ideal) x6) (ix2 i j) = x6 (ix3 0 i j) := by
  pointwise [val_main_v5]

theorem v136_at : (val_main_v136 (F := Ideal) x0 x1 x2 x3 x4 x5 x6 x7 x8 x9 x10 x11 x12 x13 x14) (ix2 r j) = ∑ n : Fin 1024, (val_main_v128 (F := Ideal) x0 x1 x2 x3 x4 x5 x6 x7 x8 x9 x10 x11 x12 x13 x14) (ix2 r n) * x6 (ix3 0 j n) := by
  pointwise [val_main_v136]; simp only [v5_at]

theorem v137_at : (val_main_v137 (F := Ideal) x0 x1 x2 x3 x4 x5 x6 x7 x8 x9 x10 x11 x12 x13 x14) (ix2 r j)
    = Rows.dz (fun k => (val_main_v4 (F := Ideal) x2 x3) (ix2 r k)) (fun k => x4 (ix1 k)) (fun k => x5 (ix1 k)) (fun k => (val_main_v136 (F := Ideal) x0 x1 x2 x3 x4 x5 x6 x7 x8 x9 x10 x11 x12 x13 x14) (ix2 r k)) j := by
  pointwise [val_main_v137, val_main_call2_v0, val_main_call2_v1, val_main_call2_v2, val_main_v31_1, val_main_call0_v6, val_main_call0_cst_1, val_main_call0_v7]; rw [v31_2_at, v30_at]; rfl

theorem v160_at : (val_main_v160 (F := Ideal) x0 x1 x2 x3 x4 x5 x6 x7 x8 x9 x10 x11 x12 x13 x14) (ix2 r j)
    = Rows.dcent (fun k => (val_main_v4 (F := Ideal) x2 x3) (ix2 r k)) (fun k => x4 (ix1 k)) (fun k => x5 (ix1 k)) (fun k => (val_main_v136 (F := Ideal) x0 x1 x2 x3 x4 x5 x6 x7 x8 x9 x10 x11 x12 x13 x14) (ix2 r k)) j := by
  pointwise [val_main_v144, val_main_v25, val_main_v145, val_main_v147, val_main_v148, val_main_cst_35, val_main_v149, val_main_v150, val_main_v151, val_main_v152, val_main_v153, val_main_cst_36, val_main_v154, val_main_v155, val_main_cst_37, val_main_v156, val_main_v157, val_main_v158, val_main_v159, val_main_v160]
  simp only [v137_at, v11_at, v19_at, v22_at, Fin.sum_univ_one]
  rfl

theorem v168_at : (val_main_v168 (F := Ideal) x0 x1 x2 x3 x4 x5 x6 x7 x8 x9 x10 x11 x12 x13 x14) (ix2 r j)
    = Rows.dcv (fun k => (val_main_v4 (F := Ideal) x2 x3) (ix2 r k)) (fun k => x4 (ix1 k)) (fun k => x5 (ix1 k)) (fun k => (val_main_v136 (F := Ideal) x0 x1 x2 x3 x4 x5 x6 x7 x8 x9 x10 x11 x12 x13 x14) (ix2 r k)) j := by
  pointwise [val_main_v161, val_main_v162, val_main_cst_38, val_main_v163, val_main_v164, val_main_cst_39, val_main_v165, val_main_v166, val_main_cst_40, val_main_v167, val_main_v168]
  simp only [v160_at, Fin.sum_univ_one]
  rfl

/-! ### The results -/

theorem v173_at : (val_main_v173 (F := Ideal) x0 x1 x2 x3 x4 x5 x6 x7 x8 x9 x10 x11 x12 x13 x14) (ix2 r k) = (val_main_v95 (F := Ideal) x0 x1 x2 x3 x4 x5 x6 x7 x8 x9 x10 x11 x12 x13 x14) (ix2 r k) := by
  pointwise [val_main_v173]

theorem v174_at : (val_main_v174 (F := Ideal) x0 x12) (ix2 r j) = (val_main_v87 (F := Ideal) x0 x12) (ix2 r j) := by
  pointwise [val_main_v174]

theorem v175_at : (val_main_v175 (F := Ideal) x1 x2 x3 x4 x5 x6 x7 x8 x9 x10 x11) (ix2 r j) = (val_main_v64 (F := Ideal) x1 x2 x3 x4 x5 x6 x7 x8 x9 x10 x11) (ix2 r j) := by
  pointwise [val_main_v175]

theorem v185_at : (val_main_v185 (F := Ideal) x0 x1 x2 x3 x4 x5 x6 x7 x8 x9 x10 x11 x12 x13 x14) (ix2 r j) = (val_main_v128 (F := Ideal) x0 x1 x2 x3 x4 x5 x6 x7 x8 x9 x10 x11 x12 x13 x14) (ix2 r j) := by
  pointwise [val_main_v185]

/-! ### The parameters' gradients -/

theorem v184_at0 : (val_main_v184 (F := Ideal) x0 x1 x2 x3 x4 x5 x6 x7 x8 x9 x10 x11 x12 x13 x14) (ix2 0 j) = ∑ r : Fin 8192, Rows.nrm (fun k => (val_main_v40 (F := Ideal) x1 x2 x3 x4 x5 x6 x7 x8) (ix2 r k)) j * Rows.dscl (fun k => x11 (ix1 k)) (fun k => (val_main_v96 (F := Ideal) x0 x1 x2 x3 x4 x5 x6 x7 x8 x9 x10 x11 x12 x13 x14) (ix2 r k)) j := by
  pointwise [val_main_v184, val_main_v176, val_main_v111, val_main_cst_23, val_main_v108, val_main_v107, val_main_cst_22, val_main_v106]; simp only [v53_at, v104_at, Fin.sum_univ_one]

theorem v184_at1 : (val_main_v184 (F := Ideal) x0 x1 x2 x3 x4 x5 x6 x7 x8 x9 x10 x11 x12 x13 x14) (ix2 1 j) = ∑ r : Fin 8192, (val_main_v96 (F := Ideal) x0 x1 x2 x3 x4 x5 x6 x7 x8 x9 x10 x11 x12 x13 x14) (ix2 r j) := by
  pointwise [val_main_v184, val_main_v177, val_main_v99, val_main_cst_19, val_main_v98, val_main_v97, val_main_cst_18]; simp only [Fin.sum_univ_one]

theorem v184_at2 : (val_main_v184 (F := Ideal) x0 x1 x2 x3 x4 x5 x6 x7 x8 x9 x10 x11 x12 x13 x14) (ix2 2 j) = ∑ r : Fin 8192, Rows.scl (fun k => (val_main_v40 (F := Ideal) x1 x2 x3 x4 x5 x6 x7 x8) (ix2 r k)) (fun k => x9 (ix1 k)) j * (val_main_v96 (F := Ideal) x0 x1 x2 x3 x4 x5 x6 x7 x8 x9 x10 x11 x12 x13 x14) (ix2 r j) := by
  pointwise [val_main_v184, val_main_v178, val_main_v105, val_main_cst_21, val_main_v102, val_main_v101, val_main_cst_20, val_main_v100]; simp only [v56_at, Fin.sum_univ_one]

theorem v184_at3 : (val_main_v184 (F := Ideal) x0 x1 x2 x3 x4 x5 x6 x7 x8 x9 x10 x11 x12 x13 x14) (ix2 3 j) = ∑ r : Fin 8192, x0 (ix2 r j) * (val_main_v79 (F := Ideal) x1 x2 x3 x4 x5 x6 x7 x8 x9 x10 x11 x13 x14) (ix2 r j) := by
  pointwise [val_main_v184, val_main_v179, val_main_v91, val_main_cst_16, val_main_v90, val_main_v89, val_main_cst_15, val_main_v88, val_main_v85]; simp only [Fin.sum_univ_one]

theorem v194_at0 : (val_main_v194 (F := Ideal) x0 x1 x2 x3 x4 x5 x6 x7 x8 x9 x10 x11 x12 x13 x14) (ix2 0 j) = ∑ r : Fin 8192, (val_main_v126 (F := Ideal) x0 x1 x2 x3 x4 x5 x6 x7 x8 x9 x10 x11 x12 x13 x14) (ix2 r j) * (val_main_v35 (F := Ideal) x2 x3 x4 x5 x6 x7) (ix2 r j) := by
  pointwise [val_main_v194, val_main_v186, val_main_v132, val_main_cst_28, val_main_v131, val_main_v130, val_main_cst_27, val_main_v129]; simp only [v36_at, Fin.sum_univ_one]

theorem v194_at1 : (val_main_v194 (F := Ideal) x0 x1 x2 x3 x4 x5 x6 x7 x8 x9 x10 x11 x12 x13 x14) (ix2 1 j) = ∑ r : Fin 8192, (val_main_v128 (F := Ideal) x0 x1 x2 x3 x4 x5 x6 x7 x8 x9 x10 x11 x12 x13 x14) (ix2 r j) := by
  pointwise [val_main_v194, val_main_v187, val_main_v135, val_main_cst_30, val_main_v134, val_main_v133, val_main_cst_29]; simp only [Fin.sum_univ_one]

theorem v194_at2 : (val_main_v194 (F := Ideal) x0 x1 x2 x3 x4 x5 x6 x7 x8 x9 x10 x11 x12 x13 x14) (ix2 2 j) = ∑ r : Fin 8192, Rows.nrm (Rows.cent (fun k => (val_main_v4 (F := Ideal) x2 x3) (ix2 r k))) j * Rows.dz (fun k => (val_main_v4 (F := Ideal) x2 x3) (ix2 r k)) (fun k => x4 (ix1 k)) (fun k => x5 (ix1 k)) (fun k => (val_main_v136 (F := Ideal) x0 x1 x2 x3 x4 x5 x6 x7 x8 x9 x10 x11 x12 x13 x14) (ix2 r k)) j := by
  pointwise [val_main_v194, val_main_v188, val_main_v146, val_main_cst_34, val_main_v143, val_main_v142, val_main_cst_33, val_main_v141]; simp only [v24_at, v137_at, Fin.sum_univ_one]

theorem v194_at3 : (val_main_v194 (F := Ideal) x0 x1 x2 x3 x4 x5 x6 x7 x8 x9 x10 x11 x12 x13 x14) (ix2 3 j) = ∑ r : Fin 8192, Rows.dz (fun k => (val_main_v4 (F := Ideal) x2 x3) (ix2 r k)) (fun k => x4 (ix1 k)) (fun k => x5 (ix1 k)) (fun k => (val_main_v136 (F := Ideal) x0 x1 x2 x3 x4 x5 x6 x7 x8 x9 x10 x11 x12 x13 x14) (ix2 r k)) j := by
  pointwise [val_main_v194, val_main_v189, val_main_v140, val_main_cst_32, val_main_v139, val_main_v138, val_main_cst_31]; simp only [v137_at, Fin.sum_univ_one]

theorem v194_at4 : (val_main_v194 (F := Ideal) x0 x1 x2 x3 x4 x5 x6 x7 x8 x9 x10 x11 x12 x13 x14) (ix2 4 j) = ∑ r : Fin 8192, (val_main_v168 (F := Ideal) x0 x1 x2 x3 x4 x5 x6 x7 x8 x9 x10 x11 x12 x13 x14) (ix2 r j) := by
  pointwise [val_main_v194, val_main_v190, val_main_v171, val_main_cst_42, val_main_v170, val_main_v169, val_main_cst_41]; simp only [Fin.sum_univ_one]

theorem v184_at4 : (val_main_v184 (F := Ideal) x0 x1 x2 x3 x4 x5 x6 x7 x8 x9 x10 x11 x12 x13 x14) (ix2 4 j) = 0 := by
  pointwise [val_main_v184, val_main_v180, val_main_v172, val_main_cst_43]

theorem v184_at5 : (val_main_v184 (F := Ideal) x0 x1 x2 x3 x4 x5 x6 x7 x8 x9 x10 x11 x12 x13 x14) (ix2 5 j) = 0 := by
  pointwise [val_main_v184, val_main_v181, val_main_v172, val_main_cst_43]

theorem v184_at6 : (val_main_v184 (F := Ideal) x0 x1 x2 x3 x4 x5 x6 x7 x8 x9 x10 x11 x12 x13 x14) (ix2 6 j) = 0 := by
  pointwise [val_main_v184, val_main_v182, val_main_v172, val_main_cst_43]

theorem v184_at7 : (val_main_v184 (F := Ideal) x0 x1 x2 x3 x4 x5 x6 x7 x8 x9 x10 x11 x12 x13 x14) (ix2 7 j) = 0 := by
  pointwise [val_main_v184, val_main_v183, val_main_v172, val_main_cst_43]

theorem v194_at5 : (val_main_v194 (F := Ideal) x0 x1 x2 x3 x4 x5 x6 x7 x8 x9 x10 x11 x12 x13 x14) (ix2 5 j) = 0 := by
  pointwise [val_main_v194, val_main_v191, val_main_v172, val_main_cst_43]

theorem v194_at6 : (val_main_v194 (F := Ideal) x0 x1 x2 x3 x4 x5 x6 x7 x8 x9 x10 x11 x12 x13 x14) (ix2 6 j) = 0 := by
  pointwise [val_main_v194, val_main_v192, val_main_v172, val_main_cst_43]

theorem v194_at7 : (val_main_v194 (F := Ideal) x0 x1 x2 x3 x4 x5 x6 x7 x8 x9 x10 x11 x12 x13 x14) (ix2 7 j) = 0 := by
  pointwise [val_main_v194, val_main_v193, val_main_v172, val_main_cst_43]

end Cert.ReferenceIdeal.Read
-- ==== Proof.Host.lean ====
module

public import proofs.«01_k».proof.Proof.Gen.KernelIdeal.Frame.Runs
public import proofs.«01_k».proof.Proof.RRows
public import Idealize.ShloMosaic.Lib.Claim

@[expose] public section

set_option maxRecDepth 16384

noncomputable section

/-! The arrays that the kernel's host code prepares, by name. -/

namespace Cert.KernelIdeal.Gen

open Idealize.ShloMosaic Idealize.ShloMosaic.TcCoe Idealize.ShloMosaic.Tactic
open Cert.ReferenceIdeal.Read

/-- The gated residual. -/
def hostH (x : Vec Ideal S8192x1024 .f32) (g : Vec Ideal S1024 .f32) (y : Vec Ideal S8192x1024 .f32) :
    Vec Ideal S8192x1024 .f32 :=
  addf (F := Ideal) (φ := .f32) x (mulf (F := Ideal) (φ := .f32) (broadcastInDim S8192x1024 ![0, 1] bcast_S1x1024_S8192x1024_0_1
    (broadcastInDim S1x1024 ![1] bcast_S1024_S1x1024_1 g)) y)

/-- The norm of the rows, modulated. -/
def hostU (h : Vec Ideal S8192x1024 .f32) (g sh sc : Vec Ideal S1024 .f32) : Vec Ideal S8192x1024 .f32 :=
  let s := Host.rsqrt (F := Ideal) (φ := .f32) (addf (F := Ideal) (φ := .f32) (Host.divf (F := Ideal) (φ := .f32)
    (broadcastInDim S8192x1 ![0] bcast_S8192_S8192x1_0
      (Host.reduceAdd (F := Ideal) (φ := .f32) (mulf (F := Ideal) (φ := .f32) h h) (constant S_ .f32 0x00000000#32) reducesTo_S8192x1024_S8192_d1 h_S_))
    (broadcastInDim S8192x1 ![] bcast_S_S8192x1 (constant S_ .f32 0x44800000#32)))
    (broadcastInDim S8192x1 ![] bcast_S_S8192x1 (constant S_ .f32 0x358637BD#32)))
  let n := mulf (F := Ideal) (φ := .f32) (mulf (F := Ideal) (φ := .f32) h (broadcastInDim S8192x1024 ![0, 1] bcast_S8192x1_S8192x1024_0_1 s))
    (broadcastInDim S8192x1024 ![0, 1] bcast_S1x1024_S8192x1024_0_1 (broadcastInDim S1x1024 ![1] bcast_S1024_S1x1024_1 g))
  addf (F := Ideal) (φ := .f32) (mulf (F := Ideal) (φ := .f32) n
      (broadcastInDim S8192x1024 ![0, 1] bcast_S1x1024_S8192x1024_0_1 (broadcastInDim S1x1024 ![1] bcast_S1024_S1x1024_1
        (addf (F := Ideal) (φ := .f32) (broadcastInDim S1024 ![] bcast_S_S1024 (constant S_ .f32 0x3F800000#32)) sc))))
    (broadcastInDim S8192x1024 ![0, 1] bcast_S1x1024_S8192x1024_0_1 (broadcastInDim S1x1024 ![1] bcast_S1024_S1x1024_1 sh))

/-- The first product. -/
def hostA (u : Vec Ideal S8192x1024 .f32) (w : Vec Ideal S2x1024x4096 .f32) : Vec Ideal S8192x4096 .f32 :=
  Host.dotGeneral (F := Ideal) (φ₁ := .f32) (φ₂ := .f32) (so := S8192x4096) dot_S8192x1024_S1024x4096_S8192x4096_1_0_0_1_n_n none u
    (shapeCast _ (extractStridedSlice S1x1024x4096 ![1, 0, 0] w slices_S2x1024x4096_S1x1024x4096_1_0_0) shapeCasts_S1x1024x4096_S1024x4096)

/-- The squared rectifier's product. -/
def hostY (a : Vec Ideal S8192x4096 .f32) (w : Vec Ideal S2x4096x1024 .f32) : Vec Ideal S8192x1024 .f32 :=
  let z := maximumf (F := Ideal) (φ := .f32) a (broadcastInDim S8192x4096 ![] bcast_S_S8192x4096 (constant S_ .f32 0x00000000#32))
  Host.dotGeneral (F := Ideal) (φ₁ := .f32) (φ₂ := .f32) (so := S8192x1024) dot_S8192x4096_S4096x1024_S8192x1024_1_0_0_1_n_n none (mulf (F := Ideal) (φ := .f32) z z)
    (shapeCast _ (extractStridedSlice S1x4096x1024 ![1, 0, 0] w slices_S2x4096x1024_S1x4096x1024_1_0_0) shapeCasts_S1x4096x1024_S4096x1024)

variable (m : (ℓ : Loc nD τ sig) → Buf (Elt Ideal) ℓ) (c : Dev nD)

/-- Argument `b` as launched. -/
abbrev arg (b : Ref sig .tc) := m ((c : Thread nD τ).loc b)

theorem V2_eq : V m c main_v2 = val_main_v4 (F := Ideal) (arg m c main_arg2) (arg m c main_arg3) := rfl

theorem V30_eq : V m c main_v30 = val_main_v35 (F := Ideal) (arg m c main_arg2) (arg m c main_arg3) (arg m c main_arg4) (arg m c main_arg5) (arg m c main_arg6) (arg m c main_arg7) := rfl

theorem V34_step : V m c main_v34 = hostH (arg m c main_arg1) (arg m c main_arg8) (V m c main_v30) := rfl

theorem V55_step : V m c main_v55 = hostU (V m c main_v34) (arg m c main_arg9) (arg m c main_arg10) (arg m c main_arg11) := rfl

theorem V58_step : V m c main_v58 = hostA (V m c main_v55) (arg m c main_arg13) := rfl

theorem V63_step : V m c main_v63 = hostY (V m c main_v58) (arg m c main_arg14) := rfl

theorem V34_eq : V m c main_v34 = val_main_v40 (F := Ideal) (arg m c main_arg1) (arg m c main_arg2) (arg m c main_arg3) (arg m c main_arg4) (arg m c main_arg5) (arg m c main_arg6) (arg m c main_arg7) (arg m c main_arg8) := by
  rw [V34_step, V30_eq]
  funext i
  idx_vars i
  pointwise [hostH, val_main_v37, val_main_v38, val_main_v39, val_main_v40]
  rw [v36_at]

theorem V55_eq : V m c main_v55 = val_main_v64 (F := Ideal) (arg m c main_arg1) (arg m c main_arg2) (arg m c main_arg3) (arg m c main_arg4) (arg m c main_arg5) (arg m c main_arg6) (arg m c main_arg7) (arg m c main_arg8) (arg m c main_arg9) (arg m c main_arg10) (arg m c main_arg11) := by
  rw [V55_step, V34_eq]; rfl

theorem V58_eq : V m c main_v58 = val_main_v68 (F := Ideal) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg13) := by
  rw [V58_step, V55_eq]
  funext i
  idx_vars i
  pointwise [hostA]
  rw [v68_at]

theorem V63_eq : V m c main_v63 = val_main_v79 (F := Ideal) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg13) (arg m c main_arg14) := by
  rw [V63_step, V58_eq]
  funext i
  idx_vars i
  pointwise [hostY, val_main_v0, val_main_cst, val_main_v69, val_main_v73, val_main_v76, val_main_v77, val_main_v78, val_main_v79, val_main_call1_v0, val_main_call1_cst]

end Cert.KernelIdeal.Gen
-- ==== Proof.Params.lean ====
module

public import proofs.«01_k».proof.Proof.Host
public import Idealize.ShloMosaic.Lib.StableHlo.RunRead
public import Idealize.ShloMosaic.Lib.Pipeline.ValueKit

@[expose] public section

set_option maxRecDepth 16384

noncomputable section

/-! The parameters and the packed weights as the kernel's host code stacks them. -/

namespace Cert.KernelIdeal.Gen

open Idealize.ShloMosaic Idealize.ShloMosaic.TcCoe Idealize.ShloMosaic.Tactic

variable (m : (ℓ : Loc nD τ sig) → Buf (Elt Ideal) ℓ) (c : Dev nD)

/-- Four rows over four rows. -/
def stack2 (a b : Vec Ideal S4x1024 .f32) : Vec Ideal S8x1024 .f32 :=
  concatenate (α := Elt Ideal .f32) S8x1024 0 [⟨S4x1024, a⟩, ⟨S4x1024, b⟩] concatenates_S4x1024_S4x1024_S8x1024_d0

/-- Four rows, one over another. -/
def stack4 (a b d e : Vec Ideal S1x1024 .f32) : Vec Ideal S4x1024 .f32 :=
  concatenate (α := Elt Ideal .f32) S4x1024 0 [⟨S1x1024, a⟩, ⟨S1x1024, b⟩, ⟨S1x1024, d⟩, ⟨S1x1024, e⟩]
    concatenates_S1x1024_S1x1024_S1x1024_S1x1024_S4x1024_d0

/-- Four parameters stacked over four zero rows. -/
def hostRows (a b d e : Vec Ideal S1x1024 .f32) : Vec Ideal S8x1024 .f32 :=
  stack2 (stack4 a b d e)
    (broadcastInDim S4x1024 ![] bcast_S_S4x1024 (constant (F := Ideal) S_ .f32 0x00000000#32 : Vec Ideal S_ .f32))

/-- A parameter as one row. -/
def hostRow (a : Vec Ideal S1024 .f32) : Vec Ideal S1x1024 .f32 := broadcastInDim S1x1024 ![1] bcast_S1024_S1x1024_1 a

/-- A row of zeros. -/
def zeroRow : Vec Ideal S1x1024 .f32 :=
  hostRow (broadcastInDim S1024 ![] bcast_S_S1024 (constant (F := Ideal) S_ .f32 0x00000000#32 : Vec Ideal S_ .f32))

theorem V80_eq : V m c main_v80 = hostRows (hostRow (arg m c main_arg9)) (hostRow (arg m c main_arg10))
    (hostRow (arg m c main_arg11)) (hostRow (arg m c main_arg12)) := by
  unfold V
  after_reads_simp
  change stack2 _ _ = _
  after_reads_simp
  change stack2 (stack4 _ _ _ _) _ = _
  after_reads_simp
  rfl

theorem V73_eq : V m c main_v73 = hostRows zeroRow zeroRow zeroRow (hostRow (arg m c main_arg8)) := by
  unfold V
  after_reads_simp
  change stack2 _ _ = _
  after_reads_simp
  change stack2 (stack4 _ _ _ _) _ = _
  after_reads_simp
  rfl

theorem V99_eq : V m c main_v99 = hostRow (arg m c main_arg4) := rfl

theorem V100_eq : V m c main_v100 = hostRow (arg m c main_arg5) := rfl

/-- The convolution's last weights. -/
def hostW (w : Vec Ideal S1x1024x1024 .f32) : Vec Ideal S1024x1024 .bf16 :=
  truncf (F := Ideal) .bf16 (shapeCast S1024x1024 w shapeCasts_S1x1024x1024_S1024x1024) bitsLt_bf16_f32

theorem V102_eq : V m c main_v102 = hostW (arg m c main_arg6) := rfl

/-- The first product's weights, a quarter of the columns to a leaf. -/
def pack1 (w : Vec Ideal S2x1024x4096 .f32) : Vec Ideal S4x2048x1024 .f32 :=
  shapeCast S4x2048x1024 (transpose S4x2x1024x1024 [2, 0, 1, 3] (shapeCast S2x1024x4x1024 w shapeCasts_S2x1024x4096_S2x1024x4x1024)
    transposes_S2x1024x4x1024_S4x2x1024x1024_2_0_1_3) shapeCasts_S4x2x1024x1024_S4x2048x1024

/-- The second product's weights, a quarter of the rows to a leaf. -/
def pack2 (w : Vec Ideal S2x4096x1024 .f32) : Vec Ideal S4x2048x1024 .f32 :=
  shapeCast S4x2048x1024 (transpose S4x2x1024x1024 [1, 0, 2, 3] (shapeCast S2x4x1024x1024 w shapeCasts_S2x4096x1024_S2x4x1024x1024)
    transposes_S2x4x1024x1024_S4x2x1024x1024_1_0_2_3) shapeCasts_S4x2x1024x1024_S4x2048x1024

/-- The packed weights. -/
def packed (a b : Vec Ideal S4x2048x1024 .f32) (d e : Vec Ideal S4x512x1024 .f32) (f : Vec Ideal S4x256x1024 .f32) :
    Vec Ideal S4x5376x1024 .bf16 :=
  truncf (F := Ideal) .bf16 (concatenate (α := Elt Ideal .f32) S4x5376x1024 1 [⟨S4x2048x1024, a⟩, ⟨S4x2048x1024, b⟩, ⟨S4x512x1024, d⟩, ⟨S4x512x1024, e⟩, ⟨S4x256x1024, f⟩]
    concatenates_S4x2048x1024_S4x2048x1024_S4x512x1024_S4x512x1024_S4x256x1024_S4x5376x1024_d1) bitsLt_bf16_f32

/-- What the host has computed when it comes to the packing. -/
abbrev U120 (b : Ref sig .tc) := StableHlo.upto
  [hostOps0, hostOps0_1, hostOps0_2, hostOps0_3, hostOps0_4].flatten (fun b => m (c, b)) 120 (Proc.devRef .tc b)

theorem U120_w1 : U120 m c main_v83 = pack1 (arg m c main_arg13) := by
  unfold U120
  after_reads_simp
  rfl

theorem U120_w2 : U120 m c main_v86 = pack2 (arg m c main_arg14) := by
  unfold U120
  after_reads_simp
  rfl

theorem V97_eq : V m c main_v97 = packed (pack1 (arg m c main_arg13)) (pack2 (arg m c main_arg14))
    (U120 m c main_v89) (U120 m c main_v92) (U120 m c main_v95) := by
  rw [← U120_w1, ← U120_w2]
  unfold V
  after_reads_simp
  rfl

theorem rows_at0 (a b d e) (j : Fin 1024) : hostRows a b d e (ix2 0 j) = a (ix2 0 j) := by pointwise [hostRows, stack2, stack4]
theorem rows_at1 (a b d e) (j : Fin 1024) : hostRows a b d e (ix2 1 j) = b (ix2 0 j) := by pointwise [hostRows, stack2, stack4]
theorem rows_at2 (a b d e) (j : Fin 1024) : hostRows a b d e (ix2 2 j) = d (ix2 0 j) := by pointwise [hostRows, stack2, stack4]
theorem rows_at3 (a b d e) (j : Fin 1024) : hostRows a b d e (ix2 3 j) = e (ix2 0 j) := by pointwise [hostRows, stack2, stack4]

theorem row_at (a) (j : Fin 1024) : hostRow a (ix2 0 j) = a (ix1 j) := by pointwise [hostRow]

theorem zeroRow_at (j : Fin 1024) : zeroRow (ix2 0 j) = 0 := by pointwise [zeroRow, hostRow]

theorem hostW_at (w) (i j : Fin 1024) : hostW w (ix2 i j) = w (ix3 0 i j) := by pointwise [hostW]

theorem pack1_at (w) (s : Fin 4) (i j : Fin 1024) : pack1 w (ix3 s ⟨1024 + i.val, by omega⟩ j)
    = w (ix3 1 i ⟨1024 * s.val + j.val, by omega⟩) := by
  pointwise [pack1]
  blk_ext

theorem pack2_at (w) (s : Fin 4) (i j : Fin 1024) : pack2 w (ix3 s ⟨1024 + i.val, by omega⟩ j)
    = w (ix3 1 ⟨1024 * s.val + i.val, by omega⟩ j) := by
  pointwise [pack2]
  blk_ext

theorem packed_at1 (a b d e f) (s : Fin 4) (i j : Fin 1024) : packed a b d e f (ix3 s ⟨1024 + i.val, by omega⟩ j)
    = a (ix3 s ⟨1024 + i.val, by omega⟩ j) := by
  pointwise [packed]
  rw [dif_pos (by omega)]

theorem packed_at2 (a b d e f) (s : Fin 4) (i j : Fin 1024) : packed a b d e f (ix3 s ⟨3072 + i.val, by omega⟩ j)
    = b (ix3 s ⟨1024 + i.val, by omega⟩ j) := by
  pointwise [packed]
  rw [dif_neg (by omega), dif_pos (by omega)]
  blk_ext

theorem V97_w1 (s : Fin 4) (i j : Fin 1024) : V m c main_v97 (ix3 s ⟨1024 + i.val, by omega⟩ j)
    = arg m c main_arg13 (ix3 1 i ⟨1024 * s.val + j.val, by omega⟩) := by
  rw [V97_eq, packed_at1, pack1_at]

theorem V97_w2 (s : Fin 4) (i j : Fin 1024) : V m c main_v97 (ix3 s ⟨3072 + i.val, by omega⟩ j)
    = arg m c main_arg14 (ix3 1 ⟨1024 * s.val + i.val, by omega⟩ j) := by
  rw [V97_eq, packed_at2, pack2_at]

end Cert.KernelIdeal.Gen
-- ==== Proof.Blocks.lean ====
module

public import proofs.«01_k».proof.Proof.Host
public import Idealize.ShloMosaic.Lib.Pipeline.ValueKit

@[expose] public section

set_option maxRecDepth 16384

noncomputable section

/-! The windows' blocks, read off the arrays. -/

namespace Cert.KernelIdeal.Gen

open Idealize.ShloMosaic Idealize.ShloMosaic.TcCoe Idealize.ShloMosaic.Tactic
open Cert.ReferenceIdeal.Read

theorem idx_rows : ∀ t : Fin cfg0.N, win0_0.index t = ![t.val, 0] ∧ win0_1.index t = ![t.val, 0] ∧ win0_2.index t = ![t.val, 0]
    ∧ win0_3.index t = ![t.val, 0] ∧ win0_7.index t = ![t.val, 0] ∧ win0_8.index t = ![t.val, 0] ∧ t.val < 32 :=
  (by decide +kernel : ∀ t : Fin grid0.N, _)

theorem idx_params : ∀ t : Fin cfg0.N, win0_4.index t = ![0, 0] ∧ win0_9.index t = ![0, 0] ∧ win0_10.index t = ![0, 0]
    ∧ win0_11.index t = ![0, 0] ∧ win0_12.index t = ![0, 0] ∧ win0_5.index t = ![0, 1, 0] ∧ win0_6.index t = ![0, 3, 0] :=
  (by decide +kernel : ∀ t : Fin grid0.N, _)

theorem idx_outs : ∀ t : Fin cfg0.N, win0_13.index t = ![t.val, 0] ∧ win0_14.index t = ![t.val, 0] ∧ win0_15.index t = ![t.val, 0]
    ∧ win0_16.index t = ![t.val, 0] ∧ win0_18.index t = ![t.val, 0] ∧ win0_19.index t = ![t.val, 0]
    ∧ win0_17.index t = ![0, 0] ∧ win0_20.index t = ![0, 0] :=
  (by decide +kernel : ∀ t : Fin grid0.N, _)

variable (m : (ℓ : Loc nD τ sig) → Buf (Elt Ideal) ℓ) (c : Dev nD) (t : Fin cfg0.N)

/-- Row `r` of tile `t`. -/
def row (t : Fin cfg0.N) (r : Fin 256) : Fin 8192 := ⟨256 * t.val + r.val, by have := (idx_rows t).2.2.2.2.2.2; omega⟩

theorem blk0 (r : Fin 256) (j : Fin 1024) : iblk m c 0 t (ix2 r j) = arg m c main_arg0 (ix2 (row t r) j) := by
  blk_ext [iblk, V, idx_rows t, row]

theorem blk1 (r : Fin 256) (j : Fin 1024) : iblk m c 1 t (ix2 r j) = V m c main_v34 (ix2 (row t r) j) := by
  blk_ext [iblk, idx_rows t, row]

theorem blk2 (r : Fin 256) (j : Fin 4096) : iblk m c 2 t (ix2 r j) = V m c main_v98 (ix2 (row t r) j) := by
  blk_ext [iblk, idx_rows t, row]

theorem blk3 (r : Fin 256) (j : Fin 1024) : iblk m c 3 t (ix2 r j) = V m c main_v63 (ix2 (row t r) j) := by
  blk_ext [iblk, idx_rows t, row]

theorem blk7 (r : Fin 256) (j : Fin 1024) : iblk m c 7 t (ix2 r j) = V m c main_v30 (ix2 (row t r) j) := by
  blk_ext [iblk, idx_rows t, row]

theorem blk8 (r : Fin 256) (j : Fin 1024) : iblk m c 8 t (ix2 r j) = V m c main_v2 (ix2 (row t r) j) := by
  blk_ext [iblk, idx_rows t, row]

theorem blk4 (i : Fin 8) (j : Fin 1024) : iblk m c 4 t (ix2 i j) = V m c main_v80 (ix2 i j) := by
  blk_ext [iblk, idx_params t]

theorem blk9 (i : Fin 8) (j : Fin 1024) : iblk m c 9 t (ix2 i j) = V m c main_v73 (ix2 i j) := by
  blk_ext [iblk, idx_params t]

theorem blk10 (i : Fin 1) (j : Fin 1024) : iblk m c 10 t (ix2 i j) = V m c main_v99 (ix2 i j) := by
  blk_ext [iblk, idx_params t]

theorem blk11 (i : Fin 1) (j : Fin 1024) : iblk m c 11 t (ix2 i j) = V m c main_v100 (ix2 i j) := by
  blk_ext [iblk, idx_params t]

theorem blk12 (i j : Fin 1024) : iblk m c 12 t (ix2 i j) = V m c main_v102 (ix2 i j) := by
  blk_ext [iblk, idx_params t]

theorem blk5 (s : Fin 4) (i j : Fin 1024) : X0_5 m c t (ix3 s i j) = V m c main_v97 (ix3 s ⟨1024 + i.val, by omega⟩ j) := by
  unfold X0_5 Pipeline.Window.fill
  rw [dif_pos (moved0_5 t _)]
  blk_ext [iblk, idx_params t]

theorem blk6 (s : Fin 4) (i j : Fin 1024) : X0_6 m c t (ix3 s i j) = V m c main_v97 (ix3 s ⟨3072 + i.val, by omega⟩ j) := by
  unfold X0_6 Pipeline.Window.fill
  rw [dif_pos (moved0_6 t _)]
  blk_ext [iblk, idx_params t]

theorem V98_at (i : Fin 8192) (k : Fin 4096) : V m c main_v98 (ix2 i k) = V m c main_v58 (ix2 i k) := rfl

end Cert.KernelIdeal.Gen
-- ==== Proof.KRows.lean ====
module

public import proofs.«01_k».proof.Proof.Gen.KernelIdeal.Skeleton
public import proofs.«01_k».proof.Proof.Rows

@[expose] public section

set_option maxRecDepth 16384

noncomputable section

/-! What the kernel's body computes, entry by entry, in terms of `Cert.Rows`. -/

namespace Cert.KernelIdeal.Gen

open Idealize.ShloMosaic Idealize.ShloMosaic.TcCoe Idealize.ShloMosaic.Tactic

variable (r : Fin 256) (j : Fin 1024)

theorem pay5_at (x) : k0_pay5 (F := Ideal) x (ix2 r j) = x (ix2 r j) := by
  pointwise [k0_pay5]

theorem pay6_at (x) : k0_pay6 (F := Ideal) x (ix2 0 j) = x (ix2 0 j) := by
  pointwise [k0_pay6]

theorem pay7_at (x) : k0_pay7 (F := Ideal) x (ix2 r 0) = Rows.msq fun k => x (ix2 r k) := by
  pointwise [k0_pay7, k0_pay5]; rfl

theorem pay8_at (x) : k0_pay8 (F := Ideal) x (ix2 r 0) = Rows.rs fun k => x (ix2 r k) := by
  pointwise [k0_pay8]; rw [pay7_at]; rfl

theorem pay9_at (x) : k0_pay9 (F := Ideal) x (ix2 r 0) = Rows.drs fun k => x (ix2 r k) := by
  pointwise [k0_pay9]; rw [pay8_at, pay7_at]; rfl

theorem pay10_at (x) : k0_pay10 (F := Ideal) x (ix2 r j) = Rows.nrm (fun k => x (ix2 r k)) j := by
  pointwise [k0_pay10, k0_pay5]; rw [pay8_at]; rfl

theorem pay11_at (x g) : k0_pay11 (F := Ideal) x g (ix2 r j)
    = Rows.scl (fun k => x (ix2 r k)) (fun k => g (ix2 0 k)) j := by
  pointwise [k0_pay11]; rw [pay10_at, pay6_at]; rfl

theorem pay12_at (x) : k0_pay12 (F := Ideal) x (ix2 0 j) = 1 + x (ix2 0 j) := by
  pointwise [k0_pay12]

theorem pay13_at (x g sh sc) : k0_pay13 (F := Ideal) x g sh sc (ix2 r j)
    = Rows.modn (fun k => x (ix2 r k)) (fun k => g (ix2 0 k)) (fun k => sh (ix2 0 k)) (fun k => sc (ix2 0 k)) j := by
  pointwise [k0_pay13]; rw [pay11_at, pay12_at]; rfl

theorem pay14_at (x g) : k0_pay14 (F := Ideal) x g (ix2 r j)
    = Rows.gated (fun k => g (ix2 0 k)) (fun k => x (ix2 r k)) j := by
  pointwise [k0_pay14]; rfl

theorem pay15_at (d w a) : k0_pay15 (F := Ideal) d w a (ix2 r j)
    = Rows.dact (∑ n : Fin 1024, d (ix2 r n) * w (ix3 0 j n)) (a (ix2 r j)) := by
  pointwise [k0_pay15]; rfl

theorem pay16_at (d w a) : k0_pay16 (F := Ideal) d w a (ix2 r j)
    = Rows.dact (∑ n : Fin 1024, d (ix2 r n) * w (ix3 0 j n)) (a (ix2 r j)) := by
  pointwise [k0_pay16]; rw [pay15_at]

theorem pay17_at (d w a v) : k0_pay17 (F := Ideal) d w a v (ix2 r j)
    = ∑ k : Fin 1024, Rows.dact (∑ n : Fin 1024, d (ix2 r n) * w (ix3 0 k n)) (a (ix2 r k)) * v (ix3 0 j k) := by
  pointwise [k0_pay17]; simp only [pay15_at]

theorem pay18_at (d w a) : k0_pay18 (F := Ideal) d w a (ix2 r j)
    = Rows.dact (∑ n : Fin 1024, d (ix2 r n) * w (ix3 0 j n)) (a (ix2 r j)) := by
  pointwise [k0_pay18]; rfl

theorem pay19_at (d w a) : k0_pay19 (F := Ideal) d w a (ix2 r j)
    = Rows.dact (∑ n : Fin 1024, d (ix2 r n) * w (ix3 0 j n)) (a (ix2 r j)) := by
  pointwise [k0_pay19]; rw [pay18_at]

theorem pay20_at (d w a) : k0_pay20 (F := Ideal) d w a (ix2 r j)
    = Rows.dact (∑ n : Fin 1024, d (ix2 r n) * w (ix3 0 j n)) (a (ix2 r j)) := by
  pointwise [k0_pay20]; rfl

theorem pay21_at (d w a) : k0_pay21 (F := Ideal) d w a (ix2 r j)
    = Rows.dact (∑ n : Fin 1024, d (ix2 r n) * w (ix3 0 j n)) (a (ix2 r j)) := by
  pointwise [k0_pay21]; rw [pay20_at]

theorem pay22_at (d p q v w a u) : k0_pay22 (F := Ideal) d p q v w a u (ix2 r j)
    = p (ix2 r j) + (∑ k : Fin 1024, q (ix2 r k) * v (ix3 0 j k))
      + ∑ k : Fin 1024, Rows.dact (∑ n : Fin 1024, d (ix2 r n) * w (ix3 0 k n)) (a (ix2 r k)) * u (ix3 0 j k) := by
  pointwise [k0_pay22]; simp only [pay20_at]

theorem pay26_at (d w a) : k0_pay26 (F := Ideal) (k0_pay23 d w) (k0_pay24 a) k0_pay25 (ix2 r j)
    = Rows.dact (∑ n : Fin 1024, d (ix2 r n) * w (ix3 0 j n)) (a (ix2 r j)) := by
  pointwise [k0_pay26, k0_pay23, k0_pay24, k0_pay25]; rfl

theorem pay27_at (d w a) : k0_pay27 (F := Ideal) (k0_pay23 d w) (k0_pay24 a) k0_pay25 (ix2 r j)
    = Rows.dact (∑ n : Fin 1024, d (ix2 r n) * w (ix3 0 j n)) (a (ix2 r j)) := by
  pointwise [k0_pay27]; rw [pay26_at]

theorem pay28_at (p d w a v) : k0_pay28 (F := Ideal) p (k0_pay23 d w) (k0_pay24 a) k0_pay25 v (ix2 r j)
    = p (ix2 r j)
      + ∑ k : Fin 1024, Rows.dact (∑ n : Fin 1024, d (ix2 r n) * w (ix3 0 k n)) (a (ix2 r k)) * v (ix3 0 j k) := by
  pointwise [k0_pay28]; simp only [pay26_at]

theorem pay29_at (p q s z v) : k0_pay29 (F := Ideal) p q s z v (ix2 0 j)
    = ∑ i : Fin 256, k0_pay28 p q s z v (ix2 i j) := by
  pointwise [k0_pay29]

theorem pay30_at (x p q s z v) : k0_pay30 (F := Ideal) x p q s z v (ix2 0 j)
    = ∑ i : Fin 256, x (ix2 i j) * k0_pay28 p q s z v (ix2 i j) := by
  pointwise [k0_pay30]

theorem pay31_at (x p q s z v) : k0_pay31 (F := Ideal) (k0_pay12 x) p q s z v (ix2 r j)
    = Rows.dscl (fun k => x (ix2 0 k)) (fun k => k0_pay28 p q s z v (ix2 r k)) j := by
  pointwise [k0_pay31]; rw [pay12_at]; rfl

theorem pay32_at (y x p q s z v) : k0_pay32 (F := Ideal) y (k0_pay12 x) p q s z v (ix2 0 j)
    = ∑ i : Fin 256, y (ix2 i j)
        * Rows.dscl (fun k => x (ix2 0 k)) (fun k => k0_pay28 p q s z v (ix2 i k)) j := by
  pointwise [k0_pay32]; simp only [pay31_at]

theorem pay33_at (dh h g x p q s z v) :
    k0_pay33 (F := Ideal) dh (k0_pay5 h) (k0_pay6 g) (k0_pay8 h) (k0_pay9 h) (k0_pay12 x) p q s z v (ix2 r j)
    = Rows.dho (fun k => dh (ix2 r k)) (fun k => h (ix2 r k)) (fun k => g (ix2 0 k)) (fun k => x (ix2 0 k))
        (fun k => k0_pay28 p q s z v (ix2 r k)) j := by
  pointwise [k0_pay33]
  simp only [pay5_at, pay6_at, pay8_at, pay9_at, pay31_at, Fin.sum_univ_one]
  rfl

theorem pay34_at (i : Fin 8) : k0_pay34 (F := Ideal) (ix2 i j) = 0 := by
  pointwise [k0_pay34]

theorem pay35_at (x acc) : k0_pay35 (F := Ideal) x acc (ix2 0 j) = acc (ix2 0 j) + x (ix2 0 j) := by
  pointwise [k0_pay35]

theorem pay36_at (x acc) : k0_pay36 (F := Ideal) x acc (ix2 0 j) = acc (ix2 0 j) + x (ix2 0 j) := by
  pointwise [k0_pay36]

theorem pay37_at (x acc) : k0_pay37 (F := Ideal) x acc (ix2 0 j) = acc (ix2 0 j) + x (ix2 0 j) := by
  pointwise [k0_pay37]

theorem pay38_at (x acc y) : k0_pay38 (F := Ideal) x acc y (ix2 0 j)
    = acc (ix2 0 j) + ∑ i : Fin 256, x (ix2 i j) * y (ix2 i j) := by
  pointwise [k0_pay38]

theorem pay39_at (x g) : k0_pay39 (F := Ideal) x g (ix2 r j)
    = Rows.gated (fun k => g (ix2 0 k)) (fun k => x (ix2 r k)) j := by
  pointwise [k0_pay39]; rfl

theorem pay40_at (x g) : k0_pay40 (F := Ideal) x g (ix2 r j)
    = Rows.gated (fun k => g (ix2 0 k)) (fun k => x (ix2 r k)) j := by
  pointwise [k0_pay40]; rw [pay39_at]

theorem pay41_at (x) : k0_pay41 (F := Ideal) x (ix2 r j) = x (ix2 r j) := by
  pointwise [k0_pay41]

theorem pay43_at (x) : k0_pay43 (F := Ideal) x (ix2 r j) = Rows.cent (fun k => x (ix2 r k)) j := by
  pointwise [k0_pay43]; rfl

theorem pay44_at (x) : k0_pay44 (F := Ideal) x (ix2 r 0) = Rows.msq (Rows.cent fun k => x (ix2 r k)) := by
  pointwise [k0_pay44]; simp only [pay43_at]; rfl

theorem pay45_at (x) : k0_pay45 (F := Ideal) x (ix2 r 0) = Rows.rs (Rows.cent fun k => x (ix2 r k)) := by
  pointwise [k0_pay45]; rw [pay44_at]; rfl

theorem pay46_at (x) : k0_pay46 (F := Ideal) x (ix2 r 0) = Rows.drs (Rows.cent fun k => x (ix2 r k)) := by
  pointwise [k0_pay46]; rw [pay45_at, pay44_at]; rfl

theorem pay47_at (x) : k0_pay47 (F := Ideal) x (ix2 r j) = Rows.nrm (Rows.cent fun k => x (ix2 r k)) j := by
  pointwise [k0_pay47]; rw [pay45_at, pay43_at]; rfl

theorem pay48_at (b x g e w) : k0_pay48 (F := Ideal) b x g e w (ix2 r j)
    = Rows.dz (fun k => x (ix2 r k)) (fun k => g (ix2 0 k)) (fun k => e (ix2 0 k))
        (fun k => ∑ n : Fin 1024, b (ix2 r n) * w (ix2 k n)) j := by
  pointwise [k0_pay48, k0_pay42]; rw [pay47_at]; rfl

theorem pay49_at (b x g e w) : k0_pay49 (F := Ideal) b x g e w (ix2 0 j)
    = ∑ i : Fin 256, Rows.dz (fun k => x (ix2 i k)) (fun k => g (ix2 0 k)) (fun k => e (ix2 0 k))
        (fun k => ∑ n : Fin 1024, b (ix2 i n) * w (ix2 k n)) j := by
  pointwise [k0_pay49]; simp only [pay48_at]

theorem pay50_at (b x g e w) : k0_pay50 (F := Ideal) b x g e w (ix2 0 j)
    = ∑ i : Fin 256, Rows.nrm (Rows.cent fun k => x (ix2 i k)) j
        * Rows.dz (fun k => x (ix2 i k)) (fun k => g (ix2 0 k)) (fun k => e (ix2 0 k))
          (fun k => ∑ n : Fin 1024, b (ix2 i n) * w (ix2 k n)) j := by
  pointwise [k0_pay50]; simp only [pay48_at, pay47_at]

theorem pay51_at (b x g e w) : k0_pay51 (F := Ideal) b x g e w (ix2 r j)
    = Rows.dz (fun k => x (ix2 r k)) (fun k => g (ix2 0 k)) (fun k => e (ix2 0 k))
        (fun k => ∑ n : Fin 1024, b (ix2 r n) * w (ix2 k n)) j * g (ix2 0 j) := by
  pointwise [k0_pay51, k0_pay42]; rw [pay48_at]

theorem pay52_at (x b g e w) :
    k0_pay52 (F := Ideal) (k0_pay43 x) (k0_pay45 x) (k0_pay46 x) (k0_pay51 b x g e w) (ix2 r j)
    = Rows.dcv (fun k => x (ix2 r k)) (fun k => g (ix2 0 k)) (fun k => e (ix2 0 k))
        (fun k => ∑ n : Fin 1024, b (ix2 r n) * w (ix2 k n)) j := by
  pointwise [k0_pay52]
  simp only [pay43_at, pay45_at, pay46_at, pay51_at, Fin.sum_univ_one, zero_sub]
  rfl

theorem pay53_at (i : Fin 8) : k0_pay53 (F := Ideal) (ix2 i j) = 0 := by
  pointwise [k0_pay53]

theorem pay54_at (x acc y) : k0_pay54 (F := Ideal) x acc y (ix2 0 j)
    = acc (ix2 0 j) + ∑ i : Fin 256, x (ix2 i j) * y (ix2 i j) := by
  pointwise [k0_pay54]

theorem pay1_at (x acc) : k0_pay1 (F := Ideal) x acc (ix2 0 j)
    = acc (ix2 0 j) + ∑ i : Fin 256, x (ix2 i j) := by
  pointwise [k0_pay1]

theorem pay2_at (x acc) : k0_pay2 (F := Ideal) x acc (ix2 0 j) = acc (ix2 0 j) + x (ix2 0 j) := by
  pointwise [k0_pay2]

theorem pay3_at (x acc) : k0_pay3 (F := Ideal) x acc (ix2 0 j) = acc (ix2 0 j) + x (ix2 0 j) := by
  pointwise [k0_pay3]

theorem pay4_at (x acc) : k0_pay4 (F := Ideal) x acc (ix2 0 j)
    = acc (ix2 0 j) + ∑ i : Fin 256, x (ix2 i j) := by
  pointwise [k0_pay4]

end Cert.KernelIdeal.Gen
-- ==== Proof.Point.lean ====
module

public import proofs.«01_k».proof.Proof.Params
public import proofs.«01_k».proof.Proof.Blocks
public import proofs.«01_k».proof.Proof.KRows
public import proofs.«01_k».proof.Proof.Stores
public import proofs.«01_k».proof.Proof.Gen.KernelIdeal.Value

@[expose] public section

set_option maxRecDepth 16384

noncomputable section

/-! What one grid point of the kernel leaves in its output blocks, entry by entry. -/

namespace Cert.KernelIdeal.Value

open Idealize.ShloMosaic Idealize.ShloMosaic.TcCoe Idealize.ShloMosaic.Tactic
open Cert.KernelIdeal Cert.KernelIdeal.Gen Idealize.SL.Sem
open Cert.ReferenceIdeal.Read Cert.Stores

variable (m : (ℓ : Loc nD τ sig) → Buf (Elt Ideal) ℓ) (c : Dev nD) (t : Fin cfg0.N)

/-! ### The parameters and weights that the body loads -/

theorem prm0 (k : Fin 1024) : (View.ld (iblk m c 4 t) (Rect.unit ![0, 0] ![1, 1024] inb_S8x1024_S1x1024_0_0)) (ix2 0 k) = arg m c main_arg9 (ix1 k) := by
  rw [ld2 _ _ _ _ (by omega) (by omega)]
  refine (blk4 m c t _ _).trans ?_
  rw [V80_eq]
  exact ((congrArg _ (by blk_ext)).trans (rows_at0 _ _ _ _ k)).trans (row_at _ k)

theorem prm1 (k : Fin 1024) : (View.ld (iblk m c 4 t) (Rect.unit ![1, 0] ![1, 1024] inb_S8x1024_S1x1024_1_0)) (ix2 0 k) = arg m c main_arg10 (ix1 k) := by
  rw [ld2 _ _ _ _ (by omega) (by omega)]
  refine (blk4 m c t _ _).trans ?_
  rw [V80_eq]
  exact ((congrArg _ (by blk_ext)).trans (rows_at1 _ _ _ _ k)).trans (row_at _ k)

theorem prm2 (k : Fin 1024) : (View.ld (iblk m c 4 t) (Rect.unit ![2, 0] ![1, 1024] inb_S8x1024_S1x1024_2_0)) (ix2 0 k) = arg m c main_arg11 (ix1 k) := by
  rw [ld2 _ _ _ _ (by omega) (by omega)]
  refine (blk4 m c t _ _).trans ?_
  rw [V80_eq]
  exact ((congrArg _ (by blk_ext)).trans (rows_at2 _ _ _ _ k)).trans (row_at _ k)

theorem prm3 (k : Fin 1024) : (View.ld (iblk m c 4 t) (Rect.unit ![3, 0] ![1, 1024] inb_S8x1024_S1x1024_3_0)) (ix2 0 k) = arg m c main_arg12 (ix1 k) := by
  rw [ld2 _ _ _ _ (by omega) (by omega)]
  refine (blk4 m c t _ _).trans ?_
  rw [V80_eq]
  exact ((congrArg _ (by blk_ext)).trans (rows_at3 _ _ _ _ k)).trans (row_at _ k)

theorem prmc (k : Fin 1024) : (View.ld (iblk m c 9 t) (Rect.unit ![3, 0] ![1, 1024] inb_S8x1024_S1x1024_3_0)) (ix2 0 k) = arg m c main_arg8 (ix1 k) := by
  rw [ld2 _ _ _ _ (by omega) (by omega)]
  refine (blk9 m c t _ _).trans ?_
  rw [V73_eq]
  exact ((congrArg _ (by blk_ext)).trans (rows_at3 _ _ _ _ k)).trans (row_at _ k)

theorem w1_0 (j k : Fin 1024) : (View.ld (X0_5 m c t) (Rect.unit ![0, 0, 0] ![1, 1024, 1024] inb_S4x1024x1024_S1x1024x1024_0_0_0)) (ix3 0 j k) = arg m c main_arg13 (ix3 1 j ⟨k.val, by omega⟩) := by
  rw [ld3 _ _ _ _ (by omega) (by omega) (by omega)]
  refine (blk5 m c t _ _ _).trans ((V97_w1 m c _ _ _).trans (congrArg _ ?_))
  blk_ext

theorem w2_0 (k n : Fin 1024) : (View.ld (X0_6 m c t) (Rect.unit ![0, 0, 0] ![1, 1024, 1024] inb_S4x1024x1024_S1x1024x1024_0_0_0)) (ix3 0 k n) = arg m c main_arg14 (ix3 1 ⟨k.val, by omega⟩ n) := by
  rw [ld3 _ _ _ _ (by omega) (by omega) (by omega)]
  refine (blk6 m c t _ _ _).trans ((V97_w2 m c _ _ _).trans (congrArg _ ?_))
  blk_ext

theorem act0 (r : Fin 256) (k : Fin 1024) : (View.ld (iblk m c 2 t) (Rect.unit ![0, 0] ![256, 1024] inb_S256x4096_S256x1024_0_0)) (ix2 r k) = val_main_v68 (F := Ideal) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg13) (ix2 (row t r) ⟨k.val, by omega⟩) := by
  rw [ld2 _ _ _ _ (by omega) (by omega)]
  refine (blk2 m c t _ _).trans ((V98_at m c _ _).trans ?_)
  rw [V58_eq]
  exact congrArg _ (by blk_ext)

theorem w1_1 (j k : Fin 1024) : (View.ld (X0_5 m c t) (Rect.unit ![1, 0, 0] ![1, 1024, 1024] inb_S4x1024x1024_S1x1024x1024_1_0_0)) (ix3 0 j k) = arg m c main_arg13 (ix3 1 j ⟨1024 + k.val, by omega⟩) := by
  rw [ld3 _ _ _ _ (by omega) (by omega) (by omega)]
  refine (blk5 m c t _ _ _).trans ((V97_w1 m c _ _ _).trans (congrArg _ ?_))
  blk_ext

theorem w2_1 (k n : Fin 1024) : (View.ld (X0_6 m c t) (Rect.unit ![1, 0, 0] ![1, 1024, 1024] inb_S4x1024x1024_S1x1024x1024_1_0_0)) (ix3 0 k n) = arg m c main_arg14 (ix3 1 ⟨1024 + k.val, by omega⟩ n) := by
  rw [ld3 _ _ _ _ (by omega) (by omega) (by omega)]
  refine (blk6 m c t _ _ _).trans ((V97_w2 m c _ _ _).trans (congrArg _ ?_))
  blk_ext

theorem act1 (r : Fin 256) (k : Fin 1024) : (View.ld (iblk m c 2 t) (Rect.unit ![0, 1024] ![256, 1024] inb_S256x4096_S256x1024_0_1024)) (ix2 r k) = val_main_v68 (F := Ideal) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg13) (ix2 (row t r) ⟨1024 + k.val, by omega⟩) := by
  rw [ld2 _ _ _ _ (by omega) (by omega)]
  refine (blk2 m c t _ _).trans ((V98_at m c _ _).trans ?_)
  rw [V58_eq]
  exact congrArg _ (by blk_ext)

theorem w1_2 (j k : Fin 1024) : (View.ld (X0_5 m c t) (Rect.unit ![2, 0, 0] ![1, 1024, 1024] inb_S4x1024x1024_S1x1024x1024_2_0_0)) (ix3 0 j k) = arg m c main_arg13 (ix3 1 j ⟨2048 + k.val, by omega⟩) := by
  rw [ld3 _ _ _ _ (by omega) (by omega) (by omega)]
  refine (blk5 m c t _ _ _).trans ((V97_w1 m c _ _ _).trans (congrArg _ ?_))
  blk_ext

theorem w2_2 (k n : Fin 1024) : (View.ld (X0_6 m c t) (Rect.unit ![2, 0, 0] ![1, 1024, 1024] inb_S4x1024x1024_S1x1024x1024_2_0_0)) (ix3 0 k n) = arg m c main_arg14 (ix3 1 ⟨2048 + k.val, by omega⟩ n) := by
  rw [ld3 _ _ _ _ (by omega) (by omega) (by omega)]
  refine (blk6 m c t _ _ _).trans ((V97_w2 m c _ _ _).trans (congrArg _ ?_))
  blk_ext

theorem act2 (r : Fin 256) (k : Fin 1024) : (View.ld (iblk m c 2 t) (Rect.unit ![0, 2048] ![256, 1024] inb_S256x4096_S256x1024_0_2048)) (ix2 r k) = val_main_v68 (F := Ideal) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg13) (ix2 (row t r) ⟨2048 + k.val, by omega⟩) := by
  rw [ld2 _ _ _ _ (by omega) (by omega)]
  refine (blk2 m c t _ _).trans ((V98_at m c _ _).trans ?_)
  rw [V58_eq]
  exact congrArg _ (by blk_ext)

theorem w1_3 (j k : Fin 1024) : (View.ld (X0_5 m c t) (Rect.unit ![3, 0, 0] ![1, 1024, 1024] inb_S4x1024x1024_S1x1024x1024_3_0_0)) (ix3 0 j k) = arg m c main_arg13 (ix3 1 j ⟨3072 + k.val, by omega⟩) := by
  rw [ld3 _ _ _ _ (by omega) (by omega) (by omega)]
  refine (blk5 m c t _ _ _).trans ((V97_w1 m c _ _ _).trans (congrArg _ ?_))
  blk_ext

theorem w2_3 (k n : Fin 1024) : (View.ld (X0_6 m c t) (Rect.unit ![3, 0, 0] ![1, 1024, 1024] inb_S4x1024x1024_S1x1024x1024_3_0_0)) (ix3 0 k n) = arg m c main_arg14 (ix3 1 ⟨3072 + k.val, by omega⟩ n) := by
  rw [ld3 _ _ _ _ (by omega) (by omega) (by omega)]
  refine (blk6 m c t _ _ _).trans ((V97_w2 m c _ _ _).trans (congrArg _ ?_))
  blk_ext

theorem act3 (r : Fin 256) (k : Fin 1024) : (View.ld (iblk m c 2 t) (Rect.unit ![0, 3072] ![256, 1024] inb_S256x4096_S256x1024_0_3072)) (ix2 r k) = val_main_v68 (F := Ideal) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg13) (ix2 (row t r) ⟨3072 + k.val, by omega⟩) := by
  rw [ld2 _ _ _ _ (by omega) (by omega)]
  refine (blk2 m c t _ _).trans ((V98_at m c _ _).trans ?_)
  rw [V58_eq]
  exact congrArg _ (by blk_ext)

/-! ### The gradient of the perceptron -/

/-- The gradient behind the gate. -/
def kdy : Vec Ideal S256x1024 .bf16 := k0_pay14 (F := Ideal) (iblk m c 0 t) (View.ld (iblk m c 4 t) (Rect.unit ![3, 0] ![1, 1024] inb_S8x1024_S1x1024_3_0))
/-- The input's gradient over the first three quarters of the hidden columns. -/
def kp : Vec Ideal S256x1024 .f32 := k0_pay22 (F := Ideal) (kdy m c t)
  (k0_pay17 (kdy m c t) (View.ld (X0_6 m c t) (Rect.unit ![0, 0, 0] ![1, 1024, 1024] inb_S4x1024x1024_S1x1024x1024_0_0_0)) (View.ld (iblk m c 2 t) (Rect.unit ![0, 0] ![256, 1024] inb_S256x4096_S256x1024_0_0)) (View.ld (X0_5 m c t) (Rect.unit ![0, 0, 0] ![1, 1024, 1024] inb_S4x1024x1024_S1x1024x1024_0_0_0)))
  (k0_pay18 (kdy m c t) (View.ld (X0_6 m c t) (Rect.unit ![1, 0, 0] ![1, 1024, 1024] inb_S4x1024x1024_S1x1024x1024_1_0_0)) (View.ld (iblk m c 2 t) (Rect.unit ![0, 1024] ![256, 1024] inb_S256x4096_S256x1024_0_1024))) (View.ld (X0_5 m c t) (Rect.unit ![1, 0, 0] ![1, 1024, 1024] inb_S4x1024x1024_S1x1024x1024_1_0_0)) (View.ld (X0_6 m c t) (Rect.unit ![2, 0, 0] ![1, 1024, 1024] inb_S4x1024x1024_S1x1024x1024_2_0_0)) (View.ld (iblk m c 2 t) (Rect.unit ![0, 2048] ![256, 1024] inb_S256x4096_S256x1024_0_2048)) (View.ld (X0_5 m c t) (Rect.unit ![2, 0, 0] ![1, 1024, 1024] inb_S4x1024x1024_S1x1024x1024_2_0_0))
/-- The last quarter's product. -/
def kq : Vec Ideal S256x1024 .f32 := k0_pay23 (F := Ideal) (kdy m c t) (View.ld (X0_6 m c t) (Rect.unit ![3, 0, 0] ![1, 1024, 1024] inb_S4x1024x1024_S1x1024x1024_3_0_0))
/-- The last quarter's activations. -/
def ks : Vec Ideal S256x1024 .f32 := k0_pay24 (F := Ideal) (View.ld (iblk m c 2 t) (Rect.unit ![0, 3072] ![256, 1024] inb_S256x4096_S256x1024_0_3072))

theorem kdy_at (r : Fin 256) (j : Fin 1024) : kdy m c t (ix2 r j) = val_main_v87 (F := Ideal) (arg m c main_arg0) (arg m c main_arg12) (ix2 (row t r) j) := by
  unfold kdy
  rw [pay14_at, v87_at]
  simp only [prm3, blk0]

theorem kda0 (r : Fin 256) (k : Fin 1024) : k0_pay16 (F := Ideal) (kdy m c t) (View.ld (X0_6 m c t) (Rect.unit ![0, 0, 0] ![1, 1024, 1024] inb_S4x1024x1024_S1x1024x1024_0_0_0)) (View.ld (iblk m c 2 t) (Rect.unit ![0, 0] ![256, 1024] inb_S256x4096_S256x1024_0_0)) (ix2 r k)
    = val_main_v95 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (ix2 (row t r) ⟨k.val, by omega⟩) := by
  rw [pay16_at, v95_at]
  simp only [kdy_at, w2_0, act0]

theorem kda1 (r : Fin 256) (k : Fin 1024) : k0_pay18 (F := Ideal) (kdy m c t) (View.ld (X0_6 m c t) (Rect.unit ![1, 0, 0] ![1, 1024, 1024] inb_S4x1024x1024_S1x1024x1024_1_0_0)) (View.ld (iblk m c 2 t) (Rect.unit ![0, 1024] ![256, 1024] inb_S256x4096_S256x1024_0_1024)) (ix2 r k)
    = val_main_v95 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (ix2 (row t r) ⟨1024 + k.val, by omega⟩) := by
  rw [pay18_at, v95_at]
  simp only [kdy_at, w2_1, act1]

theorem kda2 (r : Fin 256) (k : Fin 1024) : k0_pay20 (F := Ideal) (kdy m c t) (View.ld (X0_6 m c t) (Rect.unit ![2, 0, 0] ![1, 1024, 1024] inb_S4x1024x1024_S1x1024x1024_2_0_0)) (View.ld (iblk m c 2 t) (Rect.unit ![0, 2048] ![256, 1024] inb_S256x4096_S256x1024_0_2048)) (ix2 r k)
    = val_main_v95 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (ix2 (row t r) ⟨2048 + k.val, by omega⟩) := by
  rw [pay20_at, v95_at]
  simp only [kdy_at, w2_2, act2]

theorem kda3 (r : Fin 256) (k : Fin 1024) : k0_pay27 (F := Ideal) (kq m c t) (ks m c t) k0_pay25 (ix2 r k)
    = val_main_v95 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (ix2 (row t r) ⟨3072 + k.val, by omega⟩) := by
  unfold kq ks
  rw [pay27_at, v95_at]
  simp only [kdy_at, w2_3, act3]

theorem kdu_at (r : Fin 256) (j : Fin 1024) : k0_pay28 (F := Ideal) (kp m c t) (kq m c t) (ks m c t) k0_pay25 (View.ld (X0_5 m c t) (Rect.unit ![3, 0, 0] ![1, 1024, 1024] inb_S4x1024x1024_S1x1024x1024_3_0_0)) (ix2 r j)
    = val_main_v96 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (ix2 (row t r) j) := by
  unfold kq ks kp
  rw [pay28_at, pay22_at, pay17_at, v96_at, ← Rows.sum4]
  simp only [pay18_at, v95_at, kdy_at, w2_0, w2_1, w2_2, w2_3, w1_0, w1_1, w1_2, w1_3, act0, act1, act2, act3]

/-- The gradient of the tile's input. -/
def kdx : Vec Ideal S256x1024 .f32 := k0_pay33 (F := Ideal) (iblk m c 0 t) (k0_pay5 (iblk m c 1 t)) (k0_pay6 (View.ld (iblk m c 4 t) (Rect.unit ![0, 0] ![1, 1024] inb_S8x1024_S1x1024_0_0)))
  (k0_pay8 (iblk m c 1 t)) (k0_pay9 (iblk m c 1 t)) (k0_pay12 (View.ld (iblk m c 4 t) (Rect.unit ![2, 0] ![1, 1024] inb_S8x1024_S1x1024_2_0))) (kp m c t) (kq m c t) (ks m c t) k0_pay25 (View.ld (X0_5 m c t) (Rect.unit ![3, 0, 0] ![1, 1024, 1024] inb_S4x1024x1024_S1x1024x1024_3_0_0))

theorem kh_at (r : Fin 256) (j : Fin 1024) : iblk m c 1 t (ix2 r j) = val_main_v40 (F := Ideal) (arg m c main_arg1) (arg m c main_arg2) (arg m c main_arg3) (arg m c main_arg4) (arg m c main_arg5) (arg m c main_arg6) (arg m c main_arg7) (arg m c main_arg8) (ix2 (row t r) j) := by
  rw [blk1, V34_eq]

theorem kdx_at (r : Fin 256) (j : Fin 1024) : kdx m c t (ix2 r j) = val_main_v126 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (ix2 (row t r) j) := by
  unfold kdx
  rw [pay33_at, v126_at]
  simp only [kdu_at, prm0, prm2, blk0, kh_at]

/-! ### The gradient of the convolution's tail -/

/-- The gradient behind the second gate. -/
def kdyc : Vec Ideal S256x1024 .bf16 := k0_pay40 (F := Ideal) (kdx m c t) (View.ld (iblk m c 9 t) (Rect.unit ![3, 0] ![1, 1024] inb_S8x1024_S1x1024_3_0))

theorem kdyc_at (r : Fin 256) (j : Fin 1024) : kdyc m c t (ix2 r j) = val_main_v128 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (ix2 (row t r) j) := by
  unfold kdyc
  rw [pay40_at, v128_at]
  simp only [prmc, kdx_at]

theorem kcv_at (r : Fin 256) (j : Fin 1024) : k0_pay41 (F := Ideal) (iblk m c 8 t) (ix2 r j) = val_main_v4 (F := Ideal) (arg m c main_arg2) (arg m c main_arg3) (ix2 (row t r) j) := by
  rw [pay41_at, blk8, V2_eq]

theorem lng (k : Fin 1024) : iblk m c 10 t (ix2 0 k) = arg m c main_arg4 (ix1 k) := by
  rw [blk10, V99_eq, row_at]

theorem lnb (k : Fin 1024) : iblk m c 11 t (ix2 0 k) = arg m c main_arg5 (ix1 k) := by
  rw [blk11, V100_eq, row_at]

theorem wc_at (i j : Fin 1024) : iblk m c 12 t (ix2 i j) = arg m c main_arg6 (ix3 0 i j) := by
  rw [blk12, V102_eq, hostW_at]

/-- The convolution's gradient. -/
def kdcv : Vec Ideal S256x1024 .f32 := k0_pay52 (F := Ideal) (k0_pay43 (k0_pay41 (iblk m c 8 t))) (k0_pay45 (k0_pay41 (iblk m c 8 t)))
  (k0_pay46 (k0_pay41 (iblk m c 8 t)))
  (k0_pay51 (kdyc m c t) (k0_pay41 (iblk m c 8 t)) (iblk m c 10 t) (iblk m c 11 t) (iblk m c 12 t))

theorem kdcv_at (r : Fin 256) (j : Fin 1024) : kdcv m c t (ix2 r j) = val_main_v168 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (ix2 (row t r) j) := by
  unfold kdcv
  rw [pay52_at, v168_at]
  simp only [kcv_at, lng, lnb, wc_at, v136_at, kdyc_at]

theorem kdz_at (r : Fin 256) (j : Fin 1024) : k0_pay48 (F := Ideal) (kdyc m c t) (k0_pay41 (iblk m c 8 t)) (iblk m c 10 t) (iblk m c 11 t) (iblk m c 12 t) (ix2 r j)
    = val_main_v137 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (ix2 (row t r) j) := by
  rw [pay48_at, v137_at]
  simp only [kcv_at, lng, lnb, wc_at, v136_at, kdyc_at]

theorem ku_at (r : Fin 256) (j : Fin 1024) : k0_pay13 (F := Ideal) (iblk m c 1 t) (View.ld (iblk m c 4 t) (Rect.unit ![0, 0] ![1, 1024] inb_S8x1024_S1x1024_0_0)) (View.ld (iblk m c 4 t) (Rect.unit ![1, 0] ![1, 1024] inb_S8x1024_S1x1024_1_0)) (View.ld (iblk m c 4 t) (Rect.unit ![2, 0] ![1, 1024] inb_S8x1024_S1x1024_2_0)) (ix2 r j) = val_main_v64 (F := Ideal) (arg m c main_arg1) (arg m c main_arg2) (arg m c main_arg3) (arg m c main_arg4) (arg m c main_arg5) (arg m c main_arg6) (arg m c main_arg7) (arg m c main_arg8) (arg m c main_arg9) (arg m c main_arg10) (arg m c main_arg11) (ix2 (row t r) j) := by
  rw [pay13_at, v64_at]
  simp only [kh_at, prm0, prm1, prm2]

theorem ky_at (r : Fin 256) (j : Fin 1024) : iblk m c 3 t (ix2 r j) = val_main_v79 (F := Ideal) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg13) (arg m c main_arg14) (ix2 (row t r) j) := by
  rw [blk3, V63_eq]

theorem kyc_at (r : Fin 256) (j : Fin 1024) : iblk m c 7 t (ix2 r j) = val_main_v35 (F := Ideal) (arg m c main_arg2) (arg m c main_arg3) (arg m c main_arg4) (arg m c main_arg5) (arg m c main_arg6) (arg m c main_arg7) (ix2 (row t r) j) := by
  rw [blk7, V30_eq]

end Cert.KernelIdeal.Value
-- ==== Proof.Outs.lean ====
module

public import proofs.«01_k».proof.Proof.Point
public import proofs.«01_k».proof.Proof.Stores

@[expose] public section

set_option maxRecDepth 16384

noncomputable section

/-! The blocks that each grid point writes whole. -/

namespace Cert.KernelIdeal.Value

open Idealize.ShloMosaic Idealize.ShloMosaic.TcCoe Idealize.ShloMosaic.Tactic
open Cert.KernelIdeal Cert.KernelIdeal.Gen Idealize.SL.Sem
open Cert.ReferenceIdeal.Read Cert.Stores

variable (m : (ℓ : Loc nD τ sig) → Buf (Elt Ideal) ℓ) (c : Dev nD) (t : Fin cfg0.N)

theorem out13 (r : Fin 256) (j : Fin 1024) : (outsAt0 m c t.val t.isLt).1 (ix2 r j)
    = val_main_v126 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (ix2 (row t r) j) := by
  by_cases h : t.val % 32 = 0
  · rw [outsAt0_A m c t h h]; dsimp only; frame_out
    exact kdx_at m c t r j
  · rw [outsAt0_B m c t h h]; dsimp only; frame_out
    exact kdx_at m c t r j

theorem out15 (r : Fin 256) (j : Fin 1024) : (outsAt0 m c t.val t.isLt).2.2.1 (ix2 r j)
    = val_main_v174 (F := Ideal) (arg m c main_arg0) (arg m c main_arg12) (ix2 (row t r) j) := by
  by_cases h : t.val % 32 = 0
  · rw [outsAt0_A m c t h h]; dsimp only; frame_out
    rw [v174_at]; exact kdy_at m c t r j
  · rw [outsAt0_B m c t h h]; dsimp only; frame_out
    rw [v174_at]; exact kdy_at m c t r j

theorem out16 (r : Fin 256) (j : Fin 1024) : (outsAt0 m c t.val t.isLt).2.2.2.1 (ix2 r j)
    = val_main_v175 (F := Ideal) (arg m c main_arg1) (arg m c main_arg2) (arg m c main_arg3) (arg m c main_arg4) (arg m c main_arg5) (arg m c main_arg6) (arg m c main_arg7) (arg m c main_arg8) (arg m c main_arg9) (arg m c main_arg10) (arg m c main_arg11) (ix2 (row t r) j) := by
  by_cases h : t.val % 32 = 0
  · rw [outsAt0_A m c t h h]; dsimp only; frame_out
    rw [v175_at]; exact ku_at m c t r j
  · rw [outsAt0_B m c t h h]; dsimp only; frame_out
    rw [v175_at]; exact ku_at m c t r j

theorem out18 (r : Fin 256) (j : Fin 1024) : (outsAt0 m c t.val t.isLt).2.2.2.2.2.1 (ix2 r j)
    = val_main_v168 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (ix2 (row t r) j) := by
  by_cases h : t.val % 32 = 0
  · rw [outsAt0_A m c t h h]; dsimp only; frame_out
    exact kdcv_at m c t r j
  · rw [outsAt0_B m c t h h]; dsimp only; frame_out
    exact kdcv_at m c t r j

theorem out19 (r : Fin 256) (j : Fin 1024) : (outsAt0 m c t.val t.isLt).2.2.2.2.2.2.1 (ix2 r j)
    = val_main_v185 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (ix2 (row t r) j) := by
  by_cases h : t.val % 32 = 0
  · rw [outsAt0_A m c t h h]; dsimp only; frame_out
    rw [v185_at]; exact kdyc_at m c t r j
  · rw [outsAt0_B m c t h h]; dsimp only; frame_out
    rw [v185_at]; exact kdyc_at m c t r j

theorem out14_0 (r : Fin 256) (k : Fin 1024) : (outsAt0 m c t.val t.isLt).2.1 (ix2 r ⟨k.val, by omega⟩)
    = val_main_v173 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (ix2 (row t r) ⟨k.val, by omega⟩) := by
  by_cases h : t.val % 32 = 0
  · rw [outsAt0_A m c t h h]; dsimp only; frame_out
    rw [canon_skip _ _ _ r _ (.inl (by simp only [] <;> omega))]
    rw [canon_skip _ _ _ r _ (.inl (by simp only [] <;> omega))]
    rw [canon_skip _ _ _ r _ (.inl (by simp only [] <;> omega))]
    rw [canon_hit _ _ _ r _ r k (by omega) (by simp only [] <;> omega), v173_at]
    exact kda0 m c t r k
  · rw [outsAt0_B m c t h h]; dsimp only; frame_out
    rw [canon_skip _ _ _ r _ (.inl (by simp only [] <;> omega))]
    rw [canon_skip _ _ _ r _ (.inl (by simp only [] <;> omega))]
    rw [canon_skip _ _ _ r _ (.inl (by simp only [] <;> omega))]
    rw [canon_hit _ _ _ r _ r k (by omega) (by simp only [] <;> omega), v173_at]
    exact kda0 m c t r k

theorem out14_1 (r : Fin 256) (k : Fin 1024) : (outsAt0 m c t.val t.isLt).2.1 (ix2 r ⟨1024 + k.val, by omega⟩)
    = val_main_v173 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (ix2 (row t r) ⟨1024 + k.val, by omega⟩) := by
  by_cases h : t.val % 32 = 0
  · rw [outsAt0_A m c t h h]; dsimp only; frame_out
    rw [canon_skip _ _ _ r _ (.inl (by simp only [] <;> omega))]
    rw [canon_skip _ _ _ r _ (.inl (by simp only [] <;> omega))]
    rw [canon_hit _ _ _ r _ r k (by omega) (by simp only [] <;> omega), v173_at]
    exact kda1 m c t r k
  · rw [outsAt0_B m c t h h]; dsimp only; frame_out
    rw [canon_skip _ _ _ r _ (.inl (by simp only [] <;> omega))]
    rw [canon_skip _ _ _ r _ (.inl (by simp only [] <;> omega))]
    rw [canon_hit _ _ _ r _ r k (by omega) (by simp only [] <;> omega), v173_at]
    exact kda1 m c t r k

theorem out14_2 (r : Fin 256) (k : Fin 1024) : (outsAt0 m c t.val t.isLt).2.1 (ix2 r ⟨2048 + k.val, by omega⟩)
    = val_main_v173 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (ix2 (row t r) ⟨2048 + k.val, by omega⟩) := by
  by_cases h : t.val % 32 = 0
  · rw [outsAt0_A m c t h h]; dsimp only; frame_out
    rw [canon_skip _ _ _ r _ (.inl (by simp only [] <;> omega))]
    rw [canon_hit _ _ _ r _ r k (by omega) (by simp only [] <;> omega), v173_at]
    exact kda2 m c t r k
  · rw [outsAt0_B m c t h h]; dsimp only; frame_out
    rw [canon_skip _ _ _ r _ (.inl (by simp only [] <;> omega))]
    rw [canon_hit _ _ _ r _ r k (by omega) (by simp only [] <;> omega), v173_at]
    exact kda2 m c t r k

theorem out14_3 (r : Fin 256) (k : Fin 1024) : (outsAt0 m c t.val t.isLt).2.1 (ix2 r ⟨3072 + k.val, by omega⟩)
    = val_main_v173 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (ix2 (row t r) ⟨3072 + k.val, by omega⟩) := by
  by_cases h : t.val % 32 = 0
  · rw [outsAt0_A m c t h h]; dsimp only; frame_out
    rw [canon_hit _ _ _ r _ r k (by omega) (by simp only [] <;> omega), v173_at]
    exact kda3 m c t r k
  · rw [outsAt0_B m c t h h]; dsimp only; frame_out
    rw [canon_hit _ _ _ r _ r k (by omega) (by simp only [] <;> omega), v173_at]
    exact kda3 m c t r k

/-- A column of four quarters. -/
theorem out14 (r : Fin 256) (k : Fin 4096) : (outsAt0 m c t.val t.isLt).2.1 (ix2 r k)
    = val_main_v173 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (ix2 (row t r) k) := by
  rcases lt_or_ge k.val 1024 with h | h
  · exact out14_0 m c t r ⟨k.val, h⟩
  rcases lt_or_ge k.val 2048 with h' | h'
  · have := out14_1 m c t r ⟨k.val - 1024, by omega⟩
    rwa [show (⟨1024 + (k.val - 1024), by omega⟩ : Fin 4096) = k from Fin.ext (by simp only []; omega)] at this
  rcases lt_or_ge k.val 3072 with h'' | h''
  · have := out14_2 m c t r ⟨k.val - 2048, by omega⟩
    rwa [show (⟨2048 + (k.val - 2048), by omega⟩ : Fin 4096) = k from Fin.ext (by simp only []; omega)] at this
  · have := out14_3 m c t r ⟨k.val - 3072, by omega⟩
    rwa [show (⟨3072 + (k.val - 3072), by omega⟩ : Fin 4096) = k from Fin.ext (by simp only []; omega)] at this

end Cert.KernelIdeal.Value
-- ==== Proof.Acc.lean ====
module

public import proofs.«01_k».proof.Proof.Point
public import proofs.«01_k».proof.Proof.Stores

@[expose] public section

set_option maxRecDepth 16384

noncomputable section

/-! The parameters' gradients, accumulated over the grid. -/

namespace Cert.KernelIdeal.Value

open Idealize.ShloMosaic Idealize.ShloMosaic.TcCoe Idealize.ShloMosaic.Tactic
open Cert.KernelIdeal Cert.KernelIdeal.Gen Idealize.SL.Sem
open Cert.ReferenceIdeal.Read Cert.Stores

variable (m : (ℓ : Loc nD τ sig) → Buf (Elt Ideal) ℓ) (c : Dev nD) (t : Fin cfg0.N)

theorem rows_sum (f : Fin 8192 → EReal) : ∑ p : Fin cfg0.N, ∑ r : Fin 256, f (row p r) = ∑ i, f i := by
  rw [Fin.sum_univ_tiles 32 256 rfl f]
  refine Finset.sum_congr rfl fun p _ => Finset.sum_congr rfl fun r _ => congrArg f (Fin.ext (by show 256 * p.val + r.val = p.val * 256 + r.val; omega))

/-- One row's summand in the block of window 17, row 0. -/
def g17_0 (i : Fin 8192) (j : Fin 1024) : EReal := Rows.nrm (fun k => val_main_v40 (F := Ideal) (arg m c main_arg1) (arg m c main_arg2) (arg m c main_arg3) (arg m c main_arg4) (arg m c main_arg5) (arg m c main_arg6) (arg m c main_arg7) (arg m c main_arg8) (ix2 i k)) j * Rows.dscl (fun k => arg m c main_arg11 (ix1 k)) (fun k => val_main_v96 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (ix2 i k)) j

theorem zero17_0 (h : t.val % 32 = 0) (j : Fin 1024) : (outsAt0 m c t.val t.isLt).2.2.2.2.1 (ix2 0 j)
    = 0 + ∑ r : Fin 256, g17_0 m c (row t r) j := by
  rw [outsAt0_A m c t h h]; dsimp only; frame_out
  rw [canon_miss _ _ _ 0 _ (by decide), canon_miss _ _ _ 0 _ (by decide), canon_miss _ _ _ 0 _ (by decide), canon_hit _ _ _ 0 _ 0 j (by decide) (by omega), pay35_at, pay32_at, cov_at _ _ _ 0 j 0 j (by decide) (by omega), canon_hit _ _ _ 0 _ 0 j (by decide) (by omega), pay34_at]
  refine congrArg ((0 : EReal) + ·) (Finset.sum_congr rfl fun r _ => ?_)
  refine congrArg₂ (· * ·) ?_ ?_
  · rw [pay10_at]; simp only [kh_at]
  · exact congrArg₂ (fun a b => Rows.dscl a b j) (funext (prm2 m c t)) (funext (kdu_at m c t r))

theorem step17_0 (h : ¬t.val % 32 = 0) (j : Fin 1024) : (outsAt0 m c t.val t.isLt).2.2.2.2.1 (ix2 0 j)
    = (outsAt0 m c (t.val - 1) (Nat.lt_of_le_of_lt (Nat.sub_le _ _) t.isLt)).2.2.2.2.1 (ix2 0 j)
      + ∑ r : Fin 256, g17_0 m c (row t r) j := by
  rw [outsAt0_B m c t h h]; dsimp only; frame_out
  rw [read_miss _ _ _ _ _ 0 _ (by decide), read_miss _ _ _ _ _ 0 _ (by decide), read_miss _ _ _ _ _ 0 _ (by decide), read_hit _ _ _ _ _ 0 _ 0 j (by decide) (by omega), pay35_at, pay32_at]
  refine congrArg₂ (· + ·) ?_ (Finset.sum_congr rfl fun r _ => ?_)
  · exact (ld2 _ _ _ _ (by decide) (by omega)).trans (congrArg _ (by blk_ext))
  refine congrArg₂ (· * ·) ?_ ?_
  · rw [pay10_at]; simp only [kh_at]
  · exact congrArg₂ (fun a b => Rows.dscl a b j) (funext (prm2 m c t)) (funext (kdu_at m c t r))

theorem acc17_0 (h : t.val % 32 = 31) (j : Fin 1024) : (outsAt0 m c t.val t.isLt).2.2.2.2.1 (ix2 0 j)
    = ∑ r : Fin 8192, g17_0 m c r j := by
  rw [Pipeline.eq_sum_fin_of_reset_step_last (fun n h => (outsAt0 m c n h).2.2.2.2.1 (ix2 0 j)) 32 0
    (fun p => ∑ r : Fin 256, g17_0 m c (row p r) j) (fun s h => zero17_0 m c s h j) (fun s h => step17_0 m c s h j)
    (le_of_eq N_0) t (by have := (idx_rows t).2.2.2.2.2.2; have h : cfg0.N = 32 := N_0; omega), zero_add, rows_sum (fun r => g17_0 m c r j)]

/-- One row's summand in the block of window 17, row 1. -/
def g17_1 (i : Fin 8192) (j : Fin 1024) : EReal := val_main_v96 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (ix2 i j)

theorem zero17_1 (h : t.val % 32 = 0) (j : Fin 1024) : (outsAt0 m c t.val t.isLt).2.2.2.2.1 (ix2 1 j)
    = 0 + ∑ r : Fin 256, g17_1 m c (row t r) j := by
  rw [outsAt0_A m c t h h]; dsimp only; frame_out
  rw [canon_miss _ _ _ 1 _ (by decide), canon_miss _ _ _ 1 _ (by decide), canon_hit _ _ _ 1 _ 0 j (by decide) (by omega), pay36_at, pay29_at, cov_at _ _ _ 1 j 0 j (by decide) (by omega), canon_miss _ _ _ 1 _ (by decide), canon_hit _ _ _ 1 _ 1 j (by decide) (by omega), pay34_at]
  refine congrArg ((0 : EReal) + ·) (Finset.sum_congr rfl fun r _ => ?_)
  exact kdu_at m c t r j

theorem step17_1 (h : ¬t.val % 32 = 0) (j : Fin 1024) : (outsAt0 m c t.val t.isLt).2.2.2.2.1 (ix2 1 j)
    = (outsAt0 m c (t.val - 1) (Nat.lt_of_le_of_lt (Nat.sub_le _ _) t.isLt)).2.2.2.2.1 (ix2 1 j)
      + ∑ r : Fin 256, g17_1 m c (row t r) j := by
  rw [outsAt0_B m c t h h]; dsimp only; frame_out
  rw [read_miss _ _ _ _ _ 1 _ (by decide), read_miss _ _ _ _ _ 1 _ (by decide), read_hit _ _ _ _ _ 1 _ 0 j (by decide) (by omega), pay36_at, pay29_at]
  refine congrArg₂ (· + ·) ?_ (Finset.sum_congr rfl fun r _ => ?_)
  · exact (ld2 _ _ _ _ (by decide) (by omega)).trans (congrArg _ (by blk_ext))
  exact kdu_at m c t r j

theorem acc17_1 (h : t.val % 32 = 31) (j : Fin 1024) : (outsAt0 m c t.val t.isLt).2.2.2.2.1 (ix2 1 j)
    = ∑ r : Fin 8192, g17_1 m c r j := by
  rw [Pipeline.eq_sum_fin_of_reset_step_last (fun n h => (outsAt0 m c n h).2.2.2.2.1 (ix2 1 j)) 32 0
    (fun p => ∑ r : Fin 256, g17_1 m c (row p r) j) (fun s h => zero17_1 m c s h j) (fun s h => step17_1 m c s h j)
    (le_of_eq N_0) t (by have := (idx_rows t).2.2.2.2.2.2; have h : cfg0.N = 32 := N_0; omega), zero_add, rows_sum (fun r => g17_1 m c r j)]

/-- One row's summand in the block of window 17, row 2. -/
def g17_2 (i : Fin 8192) (j : Fin 1024) : EReal := Rows.scl (fun k => val_main_v40 (F := Ideal) (arg m c main_arg1) (arg m c main_arg2) (arg m c main_arg3) (arg m c main_arg4) (arg m c main_arg5) (arg m c main_arg6) (arg m c main_arg7) (arg m c main_arg8) (ix2 i k)) (fun k => arg m c main_arg9 (ix1 k)) j * val_main_v96 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (ix2 i j)

theorem zero17_2 (h : t.val % 32 = 0) (j : Fin 1024) : (outsAt0 m c t.val t.isLt).2.2.2.2.1 (ix2 2 j)
    = 0 + ∑ r : Fin 256, g17_2 m c (row t r) j := by
  rw [outsAt0_A m c t h h]; dsimp only; frame_out
  rw [canon_miss _ _ _ 2 _ (by decide), canon_hit _ _ _ 2 _ 0 j (by decide) (by omega), pay37_at, pay30_at, cov_at _ _ _ 2 j 0 j (by decide) (by omega), canon_miss _ _ _ 2 _ (by decide), canon_miss _ _ _ 2 _ (by decide), canon_hit _ _ _ 2 _ 2 j (by decide) (by omega), pay34_at]
  refine congrArg ((0 : EReal) + ·) (Finset.sum_congr rfl fun r _ => ?_)
  rw [pay11_at]
  simp only [g17_2, prm0, kh_at]
  exact congrArg _ (kdu_at m c t r j)

theorem step17_2 (h : ¬t.val % 32 = 0) (j : Fin 1024) : (outsAt0 m c t.val t.isLt).2.2.2.2.1 (ix2 2 j)
    = (outsAt0 m c (t.val - 1) (Nat.lt_of_le_of_lt (Nat.sub_le _ _) t.isLt)).2.2.2.2.1 (ix2 2 j)
      + ∑ r : Fin 256, g17_2 m c (row t r) j := by
  rw [outsAt0_B m c t h h]; dsimp only; frame_out
  rw [read_miss _ _ _ _ _ 2 _ (by decide), read_hit _ _ _ _ _ 2 _ 0 j (by decide) (by omega), pay37_at, pay30_at]
  refine congrArg₂ (· + ·) ?_ (Finset.sum_congr rfl fun r _ => ?_)
  · exact (ld2 _ _ _ _ (by decide) (by omega)).trans (congrArg _ (by blk_ext))
  rw [pay11_at]
  simp only [g17_2, prm0, kh_at]
  exact congrArg _ (kdu_at m c t r j)

theorem acc17_2 (h : t.val % 32 = 31) (j : Fin 1024) : (outsAt0 m c t.val t.isLt).2.2.2.2.1 (ix2 2 j)
    = ∑ r : Fin 8192, g17_2 m c r j := by
  rw [Pipeline.eq_sum_fin_of_reset_step_last (fun n h => (outsAt0 m c n h).2.2.2.2.1 (ix2 2 j)) 32 0
    (fun p => ∑ r : Fin 256, g17_2 m c (row p r) j) (fun s h => zero17_2 m c s h j) (fun s h => step17_2 m c s h j)
    (le_of_eq N_0) t (by have := (idx_rows t).2.2.2.2.2.2; have h : cfg0.N = 32 := N_0; omega), zero_add, rows_sum (fun r => g17_2 m c r j)]

/-- One row's summand in the block of window 17, row 3. -/
def g17_3 (i : Fin 8192) (j : Fin 1024) : EReal := @HMul.hMul EReal EReal EReal _ (arg m c main_arg0 (ix2 i j)) (val_main_v79 (F := Ideal) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg13) (arg m c main_arg14) (ix2 i j))

theorem zero17_3 (h : t.val % 32 = 0) (j : Fin 1024) : (outsAt0 m c t.val t.isLt).2.2.2.2.1 (ix2 3 j)
    = 0 + ∑ r : Fin 256, g17_3 m c (row t r) j := by
  rw [outsAt0_A m c t h h]; dsimp only; frame_out
  rw [canon_hit _ _ _ 3 _ 0 j (by decide) (by omega), pay38_at, cov_at _ _ _ 3 j 0 j (by decide) (by omega), canon_miss _ _ _ 3 _ (by decide), canon_miss _ _ _ 3 _ (by decide), canon_miss _ _ _ 3 _ (by decide), canon_hit _ _ _ 3 _ 3 j (by decide) (by omega), pay34_at]
  refine congrArg ((0 : EReal) + ·) (Finset.sum_congr rfl fun r _ => ?_)
  simp only [g17_3, blk0, ky_at]

theorem step17_3 (h : ¬t.val % 32 = 0) (j : Fin 1024) : (outsAt0 m c t.val t.isLt).2.2.2.2.1 (ix2 3 j)
    = (outsAt0 m c (t.val - 1) (Nat.lt_of_le_of_lt (Nat.sub_le _ _) t.isLt)).2.2.2.2.1 (ix2 3 j)
      + ∑ r : Fin 256, g17_3 m c (row t r) j := by
  rw [outsAt0_B m c t h h]; dsimp only; frame_out
  rw [read_hit _ _ _ _ _ 3 _ 0 j (by decide) (by omega), pay38_at]
  refine congrArg₂ (· + ·) ?_ (Finset.sum_congr rfl fun r _ => ?_)
  · exact (ld2 _ _ _ _ (by decide) (by omega)).trans (congrArg _ (by blk_ext))
  simp only [g17_3, blk0, ky_at]

theorem acc17_3 (h : t.val % 32 = 31) (j : Fin 1024) : (outsAt0 m c t.val t.isLt).2.2.2.2.1 (ix2 3 j)
    = ∑ r : Fin 8192, g17_3 m c r j := by
  rw [Pipeline.eq_sum_fin_of_reset_step_last (fun n h => (outsAt0 m c n h).2.2.2.2.1 (ix2 3 j)) 32 0
    (fun p => ∑ r : Fin 256, g17_3 m c (row p r) j) (fun s h => zero17_3 m c s h j) (fun s h => step17_3 m c s h j)
    (le_of_eq N_0) t (by have := (idx_rows t).2.2.2.2.2.2; have h : cfg0.N = 32 := N_0; omega), zero_add, rows_sum (fun r => g17_3 m c r j)]

theorem acc17_4 (j : Fin 1024) : (outsAt0 m c t.val t.isLt).2.2.2.2.1 (ix2 4 j) = 0 := by
  have := Pipeline.eq_sum_fin_of_reset_step_single (fun n h => (outsAt0 m c n h).2.2.2.2.1 (ix2 4 j)) 32 0 (fun _ => 0)
    (fun t h => by
      rw [outsAt0_A m c t h h]; dsimp only; frame_out
      rw [canon_miss _ _ _ 4 _ (by decide), canon_miss _ _ _ 4 _ (by decide), canon_miss _ _ _ 4 _ (by decide), canon_miss _ _ _ 4 _ (by decide), canon_hit _ _ _ 4 _ 4 j (by decide) (by omega), pay34_at, zero_add])
    (fun t h => by
      rw [outsAt0_B m c t h h]; dsimp only; frame_out
      rw [read_miss _ _ _ _ _ 4 _ (by decide), read_miss _ _ _ _ _ 4 _ (by decide), read_miss _ _ _ _ _ 4 _ (by decide), read_miss _ _ _ _ _ 4 _ (by decide), add_zero, View.writes_nil, Memref.IsWhole.read_unread])
    (le_of_eq N_0) t
  rw [this, Finset.sum_const_zero, zero_add]

theorem acc17_5 (j : Fin 1024) : (outsAt0 m c t.val t.isLt).2.2.2.2.1 (ix2 5 j) = 0 := by
  have := Pipeline.eq_sum_fin_of_reset_step_single (fun n h => (outsAt0 m c n h).2.2.2.2.1 (ix2 5 j)) 32 0 (fun _ => 0)
    (fun t h => by
      rw [outsAt0_A m c t h h]; dsimp only; frame_out
      rw [canon_miss _ _ _ 5 _ (by decide), canon_miss _ _ _ 5 _ (by decide), canon_miss _ _ _ 5 _ (by decide), canon_miss _ _ _ 5 _ (by decide), canon_hit _ _ _ 5 _ 5 j (by decide) (by omega), pay34_at, zero_add])
    (fun t h => by
      rw [outsAt0_B m c t h h]; dsimp only; frame_out
      rw [read_miss _ _ _ _ _ 5 _ (by decide), read_miss _ _ _ _ _ 5 _ (by decide), read_miss _ _ _ _ _ 5 _ (by decide), read_miss _ _ _ _ _ 5 _ (by decide), add_zero, View.writes_nil, Memref.IsWhole.read_unread])
    (le_of_eq N_0) t
  rw [this, Finset.sum_const_zero, zero_add]

theorem acc17_6 (j : Fin 1024) : (outsAt0 m c t.val t.isLt).2.2.2.2.1 (ix2 6 j) = 0 := by
  have := Pipeline.eq_sum_fin_of_reset_step_single (fun n h => (outsAt0 m c n h).2.2.2.2.1 (ix2 6 j)) 32 0 (fun _ => 0)
    (fun t h => by
      rw [outsAt0_A m c t h h]; dsimp only; frame_out
      rw [canon_miss _ _ _ 6 _ (by decide), canon_miss _ _ _ 6 _ (by decide), canon_miss _ _ _ 6 _ (by decide), canon_miss _ _ _ 6 _ (by decide), canon_hit _ _ _ 6 _ 6 j (by decide) (by omega), pay34_at, zero_add])
    (fun t h => by
      rw [outsAt0_B m c t h h]; dsimp only; frame_out
      rw [read_miss _ _ _ _ _ 6 _ (by decide), read_miss _ _ _ _ _ 6 _ (by decide), read_miss _ _ _ _ _ 6 _ (by decide), read_miss _ _ _ _ _ 6 _ (by decide), add_zero, View.writes_nil, Memref.IsWhole.read_unread])
    (le_of_eq N_0) t
  rw [this, Finset.sum_const_zero, zero_add]

theorem acc17_7 (j : Fin 1024) : (outsAt0 m c t.val t.isLt).2.2.2.2.1 (ix2 7 j) = 0 := by
  have := Pipeline.eq_sum_fin_of_reset_step_single (fun n h => (outsAt0 m c n h).2.2.2.2.1 (ix2 7 j)) 32 0 (fun _ => 0)
    (fun t h => by
      rw [outsAt0_A m c t h h]; dsimp only; frame_out
      rw [canon_miss _ _ _ 7 _ (by decide), canon_miss _ _ _ 7 _ (by decide), canon_miss _ _ _ 7 _ (by decide), canon_miss _ _ _ 7 _ (by decide), canon_hit _ _ _ 7 _ 7 j (by decide) (by omega), pay34_at, zero_add])
    (fun t h => by
      rw [outsAt0_B m c t h h]; dsimp only; frame_out
      rw [read_miss _ _ _ _ _ 7 _ (by decide), read_miss _ _ _ _ _ 7 _ (by decide), read_miss _ _ _ _ _ 7 _ (by decide), read_miss _ _ _ _ _ 7 _ (by decide), add_zero, View.writes_nil, Memref.IsWhole.read_unread])
    (le_of_eq N_0) t
  rw [this, Finset.sum_const_zero, zero_add]

/-- One row's summand in the block of window 20, row 0. -/
def g20_0 (i : Fin 8192) (j : Fin 1024) : EReal := val_main_v126 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (ix2 i j) * val_main_v35 (F := Ideal) (arg m c main_arg2) (arg m c main_arg3) (arg m c main_arg4) (arg m c main_arg5) (arg m c main_arg6) (arg m c main_arg7) (ix2 i j)

theorem zero20_0 (h : t.val % 32 = 0) (j : Fin 1024) : (outsAt0 m c t.val t.isLt).2.2.2.2.2.2.2 (ix2 0 j)
    = 0 + ∑ r : Fin 256, g20_0 m c (row t r) j := by
  rw [outsAt0_A m c t h h]; dsimp only; frame_out
  rw [canon_miss _ _ _ 0 _ (by decide), canon_miss _ _ _ 0 _ (by decide), canon_miss _ _ _ 0 _ (by decide), canon_miss _ _ _ 0 _ (by decide), canon_hit _ _ _ 0 _ 0 j (by decide) (by omega), pay54_at, cov_at _ _ _ 0 j 0 j (by decide) (by omega), canon_hit _ _ _ 0 _ 0 j (by decide) (by omega), pay53_at]
  refine congrArg ((0 : EReal) + ·) (Finset.sum_congr rfl fun r _ => ?_)
  rw [kyc_at]
  exact congrArg (· * _) (kdx_at m c t r j)

theorem step20_0 (h : ¬t.val % 32 = 0) (j : Fin 1024) : (outsAt0 m c t.val t.isLt).2.2.2.2.2.2.2 (ix2 0 j)
    = (outsAt0 m c (t.val - 1) (Nat.lt_of_le_of_lt (Nat.sub_le _ _) t.isLt)).2.2.2.2.2.2.2 (ix2 0 j)
      + ∑ r : Fin 256, g20_0 m c (row t r) j := by
  rw [outsAt0_B m c t h h]; dsimp only; frame_out
  rw [read_miss _ _ _ _ _ 0 _ (by decide), read_miss _ _ _ _ _ 0 _ (by decide), read_miss _ _ _ _ _ 0 _ (by decide), read_miss _ _ _ _ _ 0 _ (by decide), read_hit _ _ _ _ _ 0 _ 0 j (by decide) (by omega), pay54_at]
  refine congrArg₂ (· + ·) ?_ (Finset.sum_congr rfl fun r _ => ?_)
  · exact (ld2 _ _ _ _ (by decide) (by omega)).trans (congrArg _ (by blk_ext))
  rw [kyc_at]
  exact congrArg (· * _) (kdx_at m c t r j)

theorem acc20_0 (h : t.val % 32 = 31) (j : Fin 1024) : (outsAt0 m c t.val t.isLt).2.2.2.2.2.2.2 (ix2 0 j)
    = ∑ r : Fin 8192, g20_0 m c r j := by
  rw [Pipeline.eq_sum_fin_of_reset_step_last (fun n h => (outsAt0 m c n h).2.2.2.2.2.2.2 (ix2 0 j)) 32 0
    (fun p => ∑ r : Fin 256, g20_0 m c (row p r) j) (fun s h => zero20_0 m c s h j) (fun s h => step20_0 m c s h j)
    (le_of_eq N_0) t (by have := (idx_rows t).2.2.2.2.2.2; have h : cfg0.N = 32 := N_0; omega), zero_add, rows_sum (fun r => g20_0 m c r j)]

/-- One row's summand in the block of window 20, row 1. -/
def g20_1 (i : Fin 8192) (j : Fin 1024) : EReal := val_main_v128 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (ix2 i j)

theorem zero20_1 (h : t.val % 32 = 0) (j : Fin 1024) : (outsAt0 m c t.val t.isLt).2.2.2.2.2.2.2 (ix2 1 j)
    = 0 + ∑ r : Fin 256, g20_1 m c (row t r) j := by
  rw [outsAt0_A m c t h h]; dsimp only; frame_out
  rw [canon_miss _ _ _ 1 _ (by decide), canon_miss _ _ _ 1 _ (by decide), canon_miss _ _ _ 1 _ (by decide), canon_hit _ _ _ 1 _ 0 j (by decide) (by omega), pay1_at, cov_at _ _ _ 1 j 0 j (by decide) (by omega), canon_miss _ _ _ 1 _ (by decide), canon_hit _ _ _ 1 _ 1 j (by decide) (by omega), pay53_at]
  refine congrArg ((0 : EReal) + ·) (Finset.sum_congr rfl fun r _ => ?_)
  rw [g20_1, ← kdyc_at]
  rfl

theorem step20_1 (h : ¬t.val % 32 = 0) (j : Fin 1024) : (outsAt0 m c t.val t.isLt).2.2.2.2.2.2.2 (ix2 1 j)
    = (outsAt0 m c (t.val - 1) (Nat.lt_of_le_of_lt (Nat.sub_le _ _) t.isLt)).2.2.2.2.2.2.2 (ix2 1 j)
      + ∑ r : Fin 256, g20_1 m c (row t r) j := by
  rw [outsAt0_B m c t h h]; dsimp only; frame_out
  rw [read_miss _ _ _ _ _ 1 _ (by decide), read_miss _ _ _ _ _ 1 _ (by decide), read_miss _ _ _ _ _ 1 _ (by decide), read_hit _ _ _ _ _ 1 _ 0 j (by decide) (by omega), pay1_at]
  refine congrArg₂ (· + ·) ?_ (Finset.sum_congr rfl fun r _ => ?_)
  · exact (ld2 _ _ _ _ (by decide) (by omega)).trans (congrArg _ (by blk_ext))
  rw [g20_1, ← kdyc_at]
  rfl

theorem acc20_1 (h : t.val % 32 = 31) (j : Fin 1024) : (outsAt0 m c t.val t.isLt).2.2.2.2.2.2.2 (ix2 1 j)
    = ∑ r : Fin 8192, g20_1 m c r j := by
  rw [Pipeline.eq_sum_fin_of_reset_step_last (fun n h => (outsAt0 m c n h).2.2.2.2.2.2.2 (ix2 1 j)) 32 0
    (fun p => ∑ r : Fin 256, g20_1 m c (row p r) j) (fun s h => zero20_1 m c s h j) (fun s h => step20_1 m c s h j)
    (le_of_eq N_0) t (by have := (idx_rows t).2.2.2.2.2.2; have h : cfg0.N = 32 := N_0; omega), zero_add, rows_sum (fun r => g20_1 m c r j)]

/-- One row's summand in the block of window 20, row 2. -/
def g20_2 (i : Fin 8192) (j : Fin 1024) : EReal := Rows.nrm (Rows.cent (fun k => val_main_v4 (F := Ideal) (arg m c main_arg2) (arg m c main_arg3) (ix2 i k))) j * Rows.dz (fun k => val_main_v4 (F := Ideal) (arg m c main_arg2) (arg m c main_arg3) (ix2 i k)) (fun k => arg m c main_arg4 (ix1 k)) (fun k => arg m c main_arg5 (ix1 k)) (fun k => val_main_v136 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (ix2 i k)) j

theorem zero20_2 (h : t.val % 32 = 0) (j : Fin 1024) : (outsAt0 m c t.val t.isLt).2.2.2.2.2.2.2 (ix2 2 j)
    = 0 + ∑ r : Fin 256, g20_2 m c (row t r) j := by
  rw [outsAt0_A m c t h h]; dsimp only; frame_out
  rw [canon_miss _ _ _ 2 _ (by decide), canon_miss _ _ _ 2 _ (by decide), canon_hit _ _ _ 2 _ 0 j (by decide) (by omega), pay2_at, pay50_at, cov_at _ _ _ 2 j 0 j (by decide) (by omega), canon_miss _ _ _ 2 _ (by decide), canon_miss _ _ _ 2 _ (by decide), canon_hit _ _ _ 2 _ 2 j (by decide) (by omega), pay53_at]
  refine congrArg ((0 : EReal) + ·) (Finset.sum_congr rfl fun r _ => ?_)
  simp only [g20_2, kcv_at, lng, lnb, wc_at, v136_at, ← kdyc_at]
  rfl

theorem step20_2 (h : ¬t.val % 32 = 0) (j : Fin 1024) : (outsAt0 m c t.val t.isLt).2.2.2.2.2.2.2 (ix2 2 j)
    = (outsAt0 m c (t.val - 1) (Nat.lt_of_le_of_lt (Nat.sub_le _ _) t.isLt)).2.2.2.2.2.2.2 (ix2 2 j)
      + ∑ r : Fin 256, g20_2 m c (row t r) j := by
  rw [outsAt0_B m c t h h]; dsimp only; frame_out
  rw [read_miss _ _ _ _ _ 2 _ (by decide), read_miss _ _ _ _ _ 2 _ (by decide), read_hit _ _ _ _ _ 2 _ 0 j (by decide) (by omega), pay2_at, pay50_at]
  refine congrArg₂ (· + ·) ?_ (Finset.sum_congr rfl fun r _ => ?_)
  · exact (ld2 _ _ _ _ (by decide) (by omega)).trans (congrArg _ (by blk_ext))
  simp only [g20_2, kcv_at, lng, lnb, wc_at, v136_at, ← kdyc_at]
  rfl

theorem acc20_2 (h : t.val % 32 = 31) (j : Fin 1024) : (outsAt0 m c t.val t.isLt).2.2.2.2.2.2.2 (ix2 2 j)
    = ∑ r : Fin 8192, g20_2 m c r j := by
  rw [Pipeline.eq_sum_fin_of_reset_step_last (fun n h => (outsAt0 m c n h).2.2.2.2.2.2.2 (ix2 2 j)) 32 0
    (fun p => ∑ r : Fin 256, g20_2 m c (row p r) j) (fun s h => zero20_2 m c s h j) (fun s h => step20_2 m c s h j)
    (le_of_eq N_0) t (by have := (idx_rows t).2.2.2.2.2.2; have h : cfg0.N = 32 := N_0; omega), zero_add, rows_sum (fun r => g20_2 m c r j)]

/-- One row's summand in the block of window 20, row 3. -/
def g20_3 (i : Fin 8192) (j : Fin 1024) : EReal := Rows.dz (fun k => val_main_v4 (F := Ideal) (arg m c main_arg2) (arg m c main_arg3) (ix2 i k)) (fun k => arg m c main_arg4 (ix1 k)) (fun k => arg m c main_arg5 (ix1 k)) (fun k => val_main_v136 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (ix2 i k)) j

theorem zero20_3 (h : t.val % 32 = 0) (j : Fin 1024) : (outsAt0 m c t.val t.isLt).2.2.2.2.2.2.2 (ix2 3 j)
    = 0 + ∑ r : Fin 256, g20_3 m c (row t r) j := by
  rw [outsAt0_A m c t h h]; dsimp only; frame_out
  rw [canon_miss _ _ _ 3 _ (by decide), canon_hit _ _ _ 3 _ 0 j (by decide) (by omega), pay3_at, pay49_at, cov_at _ _ _ 3 j 0 j (by decide) (by omega), canon_miss _ _ _ 3 _ (by decide), canon_miss _ _ _ 3 _ (by decide), canon_miss _ _ _ 3 _ (by decide), canon_hit _ _ _ 3 _ 3 j (by decide) (by omega), pay53_at]
  refine congrArg ((0 : EReal) + ·) (Finset.sum_congr rfl fun r _ => ?_)
  simp only [g20_3, kcv_at, lng, lnb, wc_at, v136_at, ← kdyc_at]
  rfl

theorem step20_3 (h : ¬t.val % 32 = 0) (j : Fin 1024) : (outsAt0 m c t.val t.isLt).2.2.2.2.2.2.2 (ix2 3 j)
    = (outsAt0 m c (t.val - 1) (Nat.lt_of_le_of_lt (Nat.sub_le _ _) t.isLt)).2.2.2.2.2.2.2 (ix2 3 j)
      + ∑ r : Fin 256, g20_3 m c (row t r) j := by
  rw [outsAt0_B m c t h h]; dsimp only; frame_out
  rw [read_miss _ _ _ _ _ 3 _ (by decide), read_hit _ _ _ _ _ 3 _ 0 j (by decide) (by omega), pay3_at, pay49_at]
  refine congrArg₂ (· + ·) ?_ (Finset.sum_congr rfl fun r _ => ?_)
  · exact (ld2 _ _ _ _ (by decide) (by omega)).trans (congrArg _ (by blk_ext))
  simp only [g20_3, kcv_at, lng, lnb, wc_at, v136_at, ← kdyc_at]
  rfl

theorem acc20_3 (h : t.val % 32 = 31) (j : Fin 1024) : (outsAt0 m c t.val t.isLt).2.2.2.2.2.2.2 (ix2 3 j)
    = ∑ r : Fin 8192, g20_3 m c r j := by
  rw [Pipeline.eq_sum_fin_of_reset_step_last (fun n h => (outsAt0 m c n h).2.2.2.2.2.2.2 (ix2 3 j)) 32 0
    (fun p => ∑ r : Fin 256, g20_3 m c (row p r) j) (fun s h => zero20_3 m c s h j) (fun s h => step20_3 m c s h j)
    (le_of_eq N_0) t (by have := (idx_rows t).2.2.2.2.2.2; have h : cfg0.N = 32 := N_0; omega), zero_add, rows_sum (fun r => g20_3 m c r j)]

/-- One row's summand in the block of window 20, row 4. -/
def g20_4 (i : Fin 8192) (j : Fin 1024) : EReal := val_main_v168 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (ix2 i j)

theorem zero20_4 (h : t.val % 32 = 0) (j : Fin 1024) : (outsAt0 m c t.val t.isLt).2.2.2.2.2.2.2 (ix2 4 j)
    = 0 + ∑ r : Fin 256, g20_4 m c (row t r) j := by
  rw [outsAt0_A m c t h h]; dsimp only; frame_out
  rw [canon_hit _ _ _ 4 _ 0 j (by decide) (by omega), pay4_at, cov_at _ _ _ 4 j 0 j (by decide) (by omega), canon_miss _ _ _ 4 _ (by decide), canon_miss _ _ _ 4 _ (by decide), canon_miss _ _ _ 4 _ (by decide), canon_miss _ _ _ 4 _ (by decide), canon_hit _ _ _ 4 _ 4 j (by decide) (by omega), pay53_at]
  refine congrArg ((0 : EReal) + ·) (Finset.sum_congr rfl fun r _ => ?_)
  exact kdcv_at m c t r j

theorem step20_4 (h : ¬t.val % 32 = 0) (j : Fin 1024) : (outsAt0 m c t.val t.isLt).2.2.2.2.2.2.2 (ix2 4 j)
    = (outsAt0 m c (t.val - 1) (Nat.lt_of_le_of_lt (Nat.sub_le _ _) t.isLt)).2.2.2.2.2.2.2 (ix2 4 j)
      + ∑ r : Fin 256, g20_4 m c (row t r) j := by
  rw [outsAt0_B m c t h h]; dsimp only; frame_out
  rw [read_hit _ _ _ _ _ 4 _ 0 j (by decide) (by omega), pay4_at]
  refine congrArg₂ (· + ·) ?_ (Finset.sum_congr rfl fun r _ => ?_)
  · exact (ld2 _ _ _ _ (by decide) (by omega)).trans (congrArg _ (by blk_ext))
  exact kdcv_at m c t r j

theorem acc20_4 (h : t.val % 32 = 31) (j : Fin 1024) : (outsAt0 m c t.val t.isLt).2.2.2.2.2.2.2 (ix2 4 j)
    = ∑ r : Fin 8192, g20_4 m c r j := by
  rw [Pipeline.eq_sum_fin_of_reset_step_last (fun n h => (outsAt0 m c n h).2.2.2.2.2.2.2 (ix2 4 j)) 32 0
    (fun p => ∑ r : Fin 256, g20_4 m c (row p r) j) (fun s h => zero20_4 m c s h j) (fun s h => step20_4 m c s h j)
    (le_of_eq N_0) t (by have := (idx_rows t).2.2.2.2.2.2; have h : cfg0.N = 32 := N_0; omega), zero_add, rows_sum (fun r => g20_4 m c r j)]

theorem acc20_5 (j : Fin 1024) : (outsAt0 m c t.val t.isLt).2.2.2.2.2.2.2 (ix2 5 j) = 0 := by
  have := Pipeline.eq_sum_fin_of_reset_step_single (fun n h => (outsAt0 m c n h).2.2.2.2.2.2.2 (ix2 5 j)) 32 0 (fun _ => 0)
    (fun t h => by
      rw [outsAt0_A m c t h h]; dsimp only; frame_out
      rw [canon_miss _ _ _ 5 _ (by decide), canon_miss _ _ _ 5 _ (by decide), canon_miss _ _ _ 5 _ (by decide), canon_miss _ _ _ 5 _ (by decide), canon_miss _ _ _ 5 _ (by decide), canon_hit _ _ _ 5 _ 5 j (by decide) (by omega), pay53_at, zero_add])
    (fun t h => by
      rw [outsAt0_B m c t h h]; dsimp only; frame_out
      rw [read_miss _ _ _ _ _ 5 _ (by decide), read_miss _ _ _ _ _ 5 _ (by decide), read_miss _ _ _ _ _ 5 _ (by decide), read_miss _ _ _ _ _ 5 _ (by decide), read_miss _ _ _ _ _ 5 _ (by decide), add_zero, View.writes_nil, Memref.IsWhole.read_unread])
    (le_of_eq N_0) t
  rw [this, Finset.sum_const_zero, zero_add]

theorem acc20_6 (j : Fin 1024) : (outsAt0 m c t.val t.isLt).2.2.2.2.2.2.2 (ix2 6 j) = 0 := by
  have := Pipeline.eq_sum_fin_of_reset_step_single (fun n h => (outsAt0 m c n h).2.2.2.2.2.2.2 (ix2 6 j)) 32 0 (fun _ => 0)
    (fun t h => by
      rw [outsAt0_A m c t h h]; dsimp only; frame_out
      rw [canon_miss _ _ _ 6 _ (by decide), canon_miss _ _ _ 6 _ (by decide), canon_miss _ _ _ 6 _ (by decide), canon_miss _ _ _ 6 _ (by decide), canon_miss _ _ _ 6 _ (by decide), canon_hit _ _ _ 6 _ 6 j (by decide) (by omega), pay53_at, zero_add])
    (fun t h => by
      rw [outsAt0_B m c t h h]; dsimp only; frame_out
      rw [read_miss _ _ _ _ _ 6 _ (by decide), read_miss _ _ _ _ _ 6 _ (by decide), read_miss _ _ _ _ _ 6 _ (by decide), read_miss _ _ _ _ _ 6 _ (by decide), read_miss _ _ _ _ _ 6 _ (by decide), add_zero, View.writes_nil, Memref.IsWhole.read_unread])
    (le_of_eq N_0) t
  rw [this, Finset.sum_const_zero, zero_add]

theorem acc20_7 (j : Fin 1024) : (outsAt0 m c t.val t.isLt).2.2.2.2.2.2.2 (ix2 7 j) = 0 := by
  have := Pipeline.eq_sum_fin_of_reset_step_single (fun n h => (outsAt0 m c n h).2.2.2.2.2.2.2 (ix2 7 j)) 32 0 (fun _ => 0)
    (fun t h => by
      rw [outsAt0_A m c t h h]; dsimp only; frame_out
      rw [canon_miss _ _ _ 7 _ (by decide), canon_miss _ _ _ 7 _ (by decide), canon_miss _ _ _ 7 _ (by decide), canon_miss _ _ _ 7 _ (by decide), canon_miss _ _ _ 7 _ (by decide), canon_hit _ _ _ 7 _ 7 j (by decide) (by omega), pay53_at, zero_add])
    (fun t h => by
      rw [outsAt0_B m c t h h]; dsimp only; frame_out
      rw [read_miss _ _ _ _ _ 7 _ (by decide), read_miss _ _ _ _ _ 7 _ (by decide), read_miss _ _ _ _ _ 7 _ (by decide), read_miss _ _ _ _ _ 7 _ (by decide), read_miss _ _ _ _ _ 7 _ (by decide), add_zero, View.writes_nil, Memref.IsWhole.read_unread])
    (le_of_eq N_0) t
  rw [this, Finset.sum_const_zero, zero_add]

end Cert.KernelIdeal.Value
-- ==== Proof.Final.lean ====
module

public import proofs.«01_k».proof.Proof.Outs
public import proofs.«01_k».proof.Proof.Acc

@[expose] public section

set_option maxRecDepth 16384

noncomputable section

/-! The kernel's results are the reference's, array by array. -/

namespace Cert.KernelIdeal.Value

open Idealize.ShloMosaic Idealize.ShloMosaic.TcCoe Idealize.ShloMosaic.Tactic
open Cert.KernelIdeal Cert.KernelIdeal.Gen Idealize.SL.Sem
open Cert.ReferenceIdeal.Read

theorem eight (P : Fin 8 → Prop) (h0 : P 0) (h1 : P 1) (h2 : P 2) (h3 : P 3) (h4 : P 4) (h5 : P 5) (h6 : P 6) (h7 : P 7) :
    ∀ i, P i
  | ⟨0, _⟩ => h0
  | ⟨1, _⟩ => h1
  | ⟨2, _⟩ => h2
  | ⟨3, _⟩ => h3
  | ⟨4, _⟩ => h4
  | ⟨5, _⟩ => h5
  | ⟨6, _⟩ => h6
  | ⟨7, _⟩ => h7

variable (m : (ℓ : Loc nD τ sig) → Buf (Elt Ideal) ℓ) (c : Dev nD)

theorem final13 : (dats m 0 c).arrAt 13 cfg0.N = val_main_v126 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) := by
  refine (dats m 0 c).arrAt_eq_of_covers 13 _ (by decide +kernel) fun t hf y => ?_
  blk_simp
  rw [after0_13]
  idx_vars y
  refine (out13 m c t y0 y1).trans (congrArg _ ?_)
  blk_ext [idx_outs t, row]

theorem final14 : (dats m 0 c).arrAt 14 cfg0.N = val_main_v173 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) := by
  refine (dats m 0 c).arrAt_eq_of_covers 14 _ (by decide +kernel) fun t hf y => ?_
  blk_simp
  rw [after0_14]
  idx_vars y
  refine (out14 m c t y0 y1).trans (congrArg _ ?_)
  blk_ext [idx_outs t, row]

theorem final15 : (dats m 0 c).arrAt 15 cfg0.N = val_main_v174 (F := Ideal) (arg m c main_arg0) (arg m c main_arg12) := by
  refine (dats m 0 c).arrAt_eq_of_covers 15 _ (by decide +kernel) fun t hf y => ?_
  blk_simp
  rw [after0_15]
  idx_vars y
  refine (out15 m c t y0 y1).trans (congrArg _ ?_)
  blk_ext [idx_outs t, row]

theorem final16 : (dats m 0 c).arrAt 16 cfg0.N = val_main_v175 (F := Ideal) (arg m c main_arg1) (arg m c main_arg2) (arg m c main_arg3) (arg m c main_arg4) (arg m c main_arg5) (arg m c main_arg6) (arg m c main_arg7) (arg m c main_arg8) (arg m c main_arg9) (arg m c main_arg10) (arg m c main_arg11) := by
  refine (dats m 0 c).arrAt_eq_of_covers 16 _ (by decide +kernel) fun t hf y => ?_
  blk_simp
  rw [after0_16]
  idx_vars y
  refine (out16 m c t y0 y1).trans (congrArg _ ?_)
  blk_ext [idx_outs t, row]

theorem final18 : (dats m 0 c).arrAt 18 cfg0.N = val_main_v168 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) := by
  refine (dats m 0 c).arrAt_eq_of_covers 18 _ (by decide +kernel) fun t hf y => ?_
  blk_simp
  rw [after0_18]
  idx_vars y
  refine (out18 m c t y0 y1).trans (congrArg _ ?_)
  blk_ext [idx_outs t, row]

theorem final19 : (dats m 0 c).arrAt 19 cfg0.N = val_main_v185 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) := by
  refine (dats m 0 c).arrAt_eq_of_covers 19 _ (by decide +kernel) fun t hf y => ?_
  blk_simp
  rw [after0_19]
  idx_vars y
  refine (out19 m c t y0 y1).trans (congrArg _ ?_)
  blk_ext [idx_outs t, row]

theorem out17 (t : Fin cfg0.N) (h : t.val % 32 = 31) (i : Fin 8) (j : Fin 1024) :
    (outsAt0 m c t.val t.isLt).2.2.2.2.1 (ix2 i j) = val_main_v184 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (ix2 i j) := by
  refine eight (fun i => (outsAt0 m c t.val t.isLt).2.2.2.2.1 (ix2 i j) = val_main_v184 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (ix2 i j)) ?_ ?_ ?_ ?_ ?_ ?_ ?_ ?_ i
  · exact (acc17_0 m c t h j).trans (by rw [v184_at0]; rfl)
  · exact (acc17_1 m c t h j).trans (by rw [v184_at1]; rfl)
  · exact (acc17_2 m c t h j).trans (by rw [v184_at2]; rfl)
  · exact (acc17_3 m c t h j).trans (by rw [v184_at3]; rfl)
  · exact (acc17_4 m c t j).trans (by rw [v184_at4])
  · exact (acc17_5 m c t j).trans (by rw [v184_at5])
  · exact (acc17_6 m c t j).trans (by rw [v184_at6])
  · exact (acc17_7 m c t j).trans (by rw [v184_at7])

theorem final17 : (dats m 0 c).arrAt 17 cfg0.N = val_main_v184 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) := by
  refine (dats m 0 c).arrAt_eq_of_covers 17 _ (by decide +kernel) fun t hf y => ?_
  blk_simp
  rw [after0_17]
  idx_vars y
  refine (out17 m c t ((flush0_17 t).mp hf) y0 y1).trans (congrArg _ ?_)
  blk_ext [idx_outs t]

theorem out20 (t : Fin cfg0.N) (h : t.val % 32 = 31) (i : Fin 8) (j : Fin 1024) :
    (outsAt0 m c t.val t.isLt).2.2.2.2.2.2.2 (ix2 i j) = val_main_v194 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (ix2 i j) := by
  refine eight (fun i => (outsAt0 m c t.val t.isLt).2.2.2.2.2.2.2 (ix2 i j) = val_main_v194 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (ix2 i j)) ?_ ?_ ?_ ?_ ?_ ?_ ?_ ?_ i
  · exact (acc20_0 m c t h j).trans (by rw [v194_at0]; rfl)
  · exact (acc20_1 m c t h j).trans (by rw [v194_at1]; rfl)
  · exact (acc20_2 m c t h j).trans (by rw [v194_at2]; rfl)
  · exact (acc20_3 m c t h j).trans (by rw [v194_at3]; rfl)
  · exact (acc20_4 m c t h j).trans (by rw [v194_at4]; rfl)
  · exact (acc20_5 m c t j).trans (by rw [v194_at5])
  · exact (acc20_6 m c t j).trans (by rw [v194_at6])
  · exact (acc20_7 m c t j).trans (by rw [v194_at7])

theorem final20 : (dats m 0 c).arrAt 20 cfg0.N = val_main_v194 (F := Ideal) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) := by
  refine (dats m 0 c).arrAt_eq_of_covers 20 _ (by decide +kernel) fun t hf y => ?_
  blk_simp
  rw [after0_20]
  idx_vars y
  refine (out20 m c t ((flush0_20 t).mp hf) y0 y1).trans (congrArg _ ?_)
  blk_ext [idx_outs t]

end Cert.KernelIdeal.Value
-- ==== Proof.Tn2.lean ====
module

public import proofs.«01_k».proof.Proof.Gen.Kernel2Ideal.Value
public import proofs.«01_k».proof.Proof.Stores
public import Idealize.ShloMosaic.Lib.Pointwise
public import Idealize.ShloMosaic.Lib.Pipeline.ValueKit

@[expose] public section

set_option maxRecDepth 16384

noncomputable section

/-! The gradient of the first weight of the MLP: the product of the transposed input with the gradient of the
hidden layer, accumulated over eight tiles of 1024 rows, in four shards of columns. -/

namespace Cert.Kernel2Ideal.Value

open Idealize.ShloMosaic Idealize.ShloMosaic.TcCoe Idealize.ShloMosaic.Tactic
open Cert.Kernel2Ideal Cert.Kernel2Ideal.Gen Idealize.SL.Sem
open Cert.Stores

theorem idx_all : ∀ t : Fin cfg0.N, win0_0.index t = ![t.val % 8, 0] ∧ win0_1.index t = ![t.val % 8, t.val / 8]
    ∧ win0_2.index t = ![t.val / 8, 0, 0] ∧ t.val < 32 :=
  (by decide +kernel : ∀ t : Fin grid0.N, _)

/-- Row `k` of tile `s`. -/
def row (s : ℕ) (hs : s < 8) (k : Fin 1024) : Fin 8192 := ⟨1024 * s + k.val, by omega⟩
/-- Column `j` of shard `q`. -/
def col (q : ℕ) (hq : q < 4) (j : Fin 1024) : Fin 4096 := ⟨1024 * q + j.val, by omega⟩

theorem pay1_at (i j : Fin 1024) : k0_pay1 (F := Ideal) (ix2 i j) = 0 := by
  pointwise [k0_pay1]

theorem pay2_at (y x z) (i j : Fin 1024) : k0_pay2 (F := Ideal) y x z (ix2 i j)
    = x (ix2 i j) + ∑ k : Fin 1024, y (ix2 k i) * z (ix2 k j) := by
  pointwise [k0_pay2]

theorem pay3_at (x) (i j : Fin 1024) : k0_pay3 (F := Ideal) x (ix3 0 i j) = x (ix2 i j) := by
  pointwise [k0_pay3]

variable (m : (ℓ : Loc nD τ sig) → Buf (Elt Ideal) ℓ) (c : Dev nD) (t : Fin cfg0.N)

theorem blk0 (k i : Fin 1024) : iblk m c 0 t (ix2 k i)
    = m ((c.tc : Thread nD τ).loc main_arg0) (ix2 (row (t.val % 8) (Nat.mod_lt _ (by decide)) k) i) := by
  blk_ext [iblk, V, idx_all t, row]

theorem blk1 (k j : Fin 1024) : iblk m c 1 t (ix2 k j)
    = m ((c.tc : Thread nD τ).loc main_arg1) (ix2 (row (t.val % 8) (Nat.mod_lt _ (by decide)) k)
        (col (t.val / 8) (by have := (idx_all t).2.2.2; omega) j)) := by
  blk_ext [iblk, V, idx_all t, row, col]

/-- The first factor. -/
abbrev argA : S8192x1024.Idx → EReal := m ((c.tc : Thread nD τ).loc main_arg0)
/-- The second factor. -/
abbrev argB : S8192x4096.Idx → EReal := m ((c.tc : Thread nD τ).loc main_arg1)

/-- What tile `t` adds to the product. -/
def term (i j : Fin 1024) : EReal :=
  ∑ k : Fin 1024, argA m c (ix2 (row (t.val % 8) (Nat.mod_lt _ (by decide)) k) i)
    * argB m c (ix2 (row (t.val % 8) (Nat.mod_lt _ (by decide)) k)
        (col (t.val / 8) (by have := (idx_all t).2.2.2; omega) j))

theorem tile (i j : Fin 1024) : ∑ k : Fin 1024, @HMul.hMul EReal EReal EReal _ (iblk m c 0 t (ix2 k i)) (iblk m c 1 t (ix2 k j)) = term m c t i j :=
  Finset.sum_congr rfl fun k _ => congrArg₂ (fun x y : EReal => x * y) (blk0 m c t k i) (blk1 m c t k j)

theorem scratch_zero (h : t.val % 8 = 0) (i j : Fin 1024) : (outsAt0 m c t.val t.isLt).2 (ix2 i j) = 0 + term m c t i j := by
  rw [outsAt0_A m c t h (by omega)]; dsimp only; frame_out
  rw [pay2_at, pay1_at]
  exact congrArg _ (tile m c t i j)

theorem scratch_step (h : ¬t.val % 8 = 0) (i j : Fin 1024) : (outsAt0 m c t.val t.isLt).2 (ix2 i j)
    = (outsAt0 m c (t.val - 1) (Nat.lt_of_le_of_lt (Nat.sub_le _ _) t.isLt)).2 (ix2 i j) + term m c t i j := by
  by_cases h1 : t.val % 8 = 7
  · rw [outsAt0_C m c t h h1]; dsimp only; frame_out
    rw [pay2_at]
    exact congrArg₂ (fun x y : EReal => x + y) (congrFun (Memref.IsWhole.read_unread _ _) _) (tile m c t i j)
  · rw [outsAt0_B m c t h h1]; dsimp only; frame_out
    rw [pay2_at]
    exact congrArg₂ (fun x y : EReal => x + y) (congrFun (Memref.IsWhole.read_unread _ _) _) (tile m c t i j)

theorem out_last (h1 : t.val % 8 = 7) (i j : Fin 1024) : (outsAt0 m c t.val t.isLt).1 (ix3 0 i j)
    = (outsAt0 m c t.val t.isLt).2 (ix2 i j) := by
  rw [outsAt0_C m c t (by omega) h1]; dsimp only; frame_out
  exact pay3_at _ i j

/-- The gradient of the weight, in four shards of columns. -/
def grad (a : S8192x1024.Idx → EReal) (b : S8192x4096.Idx → EReal) : S4x1024x1024.Idx → EReal := fun x =>
  ∑ r : Fin 8192, a (ix2 r (x 1)) * b (ix2 r (col (x 0).val (x 0).isLt (x 2)))

theorem out_at (h1 : t.val % 8 = 7) (i j : Fin 1024) : (outsAt0 m c t.val t.isLt).1 (ix3 0 i j)
    = grad (argA m c) (argB m c) (ix3 ⟨t.val / 8, by have := (idx_all t).2.2.2; omega⟩ i j) := by
  have hN : cfg0.N = 32 := N_0
  have ht := t.isLt
  rw [out_last m c t h1, Pipeline.eq_sum_fin_of_reset_step_of_flush (fun n h => (outsAt0 m c n h).2 (ix2 i j)) 8 0
    (fun p => term m c p i j) (fun s h => scratch_zero m c s h i j) (fun s h => scratch_step m c s h i j) t h1, zero_add]
  unfold grad
  rw [Fin.sum_univ_tiles 8 1024 rfl]
  refine Finset.sum_congr rfl fun s _ => Finset.sum_congr rfl fun k _ => ?_
  have h8 : (8 * (t.val / 8) + s.val) % 8 = s.val := by omega
  have hd : (8 * (t.val / 8) + s.val) / 8 = t.val / 8 := by omega
  refine congrArg₂ (· * ·) (congrArg _ ?_) (congrArg _ ?_)
  · blk_ext [row, h8]
  · blk_ext [row, col, h8, hd]

theorem final : (dats m 0 c).arrAt 2 cfg0.N = grad (argA m c) (argB m c) := by
  refine (dats m 0 c).arrAt_eq_of_covers 2 _ (by decide +kernel) fun t hf y => ?_
  blk_simp
  rw [after0_2]
  idx_vars y
  have h0 : y0 = 0 := Subsingleton.elim _ _
  subst h0
  refine (out_at m c t ((flush0_2 t).mp hf) y1 y2).trans (congrArg _ ?_)
  blk_ext [idx_all t]

end Cert.Kernel2Ideal.Value
-- ==== Proof.Ref2.lean ====
module

public import proofs.«01_k».proof.Proof.Gen.Reference2Ideal.Run
public import proofs.«01_k».proof.Proof.Tn2

@[expose] public section

set_option maxRecDepth 16384

noncomputable section

/-! The reference's gradient of the first weight of the MLP, read at an index. -/

namespace Cert.Reference2Ideal.Value

open Idealize.ShloMosaic Idealize.ShloMosaic.TcCoe Idealize.ShloMosaic.Tactic Idealize.ShloMosaic.StableHlo
open Cert.Reference2Ideal Cert.Reference2Ideal.Gen Idealize.SL.Sem

/-- The reference's result as a function of its arguments. -/
def dw (a : FVec Ideal S8192x1024 .bf16) (b : FVec Ideal S8192x4096 .bf16) : FVec Ideal S4x1024x1024 .bf16 :=
  transpose S4x1024x1024 [1, 0, 2] (shapeCast _ (truncf .bf16 (transpose S1024x4096 [1, 0] (Host.dotGeneral dot_S8192x4096_S8192x1024_S4096x1024_0_0_1_1_n_n none (extf .f32 b bitsLt_bf16_f32) (extf .f32 a bitsLt_bf16_f32)) transposes_S4096x1024_S1024x4096_1_0) bitsLt_bf16_f32) shapeCasts_S1024x4096_S1024x4x1024) transposes_S1024x4x1024_S4x1024x1024_1_0_2

theorem dw_eq (a b) : dw a b = Cert.Kernel2Ideal.Value.grad a b := by
  funext x
  idx_vars x
  pointwise [dw, Cert.Kernel2Ideal.Value.grad]
  exact Finset.sum_congr rfl fun k _ => (mul_comm _ _).trans (congrArg (fun z : EReal => a _ * z)
    (congrArg b (by blk_ext [Cert.Kernel2Ideal.Value.col])))

end Cert.Reference2Ideal.Value
-- ==== Proof.Tn3.lean ====
module

public import proofs.«01_k».proof.Proof.Gen.Kernel3Ideal.Value
public import proofs.«01_k».proof.Proof.Stores
public import Idealize.ShloMosaic.Lib.Pointwise
public import Idealize.ShloMosaic.Lib.Pipeline.ValueKit

@[expose] public section

set_option maxRecDepth 16384

noncomputable section

/-! The gradient of the second weight of the MLP: the product of the transposed hidden layer, squared where it is
positive, with the gradient of the output, accumulated over eight tiles of 1024 rows, in four shards of rows. -/

namespace Cert.Kernel3Ideal.Value

open Idealize.ShloMosaic Idealize.ShloMosaic.TcCoe Idealize.ShloMosaic.Tactic
open Cert.Kernel3Ideal Cert.Kernel3Ideal.Gen Idealize.SL.Sem
open Cert.Stores

theorem idx_all : ∀ t : Fin cfg0.N, win0_0.index t = ![t.val % 8, t.val / 8] ∧ win0_1.index t = ![t.val % 8, 0]
    ∧ win0_2.index t = ![t.val / 8, 0, 0] ∧ t.val < 32 :=
  (by decide +kernel : ∀ t : Fin grid0.N, _)

/-- Row `k` of tile `s`. -/
def row (s : ℕ) (hs : s < 8) (k : Fin 1024) : Fin 8192 := ⟨1024 * s + k.val, by omega⟩
/-- Column `j` of shard `q`. -/
def col (q : ℕ) (hq : q < 4) (j : Fin 1024) : Fin 4096 := ⟨1024 * q + j.val, by omega⟩

theorem pay1_at (i j : Fin 1024) : k0_pay1 (F := Ideal) (ix2 i j) = 0 := by
  pointwise [k0_pay1]

theorem pay2_at (y x z) (i j : Fin 1024) : k0_pay2 (F := Ideal) y x z (ix2 i j)
    = x (ix2 i j) + ∑ k : Fin 1024, (max (y (ix2 k i)) 0 * max (y (ix2 k i)) 0) * z (ix2 k j) := by
  pointwise [k0_pay2]

theorem pay3_at (x) (i j : Fin 1024) : k0_pay3 (F := Ideal) x (ix3 0 i j) = x (ix2 i j) := by
  pointwise [k0_pay3]

variable (m : (ℓ : Loc nD τ sig) → Buf (Elt Ideal) ℓ) (c : Dev nD) (t : Fin cfg0.N)

theorem blk0 (k i : Fin 1024) : iblk m c 0 t (ix2 k i)
    = m ((c.tc : Thread nD τ).loc main_arg0) (ix2 (row (t.val % 8) (Nat.mod_lt _ (by decide)) k)
        (col (t.val / 8) (by have := (idx_all t).2.2.2; omega) i)) := by
  blk_ext [iblk, V, idx_all t, row, col]

theorem blk1 (k j : Fin 1024) : iblk m c 1 t (ix2 k j)
    = m ((c.tc : Thread nD τ).loc main_arg1) (ix2 (row (t.val % 8) (Nat.mod_lt _ (by decide)) k) j) := by
  blk_ext [iblk, V, idx_all t, row]

/-- The square of the positive part. -/
def relu2 (x : EReal) : EReal := max x 0 * max x 0

/-- The first factor. -/
abbrev argA : S8192x4096.Idx → EReal := m ((c.tc : Thread nD τ).loc main_arg0)
/-- The second factor. -/
abbrev argB : S8192x1024.Idx → EReal := m ((c.tc : Thread nD τ).loc main_arg1)

/-- What tile `t` adds to the product. -/
def term (i j : Fin 1024) : EReal :=
  ∑ k : Fin 1024, relu2 (argA m c (ix2 (row (t.val % 8) (Nat.mod_lt _ (by decide)) k)
      (col (t.val / 8) (by have := (idx_all t).2.2.2; omega) i)))
    * argB m c (ix2 (row (t.val % 8) (Nat.mod_lt _ (by decide)) k) j)

theorem tile (i j : Fin 1024) : ∑ k : Fin 1024, @HMul.hMul EReal EReal EReal _ (relu2 (iblk m c 0 t (ix2 k i))) (iblk m c 1 t (ix2 k j)) = term m c t i j :=
  Finset.sum_congr rfl fun k _ => congrArg₂ (fun x y : EReal => relu2 x * y) (blk0 m c t k i) (blk1 m c t k j)

theorem scratch_zero (h : t.val % 8 = 0) (i j : Fin 1024) : (outsAt0 m c t.val t.isLt).2 (ix2 i j) = 0 + term m c t i j := by
  rw [outsAt0_A m c t h (by omega)]; dsimp only; frame_out
  rw [pay2_at, pay1_at]
  exact congrArg _ (tile m c t i j)

theorem scratch_step (h : ¬t.val % 8 = 0) (i j : Fin 1024) : (outsAt0 m c t.val t.isLt).2 (ix2 i j)
    = (outsAt0 m c (t.val - 1) (Nat.lt_of_le_of_lt (Nat.sub_le _ _) t.isLt)).2 (ix2 i j) + term m c t i j := by
  by_cases h1 : t.val % 8 = 7
  · rw [outsAt0_C m c t h h1]; dsimp only; frame_out
    rw [pay2_at]
    exact congrArg₂ (fun x y : EReal => x + y) (congrFun (Memref.IsWhole.read_unread _ _) _) (tile m c t i j)
  · rw [outsAt0_B m c t h h1]; dsimp only; frame_out
    rw [pay2_at]
    exact congrArg₂ (fun x y : EReal => x + y) (congrFun (Memref.IsWhole.read_unread _ _) _) (tile m c t i j)

theorem out_last (h1 : t.val % 8 = 7) (i j : Fin 1024) : (outsAt0 m c t.val t.isLt).1 (ix3 0 i j)
    = (outsAt0 m c t.val t.isLt).2 (ix2 i j) := by
  rw [outsAt0_C m c t (by omega) h1]; dsimp only; frame_out
  exact pay3_at _ i j

/-- The gradient of the weight, in four shards of rows. -/
def grad (a : S8192x4096.Idx → EReal) (b : S8192x1024.Idx → EReal) : S4x1024x1024.Idx → EReal := fun x =>
  ∑ r : Fin 8192, relu2 (a (ix2 r (col (x 0).val (x 0).isLt (x 1)))) * b (ix2 r (x 2))

theorem out_at (h1 : t.val % 8 = 7) (i j : Fin 1024) : (outsAt0 m c t.val t.isLt).1 (ix3 0 i j)
    = grad (argA m c) (argB m c) (ix3 ⟨t.val / 8, by have := (idx_all t).2.2.2; omega⟩ i j) := by
  have hN : cfg0.N = 32 := N_0
  have ht := t.isLt
  rw [out_last m c t h1, Pipeline.eq_sum_fin_of_reset_step_of_flush (fun n h => (outsAt0 m c n h).2 (ix2 i j)) 8 0
    (fun p => term m c p i j) (fun s h => scratch_zero m c s h i j) (fun s h => scratch_step m c s h i j) t h1, zero_add]
  unfold grad
  rw [Fin.sum_univ_tiles 8 1024 rfl]
  refine Finset.sum_congr rfl fun s _ => Finset.sum_congr rfl fun k _ => ?_
  have h8 : (8 * (t.val / 8) + s.val) % 8 = s.val := by omega
  have hd : (8 * (t.val / 8) + s.val) / 8 = t.val / 8 := by omega
  refine congrArg₂ (· * ·) (congrArg (fun z => relu2 (argA m c z)) ?_) (congrArg _ ?_)
  · blk_ext [row, col, h8, hd]
  · blk_ext [row, h8]

theorem final : (dats m 0 c).arrAt 2 cfg0.N = grad (argA m c) (argB m c) := by
  refine (dats m 0 c).arrAt_eq_of_covers 2 _ (by decide +kernel) fun t hf y => ?_
  blk_simp
  rw [after0_2]
  idx_vars y
  have h0 : y0 = 0 := Subsingleton.elim _ _
  subst h0
  refine (out_at m c t ((flush0_2 t).mp hf) y1 y2).trans (congrArg _ ?_)
  blk_ext [idx_all t]

end Cert.Kernel3Ideal.Value
-- ==== Proof.Ref3.lean ====
module

public import proofs.«01_k».proof.Proof.Gen.Reference3Ideal.Run
public import proofs.«01_k».proof.Proof.Tn3

@[expose] public section

set_option maxRecDepth 16384

noncomputable section

/-! The reference's gradient of the second weight of the MLP, read at an index. -/

namespace Cert.Reference3Ideal.Value

open Idealize.ShloMosaic Idealize.ShloMosaic.TcCoe Idealize.ShloMosaic.Tactic Idealize.ShloMosaic.StableHlo
open Cert.Reference3Ideal Cert.Reference3Ideal.Gen Idealize.SL.Sem

/-- The reference's result as a function of its arguments. -/
def dw (a : FVec Ideal S8192x4096 .bf16) (b : FVec Ideal S8192x1024 .bf16) : FVec Ideal S4x1024x1024 .bf16 :=
  shapeCast _ (truncf .bf16 (transpose S4096x1024 [1, 0] (Host.dotGeneral dot_S8192x1024_S8192x4096_S1024x4096_0_0_1_1_n_n none (extf .f32 b bitsLt_bf16_f32) (mulf (maximumf (extf .f32 a bitsLt_bf16_f32) (broadcastInDim S8192x4096 ![] bcast_S_S8192x4096 (constant S_ .f32 0x00000000#32))) (maximumf (extf .f32 a bitsLt_bf16_f32) (broadcastInDim S8192x4096 ![] bcast_S_S8192x4096 (constant S_ .f32 0x00000000#32))))) transposes_S1024x4096_S4096x1024_1_0) bitsLt_bf16_f32) shapeCasts_S4096x1024_S4x1024x1024

theorem dw_eq (a b) : dw a b = Cert.Kernel3Ideal.Value.grad a b := by
  funext x
  idx_vars x
  pointwise [dw, Cert.Kernel3Ideal.Value.grad, Cert.Kernel3Ideal.Value.relu2]
  exact Finset.sum_congr rfl fun k _ => (mul_comm _ _).trans
    (congrArg (fun z => Cert.Kernel3Ideal.Value.relu2 (a (ix2 k z)) * b (ix2 k x2)) (Fin.ext (by simp only [Cert.Kernel3Ideal.Value.col]; omega)))

end Cert.Reference3Ideal.Value
-- ==== Proof.lean ====
module

public import proofs.«01_k».proof.Proof.Fwd
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.Bwd
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.TnPw2
public import proofs.«01_k».proof.Proof.Gen.Kernel4.Frame
public import proofs.«01_k».proof.Proof.Gen.Kernel4Ideal.Value
public import proofs.«01_k».proof.Proof.Gen.Reference4Ideal.Run
public import proofs.«01_k».proof.Proof.TnPw1
public import proofs.«01_k».proof.Proof.Gen.Kernel5.Frame
public import proofs.«01_k».proof.Proof.Gen.Kernel5Ideal.Value
public import proofs.«01_k».proof.Proof.Gen.Reference5Ideal.Run
public import proofs.«01_k».proof.Proof.TnOut
public import proofs.«01_k».proof.Proof.Gen.Kernel6.Frame
public import proofs.«01_k».proof.Proof.Gen.Kernel6Ideal.Value
public import proofs.«01_k».proof.Proof.Gen.Reference6Ideal.Run
public import proofs.«01_k».proof.Proof.TnInZ
public import proofs.«01_k».proof.Proof.Gen.Kernel7.Frame
public import proofs.«01_k».proof.Proof.Gen.Kernel7Ideal.Value
public import proofs.«01_k».proof.Proof.Gen.Reference7Ideal.Run
public import proofs.«01_k».proof.Proof.TnInXbc
public import proofs.«01_k».proof.Proof.Gen.Kernel8.Frame
public import proofs.«01_k».proof.Proof.Gen.Kernel8Ideal.Value
public import proofs.«01_k».proof.Proof.Gen.Reference8Ideal.Run
public import proofs.«01_k».proof.Proof.TnInDt
public import proofs.«01_k».proof.Proof.Gen.Kernel9.Frame
public import proofs.«01_k».proof.Proof.Gen.Kernel9Ideal.Value
public import proofs.«01_k».proof.Proof.Gen.Reference9Ideal.Run
public import proofs.«01_k».proof.Proof.TnInUv
public import proofs.«01_k».proof.Proof.Gen.Kernel10.Frame
public import proofs.«01_k».proof.Proof.Gen.Kernel10Ideal.Value
public import proofs.«01_k».proof.Proof.Gen.Reference10Ideal.Run
public import proofs.«01_k».proof.Proof.Loss
public import proofs.«01_k».proof.Proof.Gen.Kernel13.Frame
public import proofs.«01_k».proof.Proof.Gen.Kernel13Ideal.Value
public import proofs.«01_k».proof.Proof.Gen.Reference13Ideal.Run
public import proofs.«01_k».proof.Proof.Gen.Reference13Ideal.Read
public import proofs.«01_k».proof.Proof.Glu
public import proofs.«01_k».proof.Proof.Gen.Kernel14.Frame
public import proofs.«01_k».proof.Proof.Gen.Kernel14Ideal.Value
public import proofs.«01_k».proof.Proof.Gen.Reference14Ideal.Run
public import proofs.«01_k».proof.Proof.Gen.Reference14Ideal.Read
public import proofs.«01_k».proof.Proof.Mix
public import proofs.«01_k».proof.Proof.Gen.Kernel15.Frame
public import proofs.«01_k».proof.Proof.Gen.Kernel15Ideal.Value
public import proofs.«01_k».proof.Proof.Gen.Reference15Ideal.Run
public import proofs.«01_k».proof.Proof.Gen.Reference15Ideal.Read
public import proofs.«01_k».proof.Proof.Hy1
public import proofs.«01_k».proof.Proof.Gen.Kernel16.Frame
public import proofs.«01_k».proof.Proof.Gen.Kernel16Ideal.Value
public import proofs.«01_k».proof.Proof.Gen.Reference16Ideal.Run
public import proofs.«01_k».proof.Proof.Gen.Reference16Ideal.Read
public import proofs.«01_k».proof.Proof.RunHy1
public import proofs.«01_k».proof.Proof.MixB
public import proofs.«01_k».proof.Proof.Gen.Kernel17.Frame
public import proofs.«01_k».proof.Proof.Gen.Kernel17Ideal.Value
public import proofs.«01_k».proof.Proof.Gen.Reference17Ideal.Run
public import proofs.«01_k».proof.Proof.Gen.Reference17Ideal.Read
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Final
public import proofs.«01_k».proof.Proof.Ref2
public import proofs.«01_k».proof.Proof.Ref3
public import proofs.«01_k».proof.Proof.Gen.Kernel2.Frame
public import proofs.«01_k».proof.Proof.Gen.Kernel2Ideal.Value
public import proofs.«01_k».proof.Proof.Gen.Kernel3.Frame
public import proofs.«01_k».proof.Proof.Gen.Kernel3Ideal.Value
public import proofs.«01_k».proof.Proof.Gen.Reference2Ideal.Run
public import proofs.«01_k».proof.Proof.Gen.Reference3Ideal.Run
public import Idealize.ShloMosaic.Lib.Claim
public import Idealize.ShloMosaic.Lib.Quiescent
public import Idealize.ShloMosaic.Adequacy
public import Idealize.ShloMosaic.Init

@[expose] public section

set_option maxRecDepth 16384

noncomputable section

namespace Cert.Proof

open Idealize.ShloMosaic Idealize.SL.Sem Cert.Kernel

theorem quiescent_ReferenceIdeal : quiescent_ReferenceIdeal := by
  intro m g hpre
  exact (θ_run Cert.ReferenceIdeal.defs _ _).mono
    (fun r h => ⟨fun c => (h c).2.2.2.2.2.2.2.2,
      Idealize.ShloMosaic.sem_eq_zero_of_no_sems (by decide) r.2⟩)
    (Cert.ReferenceIdeal.Value.run (F := Ideal) m g)

theorem algebraic_KernelIdeal_ReferenceIdeal : algebraic_KernelIdeal_ReferenceIdeal := by
  pair_intro
  · run_from Cert.KernelIdeal.Value.run_blocks m g
  · run_from Cert.ReferenceIdeal.Value.run m' g'
    all_goals obtain ⟨h0, h1, h2, h3, h4, h5, h6, h7, h8, h9, h10, h11, h12, h13, h14, h15, h16⟩ := hagree c
    · refine (Cert.ReferenceIdeal.Read.val_main_v126_eq (StableHlo.launchContents m' c)).trans ?_
      rw [Cert.KernelIdeal.Value.final13]
      congr 1
      all_goals first | exact h14 | exact h13 | exact h12 | exact h11 | exact h10 | exact h9 | exact h8 | exact h7 | exact h6 | exact h5 | exact h4 | exact h3 | exact h2 | exact h1 | exact h0
    · refine (Cert.ReferenceIdeal.Read.val_main_v173_eq (StableHlo.launchContents m' c)).trans ?_
      rw [Cert.KernelIdeal.Value.final14]
      congr 1
      all_goals first | exact h14 | exact h13 | exact h12 | exact h11 | exact h10 | exact h9 | exact h8 | exact h7 | exact h6 | exact h5 | exact h4 | exact h3 | exact h2 | exact h1 | exact h0
    · refine (Cert.ReferenceIdeal.Read.val_main_v174_eq (StableHlo.launchContents m' c)).trans ?_
      rw [Cert.KernelIdeal.Value.final15]
      congr 1
      all_goals first | exact h12 | exact h0
    · refine (Cert.ReferenceIdeal.Read.val_main_v175_eq (StableHlo.launchContents m' c)).trans ?_
      rw [Cert.KernelIdeal.Value.final16]
      congr 1
      all_goals first | exact h11 | exact h10 | exact h9 | exact h8 | exact h7 | exact h6 | exact h5 | exact h4 | exact h3 | exact h2 | exact h1
    · refine (Cert.ReferenceIdeal.Read.val_main_v184_eq (StableHlo.launchContents m' c)).trans ?_
      rw [Cert.KernelIdeal.Value.final17]
      congr 1
      all_goals first | exact h14 | exact h13 | exact h12 | exact h11 | exact h10 | exact h9 | exact h8 | exact h7 | exact h6 | exact h5 | exact h4 | exact h3 | exact h2 | exact h1 | exact h0
    · refine (Cert.ReferenceIdeal.Read.val_main_v168_eq (StableHlo.launchContents m' c)).trans ?_
      rw [Cert.KernelIdeal.Value.final18]
      congr 1
      all_goals first | exact h14 | exact h13 | exact h12 | exact h11 | exact h10 | exact h9 | exact h8 | exact h7 | exact h6 | exact h5 | exact h4 | exact h3 | exact h2 | exact h1 | exact h0
    · refine (Cert.ReferenceIdeal.Read.val_main_v185_eq (StableHlo.launchContents m' c)).trans ?_
      rw [Cert.KernelIdeal.Value.final19]
      congr 1
      all_goals first | exact h14 | exact h13 | exact h12 | exact h11 | exact h10 | exact h9 | exact h8 | exact h7 | exact h6 | exact h5 | exact h4 | exact h3 | exact h2 | exact h1 | exact h0
    · refine (Cert.ReferenceIdeal.Read.val_main_v194_eq (StableHlo.launchContents m' c)).trans ?_
      rw [Cert.KernelIdeal.Value.final20]
      congr 1
      all_goals first | exact h14 | exact h13 | exact h12 | exact h11 | exact h10 | exact h9 | exact h8 | exact h7 | exact h6 | exact h5 | exact h4 | exact h3 | exact h2 | exact h1 | exact h0

theorem quiescent_Reference2Ideal : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem quiescent_Reference3Ideal : quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem algebraic_Kernel2Ideal_Reference2Ideal : algebraic_Kernel2Ideal_Reference2Ideal := by
  intro m ρ m' ρ' _ hagree
  refine ⟨_, Cert.Kernel2Ideal.Value.run (F := Ideal) m ρ, ?_⟩
  refine (θ_run Cert.Reference2Ideal.defs _ _).mono (fun _ h c => ⟨?_, (h c).2⟩) (Cert.Reference2Ideal.Value.run (F := Ideal) m' ρ')
  rw [(h c).1]
  refine (Cert.Reference2Ideal.Value.dw_eq _ _).trans (Eq.trans ?_
    ((Cert.Kernel2Ideal.Value.final m c).symm.trans (Cert.Kernel2Ideal.Value.final2 m c)))
  exact congrArg₂ Cert.Kernel2Ideal.Value.grad (hagree c).1 (hagree c).2

theorem algebraic_Kernel3Ideal_Reference3Ideal : algebraic_Kernel3Ideal_Reference3Ideal := by
  intro m ρ m' ρ' _ hagree
  refine ⟨_, Cert.Kernel3Ideal.Value.run (F := Ideal) m ρ, ?_⟩
  refine (θ_run Cert.Reference3Ideal.defs _ _).mono (fun _ h c => ⟨?_, (h c).2⟩) (Cert.Reference3Ideal.Value.run (F := Ideal) m' ρ')
  rw [(h c).1]
  refine (Cert.Reference3Ideal.Value.dw_eq _ _).trans (Eq.trans ?_
    ((Cert.Kernel3Ideal.Value.final m c).symm.trans (Cert.Kernel3Ideal.Value.final2 m c)))
  exact congrArg₂ Cert.Kernel3Ideal.Value.grad (hagree c).1 (hagree c).2

theorem quiescent_Reference12Ideal : quiescent_Reference12Ideal :=
  fun m ρ _ => (θ_run Cert.Reference12Ideal.defs _ _).mono (fun r h => ⟨fun c => (h c).2.2.2,
    sem_eq_zero_of_no_sems (by decide) r.2⟩) (Cert.Reference12Ideal.Value.run (F := Ideal) m ρ)

theorem algebraic_Kernel12Ideal_Reference12Ideal : algebraic_Kernel12Ideal_Reference12Ideal := by
  pair_intro
  · run_from Cert.Kernel12Ideal.Value.run_blocks m g
  · run_from Cert.Reference12Ideal.Value.run m' g'
    · rw [Cert.Kernel12Ideal.Value.final4]; rfl
    · rw [Cert.Kernel12Ideal.Value.final5]; rfl
    · rw [Cert.Kernel12Ideal.Value.final6]; rfl

theorem quiescent_Reference11Ideal : quiescent_Reference11Ideal :=
  fun m ρ _ => (θ_run Cert.Reference11Ideal.defs _ _).mono (fun r h => ⟨fun c => (h c).2.2.2.2.2,
    sem_eq_zero_of_no_sems (by decide) r.2⟩) (Cert.Reference11Ideal.Value.run (F := Ideal) m ρ)

theorem algebraic_Kernel11Ideal_Reference11Ideal : algebraic_Kernel11Ideal_Reference11Ideal := by
  pair_intro
  · run_from Cert.Kernel11Ideal.Value.run_blocks m g
  · run_from Cert.Reference11Ideal.Value.run m' g'
    · obtain ⟨h0, h1, h2, h3, h4, h5, h6, h7, h8, h9, h10⟩ := hagree c
      rw [Cert.Reference11Ideal.Read.val_main_v86_eq m' c, Cert.Kernel11Ideal.Value.final7]
      simp only [h0, h1, h2, h3, h4, h5, h6, h7, h8, h9, h10]
    · rw [Cert.Kernel11Ideal.Value.final8]; rfl
    · rw [Cert.Kernel11Ideal.Value.final9]; rfl
    · rw [Cert.Kernel11Ideal.Value.final10]; rfl
    · obtain ⟨h0, h1, h2, h3, h4, h5, h6, h7, h8, h9, h10⟩ := hagree c
      rw [Cert.Reference11Ideal.Read.val_main_v99_eq m' c, Cert.Kernel11Ideal.Value.final11]
      simp only [h0, h1, h2, h3, h4, h5, h6, h7, h8, h9, h10]

theorem quiescent_Reference4Ideal : quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem algebraic_Kernel4Ideal_Reference4Ideal : algebraic_Kernel4Ideal_Reference4Ideal := by
  intro m ρ m' ρ' _ hagree
  refine ⟨_, Cert.Kernel4Ideal.Value.run (F := Ideal) m ρ, ?_⟩
  refine (θ_run Cert.Reference4Ideal.defs _ _).mono (fun _ h c => ⟨?_, (h c).2⟩) (Cert.Reference4Ideal.Value.run (F := Ideal) m' ρ')
  rw [(h c).1]
  refine (Cert.Reference4Ideal.Value.dw_eq _ _).trans (Eq.trans ?_
    ((Cert.Kernel4Ideal.Value.final m c).symm.trans (Cert.Kernel4Ideal.Value.final2 m c)))
  exact congrArg₂ Cert.Kernel4Ideal.Value.grad (hagree c).1 (hagree c).2

theorem quiescent_Reference5Ideal : quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem algebraic_Kernel5Ideal_Reference5Ideal : algebraic_Kernel5Ideal_Reference5Ideal := by
  intro m ρ m' ρ' _ hagree
  refine ⟨_, Cert.Kernel5Ideal.Value.run (F := Ideal) m ρ, ?_⟩
  refine (θ_run Cert.Reference5Ideal.defs _ _).mono (fun _ h c => ⟨?_, (h c).2⟩) (Cert.Reference5Ideal.Value.run (F := Ideal) m' ρ')
  rw [(h c).1]
  refine (Cert.Reference5Ideal.Value.dw_eq _ _).trans (Eq.trans ?_
    ((Cert.Kernel5Ideal.Value.final m c).symm.trans (Cert.Kernel5Ideal.Value.final2 m c)))
  exact congrArg₂ Cert.Kernel5Ideal.Value.grad (hagree c).1 (hagree c).2

theorem quiescent_Reference6Ideal : quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem algebraic_Kernel6Ideal_Reference6Ideal : algebraic_Kernel6Ideal_Reference6Ideal := by
  intro m ρ m' ρ' _ hagree
  refine ⟨_, Cert.Kernel6Ideal.Value.run (F := Ideal) m ρ, ?_⟩
  refine (θ_run Cert.Reference6Ideal.defs _ _).mono (fun _ h c => ⟨?_, (h c).2⟩) (Cert.Reference6Ideal.Value.run (F := Ideal) m' ρ')
  rw [(h c).1]
  refine (Cert.Reference6Ideal.Value.dw_eq _ _).trans (Eq.trans ?_
    ((Cert.Kernel6Ideal.Value.final m c).symm.trans (Cert.Kernel6Ideal.Value.final2 m c)))
  exact congrArg₂ Cert.Kernel6Ideal.Value.grad (hagree c).1 (hagree c).2

theorem quiescent_Reference7Ideal : quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

theorem algebraic_Kernel7Ideal_Reference7Ideal : algebraic_Kernel7Ideal_Reference7Ideal := by
  intro m ρ m' ρ' _ hagree
  refine ⟨_, Cert.Kernel7Ideal.Value.run (F := Ideal) m ρ, ?_⟩
  refine (θ_run Cert.Reference7Ideal.defs _ _).mono (fun _ h c => ⟨?_, (h c).2⟩) (Cert.Reference7Ideal.Value.run (F := Ideal) m' ρ')
  rw [(h c).1]
  refine (Cert.Reference7Ideal.Value.dw_eq _ _).trans (Eq.trans ?_
    ((Cert.Kernel7Ideal.Value.final m c).symm.trans (Cert.Kernel7Ideal.Value.final2 m c)))
  exact congrArg₂ (fun a b => fun x : Cert.Kernel7Ideal.S1024x1024.Idx => Cert.Tn.prod (M := 8448) (K := 1024) (L := 1024) a b (x 0) (x 1)) (hagree c).1 (hagree c).2

theorem quiescent_Reference8Ideal : quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

theorem algebraic_Kernel8Ideal_Reference8Ideal : algebraic_Kernel8Ideal_Reference8Ideal := by
  intro m ρ m' ρ' _ hagree
  refine ⟨_, Cert.Kernel8Ideal.Value.run (F := Ideal) m ρ, ?_⟩
  refine (θ_run Cert.Reference8Ideal.defs _ _).mono (fun _ h c => ⟨?_, (h c).2⟩) (Cert.Reference8Ideal.Value.run (F := Ideal) m' ρ')
  rw [(h c).1]
  refine (Cert.Reference8Ideal.Value.dw_eq _ _).trans (Eq.trans ?_
    ((Cert.Kernel8Ideal.Value.final m c).symm.trans (Cert.Kernel8Ideal.Value.final2 m c)))
  exact congrArg₂ (fun a b => fun x : Cert.Kernel8Ideal.S1024x1536.Idx => Cert.Tn.prod (M := 8448) (K := 1024) (L := 1536) a b (x 0) (x 1)) (hagree c).1 (hagree c).2

theorem quiescent_Reference9Ideal : quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

theorem algebraic_Kernel9Ideal_Reference9Ideal : algebraic_Kernel9Ideal_Reference9Ideal := by
  intro m ρ m' ρ' _ hagree
  refine ⟨_, Cert.Kernel9Ideal.Value.run (F := Ideal) m ρ, ?_⟩
  refine (θ_run Cert.Reference9Ideal.defs _ _).mono (fun _ h c => ⟨?_, (h c).2⟩) (Cert.Reference9Ideal.Value.run (F := Ideal) m' ρ')
  rw [(h c).1]
  refine (Cert.Reference9Ideal.Value.dw_eq _ _).trans (Eq.trans ?_
    ((Cert.Kernel9Ideal.Value.final m c).symm.trans (Cert.Kernel9Ideal.Value.final2 m c)))
  exact congrArg₂ (fun a b => fun x : Cert.Kernel9Ideal.S1024x128.Idx => Cert.Tn.prod (M := 8448) (K := 1024) (L := 128) a b (x 0) (x 1)) (hagree c).1 (hagree c).2

theorem quiescent_Reference10Ideal : quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

theorem algebraic_Kernel10Ideal_Reference10Ideal : algebraic_Kernel10Ideal_Reference10Ideal := by
  intro m ρ m' ρ' _ hagree
  refine ⟨_, Cert.Kernel10Ideal.Value.run (F := Ideal) m ρ, ?_⟩
  refine (θ_run Cert.Reference10Ideal.defs _ _).mono (fun _ h c => ⟨?_, (h c).2⟩) (Cert.Reference10Ideal.Value.run (F := Ideal) m' ρ')
  rw [(h c).1]
  refine (Cert.Reference10Ideal.Value.dw_eq _ _).trans (Eq.trans ?_
    ((Cert.Kernel10Ideal.Value.final m c).symm.trans (Cert.Kernel10Ideal.Value.final2 m c)))
  exact congrArg₂ (fun a b => fun x : Cert.Kernel10Ideal.S1024x2048.Idx => Cert.Tn.prod (M := 8448) (K := 1024) (L := 2048) a b (x 0) (x 1)) (hagree c).1 (hagree c).2

theorem quiescent_Reference13Ideal : quiescent_Reference13Ideal :=
  fun m ρ _ => (θ_run Cert.Reference13Ideal.defs _ _).mono (fun r h => ⟨fun c => (h c).2.2.2.2.2,
    sem_eq_zero_of_no_sems (by decide) r.2⟩) (Cert.Reference13Ideal.Value.run (F := Ideal) m ρ)

theorem algebraic_Kernel13Ideal_Reference13Ideal : algebraic_Kernel13Ideal_Reference13Ideal := by
  pair_intro
  · run_from Cert.Kernel13Ideal.Value.run_blocks m g
  · run_from Cert.Reference13Ideal.Value.run m' g'
    · obtain ⟨h0, h1, h2, h3, h4, h5, h6, h7, h8, h9, h10, h11⟩ := hagree c
      rw [Cert.Reference13Ideal.Read.val_main_v83_eq m' c, Cert.Kernel13Ideal.Value.final6]
      simp only [h0, h1, h2, h3, h4, h5, h6, h7, h8, h9, h10, h11]
    · rw [Cert.Kernel13Ideal.Value.final7]; rfl
    · rw [Cert.Kernel13Ideal.Value.final8]; rfl
    · obtain ⟨h0, h1, h2, h3, h4, h5, h6, h7, h8, h9, h10, h11⟩ := hagree c
      rw [Cert.Reference13Ideal.Read.val_main_v94_eq m' c, Cert.Kernel13Ideal.Value.final9]
      simp only [h0, h1, h2, h3, h4, h5, h6, h7, h8, h9, h10, h11]
    · obtain ⟨h0, h1, h2, h3, h4, h5, h6, h7, h8, h9, h10, h11⟩ := hagree c
      rw [Cert.Reference13Ideal.Read.val_main_v95_eq m' c, Cert.Kernel13Ideal.Value.final10]
      simp only [h0, h1, h2, h3, h4, h5, h6, h7, h8, h9, h10, h11]

theorem quiescent_Reference14Ideal : quiescent_Reference14Ideal :=
  fun m ρ _ => (θ_run Cert.Reference14Ideal.defs _ _).mono (fun r h => ⟨fun c => (h c).2.2,
    sem_eq_zero_of_no_sems (by decide) r.2⟩) (Cert.Reference14Ideal.Value.run (F := Ideal) m ρ)

theorem algebraic_Kernel14Ideal_Reference14Ideal : algebraic_Kernel14Ideal_Reference14Ideal := by
  pair_intro
  · run_from Cert.Kernel14Ideal.Value.run_blocks m g
  · run_from Cert.Reference14Ideal.Value.run m' g'
    · rw [Cert.Kernel14Ideal.Value.final4]; rfl
    · rw [Cert.Kernel14Ideal.Value.final5]; rfl

theorem quiescent_Reference15Ideal : quiescent_Reference15Ideal :=
  fun m ρ _ => (θ_run Cert.Reference15Ideal.defs _ _).mono (fun r h => ⟨fun c => (h c).2.2.2,
    sem_eq_zero_of_no_sems (by decide) r.2⟩) (Cert.Reference15Ideal.Value.run (F := Ideal) m ρ)

set_option maxHeartbeats 2000000 in
theorem algebraic_Kernel15Ideal_Reference15Ideal : algebraic_Kernel15Ideal_Reference15Ideal := by
  pair_intro
  · run_from Cert.Kernel15Ideal.Value.run_blocks m g
  · run_from Cert.Reference15Ideal.Value.run m' g'
    · obtain ⟨h0, h1, h2, h3, h4, h5, h6, h7, h8, h9, h10, h11, h12⟩ := hagree c
      rw [Cert.Reference15Ideal.Read.val_main_v39_eq m' c, Cert.Kernel15Ideal.Value.final10]
      simp only [h0, h1, h2, h3, h4, h5, h6, h7, h8, h9, h10, h11, h12]
    · obtain ⟨h0, h1, h2, h3, h4, h5, h6, h7, h8, h9, h10, h11, h12⟩ := hagree c
      rw [Cert.Reference15Ideal.Read.val_main_v40_eq m' c, Cert.Kernel15Ideal.Value.final11]
      simp only [h0, h1, h2, h3, h4, h5, h6, h7, h8, h9, h10, h11, h12]
    · obtain ⟨h0, h1, h2, h3, h4, h5, h6, h7, h8, h9, h10, h11, h12⟩ := hagree c
      rw [Cert.Reference15Ideal.Read.val_main_v35_eq m' c, Cert.Kernel15Ideal.Value.final12]
      simp only [h0, h1, h2, h3, h4, h5, h6, h7, h8, h9, h10, h11, h12]

theorem quiescent_Reference16Ideal : quiescent_Reference16Ideal :=
  fun m ρ _ => (θ_run Cert.Reference16Ideal.defs _ _).mono (fun r h => ⟨fun c => (h c).2.2.2.2.2,
    sem_eq_zero_of_no_sems (by decide) r.2⟩) (Cert.Reference16Ideal.Value.run (F := Ideal) m ρ)

set_option maxHeartbeats 2000000 in
theorem algebraic_Kernel16Ideal_Reference16Ideal : algebraic_Kernel16Ideal_Reference16Ideal := by
  pair_intro
  · run_from Cert.Kernel16Ideal.Value.run_blocks m g
  · run_from Cert.Reference16Ideal.Read.run_vals m' g'
    · exact (Cert.Kernel16Ideal.Value.final11 m c).symm
    · exact (Cert.Kernel16Ideal.Value.final12 m c).symm
    · exact (Cert.Kernel16Ideal.Value.final13 m c).symm
    · exact (Cert.Kernel16Ideal.Value.final14 m c).symm
    · exact (Cert.Kernel16Ideal.Value.final15 m c).symm
theorem quiescent_Reference17Ideal : quiescent_Reference17Ideal :=
  fun m ρ _ => (θ_run Cert.Reference17Ideal.defs _ _).mono (fun r h => ⟨fun c => (h c).2.2.2.2,
    sem_eq_zero_of_no_sems (by decide) r.2⟩) (Cert.Reference17Ideal.Value.run (F := Ideal) m ρ)

set_option maxHeartbeats 2000000 in
theorem algebraic_Kernel17Ideal_Reference17Ideal : algebraic_Kernel17Ideal_Reference17Ideal := by
  pair_intro
  · run_from Cert.Kernel17Ideal.Value.run_blocks m g
  · run_from Cert.Reference17Ideal.Value.run m' g'
    · obtain ⟨h0, h1, h2, h3, h4, h5, h6, h7, h8, h9, h10, h11, h12⟩ := hagree c
      rw [Cert.Reference17Ideal.Read.val_main_v75_eq m' c, Cert.Kernel17Ideal.Value.final10]
      simp only [h0, h1, h2, h3, h4, h5, h6, h7, h8, h9, h10, h11, h12]
    · obtain ⟨h0, h1, h2, h3, h4, h5, h6, h7, h8, h9, h10, h11, h12⟩ := hagree c
      rw [Cert.Reference17Ideal.Read.val_main_v76_eq m' c, Cert.Kernel17Ideal.Value.final11]
      simp only [h0, h1, h2, h3, h4, h5, h6, h7, h8, h9, h10, h11, h12]
    · rw [Cert.Kernel17Ideal.Value.final12]; rfl
    · rw [Cert.Kernel17Ideal.Value.final13]; rfl

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel12.Gen.facts, Cert.Kernel12Ideal.Gen.facts, Cert.Reference12Ideal.Gen.facts,
  Cert.Kernel11.Gen.facts, Cert.Kernel11Ideal.Gen.facts, Cert.Reference11Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  fun m ρ _ => Cert.Kernel.Gen.frame m ρ, fun m ρ _ => Cert.KernelIdeal.Gen.frame m ρ, quiescent_ReferenceIdeal,
  fun m ρ _ => Cert.Kernel2.Gen.frame m ρ, fun m ρ _ => Cert.Kernel2Ideal.Gen.frame m ρ, quiescent_Reference2Ideal,
  fun m ρ _ => Cert.Kernel3.Gen.frame m ρ, fun m ρ _ => Cert.Kernel3Ideal.Gen.frame m ρ, quiescent_Reference3Ideal,
  fun m ρ _ => Cert.Kernel12.Gen.frame m ρ, fun m ρ _ => Cert.Kernel12Ideal.Gen.frame m ρ, quiescent_Reference12Ideal,
  fun m ρ _ => Cert.Kernel11.Gen.frame m ρ, fun m ρ _ => Cert.Kernel11Ideal.Gen.frame m ρ, quiescent_Reference11Ideal,
  fun m ρ _ => Cert.Kernel4.Gen.frame m ρ, fun m ρ _ => Cert.Kernel4Ideal.Gen.frame m ρ, quiescent_Reference4Ideal,
  fun m ρ _ => Cert.Kernel5.Gen.frame m ρ, fun m ρ _ => Cert.Kernel5Ideal.Gen.frame m ρ, quiescent_Reference5Ideal,
  fun m ρ _ => Cert.Kernel6.Gen.frame m ρ, fun m ρ _ => Cert.Kernel6Ideal.Gen.frame m ρ, quiescent_Reference6Ideal,
  fun m ρ _ => Cert.Kernel7.Gen.frame m ρ, fun m ρ _ => Cert.Kernel7Ideal.Gen.frame m ρ, quiescent_Reference7Ideal,
  fun m ρ _ => Cert.Kernel8.Gen.frame m ρ, fun m ρ _ => Cert.Kernel8Ideal.Gen.frame m ρ, quiescent_Reference8Ideal,
  fun m ρ _ => Cert.Kernel9.Gen.frame m ρ, fun m ρ _ => Cert.Kernel9Ideal.Gen.frame m ρ, quiescent_Reference9Ideal,
  fun m ρ _ => Cert.Kernel10.Gen.frame m ρ, fun m ρ _ => Cert.Kernel10Ideal.Gen.frame m ρ, quiescent_Reference10Ideal,
  fun m ρ _ => Cert.Kernel13.Gen.frame m ρ, fun m ρ _ => Cert.Kernel13Ideal.Gen.frame m ρ, quiescent_Reference13Ideal,
  fun m ρ _ => Cert.Kernel14.Gen.frame m ρ, fun m ρ _ => Cert.Kernel14Ideal.Gen.frame m ρ, quiescent_Reference14Ideal,
  fun m ρ _ => Cert.Kernel15.Gen.frame m ρ, fun m ρ _ => Cert.Kernel15Ideal.Gen.frame m ρ, quiescent_Reference15Ideal,
  fun m ρ _ => Cert.Kernel16.Gen.frame m ρ, fun m ρ _ => Cert.Kernel16Ideal.Gen.frame m ρ, quiescent_Reference16Ideal,
  fun m ρ _ => Cert.Kernel17.Gen.frame m ρ, fun m ρ _ => Cert.Kernel17Ideal.Gen.frame m ρ, quiescent_Reference17Ideal,
  (trivial : preserves_Kernel_KernelIdeal), algebraic_KernelIdeal_ReferenceIdeal,
  (trivial : preserves_Kernel2_Kernel2Ideal), algebraic_Kernel2Ideal_Reference2Ideal,
  (trivial : preserves_Kernel3_Kernel3Ideal), algebraic_Kernel3Ideal_Reference3Ideal,
  (trivial : preserves_Kernel12_Kernel12Ideal), algebraic_Kernel12Ideal_Reference12Ideal,
  (trivial : preserves_Kernel11_Kernel11Ideal), algebraic_Kernel11Ideal_Reference11Ideal,
  (trivial : preserves_Kernel4_Kernel4Ideal), algebraic_Kernel4Ideal_Reference4Ideal,
  (trivial : preserves_Kernel5_Kernel5Ideal), algebraic_Kernel5Ideal_Reference5Ideal,
  (trivial : preserves_Kernel6_Kernel6Ideal), algebraic_Kernel6Ideal_Reference6Ideal,
  (trivial : preserves_Kernel7_Kernel7Ideal), algebraic_Kernel7Ideal_Reference7Ideal,
  (trivial : preserves_Kernel8_Kernel8Ideal), algebraic_Kernel8Ideal_Reference8Ideal,
  (trivial : preserves_Kernel9_Kernel9Ideal), algebraic_Kernel9Ideal_Reference9Ideal,
  (trivial : preserves_Kernel10_Kernel10Ideal), algebraic_Kernel10Ideal_Reference10Ideal,
  (trivial : preserves_Kernel13_Kernel13Ideal), algebraic_Kernel13Ideal_Reference13Ideal,
  (trivial : preserves_Kernel14_Kernel14Ideal), algebraic_Kernel14Ideal_Reference14Ideal,
  (trivial : preserves_Kernel15_Kernel15Ideal), algebraic_Kernel15Ideal_Reference15Ideal,
  (trivial : preserves_Kernel16_Kernel16Ideal), algebraic_Kernel16Ideal_Reference16Ideal,
  (trivial : preserves_Kernel17_Kernel17Ideal), algebraic_Kernel17Ideal_Reference17Ideal⟩

end Cert.Proof

end
